-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))).2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))).2.2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))).2.2.2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))).2.2.2.2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))).2.2.2.2.2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2 = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal_on_attention [hKernelIdeal : Cert.KernelIdeal.Facts] [hReferenceIdeal : Cert.ReferenceIdeal.Facts] [hPre_in_range : Cert.Pre_in_range.Facts] [hOn_attention : Cert.On_attention.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v134_0)) (v1 : (c : Dev Cert.KernelIdeal.nD) → Buf (Elt Ideal) ((c.tc : Thread Cert.KernelIdeal.nD Cert.KernelIdeal.τ).loc Cert.KernelIdeal.main_v134_1)) (v2 : (c : Dev Cert.KernelIdeal.nD) → Buf (Elt Ideal) ((c.tc : Thread Cert.KernelIdeal.nD Cert.KernelIdeal.τ).loc Cert.KernelIdeal.main_v134_2)) (v3 : (c : Dev Cert.KernelIdeal.nD) → Buf (Elt Ideal) ((c.tc : Thread Cert.KernelIdeal.nD Cert.KernelIdeal.τ).loc Cert.KernelIdeal.main_v134_3)) (v4 : (c : Dev Cert.KernelIdeal.nD) → Buf (Elt Ideal) ((c.tc : Thread Cert.KernelIdeal.nD Cert.KernelIdeal.τ).loc Cert.KernelIdeal.main_v134_4)) (v5 : (c : Dev Cert.KernelIdeal.nD) → Buf (Elt Ideal) ((c.tc : Thread Cert.KernelIdeal.nD Cert.KernelIdeal.τ).loc Cert.KernelIdeal.main_v134_5)) (v6 : (c : Dev Cert.KernelIdeal.nD) → Buf (Elt Ideal) ((c.tc : Thread Cert.KernelIdeal.nD Cert.KernelIdeal.τ).loc Cert.KernelIdeal.main_v134_6)) (v7 : (c : Dev Cert.KernelIdeal.nD) → Buf (Elt Ideal) ((c.tc : Thread Cert.KernelIdeal.nD Cert.KernelIdeal.τ).loc Cert.KernelIdeal.main_v134_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![48, 1, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 i = 1#1 → r.2.mem ((c.tc : Thread Cert.KernelIdeal.nD Cert.KernelIdeal.τ).loc Cert.KernelIdeal.main_v134_0) i = v0 c i)
          ∧ (∀ i : (⟨3, ![48, 256, 512]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 i = 1#1 → r.2.mem ((c.tc : Thread Cert.KernelIdeal.nD Cert.KernelIdeal.τ).loc Cert.KernelIdeal.main_v134_1) i = v1 c i)
          ∧ (∀ i : (⟨4, ![48, 64, 80, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 i = 1#1 → r.2.mem ((c.tc : Thread Cert.KernelIdeal.nD Cert.KernelIdeal.τ).loc Cert.KernelIdeal.main_v134_2) i = v2 c i)
          ∧ (∀ i : (⟨3, ![48, 80, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 i = 1#1 → r.2.mem ((c.tc : Thread Cert.KernelIdeal.nD Cert.KernelIdeal.τ).loc Cert.KernelIdeal.main_v134_3) i = v3 c i)
          ∧ (∀ i : (⟨3, ![48, 64, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.1 i = 1#1 → r.2.mem ((c.tc : Thread Cert.KernelIdeal.nD Cert.KernelIdeal.τ).loc Cert.KernelIdeal.main_v134_4) i = v4 c i)
          ∧ (∀ i : (⟨3, ![48, 1, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.1 i = 1#1 → r.2.mem ((c.tc : Thread Cert.KernelIdeal.nD Cert.KernelIdeal.τ).loc Cert.KernelIdeal.main_v134_5) i = v5 c i)
          ∧ (∀ i : (⟨3, ![48, 192, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.1 i = 1#1 → r.2.mem ((c.tc : Thread Cert.KernelIdeal.nD Cert.KernelIdeal.τ).loc Cert.KernelIdeal.main_v134_6) i = v6 c i)
          ∧ (∀ i : (⟨3, ![48, 1, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.2 i = 1#1 → r.2.mem ((c.tc : Thread Cert.KernelIdeal.nD Cert.KernelIdeal.τ).loc Cert.KernelIdeal.main_v134_7) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![48, 1, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 i = 1#1 → r.2.mem ((c.tc : Thread Cert.ReferenceIdeal.nD Cert.ReferenceIdeal.τ).loc Cert.ReferenceIdeal.main_v60_0) i = v0 c i)
          ∧ (∀ i : (⟨3, ![48, 256, 512]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 i = 1#1 → r.2.mem ((c.tc : Thread Cert.ReferenceIdeal.nD Cert.ReferenceIdeal.τ).loc Cert.ReferenceIdeal.main_v60_1) i = v1 c i)
          ∧ (∀ i : (⟨4, ![48, 64, 80, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 i = 1#1 → r.2.mem ((c.tc : Thread Cert.ReferenceIdeal.nD Cert.ReferenceIdeal.τ).loc Cert.ReferenceIdeal.main_v60_2) i = v2 c i)
          ∧ (∀ i : (⟨3, ![48, 80, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 i = 1#1 → r.2.mem ((c.tc : Thread Cert.ReferenceIdeal.nD Cert.ReferenceIdeal.τ).loc Cert.ReferenceIdeal.main_v60_3) i = v3 c i)
          ∧ (∀ i : (⟨3, ![48, 64, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.1 i = 1#1 → r.2.mem ((c.tc : Thread Cert.ReferenceIdeal.nD Cert.ReferenceIdeal.τ).loc Cert.ReferenceIdeal.main_v60_4) i = v4 c i)
          ∧ (∀ i : (⟨3, ![48, 1, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.1 i = 1#1 → r.2.mem ((c.tc : Thread Cert.ReferenceIdeal.nD Cert.ReferenceIdeal.τ).loc Cert.ReferenceIdeal.main_v60_5) i = v5 c i)
          ∧ (∀ i : (⟨3, ![48, 192, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.1 i = 1#1 → r.2.mem ((c.tc : Thread Cert.ReferenceIdeal.nD Cert.ReferenceIdeal.τ).loc Cert.ReferenceIdeal.main_v60_6) i = v6 c i)
          ∧ (∀ i : (⟨3, ![48, 1, 256]⟩ : Shape).Idx, (Cert.On_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.2 i = 1#1 → r.2.mem ((c.tc : Thread Cert.ReferenceIdeal.nD Cert.ReferenceIdeal.τ).loc Cert.ReferenceIdeal.main_v60_7) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_in_range : Cert.Pre_in_range.Facts) (hOn_attention : Cert.On_attention.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal_on_attention (hKernelIdeal := hKernelIdeal) (hReferenceIdeal := hReferenceIdeal) (hPre_in_range := hPre_in_range) (hOn_attention := hOn_attention)
-- ==== On_attention.lean ====
abbrev S48x512x64 : Shape := ⟨3, ![48, 512, 64]⟩
abbrev S48x512 : Shape := ⟨2, ![48, 512]⟩
abbrev S48 : Shape := ⟨1, ![48]⟩
abbrev S48x256x64 : Shape := ⟨3, ![48, 256, 64]⟩
abbrev S64x80 : Shape := ⟨2, ![64, 80]⟩
abbrev S80 : Shape := ⟨1, ![80]⟩
abbrev S1 : Shape := ⟨1, ![1]⟩
abbrev S80x40 : Shape := ⟨2, ![80, 40]⟩
abbrev S40 : Shape := ⟨1, ![40]⟩
abbrev S192x200 : Shape := ⟨2, ![192, 200]⟩
abbrev S200 : Shape := ⟨1, ![200]⟩
abbrev S_ : Shape := ⟨0, ![]⟩
abbrev S48x1x256 : Shape := ⟨3, ![48, 1, 256]⟩
abbrev S48x256x512 : Shape := ⟨3, ![48, 256, 512]⟩
abbrev S48x64x80x256 : Shape := ⟨4, ![48, 64, 80, 256]⟩
abbrev S48x80x256 : Shape := ⟨3, ![48, 80, 256]⟩
abbrev S48x64x256 : Shape := ⟨3, ![48, 64, 256]⟩
abbrev S48x192x256 : Shape := ⟨3, ![48, 192, 256]⟩

class Facts : Prop where
  bcast_S_S48x1x256 : S_.BroadcastsInDim S48x1x256 (![] : Fin 0 → Fin S48x1x256.rank)
  bcast_S_S48x256x512 : S_.BroadcastsInDim S48x256x512 (![] : Fin 0 → Fin S48x256x512.rank)
  bcast_S_S48x64x80x256 : S_.BroadcastsInDim S48x64x80x256 (![] : Fin 0 → Fin S48x64x80x256.rank)
  bcast_S_S48x80x256 : S_.BroadcastsInDim S48x80x256 (![] : Fin 0 → Fin S48x80x256.rank)
  bcast_S_S48x64x256 : S_.BroadcastsInDim S48x64x256 (![] : Fin 0 → Fin S48x64x256.rank)
  bcast_S_S48x192x256 : S_.BroadcastsInDim S48x192x256 (![] : Fin 0 → Fin S48x192x256.rank)

variable [Facts]

def fn {F : FTy → Type} [FloatOps F] (main_arg0 : IVec S48x512x64 8) (main_arg1 : FVec F S48x512 .f32) (main_arg2 : IVec S48 32) (main_arg3 : FVec F S48x256x64 .bf16) (main_arg4 : FVec F S64x80 .f32) (main_arg5 : FVec F S64x80 .fp8e4m3) (main_arg6 : FVec F S80 .f32) (main_arg7 : FVec F S64x80 .f32) (main_arg8 : FVec F S80 .f32) (main_arg9 : FVec F S80 .f32) (main_arg10 : FVec F S80 .f32) (main_arg11 : FVec F S80 .f32) (main_arg12 : FVec F S1 .f32) (main_arg13 : FVec F S80x40 .fp8e4m3) (main_arg14 : FVec F S40 .f32) (main_arg15 : FVec F S40 .f32) (main_arg16 : FVec F S40 .f32) (main_arg17 : FVec F S40 .f32) (main_arg18 : FVec F S40 .f32) (main_arg19 : FVec F S40 .f32) (main_arg20 : FVec F S1 .f32) (main_arg21 : FVec F S192x200 .fp8e4m3) (main_arg22 : FVec F S200 .f32) (main_arg23 : FVec F S200 .f32) (main_arg24 : FVec F S200 .f32) (main_arg25 : FVec F S200 .f32) (main_arg26 : FVec F S1 .f32) : IVec S48x1x256 1 × IVec S48x256x512 1 × IVec S48x64x80x256 1 × IVec S48x80x256 1 × IVec S48x64x256 1 × IVec S48x1x256 1 × IVec S48x192x256 1 × IVec S48x1x256 1 :=
  let main_c : IVec S_ 1 := constantI S_ 1 0#1
  let main_v0 : IVec S48x1x256 1 := broadcastInDim S48x1x256 ![] bcast_S_S48x1x256 main_c
  let main_c_0 : IVec S_ 1 := constantI S_ 1 1#1
  let main_v1 : IVec S48x256x512 1 := broadcastInDim S48x256x512 ![] bcast_S_S48x256x512 main_c_0
  let main_c_1 : IVec S_ 1 := constantI S_ 1 1#1
  let main_v2 : IVec S48x64x80x256 1 := broadcastInDim S48x64x80x256 ![] bcast_S_S48x64x80x256 main_c_1
  let main_c_2 : IVec S_ 1 := constantI S_ 1 1#1
  let main_v3 : IVec S48x80x256 1 := broadcastInDim S48x80x256 ![] bcast_S_S48x80x256 main_c_2
  let main_c_3 : IVec S_ 1 := constantI S_ 1 0#1
  let main_v4 : IVec S48x64x256 1 := broadcastInDim S48x64x256 ![] bcast_S_S48x64x256 main_c_3
  let main_c_4 : IVec S_ 1 := constantI S_ 1 0#1
  let main_v5 : IVec S48x1x256 1 := broadcastInDim S48x1x256 ![] bcast_S_S48x1x256 main_c_4
  let main_c_5 : IVec S_ 1 := constantI S_ 1 0#1
  let main_v6 : IVec S48x192x256 1 := broadcastInDim S48x192x256 ![] bcast_S_S48x192x256 main_c_5
  let main_c_6 : IVec S_ 1 := constantI S_ 1 0#1
  let main_v7 : IVec S48x1x256 1 := broadcastInDim S48x1x256 ![] bcast_S_S48x1x256 main_c_6
  (main_v0, main_v1, main_v2, main_v3, main_v4, main_v5, main_v6, main_v7)
-- ==== Pre_in_range.lean ====
abbrev S48x512x64 : Shape := ⟨3, ![48, 512, 64]⟩
abbrev S48x512 : Shape := ⟨2, ![48, 512]⟩
abbrev S48 : Shape := ⟨1, ![48]⟩
abbrev S48x256x64 : Shape := ⟨3, ![48, 256, 64]⟩
abbrev S64x80 : Shape := ⟨2, ![64, 80]⟩
abbrev S80 : Shape := ⟨1, ![80]⟩
abbrev S1 : Shape := ⟨1, ![1]⟩
abbrev S80x40 : Shape := ⟨2, ![80, 40]⟩
abbrev S40 : Shape := ⟨1, ![40]⟩
abbrev S192x200 : Shape := ⟨2, ![192, 200]⟩
abbrev S200 : Shape := ⟨1, ![200]⟩
abbrev S_ : Shape := ⟨0, ![]⟩

class Facts : Prop where
  bcast_S_S48 : S_.BroadcastsInDim S48 (![] : Fin 0 → Fin S48.rank)
  bcast_S_S48x512 : S_.BroadcastsInDim S48x512 (![] : Fin 0 → Fin S48x512.rank)
  bcast_S_S80 : S_.BroadcastsInDim S80 (![] : Fin 0 → Fin S80.rank)
  bcast_S_S40 : S_.BroadcastsInDim S40 (![] : Fin 0 → Fin S40.rank)

variable [Facts]

def fn_part1 {F : FTy → Type} [FloatOps F] (main_arg18 : FVec F S40 .f32) (main_arg19 : FVec F S40 .f32) (main_v1 : IVec S48 1) (main_v6 : IVec S48x512 1) (main_v11 : IVec S80 1) (main_v16 : IVec S40 1) : IVec S48 1 × IVec S48x512 1 × IVec S80 1 × IVec S40 1 × IVec S40 1 × IVec S40 1 :=
  let main_v17 : FVec F S40 .f32 := Host.absf main_arg18
  let main_cst_5 : FVec F S_ .f32 := constant S_ .f32 0x7F800000#32
  let main_v18 : FVec F S40 .f32 := broadcastInDim S40 ![] bcast_S_S40 main_cst_5
  let main_v19 : IVec S40 1 := cmpf .olt main_v17 main_v18
  let main_v20 : FVec F S40 .f32 := Host.absf main_arg19
  let main_cst_6 : FVec F S_ .f32 := constant S_ .f32 0x7F800000#32
  let main_v21 : FVec F S40 .f32 := broadcastInDim S40 ![] bcast_S_S40 main_cst_6
  let main_v22 : IVec S40 1 := cmpf .olt main_v20 main_v21
  (main_v1, main_v6, main_v11, main_v16, main_v19, main_v22)

def fn {F : FTy → Type} [FloatOps F] (main_arg0 : IVec S48x512x64 8) (main_arg1 : FVec F S48x512 .f32) (main_arg2 : IVec S48 32) (main_arg3 : FVec F S48x256x64 .bf16) (main_arg4 : FVec F S64x80 .f32) (main_arg5 : FVec F S64x80 .fp8e4m3) (main_arg6 : FVec F S80 .f32) (main_arg7 : FVec F S64x80 .f32) (main_arg8 : FVec F S80 .f32) (main_arg9 : FVec F S80 .f32) (main_arg10 : FVec F S80 .f32) (main_arg11 : FVec F S80 .f32) (main_arg12 : FVec F S1 .f32) (main_arg13 : FVec F S80x40 .fp8e4m3) (main_arg14 : FVec F S40 .f32) (main_arg15 : FVec F S40 .f32) (main_arg16 : FVec F S40 .f32) (main_arg17 : FVec F S40 .f32) (main_arg18 : FVec F S40 .f32) (main_arg19 : FVec F S40 .f32) (main_arg20 : FVec F S1 .f32) (main_arg21 : FVec F S192x200 .fp8e4m3) (main_arg22 : FVec F S200 .f32) (main_arg23 : FVec F S200 .f32) (main_arg24 : FVec F S200 .f32) (main_arg25 : FVec F S200 .f32) (main_arg26 : FVec F S1 .f32) : IVec S48 1 × IVec S48x512 1 × IVec S80 1 × IVec S40 1 × IVec S40 1 × IVec S40 1 :=
  let main_c : IVec S_ 32 := constantI S_ 32 512#32
  let main_v0 : IVec S48 32 := broadcastInDim S48 ![] bcast_S_S48 main_c
  let main_v1 : IVec S48 1 := cmpi .sle main_arg2 main_v0
  let main_cst : FVec F S_ .f32 := constant S_ .f32 0x00000000#32
  let main_v2 : FVec F S48x512 .f32 := broadcastInDim S48x512 ![] bcast_S_S48x512 main_cst
  let main_v3 : IVec S48x512 1 := cmpf .oge main_arg1 main_v2
  let main_cst_0 : FVec F S_ .f32 := constant S_ .f32 0x7F800000#32
  let main_v4 : FVec F S48x512 .f32 := broadcastInDim S48x512 ![] bcast_S_S48x512 main_cst_0
  let main_v5 : IVec S48x512 1 := cmpf .olt main_arg1 main_v4
  let main_v6 : IVec S48x512 1 := andi main_v3 main_v5
  let main_cst_1 : FVec F S_ .f32 := constant S_ .f32 0x00000000#32
  let main_v7 : FVec F S80 .f32 := broadcastInDim S80 ![] bcast_S_S80 main_cst_1
  let main_v8 : IVec S80 1 := cmpf .oge main_arg10 main_v7
  let main_cst_2 : FVec F S_ .f32 := constant S_ .f32 0x7F800000#32
  let main_v9 : FVec F S80 .f32 := broadcastInDim S80 ![] bcast_S_S80 main_cst_2
  let main_v10 : IVec S80 1 := cmpf .olt main_arg10 main_v9
  let main_v11 : IVec S80 1 := andi main_v8 main_v10
  let main_cst_3 : FVec F S_ .f32 := constant S_ .f32 0x00000000#32
  let main_v12 : FVec F S40 .f32 := broadcastInDim S40 ![] bcast_S_S40 main_cst_3
  let main_v13 : IVec S40 1 := cmpf .oge main_arg17 main_v12
  let main_cst_4 : FVec F S_ .f32 := constant S_ .f32 0x7F800000#32
  let main_v14 : FVec F S40 .f32 := broadcastInDim S40 ![] bcast_S_S40 main_cst_4
  let main_v15 : IVec S40 1 := cmpf .olt main_arg17 main_v14
  let main_v16 : IVec S40 1 := andi main_v13 main_v15
  fn_part1 (F := F) main_arg18 main_arg19 main_v1 main_v6 main_v11 main_v16
-- ==== Kernel.lean ====
abbrev S48x512x64 : Shape := ⟨3, ![48, 512, 64]⟩
abbrev S48x512 : Shape := ⟨2, ![48, 512]⟩
abbrev S48 : Shape := ⟨1, ![48]⟩
abbrev S48x256x64 : Shape := ⟨3, ![48, 256, 64]⟩
abbrev S64x80 : Shape := ⟨2, ![64, 80]⟩
abbrev S80 : Shape := ⟨1, ![80]⟩
abbrev S1 : Shape := ⟨1, ![1]⟩
abbrev S80x40 : Shape := ⟨2, ![80, 40]⟩
abbrev S40 : Shape := ⟨1, ![40]⟩
abbrev S192x200 : Shape := ⟨2, ![192, 200]⟩
abbrev S200 : Shape := ⟨1, ![200]⟩
abbrev S_ : Shape := ⟨0, ![]⟩
abbrev S20x1x4 : Shape := ⟨3, ![20, 1, 4]⟩
abbrev S20x2x4 : Shape := ⟨3, ![20, 2, 4]⟩
abbrev S160 : Shape := ⟨1, ![160]⟩
abbrev S160x1 : Shape := ⟨2, ![160, 1]⟩
abbrev S160x128 : Shape := ⟨2, ![160, 128]⟩
abbrev S1x160x128 : Shape := ⟨3, ![1, 160, 128]⟩
abbrev S4x160x128 : Shape := ⟨3, ![4, 160, 128]⟩
abbrev S40x1 : Shape := ⟨2, ![40, 1]⟩
abbrev S40x128 : Shape := ⟨2, ![40, 128]⟩
abbrev S1x40x128 : Shape := ⟨3, ![1, 40, 128]⟩
abbrev S5x40x128 : Shape := ⟨3, ![5, 40, 128]⟩
abbrev S80x64 : Shape := ⟨2, ![80, 64]⟩
abbrev S20x1x4x64 : Shape := ⟨4, ![20, 1, 4, 64]⟩
abbrev S20x2x4x64 : Shape := ⟨4, ![20, 2, 4, 64]⟩
abbrev S160x64 : Shape := ⟨2, ![160, 64]⟩
abbrev S80x64x1 : Shape := ⟨3, ![80, 64, 1]⟩
abbrev S80x64x128 : Shape := ⟨3, ![80, 64, 128]⟩
abbrev S64x80x1 : Shape := ⟨3, ![64, 80, 1]⟩
abbrev S64x80x128 : Shape := ⟨3, ![64, 80, 128]⟩
abbrev S64x20x4 : Shape := ⟨3, ![64, 20, 4]⟩
abbrev S4x64x20 : Shape := ⟨3, ![4, 64, 20]⟩
abbrev S256x20 : Shape := ⟨2, ![256, 20]⟩
abbrev S256x108 : Shape := ⟨2, ![256, 108]⟩
abbrev S256x128 : Shape := ⟨2, ![256, 128]⟩
abbrev S20x4 : Shape := ⟨2, ![20, 4]⟩
abbrev S4x20 : Shape := ⟨2, ![4, 20]⟩
abbrev S8x20 : Shape := ⟨2, ![8, 20]⟩
abbrev S8x128 : Shape := ⟨2, ![8, 128]⟩
abbrev S40x80 : Shape := ⟨2, ![40, 80]⟩
abbrev S40x16 : Shape := ⟨2, ![40, 16]⟩
abbrev S40x96 : Shape := ⟨2, ![40, 96]⟩
abbrev S200x192 : Shape := ⟨2, ![200, 192]⟩
abbrev S200x1 : Shape := ⟨2, ![200, 1]⟩
abbrev S200x128 : Shape := ⟨2, ![200, 128]⟩
abbrev S1x200x128 : Shape := ⟨3, ![1, 200, 128]⟩
abbrev S4x200x128 : Shape := ⟨3, ![4, 200, 128]⟩
abbrev S2 : Shape := ⟨1, ![2]⟩
abbrev S48x64x512 : Shape := ⟨3, ![48, 64, 512]⟩
abbrev S48x1x512 : Shape := ⟨3, ![48, 1, 512]⟩
abbrev S48x64x256 : Shape := ⟨3, ![48, 64, 256]⟩
abbrev S48x1x256 : Shape := ⟨3, ![48, 1, 256]⟩
abbrev S48x256x512 : Shape := ⟨3, ![48, 256, 512]⟩
abbrev S48x64x80x256 : Shape := ⟨4, ![48, 64, 80, 256]⟩
abbrev S48x80x256 : Shape := ⟨3, ![48, 80, 256]⟩
abbrev S48x192x256 : Shape := ⟨3, ![48, 192, 256]⟩
abbrev S1x64x512 : Shape := ⟨3, ![1, 64, 512]⟩
abbrev S1x1x512 : Shape := ⟨3, ![1, 1, 512]⟩
abbrev S1x64x256 : Shape := ⟨3, ![1, 64, 256]⟩
abbrev S1x1x256 : Shape := ⟨3, ![1, 1, 256]⟩
abbrev S1x256x512 : Shape := ⟨3, ![1, 256, 512]⟩
abbrev S1x64x80x256 : Shape := ⟨4, ![1, 64, 80, 256]⟩
abbrev S1x80x256 : Shape := ⟨3, ![1, 80, 256]⟩
abbrev S1x192x256 : Shape := ⟨3, ![1, 192, 256]⟩
abbrev S512x256 : Shape := ⟨2, ![512, 256]⟩
abbrev S512x128 : Shape := ⟨2, ![512, 128]⟩
abbrev S2048x128 : Shape := ⟨2, ![2048, 128]⟩
abbrev S64x256 : Shape := ⟨2, ![64, 256]⟩
abbrev S160x256 : Shape := ⟨2, ![160, 256]⟩
abbrev S20x256x256 : Shape := ⟨3, ![20, 256, 256]⟩
abbrev S65x20x4x128 : Shape := ⟨4, ![65, 20, 4, 128]⟩
abbrev S2x256x128 : Shape := ⟨3, ![2, 256, 128]⟩
abbrev S64x512 : Shape := ⟨2, ![64, 512]⟩
abbrev S512x64 : Shape := ⟨2, ![512, 64]⟩
abbrev S1x1x128 : Shape := ⟨3, ![1, 1, 128]⟩
abbrev S1x128 : Shape := ⟨2, ![1, 128]⟩
abbrev S128x128 : Shape := ⟨2, ![128, 128]⟩
abbrev S8x256 : Shape := ⟨2, ![8, 256]⟩
abbrev S1x64x128 : Shape := ⟨3, ![1, 64, 128]⟩
abbrev S64x128 : Shape := ⟨2, ![64, 128]⟩
abbrev S256 : Shape := ⟨1, ![256]⟩
abbrev S1x256 : Shape := ⟨2, ![1, 256]⟩
abbrev S4x256 : Shape := ⟨2, ![4, 256]⟩
abbrev S1x4x256 : Shape := ⟨3, ![1, 4, 256]⟩
abbrev S80x256 : Shape := ⟨2, ![80, 256]⟩
abbrev S1x80x128 : Shape := ⟨3, ![1, 80, 128]⟩
abbrev S80x128 : Shape := ⟨2, ![80, 128]⟩
abbrev S1x1x80x256 : Shape := ⟨4, ![1, 1, 80, 256]⟩
abbrev S32x256 : Shape := ⟨2, ![32, 256]⟩
abbrev S128x256 : Shape := ⟨2, ![128, 256]⟩
abbrev S1x256x256 : Shape := ⟨3, ![1, 256, 256]⟩
abbrev S256x256 : Shape := ⟨2, ![256, 256]⟩
abbrev S1x8x128 : Shape := ⟨3, ![1, 8, 128]⟩
abbrev S128x1 : Shape := ⟨2, ![128, 1]⟩
abbrev S32x4x256 : Shape := ⟨3, ![32, 4, 256]⟩
abbrev S32x4x128 : Shape := ⟨3, ![32, 4, 128]⟩
abbrev S32x1x4x128 : Shape := ⟨4, ![32, 1, 4, 128]⟩
abbrev S1x20x4x128 : Shape := ⟨4, ![1, 20, 4, 128]⟩
abbrev S20x4x128 : Shape := ⟨3, ![20, 4, 128]⟩
abbrev S1x4x4x128 : Shape := ⟨4, ![1, 4, 4, 128]⟩
abbrev S4x4x128 : Shape := ⟨3, ![4, 4, 128]⟩
abbrev S16x128 : Shape := ⟨2, ![16, 128]⟩
abbrev S96x128 : Shape := ⟨2, ![96, 128]⟩
abbrev S96x256 : Shape := ⟨2, ![96, 256]⟩
abbrev S40x256 : Shape := ⟨2, ![40, 256]⟩
abbrev S5x8x256 : Shape := ⟨3, ![5, 8, 256]⟩
abbrev S32x128 : Shape := ⟨2, ![32, 128]⟩
abbrev S1x256x128 : Shape := ⟨3, ![1, 256, 128]⟩
abbrev S256x512 : Shape := ⟨2, ![256, 512]⟩
abbrev S192x256 : Shape := ⟨2, ![192, 256]⟩
abbrev S200x256 : Shape := ⟨2, ![200, 256]⟩

abbrev nBuf : Space → Nat
  | .hbm => 184
  | .vmem => 45
  | .smem => 2
  | _ => 0

abbrev hbmTy0_0 (i : Nat) : BufTy := match i % 128 with
  | 0 => ⟨S48x512x64, .i8⟩
  | 1 => ⟨S48x512, .f32⟩
  | 2 => ⟨S48x256x64, .bf16⟩
  | 3 => ⟨S64x80, .f32⟩
  | 4 => ⟨S64x80, .fp8e4m3⟩
  | 5 => ⟨S80, .f32⟩
  | 6 => ⟨S64x80, .f32⟩
  | 7 => ⟨S80, .f32⟩
  | 8 => ⟨S80, .f32⟩
  | 9 => ⟨S80, .f32⟩
  | 10 => ⟨S80, .f32⟩
  | 11 => ⟨S1, .f32⟩
  | 12 => ⟨S80x40, .fp8e4m3⟩
  | 13 => ⟨S40, .f32⟩
  | 14 => ⟨S40, .f32⟩
  | 15 => ⟨S40, .f32⟩
  | 16 => ⟨S40, .f32⟩
  | 17 => ⟨S40, .f32⟩
  | 18 => ⟨S40, .f32⟩
  | 19 => ⟨S1, .f32⟩
  | 20 => ⟨S192x200, .fp8e4m3⟩
  | 21 => ⟨S200, .f32⟩
  | 22 => ⟨S200, .f32⟩
  | 23 => ⟨S200, .f32⟩
  | 24 => ⟨S200, .f32⟩
  | 25 => ⟨S1, .f32⟩
  | 26 => ⟨S_, .f32⟩
  | 27 => ⟨S80, .f32⟩
  | 28 => ⟨S80, .f32⟩
  | 29 => ⟨S80, .f32⟩
  | 30 => ⟨S_, .f32⟩
  | 31 => ⟨S80, .f32⟩
  | 32 => ⟨S80, .f32⟩
  | 33 => ⟨S80, .f32⟩
  | 34 => ⟨S80, .f32⟩
  | 35 => ⟨S_, .f32⟩
  | 36 => ⟨S80, .f32⟩
  | 37 => ⟨S80, .f32⟩
  | 38 => ⟨S_, .f32⟩
  | 39 => ⟨S80, .f32⟩
  | 40 => ⟨S80, .f32⟩
  | 41 => ⟨S_, .f32⟩
  | 42 => ⟨S80, .f32⟩
  | 43 => ⟨S80, .f32⟩
  | 44 => ⟨S_, .f32⟩
  | 45 => ⟨S80, .f32⟩
  | 46 => ⟨S80, .f32⟩
  | 47 => ⟨S_, .f32⟩
  | 48 => ⟨S40, .f32⟩
  | 49 => ⟨S40, .f32⟩
  | 50 => ⟨S40, .f32⟩
  | 51 => ⟨S_, .f32⟩
  | 52 => ⟨S40, .f32⟩
  | 53 => ⟨S40, .f32⟩
  | 54 => ⟨S40, .f32⟩
  | 55 => ⟨S40, .f32⟩
  | 56 => ⟨S_, .f32⟩
  | 57 => ⟨S40, .f32⟩
  | 58 => ⟨S40, .f32⟩
  | 59 => ⟨S_, .f32⟩
  | 60 => ⟨S40, .f32⟩
  | 61 => ⟨S40, .f32⟩
  | 62 => ⟨S_, .f32⟩
  | 63 => ⟨S40, .f32⟩
  | 64 => ⟨S40, .f32⟩
  | 65 => ⟨S_, .f32⟩
  | 66 => ⟨S40, .f32⟩
  | 67 => ⟨S40, .f32⟩
  | 68 => ⟨S80, .f32⟩
  | 69 => ⟨S80, .f32⟩
  | 70 => ⟨S80, .f32⟩
  | 71 => ⟨S80, .f32⟩
  | 72 => ⟨S80, .f32⟩
  | 73 => ⟨S80, .f32⟩
  | 74 => ⟨S20x1x4, .f32⟩
  | 75 => ⟨S20x2x4, .f32⟩
  | 76 => ⟨S160, .f32⟩
  | 77 => ⟨S160x1, .f32⟩
  | 78 => ⟨S160x128, .f32⟩
  | 79 => ⟨S20x1x4, .f32⟩
  | 80 => ⟨S20x2x4, .f32⟩
  | 81 => ⟨S160, .f32⟩
  | 82 => ⟨S160x1, .f32⟩
  | 83 => ⟨S160x128, .f32⟩
  | 84 => ⟨S20x1x4, .f32⟩
  | 85 => ⟨S20x2x4, .f32⟩
  | 86 => ⟨S160, .f32⟩
  | 87 => ⟨S160x1, .f32⟩
  | 88 => ⟨S160x128, .f32⟩
  | 89 => ⟨S20x1x4, .f32⟩
  | 90 => ⟨S20x2x4, .f32⟩
  | 91 => ⟨S160, .f32⟩
  | 92 => ⟨S160x1, .f32⟩
  | 93 => ⟨S160x128, .f32⟩
  | 94 => ⟨S1x160x128, .f32⟩
  | 95 => ⟨S1x160x128, .f32⟩
  | 96 => ⟨S1x160x128, .f32⟩
  | 97 => ⟨S1x160x128, .f32⟩
  | 98 => ⟨S4x160x128, .f32⟩
  | 99 => ⟨S40, .f32⟩
  | 100 => ⟨S40, .f32⟩
  | 101 => ⟨S40, .f32⟩
  | 102 => ⟨S40, .f32⟩
  | 103 => ⟨S40, .f32⟩
  | 104 => ⟨S40, .f32⟩
  | 105 => ⟨S40, .f32⟩
  | 106 => ⟨S40, .f32⟩
  | 107 => ⟨S40, .f32⟩
  | 108 => ⟨S40, .f32⟩
  | 109 => ⟨S40x1, .f32⟩
  | 110 => ⟨S40x128, .f32⟩
  | 111 => ⟨S40x1, .f32⟩
  | 112 => ⟨S40x128, .f32⟩
  | 113 => ⟨S40x1, .f32⟩
  | 114 => ⟨S40x128, .f32⟩
  | 115 => ⟨S40x1, .f32⟩
  | 116 => ⟨S40x128, .f32⟩
  | 117 => ⟨S40x1, .f32⟩
  | 118 => ⟨S40x128, .f32⟩
  | 119 => ⟨S1x40x128, .f32⟩
  | 120 => ⟨S1x40x128, .f32⟩
  | 121 => ⟨S1x40x128, .f32⟩
  | 122 => ⟨S1x40x128, .f32⟩
  | 123 => ⟨S1x40x128, .f32⟩
  | 124 => ⟨S5x40x128, .f32⟩
  | 125 => ⟨S20x1x4, .f32⟩
  | 126 => ⟨S20x2x4, .f32⟩
  | 127 => ⟨S160, .f32⟩
  | _ => ⟨S48x512x64, .i8⟩

abbrev hbmTy0_1 (i : Nat) : BufTy := match i % 128 with
  | 0 => ⟨S160x1, .f32⟩
  | 1 => ⟨S160x128, .f32⟩
  | 2 => ⟨S80x64, .f32⟩
  | 3 => ⟨S20x1x4x64, .f32⟩
  | 4 => ⟨S20x2x4x64, .f32⟩
  | 5 => ⟨S160x64, .f32⟩
  | 6 => ⟨S80x64, .f32⟩
  | 7 => ⟨S80x64x1, .f32⟩
  | 8 => ⟨S80x64x128, .f32⟩
  | 9 => ⟨S64x80x1, .f32⟩
  | 10 => ⟨S64x80x128, .f32⟩
  | 11 => ⟨S64x20x4, .fp8e4m3⟩
  | 12 => ⟨S4x64x20, .fp8e4m3⟩
  | 13 => ⟨S256x20, .fp8e4m3⟩
  | 14 => ⟨S_, .i8⟩
  | 15 => ⟨S256x108, .i8⟩
  | 16 => ⟨S256x108, .fp8e4m3⟩
  | 17 => ⟨S256x128, .fp8e4m3⟩
  | 18 => ⟨S80, .f32⟩
  | 19 => ⟨S20x4, .f32⟩
  | 20 => ⟨S4x20, .f32⟩
  | 21 => ⟨S8x20, .f32⟩
  | 22 => ⟨S_, .i32⟩
  | 23 => ⟨S_, .f32⟩
  | 24 => ⟨S8x128, .f32⟩
  | 25 => ⟨S40x80, .fp8e4m3⟩
  | 26 => ⟨S_, .i8⟩
  | 27 => ⟨S40x16, .i8⟩
  | 28 => ⟨S40x16, .fp8e4m3⟩
  | 29 => ⟨S40x96, .fp8e4m3⟩
  | 30 => ⟨S200x192, .fp8e4m3⟩
  | 31 => ⟨S200x1, .f32⟩
  | 32 => ⟨S200x128, .f32⟩
  | 33 => ⟨S200x1, .f32⟩
  | 34 => ⟨S200x128, .f32⟩
  | 35 => ⟨S200x1, .f32⟩
  | 36 => ⟨S200x128, .f32⟩
  | 37 => ⟨S200x1, .f32⟩
  | 38 => ⟨S200x128, .f32⟩
  | 39 => ⟨S1x200x128, .f32⟩
  | 40 => ⟨S1x200x128, .f32⟩
  | 41 => ⟨S1x200x128, .f32⟩
  | 42 => ⟨S1x200x128, .f32⟩
  | 43 => ⟨S4x200x128, .f32⟩
  | 44 => ⟨S2, .f32⟩
  | 45 => ⟨S48x64x512, .i8⟩
  | 46 => ⟨S48x1x512, .f32⟩
  | 47 => ⟨S48x64x256, .bf16⟩
  | 48 => ⟨S48x1x256, .f32⟩
  | 49 => ⟨S48x256x512, .f32⟩
  | 50 => ⟨S48x64x80x256, .fp8e4m3⟩
  | 51 => ⟨S48x80x256, .f32⟩
  | 52 => ⟨S48x64x256, .fp8e4m3⟩
  | 53 => ⟨S48x1x256, .f32⟩
  | 54 => ⟨S48x192x256, .fp8e4m3⟩
  | 55 => ⟨S48x1x256, .f32⟩
  | _ => ⟨S48x512x64, .i8⟩

abbrev hbmTy (i : Nat) : BufTy := match i / 128 with
  | 0 => hbmTy0_0 i
  | 1 => hbmTy0_1 i
  | _ => ⟨S48x512x64, .i8⟩

abbrev bufTy : (tb : Table) → Fin (tcTables nBuf tb) → BufTy
  | .hbm, ⟨i, _⟩ => hbmTy i
  | .local _ .vmem, ⟨0, _⟩ => ⟨S1x64x512, .i8⟩
  | .local _ .vmem, ⟨1, _⟩ => ⟨S1x64x512, .i8⟩
  | .local _ .vmem, ⟨2, _⟩ => ⟨S1x1x512, .f32⟩
  | .local _ .vmem, ⟨3, _⟩ => ⟨S1x1x512, .f32⟩
  | .local _ .vmem, ⟨4, _⟩ => ⟨S1x64x256, .bf16⟩
  | .local _ .vmem, ⟨5, _⟩ => ⟨S1x64x256, .bf16⟩
  | .local _ .vmem, ⟨6, _⟩ => ⟨S80x64x128, .f32⟩
  | .local _ .vmem, ⟨7, _⟩ => ⟨S64x80x128, .f32⟩
  | .local _ .vmem, ⟨8, _⟩ => ⟨S160x64, .f32⟩
  | .local _ .vmem, ⟨9, _⟩ => ⟨S160x128, .f32⟩
  | .local _ .vmem, ⟨10, _⟩ => ⟨S4x160x128, .f32⟩
  | .local _ .vmem, ⟨11, _⟩ => ⟨S256x128, .fp8e4m3⟩
  | .local _ .vmem, ⟨12, _⟩ => ⟨S8x128, .f32⟩
  | .local _ .vmem, ⟨13, _⟩ => ⟨S40x96, .fp8e4m3⟩
  | .local _ .vmem, ⟨14, _⟩ => ⟨S5x40x128, .f32⟩
  | .local _ .vmem, ⟨15, _⟩ => ⟨S200x192, .fp8e4m3⟩
  | .local _ .vmem, ⟨16, _⟩ => ⟨S4x200x128, .f32⟩
  | .local _ .vmem, ⟨17, _⟩ => ⟨S1x1x256, .f32⟩
  | .local _ .vmem, ⟨18, _⟩ => ⟨S1x1x256, .f32⟩
  | .local _ .vmem, ⟨19, _⟩ => ⟨S1x256x512, .f32⟩
  | .local _ .vmem, ⟨20, _⟩ => ⟨S1x256x512, .f32⟩
  | .local _ .vmem, ⟨21, _⟩ => ⟨S1x64x80x256, .fp8e4m3⟩
  | .local _ .vmem, ⟨22, _⟩ => ⟨S1x64x80x256, .fp8e4m3⟩
  | .local _ .vmem, ⟨23, _⟩ => ⟨S1x80x256, .f32⟩
  | .local _ .vmem, ⟨24, _⟩ => ⟨S1x80x256, .f32⟩
  | .local _ .vmem, ⟨25, _⟩ => ⟨S1x64x256, .fp8e4m3⟩
  | .local _ .vmem, ⟨26, _⟩ => ⟨S1x64x256, .fp8e4m3⟩
  | .local _ .vmem, ⟨27, _⟩ => ⟨S1x1x256, .f32⟩
  | .local _ .vmem, ⟨28, _⟩ => ⟨S1x1x256, .f32⟩
  | .local _ .vmem, ⟨29, _⟩ => ⟨S1x192x256, .fp8e4m3⟩
  | .local _ .vmem, ⟨30, _⟩ => ⟨S1x192x256, .fp8e4m3⟩
  | .local _ .vmem, ⟨31, _⟩ => ⟨S1x1x256, .f32⟩
  | .local _ .vmem, ⟨32, _⟩ => ⟨S1x1x256, .f32⟩
  | .local _ .vmem, ⟨33, _⟩ => ⟨S512x256, .i32⟩
  | .local _ .vmem, ⟨34, _⟩ => ⟨S512x128, .f32⟩
  | .local _ .vmem, ⟨35, _⟩ => ⟨S2048x128, .f32⟩
  | .local _ .vmem, ⟨36, _⟩ => ⟨S64x256, .f32⟩
  | .local _ .vmem, ⟨37, _⟩ => ⟨S160x256, .f32⟩
  | .local _ .vmem, ⟨38, _⟩ => ⟨S160x256, .f32⟩
  | .local _ .vmem, ⟨39, _⟩ => ⟨S160x256, .f32⟩
  | .local _ .vmem, ⟨40, _⟩ => ⟨S20x256x256, .fp8e4m3⟩
  | .local _ .vmem, ⟨41, _⟩ => ⟨S65x20x4x128, .fp8e4m3⟩
  | .local _ .vmem, ⟨42, _⟩ => ⟨S2x256x128, .f32⟩
  | .local _ .vmem, ⟨43, _⟩ => ⟨S512x256, .f32⟩
  | .local _ .vmem, ⟨44, _⟩ => ⟨S512x256, .bf16⟩
  | .local _ .smem, ⟨0, _⟩ => ⟨S48, .i32⟩
  | .local _ .smem, ⟨1, _⟩ => ⟨S2, .f32⟩
  | _, _ => ⟨S48x512x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨1, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_arg16 : Ref sig .tc := ⟨.hbm, 15, rfl⟩
abbrev main_arg17 : Ref sig .tc := ⟨.hbm, 16, rfl⟩
abbrev main_arg18 : Ref sig .tc := ⟨.hbm, 17, rfl⟩
abbrev main_arg19 : Ref sig .tc := ⟨.hbm, 18, rfl⟩
abbrev main_arg20 : Ref sig .tc := ⟨.hbm, 19, rfl⟩
abbrev main_arg21 : Ref sig .tc := ⟨.hbm, 20, rfl⟩
abbrev main_arg22 : Ref sig .tc := ⟨.hbm, 21, rfl⟩
abbrev main_arg23 : Ref sig .tc := ⟨.hbm, 22, rfl⟩
abbrev main_arg24 : Ref sig .tc := ⟨.hbm, 23, rfl⟩
abbrev main_arg25 : Ref sig .tc := ⟨.hbm, 24, rfl⟩
abbrev main_arg26 : Ref sig .tc := ⟨.hbm, 25, rfl⟩
abbrev main_cst : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_cst_3 : Ref sig .tc := ⟨.hbm, 41, rfl⟩
abbrev main_v11 : Ref sig .tc := ⟨.hbm, 42, rfl⟩
abbrev main_v12 : Ref sig .tc := ⟨.hbm, 43, rfl⟩
abbrev main_cst_4 : Ref sig .tc := ⟨.hbm, 44, rfl⟩
abbrev main_v13 : Ref sig .tc := ⟨.hbm, 45, rfl⟩
abbrev main_v14 : Ref sig .tc := ⟨.hbm, 46, rfl⟩
abbrev main_cst_5 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_6 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_7 : Ref sig .tc := ⟨.hbm, 56, rfl⟩
abbrev main_v22 : Ref sig .tc := ⟨.hbm, 57, rfl⟩
abbrev main_v23 : Ref sig .tc := ⟨.hbm, 58, rfl⟩
abbrev main_cst_8 : Ref sig .tc := ⟨.hbm, 59, rfl⟩
abbrev main_v24 : Ref sig .tc := ⟨.hbm, 60, rfl⟩
abbrev main_v25 : Ref sig .tc := ⟨.hbm, 61, rfl⟩
abbrev main_cst_9 : Ref sig .tc := ⟨.hbm, 62, rfl⟩
abbrev main_v26 : Ref sig .tc := ⟨.hbm, 63, rfl⟩
abbrev main_v27 : Ref sig .tc := ⟨.hbm, 64, rfl⟩
abbrev main_cst_10 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_c_11 : Ref sig .tc := ⟨.hbm, 150, rfl⟩
abbrev main_call0_v0 : Ref sig .tc := ⟨.hbm, 151, rfl⟩
abbrev main_v111 : Ref sig .tc := ⟨.hbm, 152, rfl⟩
abbrev main_v112 : Ref sig .tc := ⟨.hbm, 153, rfl⟩
abbrev main_c_12 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134_0 : Ref sig .tc := ⟨.hbm, 176, rfl⟩
abbrev main_v134_1 : Ref sig .tc := ⟨.hbm, 177, rfl⟩
abbrev main_v134_2 : Ref sig .tc := ⟨.hbm, 178, rfl⟩
abbrev main_v134_3 : Ref sig .tc := ⟨.hbm, 179, rfl⟩
abbrev main_v134_4 : Ref sig .tc := ⟨.hbm, 180, rfl⟩
abbrev main_v134_5 : Ref sig .tc := ⟨.hbm, 181, rfl⟩
abbrev main_v134_6 : Ref sig .tc := ⟨.hbm, 182, rfl⟩
abbrev main_v134_7 : Ref sig .tc := ⟨.hbm, 183, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_scratch7 : Ref sig .tc := ⟨.vmem, 40, rfl⟩
abbrev cc0_scratch8 : Ref sig .tc := ⟨.vmem, 41, rfl⟩
abbrev cc0_scratch9 : Ref sig .tc := ⟨.vmem, 42, rfl⟩
abbrev cc0_scratch10 : Ref sig .tc := ⟨.vmem, 43, rfl⟩
abbrev cc0_scratch11 : Ref sig .tc := ⟨.vmem, 44, rfl⟩
abbrev cc0_stg14_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_64 : BitVec 32 := 0#32
  let c20_i32 : BitVec 32 := 20#32
  let v149 : BitVec 32 := Scalar.addi c0_i32_64 c20_i32
  let c1_i32_65 : BitVec 32 := 1#32
  ⟨c0_i32_64, v149, c1_i32_65⟩
def k0_off2 (k0_t1 : Fin k0_t1_loop.trips) (c0_i32_212 : BitVec 32) : Fin 3 → Nat :=
  let c0_i32_64 : BitVec 32 := 0#32
  let c1_i32_65 : BitVec 32 := 1#32
  let arg37 : BitVec 32 := Scf.iv c0_i32_64 c1_i32_65 k0_t1
  let c4_i32_211 : BitVec 32 := 4#32
  let v338 : BitVec 32 := Scalar.muli arg37 c4_i32_211
  let v339 : BitVec 32 := Scalar.addi v338 c0_i32_212
  let v340 : Index := Scalar.indexCast v339
  let c0_213 : Index := 0#32
  let c0_214 : Index := 0#32
  ![v340.toNat, 0, 0]
def k0_off3 (k0_t1 : Fin k0_t1_loop.trips) : Fin 3 → Nat :=
  let c0_i32_64 : BitVec 32 := 0#32
  let c1_i32_65 : BitVec 32 := 1#32
  let arg37 : BitVec 32 := Scf.iv c0_i32_64 c1_i32_65 k0_t1
  let v361 : Index := Scalar.indexCast arg37
  let c0_221 : Index := 0#32
  let c0_222 : Index := 0#32
  ![v361.toNat, 0, 0]
def k0_off4 (k0_t1 : Fin k0_t1_loop.trips) : Fin 3 → Nat :=
  let c0_i32_64 : BitVec 32 := 0#32
  let c1_i32_65 : BitVec 32 := 1#32
  let arg37 : BitVec 32 := Scf.iv c0_i32_64 c1_i32_65 k0_t1
  let v393 : Index := Scalar.indexCast arg37
  let c64_234 : Index := 64#32
  let c0_235 : Index := 0#32
  ![v393.toNat, 64, 0]
def k0_off5 (k0_t1 : Fin k0_t1_loop.trips) : Fin 3 → Nat :=
  let c0_i32_64 : BitVec 32 := 0#32
  let c1_i32_65 : BitVec 32 := 1#32
  let arg37 : BitVec 32 := Scf.iv c0_i32_64 c1_i32_65 k0_t1
  let v425 : Index := Scalar.indexCast arg37
  let c128_246 : Index := 128#32
  let c0_247 : Index := 0#32
  ![v425.toNat, 128, 0]
def k0_off6 (k0_t1 : Fin k0_t1_loop.trips) : Fin 3 → Nat :=
  let c0_i32_64 : BitVec 32 := 0#32
  let c1_i32_65 : BitVec 32 := 1#32
  let arg37 : BitVec 32 := Scf.iv c0_i32_64 c1_i32_65 k0_t1
  let v457 : Index := Scalar.indexCast arg37
  let c192 : Index := 192#32
  let c0_258 : Index := 0#32
  ![v457.toNat, 192, 0]
def k0_off7 (k0_t1 : Fin k0_t1_loop.trips) : Fin 2 → Nat :=
  let c0_i32_64 : BitVec 32 := 0#32
  let c1_i32_65 : BitVec 32 := 1#32
  let arg37 : BitVec 32 := Scf.iv c0_i32_64 c1_i32_65 k0_t1
  let c8_i32_260 : BitVec 32 := 8#32
  let v466 : BitVec 32 := Scalar.muli arg37 c8_i32_260
  let v467 : Index := Scalar.indexCast v466
  let c0_261 : Index := 0#32
  ![v467.toNat, 0]
@[reducible] def k0_t2_loop : Scf.Loop 32 :=
  let c0_i32_139 : BitVec 32 := 0#32
  let c64_i32 : BitVec 32 := 64#32
  let v230 : BitVec 32 := Scalar.addi c0_i32_139 c64_i32
  let c1_i32_140 : BitVec 32 := 1#32
  ⟨c0_i32_139, v230, c1_i32_140⟩
def k0_off8 (k0_t2 : Fin k0_t2_loop.trips) : Fin 2 → Nat :=
  let c0_i32_139 : BitVec 32 := 0#32
  let c1_i32_140 : BitVec 32 := 1#32
  let arg37 : BitVec 32 := Scf.iv c0_i32_139 c1_i32_140 k0_t2
  let v336 : Index := Scalar.indexCast arg37
  let c0_208 : Index := 0#32
  ![v336.toNat, 0]
def k0_off9 (k0_t2 : Fin k0_t2_loop.trips) : Fin 3 → Nat :=
  let c0_i32_139 : BitVec 32 := 0#32
  let c1_i32_140 : BitVec 32 := 1#32
  let arg37 : BitVec 32 := Scf.iv c0_i32_139 c1_i32_140 k0_t2
  let v340 : Index := Scalar.indexCast arg37
  let c0_209 : Index := 0#32
  let c0_210 : Index := 0#32
  ![v340.toNat, 0, 0]
def k0_off10 (k0_t2 : Fin k0_t2_loop.trips) : Fin 4 → Nat :=
  let c0_216 : Index := 0#32
  let c0_i32_139 : BitVec 32 := 0#32
  let c1_i32_140 : BitVec 32 := 1#32
  let arg37 : BitVec 32 := Scf.iv c0_i32_139 c1_i32_140 k0_t2
  let v353 : Index := Scalar.indexCast arg37
  let c0_217 : Index := 0#32
  let c0_218 : Index := 0#32
  ![0, v353.toNat, 0, 0]
@[reducible] def k0_t3_loop (v1 : BitVec 32) : Scf.Loop 32 :=
  let c0_i32_151 : BitVec 32 := 0#32
  let c31_i32 : BitVec 32 := 31#32
  let v2 : BitVec 32 := Scalar.addi v1 c31_i32
  let c32_i32 : BitVec 32 := 32#32
  let v3 : BitVec 32 := Scalar.divsi v2 c32_i32
  let v242 : BitVec 32 := Scalar.subi v3 c0_i32_151
  let c1_i32_152 : BitVec 32 := 1#32
  let v244 : BitVec 32 := Scalar.divsi v242 c1_i32_152
  let v245 : BitVec 32 := Scalar.muli v244 c1_i32_152
  let v246 : BitVec 32 := Scalar.addi c0_i32_151 v245
  let c1_i32_153 : BitVec 32 := 1#32
  ⟨c0_i32_151, v246, c1_i32_153⟩

def k0_mult1 (v1 : BitVec 32) (k0_t3 : Fin (k0_t3_loop v1).trips) : BitVec 32 :=
  let c0_i32_151 : BitVec 32 := 0#32
  let c1_i32_153 : BitVec 32 := 1#32
  let arg37 : BitVec 32 := Scf.iv c0_i32_151 c1_i32_153 k0_t3
  let c32_i32_208 : BitVec 32 := 32#32
  let v336 : BitVec 32 := Scalar.muli arg37 c32_i32_208
  v336
def k0_off11 (v1 : BitVec 32) (k0_t3 : Fin (k0_t3_loop v1).trips) : Fin 2 → Nat :=
  let c0_i32_151 : BitVec 32 := 0#32
  let c1_i32_153 : BitVec 32 := 1#32
  let arg37 : BitVec 32 := Scf.iv c0_i32_151 c1_i32_153 k0_t3
  let c32_i32_208 : BitVec 32 := 32#32
  let v336 : BitVec 32 := Scalar.muli arg37 c32_i32_208
  let v337 : BitVec 32 := v336
  let v338 : Index := Scalar.indexCast v337
  let c0_209 : Index := 0#32
  ![v338.toNat, 0]
def k0_mult2 (v1 : BitVec 32) (k0_t3 : Fin (k0_t3_loop v1).trips) : BitVec 32 :=
  let c0_i32_151 : BitVec 32 := 0#32
  let c1_i32_153 : BitVec 32 := 1#32
  let arg37 : BitVec 32 := Scf.iv c0_i32_151 c1_i32_153 k0_t3
  let c128_i32 : BitVec 32 := 128#32
  let v341 : BitVec 32 := Scalar.muli arg37 c128_i32
  v341
def k0_off12 (v1 : BitVec 32) (k0_t3 : Fin (k0_t3_loop v1).trips) : Fin 2 → Nat :=
  let c0_i32_151 : BitVec 32 := 0#32
  let c1_i32_153 : BitVec 32 := 1#32
  let arg37 : BitVec 32 := Scf.iv c0_i32_151 c1_i32_153 k0_t3
  let c128_i32 : BitVec 32 := 128#32
  let v341 : BitVec 32 := Scalar.muli arg37 c128_i32
  let v342 : BitVec 32 := v341
  let v343 : Index := Scalar.indexCast v342
  let c0_210 : Index := 0#32
  ![v343.toNat, 0]
def k0_mult3 (v1 : BitVec 32) (k0_t3 : Fin (k0_t3_loop v1).trips) : BitVec 32 :=
  let c0_i32_151 : BitVec 32 := 0#32
  let c1_i32_153 : BitVec 32 := 1#32
  let arg37 : BitVec 32 := Scf.iv c0_i32_151 c1_i32_153 k0_t3
  let c32_i32_2051 : BitVec 32 := 32#32
  let v2894 : BitVec 32 := Scalar.muli arg37 c32_i32_2051
  v2894
def k0_off13 (v1 : BitVec 32) (k0_t3 : Fin (k0_t3_loop v1).trips) : Fin 2 → Nat :=
  let c0_i32_151 : BitVec 32 := 0#32
  let c1_i32_153 : BitVec 32 := 1#32
  let arg37 : BitVec 32 := Scf.iv c0_i32_151 c1_i32_153 k0_t3
  let c32_i32_2051 : BitVec 32 := 32#32
  let v2894 : BitVec 32 := Scalar.muli arg37 c32_i32_2051
  let v2895 : BitVec 32 := v2894
  let v2899 : Index := Scalar.indexCast v2895
  let c0_2052 : Index := 0#32
  ![v2899.toNat, 0]
def k0_off14 (v1 : BitVec 32) (k0_t3 : Fin (k0_t3_loop v1).trips) : Fin 2 → Nat :=
  let c0_i32_151 : BitVec 32 := 0#32
  let c1_i32_153 : BitVec 32 := 1#32
  let arg37 : BitVec 32 := Scf.iv c0_i32_151 c1_i32_153 k0_t3
  let c32_i32_2051 : BitVec 32 := 32#32
  let v2894 : BitVec 32 := Scalar.muli arg37 c32_i32_2051
  let v2895 : BitVec 32 := v2894
  let v2939 : Index := Scalar.indexCast v2895
  let c0_2095 : Index := 0#32
  ![v2939.toNat, 0]
def k0_off15 (v1 : BitVec 32) (k0_t3 : Fin (k0_t3_loop v1).trips) : Fin 2 → Nat :=
  let c0_i32_151 : BitVec 32 := 0#32
  let c1_i32_153 : BitVec 32 := 1#32
  let arg37 : BitVec 32 := Scf.iv c0_i32_151 c1_i32_153 k0_t3
  let c32_i32_2051 : BitVec 32 := 32#32
  let v2894 : BitVec 32 := Scalar.muli arg37 c32_i32_2051
  let v2895 : BitVec 32 := v2894
  let v2987 : Index := Scalar.indexCast v2895
  let c128_2139 : Index := 128#32
  ![v2987.toNat, 128]
@[reducible] def k0_t4_loop (v1 : BitVec 32) : Scf.Loop 32 :=
  let c0_i32_151 : BitVec 32 := 0#32
  let c31_i32 : BitVec 32 := 31#32
  let v2 : BitVec 32 := Scalar.addi v1 c31_i32
  let c32_i32 : BitVec 32 := 32#32
  let v3 : BitVec 32 := Scalar.divsi v2 c32_i32
  let v242 : BitVec 32 := Scalar.subi v3 c0_i32_151
  let c1_i32_152 : BitVec 32 := 1#32
  let v244 : BitVec 32 := Scalar.divsi v242 c1_i32_152
  let v245 : BitVec 32 := Scalar.muli v244 c1_i32_152
  let v246 : BitVec 32 := Scalar.addi c0_i32_151 v245
  let v243 : BitVec 32 := Scalar.addi c0_i32_151 v242
  let c1_i32_154 : BitVec 32 := 1#32
  ⟨v246, v243, c1_i32_154⟩
def k0_mult4 (v1 : BitVec 32) (k0_t4 : Fin (k0_t4_loop v1).trips) : BitVec 32 :=
  let c0_i32_151 : BitVec 32 := 0#32
  let c31_i32 : BitVec 32 := 31#32
  let v2 : BitVec 32 := Scalar.addi v1 c31_i32
  let c32_i32 : BitVec 32 := 32#32
  let v3 : BitVec 32 := Scalar.divsi v2 c32_i32
  let v242 : BitVec 32 := Scalar.subi v3 c0_i32_151
  let c1_i32_152 : BitVec 32 := 1#32
  let v244 : BitVec 32 := Scalar.divsi v242 c1_i32_152
  let v245 : BitVec 32 := Scalar.muli v244 c1_i32_152
  let v246 : BitVec 32 := Scalar.addi c0_i32_151 v245
  let c1_i32_154 : BitVec 32 := 1#32
  let arg37 : BitVec 32 := Scf.iv v246 c1_i32_154 k0_t4
  let c32_i32_208 : BitVec 32 := 32#32
  let v336 : BitVec 32 := Scalar.muli arg37 c32_i32_208
  v336
def k0_off16 (v1 : BitVec 32) (k0_t4 : Fin (k0_t4_loop v1).trips) : Fin 2 → Nat :=
  let c0_i32_151 : BitVec 32 := 0#32
  let c31_i32 : BitVec 32 := 31#32
  let v2 : BitVec 32 := Scalar.addi v1 c31_i32
  let c32_i32 : BitVec 32 := 32#32
  let v3 : BitVec 32 := Scalar.divsi v2 c32_i32
  let v242 : BitVec 32 := Scalar.subi v3 c0_i32_151
  let c1_i32_152 : BitVec 32 := 1#32
  let v244 : BitVec 32 := Scalar.divsi v242 c1_i32_152
  let v245 : BitVec 32 := Scalar.muli v244 c1_i32_152
  let v246 : BitVec 32 := Scalar.addi c0_i32_151 v245
  let c1_i32_154 : BitVec 32 := 1#32
  let arg37 : BitVec 32 := Scf.iv v246 c1_i32_154 k0_t4
  let c32_i32_208 : BitVec 32 := 32#32
  let v336 : BitVec 32 := Scalar.muli arg37 c32_i32_208
  let v337 : BitVec 32 := v336
  let v338 : Index := Scalar.indexCast v337
  let c0_209 : Index := 0#32
  ![v338.toNat, 0]
def k0_mult5 (v1 : BitVec 32) (k0_t4 : Fin (k0_t4_loop v1).trips) : BitVec 32 :=
  let c0_i32_151 : BitVec 32 := 0#32
  let c31_i32 : BitVec 32 := 31#32
  let v2 : BitVec 32 := Scalar.addi v1 c31_i32
  let c32_i32 : BitVec 32 := 32#32
  let v3 : BitVec 32 := Scalar.divsi v2 c32_i32
  let v242 : BitVec 32 := Scalar.subi v3 c0_i32_151
  let c1_i32_152 : BitVec 32 := 1#32
  let v244 : BitVec 32 := Scalar.divsi v242 c1_i32_152
  let v245 : BitVec 32 := Scalar.muli v244 c1_i32_152
  let v246 : BitVec 32 := Scalar.addi c0_i32_151 v245
  let c1_i32_154 : BitVec 32 := 1#32
  let arg37 : BitVec 32 := Scf.iv v246 c1_i32_154 k0_t4
  let c128_i32 : BitVec 32 := 128#32
  let v341 : BitVec 32 := Scalar.muli arg37 c128_i32
  v341
def k0_off17 (v1 : BitVec 32) (k0_t4 : Fin (k0_t4_loop v1).trips) : Fin 2 → Nat :=
  let c0_i32_151 : BitVec 32 := 0#32
  let c31_i32 : BitVec 32 := 31#32
  let v2 : BitVec 32 := Scalar.addi v1 c31_i32
  let c32_i32 : BitVec 32 := 32#32
  let v3 : BitVec 32 := Scalar.divsi v2 c32_i32
  let v242 : BitVec 32 := Scalar.subi v3 c0_i32_151
  let c1_i32_152 : BitVec 32 := 1#32
  let v244 : BitVec 32 := Scalar.divsi v242 c1_i32_152
  let v245 : BitVec 32 := Scalar.muli v244 c1_i32_152
  let v246 : BitVec 32 := Scalar.addi c0_i32_151 v245
  let c1_i32_154 : BitVec 32 := 1#32
  let arg37 : BitVec 32 := Scf.iv v246 c1_i32_154 k0_t4
  let c128_i32 : BitVec 32 := 128#32
  let v341 : BitVec 32 := Scalar.muli arg37 c128_i32
  let v342 : BitVec 32 := v341
  let v343 : Index := Scalar.indexCast v342
  let c0_210 : Index := 0#32
  ![v343.toNat, 0]
def k0_mult6 (v1 : BitVec 32) (k0_t4 : Fin (k0_t4_loop v1).trips) : BitVec 32 :=
  let c0_i32_151 : BitVec 32 := 0#32
  let c31_i32 : BitVec 32 := 31#32
  let v2 : BitVec 32 := Scalar.addi v1 c31_i32
  let c32_i32 : BitVec 32 := 32#32
  let v3 : BitVec 32 := Scalar.divsi v2 c32_i32
  let v242 : BitVec 32 := Scalar.subi v3 c0_i32_151
  let c1_i32_152 : BitVec 32 := 1#32
  let v244 : BitVec 32 := Scalar.divsi v242 c1_i32_152
  let v245 : BitVec 32 := Scalar.muli v244 c1_i32_152
  let v246 : BitVec 32 := Scalar.addi c0_i32_151 v245
  let c1_i32_154 : BitVec 32 := 1#32
  let arg37 : BitVec 32 := Scf.iv v246 c1_i32_154 k0_t4
  let c32_i32_2051 : BitVec 32 := 32#32
  let v2894 : BitVec 32 := Scalar.muli arg37 c32_i32_2051
  v2894
def k0_off18 (v1 : BitVec 32) (k0_t4 : Fin (k0_t4_loop v1).trips) : Fin 2 → Nat :=
  let c0_i32_151 : BitVec 32 := 0#32
  let c31_i32 : BitVec 32 := 31#32
  let v2 : BitVec 32 := Scalar.addi v1 c31_i32
  let c32_i32 : BitVec 32 := 32#32
  let v3 : BitVec 32 := Scalar.divsi v2 c32_i32
  let v242 : BitVec 32 := Scalar.subi v3 c0_i32_151
  let c1_i32_152 : BitVec 32 := 1#32
  let v244 : BitVec 32 := Scalar.divsi v242 c1_i32_152
  let v245 : BitVec 32 := Scalar.muli v244 c1_i32_152
  let v246 : BitVec 32 := Scalar.addi c0_i32_151 v245
  let c1_i32_154 : BitVec 32 := 1#32
  let arg37 : BitVec 32 := Scf.iv v246 c1_i32_154 k0_t4
  let c32_i32_2051 : BitVec 32 := 32#32
  let v2894 : BitVec 32 := Scalar.muli arg37 c32_i32_2051
  let v2895 : BitVec 32 := v2894
  let v2899 : Index := Scalar.indexCast v2895
  let c0_2052 : Index := 0#32
  ![v2899.toNat, 0]
def k0_off19 (v1 : BitVec 32) (k0_t4 : Fin (k0_t4_loop v1).trips) : Fin 2 → Nat :=
  let c0_i32_151 : BitVec 32 := 0#32
  let c31_i32 : BitVec 32 := 31#32
  let v2 : BitVec 32 := Scalar.addi v1 c31_i32
  let c32_i32 : BitVec 32 := 32#32
  let v3 : BitVec 32 := Scalar.divsi v2 c32_i32
  let v242 : BitVec 32 := Scalar.subi v3 c0_i32_151
  let c1_i32_152 : BitVec 32 := 1#32
  let v244 : BitVec 32 := Scalar.divsi v242 c1_i32_152
  let v245 : BitVec 32 := Scalar.muli v244 c1_i32_152
  let v246 : BitVec 32 := Scalar.addi c0_i32_151 v245
  let c1_i32_154 : BitVec 32 := 1#32
  let arg37 : BitVec 32 := Scf.iv v246 c1_i32_154 k0_t4
  let c32_i32_2051 : BitVec 32 := 32#32
  let v2894 : BitVec 32 := Scalar.muli arg37 c32_i32_2051
  let v2895 : BitVec 32 := v2894
  let v2939 : Index := Scalar.indexCast v2895
  let c0_2095 : Index := 0#32
  ![v2939.toNat, 0]
def k0_off20 (v1 : BitVec 32) (k0_t4 : Fin (k0_t4_loop v1).trips) : Fin 2 → Nat :=
  let c0_i32_151 : BitVec 32 := 0#32
  let c31_i32 : BitVec 32 := 31#32
  let v2 : BitVec 32 := Scalar.addi v1 c31_i32
  let c32_i32 : BitVec 32 := 32#32
  let v3 : BitVec 32 := Scalar.divsi v2 c32_i32
  let v242 : BitVec 32 := Scalar.subi v3 c0_i32_151
  let c1_i32_152 : BitVec 32 := 1#32
  let v244 : BitVec 32 := Scalar.divsi v242 c1_i32_152
  let v245 : BitVec 32 := Scalar.muli v244 c1_i32_152
  let v246 : BitVec 32 := Scalar.addi c0_i32_151 v245
  let c1_i32_154 : BitVec 32 := 1#32
  let arg37 : BitVec 32 := Scf.iv v246 c1_i32_154 k0_t4
  let c32_i32_2051 : BitVec 32 := 32#32
  let v2894 : BitVec 32 := Scalar.muli arg37 c32_i32_2051
  let v2895 : BitVec 32 := v2894
  let v2987 : Index := Scalar.indexCast v2895
  let c128_2139 : Index := 128#32
  ![v2987.toNat, 128]

def k0_chk1 (v1 : BitVec 32) : Prop :=
  ((k0_t3_loop v1).OK) ∧
  (∀ k0_t3 : Fin (k0_t3_loop v1).trips, 32 ∣ (k0_mult1 v1 k0_t3).toNat) ∧
  (∀ k0_t3 : Fin (k0_t3_loop v1).trips, ∀ a, (k0_off11 v1 k0_t3) a + S32x256.size a ≤ S512x256.size a) ∧
  (∀ k0_t3 : Fin (k0_t3_loop v1).trips, 128 ∣ (k0_mult2 v1 k0_t3).toNat) ∧
  (∀ k0_t3 : Fin (k0_t3_loop v1).trips, ∀ a, (k0_off12 v1 k0_t3) a + S128x128.size a ≤ S2048x128.size a) ∧
  (∀ k0_t3 : Fin (k0_t3_loop v1).trips, 32 ∣ (k0_mult3 v1 k0_t3).toNat) ∧
  (∀ k0_t3 : Fin (k0_t3_loop v1).trips, ∀ a, (k0_off13 v1 k0_t3) a + S32x128.size a ≤ S512x128.size a) ∧
  (∀ k0_t3 : Fin (k0_t3_loop v1).trips, ∀ a, (k0_off14 v1 k0_t3) a + S32x128.size a ≤ S512x256.size a) ∧
  (∀ k0_t3 : Fin (k0_t3_loop v1).trips, ∀ (hinb : ∀ a, (k0_off14 v1 k0_t3) a + S32x128.size a ≤ S512x256.size a), (Rect.unit (s := S512x256) (k0_off14 v1 k0_t3) S32x128.size hinb).PackedRows (EltTy.packing .bf16)) ∧
  (∀ k0_t3 : Fin (k0_t3_loop v1).trips, ∀ a, (k0_off15 v1 k0_t3) a + S32x128.size a ≤ S512x256.size a) ∧
  (∀ k0_t3 : Fin (k0_t3_loop v1).trips, ∀ (hinb : ∀ a, (k0_off15 v1 k0_t3) a + S32x128.size a ≤ S512x256.size a), (Rect.unit (s := S512x256) (k0_off15 v1 k0_t3) S32x128.size hinb).PackedRows (EltTy.packing .bf16)) ∧
  ((k0_t4_loop v1).OK) ∧
  (∀ k0_t4 : Fin (k0_t4_loop v1).trips, 32 ∣ (k0_mult4 v1 k0_t4).toNat) ∧
  (∀ k0_t4 : Fin (k0_t4_loop v1).trips, ∀ a, (k0_off16 v1 k0_t4) a + S32x256.size a ≤ S512x256.size a) ∧
  (∀ k0_t4 : Fin (k0_t4_loop v1).trips, 128 ∣ (k0_mult5 v1 k0_t4).toNat) ∧
  (∀ k0_t4 : Fin (k0_t4_loop v1).trips, ∀ a, (k0_off17 v1 k0_t4) a + S128x128.size a ≤ S2048x128.size a) ∧
  (∀ k0_t4 : Fin (k0_t4_loop v1).trips, 32 ∣ (k0_mult6 v1 k0_t4).toNat) ∧
  (∀ k0_t4 : Fin (k0_t4_loop v1).trips, ∀ a, (k0_off18 v1 k0_t4) a + S32x128.size a ≤ S512x128.size a) ∧
  (∀ k0_t4 : Fin (k0_t4_loop v1).trips, ∀ a, (k0_off19 v1 k0_t4) a + S32x128.size a ≤ S512x256.size a) ∧
  (∀ k0_t4 : Fin (k0_t4_loop v1).trips, ∀ (hinb : ∀ a, (k0_off19 v1 k0_t4) a + S32x128.size a ≤ S512x256.size a), (Rect.unit (s := S512x256) (k0_off19 v1 k0_t4) S32x128.size hinb).PackedRows (EltTy.packing .bf16)) ∧
  (∀ k0_t4 : Fin (k0_t4_loop v1).trips, ∀ a, (k0_off20 v1 k0_t4) a + S32x128.size a ≤ S512x256.size a) ∧
  (∀ k0_t4 : Fin (k0_t4_loop v1).trips, ∀ (hinb : ∀ a, (k0_off20 v1 k0_t4) a + S32x128.size a ≤ S512x256.size a), (Rect.unit (s := S512x256) (k0_off20 v1 k0_t4) S32x128.size hinb).PackedRows (EltTy.packing .bf16))
theorem k0_t3_ok : ∀ (v1 : BitVec 32) (k0_hw1 : k0_chk1 v1), (k0_t3_loop v1).OK := fun v1 k0_hw1 => k0_hw1.1
theorem k0_mult1_dvd : ∀ (v1 : BitVec 32) (k0_hw1 : k0_chk1 v1) (k0_t3 : Fin (k0_t3_loop v1).trips), 32 ∣ (k0_mult1 v1 k0_t3).toNat := fun v1 k0_hw1 k0_t3 => k0_hw1.2.1 k0_t3
theorem k0_off11_inb : ∀ (v1 : BitVec 32) (k0_hw1 : k0_chk1 v1) (k0_t3 : Fin (k0_t3_loop v1).trips), ∀ a, (k0_off11 v1 k0_t3) a + S32x256.size a ≤ S512x256.size a := fun v1 k0_hw1 k0_t3 => k0_hw1.2.2.1 k0_t3
theorem k0_mult2_dvd : ∀ (v1 : BitVec 32) (k0_hw1 : k0_chk1 v1) (k0_t3 : Fin (k0_t3_loop v1).trips), 128 ∣ (k0_mult2 v1 k0_t3).toNat := fun v1 k0_hw1 k0_t3 => k0_hw1.2.2.2.1 k0_t3
theorem k0_off12_inb : ∀ (v1 : BitVec 32) (k0_hw1 : k0_chk1 v1) (k0_t3 : Fin (k0_t3_loop v1).trips), ∀ a, (k0_off12 v1 k0_t3) a + S128x128.size a ≤ S2048x128.size a := fun v1 k0_hw1 k0_t3 => k0_hw1.2.2.2.2.1 k0_t3
theorem k0_mult3_dvd : ∀ (v1 : BitVec 32) (k0_hw1 : k0_chk1 v1) (k0_t3 : Fin (k0_t3_loop v1).trips), 32 ∣ (k0_mult3 v1 k0_t3).toNat := fun v1 k0_hw1 k0_t3 => k0_hw1.2.2.2.2.2.1 k0_t3
theorem k0_off13_inb : ∀ (v1 : BitVec 32) (k0_hw1 : k0_chk1 v1) (k0_t3 : Fin (k0_t3_loop v1).trips), ∀ a, (k0_off13 v1 k0_t3) a + S32x128.size a ≤ S512x128.size a := fun v1 k0_hw1 k0_t3 => k0_hw1.2.2.2.2.2.2.1 k0_t3
theorem k0_off14_inb : ∀ (v1 : BitVec 32) (k0_hw1 : k0_chk1 v1) (k0_t3 : Fin (k0_t3_loop v1).trips), ∀ a, (k0_off14 v1 k0_t3) a + S32x128.size a ≤ S512x256.size a := fun v1 k0_hw1 k0_t3 => k0_hw1.2.2.2.2.2.2.2.1 k0_t3
theorem k0_off14_packedbf16 : ∀ (v1 : BitVec 32) (k0_hw1 : k0_chk1 v1) (k0_t3 : Fin (k0_t3_loop v1).trips), (Rect.unit (s := S512x256) (k0_off14 v1 k0_t3) S32x128.size (k0_off14_inb v1 k0_hw1 k0_t3)).PackedRows (EltTy.packing .bf16) := fun v1 k0_hw1 k0_t3 => k0_hw1.2.2.2.2.2.2.2.2.1 k0_t3 (k0_off14_inb v1 k0_hw1 k0_t3)
theorem k0_off15_inb : ∀ (v1 : BitVec 32) (k0_hw1 : k0_chk1 v1) (k0_t3 : Fin (k0_t3_loop v1).trips), ∀ a, (k0_off15 v1 k0_t3) a + S32x128.size a ≤ S512x256.size a := fun v1 k0_hw1 k0_t3 => k0_hw1.2.2.2.2.2.2.2.2.2.1 k0_t3
theorem k0_off15_packedbf16 : ∀ (v1 : BitVec 32) (k0_hw1 : k0_chk1 v1) (k0_t3 : Fin (k0_t3_loop v1).trips), (Rect.unit (s := S512x256) (k0_off15 v1 k0_t3) S32x128.size (k0_off15_inb v1 k0_hw1 k0_t3)).PackedRows (EltTy.packing .bf16) := fun v1 k0_hw1 k0_t3 => k0_hw1.2.2.2.2.2.2.2.2.2.2.1 k0_t3 (k0_off15_inb v1 k0_hw1 k0_t3)
theorem k0_t4_ok : ∀ (v1 : BitVec 32) (k0_hw1 : k0_chk1 v1), (k0_t4_loop v1).OK := fun v1 k0_hw1 => k0_hw1.2.2.2.2.2.2.2.2.2.2.2.1
theorem k0_mult4_dvd : ∀ (v1 : BitVec 32) (k0_hw1 : k0_chk1 v1) (k0_t4 : Fin (k0_t4_loop v1).trips), 32 ∣ (k0_mult4 v1 k0_t4).toNat := fun v1 k0_hw1 k0_t4 => k0_hw1.2.2.2.2.2.2.2.2.2.2.2.2.1 k0_t4
theorem k0_off16_inb : ∀ (v1 : BitVec 32) (k0_hw1 : k0_chk1 v1) (k0_t4 : Fin (k0_t4_loop v1).trips), ∀ a, (k0_off16 v1 k0_t4) a + S32x256.size a ≤ S512x256.size a := fun v1 k0_hw1 k0_t4 => k0_hw1.2.2.2.2.2.2.2.2.2.2.2.2.2.1 k0_t4
theorem k0_mult5_dvd : ∀ (v1 : BitVec 32) (k0_hw1 : k0_chk1 v1) (k0_t4 : Fin (k0_t4_loop v1).trips), 128 ∣ (k0_mult5 v1 k0_t4).toNat := fun v1 k0_hw1 k0_t4 => k0_hw1.2.2.2.2.2.2.2.2.2.2.2.2.2.2.1 k0_t4
theorem k0_off17_inb : ∀ (v1 : BitVec 32) (k0_hw1 : k0_chk1 v1) (k0_t4 : Fin (k0_t4_loop v1).trips), ∀ a, (k0_off17 v1 k0_t4) a + S128x128.size a ≤ S2048x128.size a := fun v1 k0_hw1 k0_t4 => k0_hw1.2.2.2.2.2.2.2.2.2.2.2.2.2.2.2.1 k0_t4
theorem k0_mult6_dvd : ∀ (v1 : BitVec 32) (k0_hw1 : k0_chk1 v1) (k0_t4 : Fin (k0_t4_loop v1).trips), 32 ∣ (k0_mult6 v1 k0_t4).toNat := fun v1 k0_hw1 k0_t4 => k0_hw1.2.2.2.2.2.2.2.2.2.2.2.2.2.2.2.2.1 k0_t4
theorem k0_off18_inb : ∀ (v1 : BitVec 32) (k0_hw1 : k0_chk1 v1) (k0_t4 : Fin (k0_t4_loop v1).trips), ∀ a, (k0_off18 v1 k0_t4) a + S32x128.size a ≤ S512x128.size a := fun v1 k0_hw1 k0_t4 => k0_hw1.2.2.2.2.2.2.2.2.2.2.2.2.2.2.2.2.2.1 k0_t4
theorem k0_off19_inb : ∀ (v1 : BitVec 32) (k0_hw1 : k0_chk1 v1) (k0_t4 : Fin (k0_t4_loop v1).trips), ∀ a, (k0_off19 v1 k0_t4) a + S32x128.size a ≤ S512x256.size a := fun v1 k0_hw1 k0_t4 => k0_hw1.2.2.2.2.2.2.2.2.2.2.2.2.2.2.2.2.2.2.1 k0_t4
theorem k0_off19_packedbf16 : ∀ (v1 : BitVec 32) (k0_hw1 : k0_chk1 v1) (k0_t4 : Fin (k0_t4_loop v1).trips), (Rect.unit (s := S512x256) (k0_off19 v1 k0_t4) S32x128.size (k0_off19_inb v1 k0_hw1 k0_t4)).PackedRows (EltTy.packing .bf16) := fun v1 k0_hw1 k0_t4 => k0_hw1.2.2.2.2.2.2.2.2.2.2.2.2.2.2.2.2.2.2.2.1 k0_t4 (k0_off19_inb v1 k0_hw1 k0_t4)
theorem k0_off20_inb : ∀ (v1 : BitVec 32) (k0_hw1 : k0_chk1 v1) (k0_t4 : Fin (k0_t4_loop v1).trips), ∀ a, (k0_off20 v1 k0_t4) a + S32x128.size a ≤ S512x256.size a := fun v1 k0_hw1 k0_t4 => k0_hw1.2.2.2.2.2.2.2.2.2.2.2.2.2.2.2.2.2.2.2.2.1 k0_t4
theorem k0_off20_packedbf16 : ∀ (v1 : BitVec 32) (k0_hw1 : k0_chk1 v1) (k0_t4 : Fin (k0_t4_loop v1).trips), (Rect.unit (s := S512x256) (k0_off20 v1 k0_t4) S32x128.size (k0_off20_inb v1 k0_hw1 k0_t4)).PackedRows (EltTy.packing .bf16) := fun v1 k0_hw1 k0_t4 => k0_hw1.2.2.2.2.2.2.2.2.2.2.2.2.2.2.2.2.2.2.2.2.2 k0_t4 (k0_off20_inb v1 k0_hw1 k0_t4)

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S80x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S40x96 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x40x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S200x192 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x200x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x64x80x256 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x80x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x64x256 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x192x256 .fp8e4m3 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S48x512x64 : Shape := ⟨3, ![48, 512, 64]⟩
abbrev S48x512 : Shape := ⟨2, ![48, 512]⟩
abbrev S48 : Shape := ⟨1, ![48]⟩
abbrev S48x256x64 : Shape := ⟨3, ![48, 256, 64]⟩
abbrev S64x80 : Shape := ⟨2, ![64, 80]⟩
abbrev S80 : Shape := ⟨1, ![80]⟩
abbrev S1 : Shape := ⟨1, ![1]⟩
abbrev S80x40 : Shape := ⟨2, ![80, 40]⟩
abbrev S40 : Shape := ⟨1, ![40]⟩
abbrev S192x200 : Shape := ⟨2, ![192, 200]⟩
abbrev S200 : Shape := ⟨1, ![200]⟩
abbrev S_ : Shape := ⟨0, ![]⟩
abbrev S48x64x512 : Shape := ⟨3, ![48, 64, 512]⟩
abbrev S48x1x512 : Shape := ⟨3, ![48, 1, 512]⟩
abbrev S48x1x1 : Shape := ⟨3, ![48, 1, 1]⟩
abbrev S48x64x256 : Shape := ⟨3, ![48, 64, 256]⟩
abbrev S1x80x1 : Shape := ⟨3, ![1, 80, 1]⟩
abbrev S1x80x1x1 : Shape := ⟨4, ![1, 80, 1, 1]⟩
abbrev S1x40x1x1 : Shape := ⟨4, ![1, 40, 1, 1]⟩
abbrev S1x1x1 : Shape := ⟨3, ![1, 1, 1]⟩
abbrev S1x200x1 : Shape := ⟨3, ![1, 200, 1]⟩
abbrev S48x1x256 : Shape := ⟨3, ![48, 1, 256]⟩
abbrev S48x256x512 : Shape := ⟨3, ![48, 256, 512]⟩
abbrev S48x64x80x256 : Shape := ⟨4, ![48, 64, 80, 256]⟩
abbrev S48x80x256 : Shape := ⟨3, ![48, 80, 256]⟩
abbrev S48x192x256 : Shape := ⟨3, ![48, 192, 256]⟩
abbrev S48x64x1x256 : Shape := ⟨4, ![48, 64, 1, 256]⟩
abbrev S1x64x80x1 : Shape := ⟨4, ![1, 64, 80, 1]⟩
abbrev S48x64x1x512 : Shape := ⟨4, ![48, 64, 1, 512]⟩
abbrev S48x64x80x512 : Shape := ⟨4, ![48, 64, 80, 512]⟩
abbrev S48x80x512 : Shape := ⟨3, ![48, 80, 512]⟩
abbrev S48x1x80x256 : Shape := ⟨4, ![48, 1, 80, 256]⟩
abbrev S48x64x80x256x1 : Shape := ⟨5, ![48, 64, 80, 256, 1]⟩
abbrev S48x64x1x1x512 : Shape := ⟨5, ![48, 64, 1, 1, 512]⟩
abbrev S48x64x80x256x512 : Shape := ⟨5, ![48, 64, 80, 256, 512]⟩
abbrev S48x80x256x512 : Shape := ⟨4, ![48, 80, 256, 512]⟩
abbrev S48x80x256x1 : Shape := ⟨4, ![48, 80, 256, 1]⟩
abbrev S48x80x1x512 : Shape := ⟨4, ![48, 80, 1, 512]⟩
abbrev S48x1x1x512 : Shape := ⟨4, ![48, 1, 1, 512]⟩
abbrev S1x80x40x1x1 : Shape := ⟨5, ![1, 80, 40, 1, 1]⟩
abbrev S48x80x1x256x512 : Shape := ⟨5, ![48, 80, 1, 256, 512]⟩
abbrev S48x80x40x256x512 : Shape := ⟨5, ![48, 80, 40, 256, 512]⟩
abbrev S48x40x256x512 : Shape := ⟨4, ![48, 40, 256, 512]⟩
abbrev S48x1x256x512 : Shape := ⟨4, ![48, 1, 256, 512]⟩
abbrev S48x64x256x512 : Shape := ⟨4, ![48, 64, 256, 512]⟩
abbrev S48x256 : Shape := ⟨2, ![48, 256]⟩
abbrev S48x192x1x256 : Shape := ⟨4, ![48, 192, 1, 256]⟩
abbrev S1x192x200x1 : Shape := ⟨4, ![1, 192, 200, 1]⟩
abbrev S48x192x200x256 : Shape := ⟨4, ![48, 192, 200, 256]⟩
abbrev S48x200x256 : Shape := ⟨3, ![48, 200, 256]⟩

abbrev nBuf : Space → Nat
  | .hbm => 107
  | .vmem => 36
  | .smem => 0
  | _ => 0

abbrev bufTy : (tb : Table) → Fin (tcTables nBuf tb) → BufTy
  | .hbm, ⟨0, _⟩ => ⟨S48x512x64, .i8⟩
  | .hbm, ⟨1, _⟩ => ⟨S48x512, .f32⟩
  | .hbm, ⟨2, _⟩ => ⟨S48, .i32⟩
  | .hbm, ⟨3, _⟩ => ⟨S48x256x64, .bf16⟩
  | .hbm, ⟨4, _⟩ => ⟨S64x80, .f32⟩
  | .hbm, ⟨5, _⟩ => ⟨S64x80, .fp8e4m3⟩
  | .hbm, ⟨6, _⟩ => ⟨S80, .f32⟩
  | .hbm, ⟨7, _⟩ => ⟨S64x80, .f32⟩
  | .hbm, ⟨8, _⟩ => ⟨S80, .f32⟩
  | .hbm, ⟨9, _⟩ => ⟨S80, .f32⟩
  | .hbm, ⟨10, _⟩ => ⟨S80, .f32⟩
  | .hbm, ⟨11, _⟩ => ⟨S80, .f32⟩
  | .hbm, ⟨12, _⟩ => ⟨S1, .f32⟩
  | .hbm, ⟨13, _⟩ => ⟨S80x40, .fp8e4m3⟩
  | .hbm, ⟨14, _⟩ => ⟨S40, .f32⟩
  | .hbm, ⟨15, _⟩ => ⟨S40, .f32⟩
  | .hbm, ⟨16, _⟩ => ⟨S40, .f32⟩
  | .hbm, ⟨17, _⟩ => ⟨S40, .f32⟩
  | .hbm, ⟨18, _⟩ => ⟨S40, .f32⟩
  | .hbm, ⟨19, _⟩ => ⟨S40, .f32⟩
  | .hbm, ⟨20, _⟩ => ⟨S1, .f32⟩
  | .hbm, ⟨21, _⟩ => ⟨S192x200, .fp8e4m3⟩
  | .hbm, ⟨22, _⟩ => ⟨S200, .f32⟩
  | .hbm, ⟨23, _⟩ => ⟨S200, .f32⟩
  | .hbm, ⟨24, _⟩ => ⟨S200, .f32⟩
  | .hbm, ⟨25, _⟩ => ⟨S200, .f32⟩
  | .hbm, ⟨26, _⟩ => ⟨S1, .f32⟩
  | .hbm, ⟨27, _⟩ => ⟨S_, .f32⟩
  | .hbm, ⟨28, _⟩ => ⟨S80, .f32⟩
  | .hbm, ⟨29, _⟩ => ⟨S80, .f32⟩
  | .hbm, ⟨30, _⟩ => ⟨S80, .f32⟩
  | .hbm, ⟨31, _⟩ => ⟨S_, .f32⟩
  | .hbm, ⟨32, _⟩ => ⟨S80, .f32⟩
  | .hbm, ⟨33, _⟩ => ⟨S80, .f32⟩
  | .hbm, ⟨34, _⟩ => ⟨S80, .f32⟩
  | .hbm, ⟨35, _⟩ => ⟨S80, .f32⟩
  | .hbm, ⟨36, _⟩ => ⟨S_, .f32⟩
  | .hbm, ⟨37, _⟩ => ⟨S80, .f32⟩
  | .hbm, ⟨38, _⟩ => ⟨S80, .f32⟩
  | .hbm, ⟨39, _⟩ => ⟨S_, .f32⟩
  | .hbm, ⟨40, _⟩ => ⟨S80, .f32⟩
  | .hbm, ⟨41, _⟩ => ⟨S80, .f32⟩
  | .hbm, ⟨42, _⟩ => ⟨S_, .f32⟩
  | .hbm, ⟨43, _⟩ => ⟨S80, .f32⟩
  | .hbm, ⟨44, _⟩ => ⟨S80, .f32⟩
  | .hbm, ⟨45, _⟩ => ⟨S_, .f32⟩
  | .hbm, ⟨46, _⟩ => ⟨S80, .f32⟩
  | .hbm, ⟨47, _⟩ => ⟨S80, .f32⟩
  | .hbm, ⟨48, _⟩ => ⟨S_, .f32⟩
  | .hbm, ⟨49, _⟩ => ⟨S40, .f32⟩
  | .hbm, ⟨50, _⟩ => ⟨S40, .f32⟩
  | .hbm, ⟨51, _⟩ => ⟨S40, .f32⟩
  | .hbm, ⟨52, _⟩ => ⟨S_, .f32⟩
  | .hbm, ⟨53, _⟩ => ⟨S40, .f32⟩
  | .hbm, ⟨54, _⟩ => ⟨S40, .f32⟩
  | .hbm, ⟨55, _⟩ => ⟨S40, .f32⟩
  | .hbm, ⟨56, _⟩ => ⟨S40, .f32⟩
  | .hbm, ⟨57, _⟩ => ⟨S_, .f32⟩
  | .hbm, ⟨58, _⟩ => ⟨S40, .f32⟩
  | .hbm, ⟨59, _⟩ => ⟨S40, .f32⟩
  | .hbm, ⟨60, _⟩ => ⟨S_, .f32⟩
  | .hbm, ⟨61, _⟩ => ⟨S40, .f32⟩
  | .hbm, ⟨62, _⟩ => ⟨S40, .f32⟩
  | .hbm, ⟨63, _⟩ => ⟨S_, .f32⟩
  | .hbm, ⟨64, _⟩ => ⟨S40, .f32⟩
  | .hbm, ⟨65, _⟩ => ⟨S40, .f32⟩
  | .hbm, ⟨66, _⟩ => ⟨S_, .f32⟩
  | .hbm, ⟨67, _⟩ => ⟨S40, .f32⟩
  | .hbm, ⟨68, _⟩ => ⟨S40, .f32⟩
  | .hbm, ⟨69, _⟩ => ⟨S48x512x64, .fp8e4m3⟩
  | .hbm, ⟨70, _⟩ => ⟨S48x64x512, .fp8e4m3⟩
  | .hbm, ⟨71, _⟩ => ⟨S48x1x512, .f32⟩
  | .hbm, ⟨72, _⟩ => ⟨S48x1x1, .i32⟩
  | .hbm, ⟨73, _⟩ => ⟨S48x64x256, .bf16⟩
  | .hbm, ⟨74, _⟩ => ⟨S1x80x1, .f32⟩
  | .hbm, ⟨75, _⟩ => ⟨S1x80x1, .f32⟩
  | .hbm, ⟨76, _⟩ => ⟨S1x80x1x1, .f32⟩
  | .hbm, ⟨77, _⟩ => ⟨S1x80x1x1, .f32⟩
  | .hbm, ⟨78, _⟩ => ⟨S80, .f32⟩
  | .hbm, ⟨79, _⟩ => ⟨S80, .f32⟩
  | .hbm, ⟨80, _⟩ => ⟨S1x80x1x1, .f32⟩
  | .hbm, ⟨81, _⟩ => ⟨S80, .f32⟩
  | .hbm, ⟨82, _⟩ => ⟨S80, .f32⟩
  | .hbm, ⟨83, _⟩ => ⟨S1x80x1x1, .f32⟩
  | .hbm, ⟨84, _⟩ => ⟨S40, .f32⟩
  | .hbm, ⟨85, _⟩ => ⟨S40, .f32⟩
  | .hbm, ⟨86, _⟩ => ⟨S1x40x1x1, .f32⟩
  | .hbm, ⟨87, _⟩ => ⟨S1x40x1x1, .f32⟩
  | .hbm, ⟨88, _⟩ => ⟨S1x40x1x1, .f32⟩
  | .hbm, ⟨89, _⟩ => ⟨S1x40x1x1, .f32⟩
  | .hbm, ⟨90, _⟩ => ⟨S1x40x1x1, .f32⟩
  | .hbm, ⟨91, _⟩ => ⟨S1x40x1x1, .f32⟩
  | .hbm, ⟨92, _⟩ => ⟨S1x40x1x1, .f32⟩
  | .hbm, ⟨93, _⟩ => ⟨S1x1x1, .f32⟩
  | .hbm, ⟨94, _⟩ => ⟨S1x200x1, .f32⟩
  | .hbm, ⟨95, _⟩ => ⟨S1x200x1, .f32⟩
  | .hbm, ⟨96, _⟩ => ⟨S1x200x1, .f32⟩
  | .hbm, ⟨97, _⟩ => ⟨S1x200x1, .f32⟩
  | .hbm, ⟨98, _⟩ => ⟨S1x1x1, .f32⟩
  | .hbm, ⟨99, _⟩ => ⟨S48x1x256, .f32⟩
  | .hbm, ⟨100, _⟩ => ⟨S48x256x512, .f32⟩
  | .hbm, ⟨101, _⟩ => ⟨S48x64x80x256, .fp8e4m3⟩
  | .hbm, ⟨102, _⟩ => ⟨S48x80x256, .f32⟩
  | .hbm, ⟨103, _⟩ => ⟨S48x64x256, .fp8e4m3⟩
  | .hbm, ⟨104, _⟩ => ⟨S48x1x256, .f32⟩
  | .hbm, ⟨105, _⟩ => ⟨S48x192x256, .fp8e4m3⟩
  | .hbm, ⟨106, _⟩ => ⟨S48x1x256, .f32⟩
  | .local _ .vmem, ⟨0, _⟩ => ⟨S48x64x512, .fp8e4m3⟩
  | .local _ .vmem, ⟨1, _⟩ => ⟨S48x1x512, .f32⟩
  | .local _ .vmem, ⟨2, _⟩ => ⟨S48x1x1, .i32⟩
  | .local _ .vmem, ⟨3, _⟩ => ⟨S48x64x256, .bf16⟩
  | .local _ .vmem, ⟨4, _⟩ => ⟨S64x80, .f32⟩
  | .local _ .vmem, ⟨5, _⟩ => ⟨S64x80, .fp8e4m3⟩
  | .local _ .vmem, ⟨6, _⟩ => ⟨S1x80x1, .f32⟩
  | .local _ .vmem, ⟨7, _⟩ => ⟨S64x80, .f32⟩
  | .local _ .vmem, ⟨8, _⟩ => ⟨S1x80x1, .f32⟩
  | .local _ .vmem, ⟨9, _⟩ => ⟨S1x80x1x1, .f32⟩
  | .local _ .vmem, ⟨10, _⟩ => ⟨S1x80x1x1, .f32⟩
  | .local _ .vmem, ⟨11, _⟩ => ⟨S1x80x1x1, .f32⟩
  | .local _ .vmem, ⟨12, _⟩ => ⟨S1x80x1x1, .f32⟩
  | .local _ .vmem, ⟨13, _⟩ => ⟨S80x40, .fp8e4m3⟩
  | .local _ .vmem, ⟨14, _⟩ => ⟨S1x40x1x1, .f32⟩
  | .local _ .vmem, ⟨15, _⟩ => ⟨S1x40x1x1, .f32⟩
  | .local _ .vmem, ⟨16, _⟩ => ⟨S1x40x1x1, .f32⟩
  | .local _ .vmem, ⟨17, _⟩ => ⟨S1x40x1x1, .f32⟩
  | .local _ .vmem, ⟨18, _⟩ => ⟨S1x40x1x1, .f32⟩
  | .local _ .vmem, ⟨19, _⟩ => ⟨S1x40x1x1, .f32⟩
  | .local _ .vmem, ⟨20, _⟩ => ⟨S1x40x1x1, .f32⟩
  | .local _ .vmem, ⟨21, _⟩ => ⟨S1x1x1, .f32⟩
  | .local _ .vmem, ⟨22, _⟩ => ⟨S192x200, .fp8e4m3⟩
  | .local _ .vmem, ⟨23, _⟩ => ⟨S1x200x1, .f32⟩
  | .local _ .vmem, ⟨24, _⟩ => ⟨S1x200x1, .f32⟩
  | .local _ .vmem, ⟨25, _⟩ => ⟨S1x200x1, .f32⟩
  | .local _ .vmem, ⟨26, _⟩ => ⟨S1x200x1, .f32⟩
  | .local _ .vmem, ⟨27, _⟩ => ⟨S1x1x1, .f32⟩
  | .local _ .vmem, ⟨28, _⟩ => ⟨S48x1x256, .f32⟩
  | .local _ .vmem, ⟨29, _⟩ => ⟨S48x256x512, .f32⟩
  | .local _ .vmem, ⟨30, _⟩ => ⟨S48x64x80x256, .fp8e4m3⟩
  | .local _ .vmem, ⟨31, _⟩ => ⟨S48x80x256, .f32⟩
  | .local _ .vmem, ⟨32, _⟩ => ⟨S48x64x256, .fp8e4m3⟩
  | .local _ .vmem, ⟨33, _⟩ => ⟨S48x1x256, .f32⟩
  | .local _ .vmem, ⟨34, _⟩ => ⟨S48x192x256, .fp8e4m3⟩
  | .local _ .vmem, ⟨35, _⟩ => ⟨S48x1x256, .f32⟩
  | _, _ => ⟨S48x512x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_cst_0 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_cst_2 : Ref sig .tc := ⟨.hbm, 39, rfl⟩
abbrev main_v9 : Ref sig .tc := ⟨.hbm, 40, rfl⟩
abbrev main_v10 : Ref sig .tc := ⟨.hbm, 41, rfl⟩
abbrev main_cst_3 : Ref sig .tc := ⟨.hbm, 42, rfl⟩
abbrev main_v11 : Ref sig .tc := ⟨.hbm, 43, rfl⟩
abbrev main_v12 : Ref sig .tc := ⟨.hbm, 44, rfl⟩
abbrev main_cst_4 : Ref sig .tc := ⟨.hbm, 45, rfl⟩
abbrev main_v13 : Ref sig .tc := ⟨.hbm, 46, rfl⟩
abbrev main_v14 : Ref sig .tc := ⟨.hbm, 47, rfl⟩
abbrev main_cst_5 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_6 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_7 : Ref sig .tc := ⟨.hbm, 57, rfl⟩
abbrev main_v22 : Ref sig .tc := ⟨.hbm, 58, rfl⟩
abbrev main_v23 : Ref sig .tc := ⟨.hbm, 59, rfl⟩
abbrev main_cst_8 : Ref sig .tc := ⟨.hbm, 60, rfl⟩
abbrev main_v24 : Ref sig .tc := ⟨.hbm, 61, rfl⟩
abbrev main_v25 : Ref sig .tc := ⟨.hbm, 62, rfl⟩
abbrev main_cst_9 : Ref sig .tc := ⟨.hbm, 63, rfl⟩
abbrev main_v26 : Ref sig .tc := ⟨.hbm, 64, rfl⟩
abbrev main_v27 : Ref sig .tc := ⟨.hbm, 65, rfl⟩
abbrev main_cst_10 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60_0 : Ref sig .tc := ⟨.hbm, 99, rfl⟩
abbrev main_v60_1 : Ref sig .tc := ⟨.hbm, 100, rfl⟩
abbrev main_v60_2 : Ref sig .tc := ⟨.hbm, 101, rfl⟩
abbrev main_v60_3 : Ref sig .tc := ⟨.hbm, 102, rfl⟩
abbrev main_v60_4 : Ref sig .tc := ⟨.hbm, 103, rfl⟩
abbrev main_v60_5 : Ref sig .tc := ⟨.hbm, 104, rfl⟩
abbrev main_v60_6 : Ref sig .tc := ⟨.hbm, 105, rfl⟩
abbrev main_v60_7 : Ref sig .tc := ⟨.hbm, 106, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35

abbrev nD : Nat := 1
abbrev τ : Topo := Topo.v7x

variable {F : FTy → Type} [FloatOps F]

abbrev grid0 : Pipeline.Grid := .none

abbrev stage0_0 : Fin 1 → Memref sig .tc .vmem S48x64x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x80 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x80x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x80x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x80x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x80x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x80x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x80x1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S80x40 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x40x1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x40x1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x40x1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x40x1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x40x1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x40x1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x40x1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S192x200 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x200x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x200x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x200x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x200x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S48x1x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S48x256x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S48x64x80x256 .fp8e4m3 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S48x80x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S48x64x256 .fp8e4m3 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S48x1x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S48x192x256 .fp8e4m3 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S48x1x256 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
-- ==== Proof.Kernel.Points.lean ====
/- The SCHEDULE of the kernel's pipeline: its grid points, each window's block index and buffer slot at a point. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%131)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%132)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%133)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%98)) is fetched at the first point only, at any contents of the tables (its index map reads none). -/
theorem fetch0_3 (a : (pcfg0 (F := F)).Adm) : ∀ t : Fin (cfg0 a).N, ((cfg0 a).win 3).fetch t = true ↔ t.val % 48 = 0 :=
  (fun t => Pipeline.Window.fetchOf_const cc0_transform_3 (fun _ _ => rfl) (n := 48) (by decide) t : ∀ t : Fin grid0.N, Pipeline.Window.fetchOf grid0 false cc0_transform_3 t = true ↔ t.val % 48 = 0)
/-- Window 4 (operand 5 (%100)) is fetched at the first point only, at any contents of the tables (its index map reads none). -/
theorem fetch0_4 (a : (pcfg0 (F := F)).Adm) : ∀ t : Fin (cfg0 a).N, ((cfg0 a).win 4).fetch t = true ↔ t.val % 48 = 0 :=
  (fun t => Pipeline.Window.fetchOf_const cc0_transform_4 (fun _ _ => rfl) (n := 48) (by decide) t : ∀ t : Fin grid0.N, Pipeline.Window.fetchOf grid0 false cc0_transform_4 t = true ↔ t.val % 48 = 0)
/-- Window 5 (operand 6 (%95)) is fetched at the first point only, at any contents of the tables (its index map reads none). -/
theorem fetch0_5 (a : (pcfg0 (F := F)).Adm) : ∀ t : Fin (cfg0 a).N, ((cfg0 a).win 5).fetch t = true ↔ t.val % 48 = 0 :=
  (fun t => Pipeline.Window.fetchOf_const cc0_transform_5 (fun _ _ => rfl) (n := 48) (by decide) t : ∀ t : Fin grid0.N, Pipeline.Window.fetchOf grid0 false cc0_transform_5 t = true ↔ t.val % 48 = 0)
/-- Window 6 (operand 7 (%91)) is fetched at the first point only, at any contents of the tables (its index map reads none). -/
theorem fetch0_6 (a : (pcfg0 (F := F)).Adm) : ∀ t : Fin (cfg0 a).N, ((cfg0 a).win 6).fetch t = true ↔ t.val % 48 = 0 :=
  (fun t => Pipeline.Window.fetchOf_const cc0_transform_6 (fun _ _ => rfl) (n := 48) (by decide) t : ∀ t : Fin grid0.N, Pipeline.Window.fetchOf grid0 false cc0_transform_6 t = true ↔ t.val % 48 = 0)
/-- Window 7 (operand 8 (%60)) is fetched at the first point only, at any contents of the tables (its index map reads none). -/
theorem fetch0_7 (a : (pcfg0 (F := F)).Adm) : ∀ t : Fin (cfg0 a).N, ((cfg0 a).win 7).fetch t = true ↔ t.val % 48 = 0 :=
  (fun t => Pipeline.Window.fetchOf_const cc0_transform_7 (fun _ _ => rfl) (n := 48) (by decide) t : ∀ t : Fin grid0.N, Pipeline.Window.fetchOf grid0 false cc0_transform_7 t = true ↔ t.val % 48 = 0)
/-- Window 8 (operand 9 (%106)) is fetched at the first point only, at any contents of the tables (its index map reads none). -/
theorem fetch0_8 (a : (pcfg0 (F := F)).Adm) : ∀ t : Fin (cfg0 a).N, ((cfg0 a).win 8).fetch t = true ↔ t.val % 48 = 0 :=
  (fun t => Pipeline.Window.fetchOf_const cc0_transform_8 (fun _ _ => rfl) (n := 48) (by decide) t : ∀ t : Fin grid0.N, Pipeline.Window.fetchOf grid0 false cc0_transform_8 t = true ↔ t.val % 48 = 0)
/-- Window 9 (operand 10 (%111)) is fetched at the first point only, at any contents of the tables (its index map reads none). -/
theorem fetch0_9 (a : (pcfg0 (F := F)).Adm) : ∀ t : Fin (cfg0 a).N, ((cfg0 a).win 9).fetch t = true ↔ t.val % 48 = 0 :=
  (fun t => Pipeline.Window.fetchOf_const cc0_transform_9 (fun _ _ => rfl) (n := 48) (by decide) t : ∀ t : Fin grid0.N, Pipeline.Window.fetchOf grid0 false cc0_transform_9 t = true ↔ t.val % 48 = 0)
/-- Window 10 (operand 11 (%115)) is fetched at the first point only, at any contents of the tables (its index map reads none). -/
theorem fetch0_10 (a : (pcfg0 (F := F)).Adm) : ∀ t : Fin (cfg0 a).N, ((cfg0 a).win 10).fetch t = true ↔ t.val % 48 = 0 :=
  (fun t => Pipeline.Window.fetchOf_const cc0_transform_10 (fun _ _ => rfl) (n := 48) (by decide) t : ∀ t : Fin grid0.N, Pipeline.Window.fetchOf grid0 false cc0_transform_10 t = true ↔ t.val % 48 = 0)
/-- Window 11 (operand 12 (%86)) is fetched at the first point only, at any contents of the tables (its index map reads none). -/
theorem fetch0_11 (a : (pcfg0 (F := F)).Adm) : ∀ t : Fin (cfg0 a).N, ((cfg0 a).win 11).fetch t = true ↔ t.val % 48 = 0 :=
  (fun t => Pipeline.Window.fetchOf_const cc0_transform_11 (fun _ _ => rfl) (n := 48) (by decide) t : ∀ t : Fin grid0.N, Pipeline.Window.fetchOf grid0 false cc0_transform_11 t = true ↔ t.val % 48 = 0)
/-- Window 12 (operand 13 (%116)) is fetched at the first point only, at any contents of the tables (its index map reads none). -/
theorem fetch0_12 (a : (pcfg0 (F := F)).Adm) : ∀ t : Fin (cfg0 a).N, ((cfg0 a).win 12).fetch t = true ↔ t.val % 48 = 0 :=
  (fun t => Pipeline.Window.fetchOf_const cc0_transform_12 (fun _ _ => rfl) (n := 48) (by decide) t : ∀ t : Fin grid0.N, Pipeline.Window.fetchOf grid0 false cc0_transform_12 t = true ↔ t.val % 48 = 0)
/-- Window 13 (operand 14 (%129)) is fetched at the first point only, at any contents of the tables (its index map reads none). -/
theorem fetch0_13 (a : (pcfg0 (F := F)).Adm) : ∀ t : Fin (cfg0 a).N, ((cfg0 a).win 13).fetch t = true ↔ t.val % 48 = 0 :=
  (fun t => Pipeline.Window.fetchOf_const cc0_transform_13 (fun _ _ => rfl) (n := 48) (by decide) t : ∀ t : Fin grid0.N, Pipeline.Window.fetchOf grid0 false cc0_transform_13 t = true ↔ t.val % 48 = 0)
/-- Window 14 (operand 15 (%130)) is fetched at the first point only, at any contents of the tables (its index map reads none). -/
theorem fetch0_14 (a : (pcfg0 (F := F)).Adm) : ∀ t : Fin (cfg0 a).N, ((cfg0 a).win 14).fetch t = true ↔ t.val % 48 = 0 :=
  (fun t => Pipeline.Window.fetchOf_const cc0_transform_14 (fun _ _ => rfl) (n := 48) (by decide) t : ∀ t : Fin grid0.N, Pipeline.Window.fetchOf grid0 false cc0_transform_14 t = true ↔ t.val % 48 = 0)
/-- Window 15 (result 0 (%134#0)) is written back at every point, at any contents of the tables (its index map reads none). -/
theorem flush0_15 (a : (pcfg0 (F := F)).Adm) : ∀ t : Fin (cfg0 a).N, ((cfg0 a).win 15).flush t = true :=
  (fun t => (Pipeline.Window.flushOf_reads cc0_transform_15 reads0_15 hreads0_15 0 (by decide) (by decide) (Pipeline.Window.sep_of_coord cc0_transform_15 0 0 (fun _ => rfl) (by decide)) (P := 1) (m := 0) (by decide) rfl t).mpr (Nat.mod_one _) : ∀ t : Fin grid0.N, Pipeline.Window.flushOf grid0 true cc0_transform_15 t = true)
/-- Window 16 (result 1 (%134#1)) is written back at every point, at any contents of the tables (its index map reads none). -/
theorem flush0_16 (a : (pcfg0 (F := F)).Adm) : ∀ t : Fin (cfg0 a).N, ((cfg0 a).win 16).flush t = true :=
  (fun t => (Pipeline.Window.flushOf_reads cc0_transform_16 reads0_16 hreads0_16 0 (by decide) (by decide) (Pipeline.Window.sep_of_coord cc0_transform_16 0 0 (fun _ => rfl) (by decide)) (P := 1) (m := 0) (by decide) rfl t).mpr (Nat.mod_one _) : ∀ t : Fin grid0.N, Pipeline.Window.flushOf grid0 true cc0_transform_16 t = true)
/-- Window 17 (result 2 (%134#2)) is written back at every point, at any contents of the tables (its index map reads none). -/
theorem flush0_17 (a : (pcfg0 (F := F)).Adm) : ∀ t : Fin (cfg0 a).N, ((cfg0 a).win 17).flush t = true :=
  (fun t => (Pipeline.Window.flushOf_reads cc0_transform_17 reads0_17 hreads0_17 0 (by decide) (by decide) (Pipeline.Window.sep_of_coord cc0_transform_17 0 0 (fun _ => rfl) (by decide)) (P := 1) (m := 0) (by decide) rfl t).mpr (Nat.mod_one _) : ∀ t : Fin grid0.N, Pipeline.Window.flushOf grid0 true cc0_transform_17 t = true)
/-- Window 18 (result 3 (%134#3)) is written back at every point, at any contents of the tables (its index map reads none). -/
theorem flush0_18 (a : (pcfg0 (F := F)).Adm) : ∀ t : Fin (cfg0 a).N, ((cfg0 a).win 18).flush t = true :=
  (fun t => (Pipeline.Window.flushOf_reads cc0_transform_18 reads0_18 hreads0_18 0 (by decide) (by decide) (Pipeline.Window.sep_of_coord cc0_transform_18 0 0 (fun _ => rfl) (by decide)) (P := 1) (m := 0) (by decide) rfl t).mpr (Nat.mod_one _) : ∀ t : Fin grid0.N, Pipeline.Window.flushOf grid0 true cc0_transform_18 t = true)
/-- Window 19 (result 4 (%134#4)) is written back at every point, at any contents of the tables (its index map reads none). -/
theorem flush0_19 (a : (pcfg0 (F := F)).Adm) : ∀ t : Fin (cfg0 a).N, ((cfg0 a).win 19).flush t = true :=
  (fun t => (Pipeline.Window.flushOf_reads cc0_transform_19 reads0_19 hreads0_19 0 (by decide) (by decide) (Pipeline.Window.sep_of_coord cc0_transform_19 0 0 (fun _ => rfl) (by decide)) (P := 1) (m := 0) (by decide) rfl t).mpr (Nat.mod_one _) : ∀ t : Fin grid0.N, Pipeline.Window.flushOf grid0 true cc0_transform_19 t = true)
/-- Window 20 (result 5 (%134#5)) is written back at every point, at any contents of the tables (its index map reads none). -/
theorem flush0_20 (a : (pcfg0 (F := F)).Adm) : ∀ t : Fin (cfg0 a).N, ((cfg0 a).win 20).flush t = true :=
  (fun t => (Pipeline.Window.flushOf_reads cc0_transform_20 reads0_20 hreads0_20 0 (by decide) (by decide) (Pipeline.Window.sep_of_coord cc0_transform_20 0 0 (fun _ => rfl) (by decide)) (P := 1) (m := 0) (by decide) rfl t).mpr (Nat.mod_one _) : ∀ t : Fin grid0.N, Pipeline.Window.flushOf grid0 true cc0_transform_20 t = true)
/-- Window 21 (result 6 (%134#6)) is written back at every point, at any contents of the tables (its index map reads none). -/
theorem flush0_21 (a : (pcfg0 (F := F)).Adm) : ∀ t : Fin (cfg0 a).N, ((cfg0 a).win 21).flush t = true :=
  (fun t => (Pipeline.Window.flushOf_reads cc0_transform_21 reads0_21 hreads0_21 0 (by decide) (by decide) (Pipeline.Window.sep_of_coord cc0_transform_21 0 0 (fun _ => rfl) (by decide)) (P := 1) (m := 0) (by decide) rfl t).mpr (Nat.mod_one _) : ∀ t : Fin grid0.N, Pipeline.Window.flushOf grid0 true cc0_transform_21 t = true)
/-- Window 22 (result 7 (%134#7)) is written back at every point, at any contents of the tables (its index map reads none). -/
theorem flush0_22 (a : (pcfg0 (F := F)).Adm) : ∀ t : Fin (cfg0 a).N, ((cfg0 a).win 22).flush t = true :=
  (fun t => (Pipeline.Window.flushOf_reads cc0_transform_22 reads0_22 hreads0_22 0 (by decide) (by decide) (Pipeline.Window.sep_of_coord cc0_transform_22 0 0 (fun _ => rfl) (by decide)) (P := 1) (m := 0) (by decide) rfl t).mpr (Nat.mod_one _) : ∀ t : Fin grid0.N, Pipeline.Window.flushOf grid0 true cc0_transform_22 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)
abbrev st0_17 (a : (pcfg0 (F := F)).Adm) (t : Fin (cfg0 a).N) := ((cfg0 a).win 17).stage ((cfg0 a).slots t 17)
abbrev st0_18 (a : (pcfg0 (F := F)).Adm) (t : Fin (cfg0 a).N) := ((cfg0 a).win 18).stage ((cfg0 a).slots t 18)
abbrev st0_19 (a : (pcfg0 (F := F)).Adm) (t : Fin (cfg0 a).N) := ((cfg0 a).win 19).stage ((cfg0 a).slots t 19)
abbrev st0_20 (a : (pcfg0 (F := F)).Adm) (t : Fin (cfg0 a).N) := ((cfg0 a).win 20).stage ((cfg0 a).slots t 20)
abbrev st0_21 (a : (pcfg0 (F := F)).Adm) (t : Fin (cfg0 a).N) := ((cfg0 a).win 21).stage ((cfg0 a).slots t 21)
abbrev st0_22 (a : (pcfg0 (F := F)).Adm) (t : Fin (cfg0 a).N) := ((cfg0 a).win 22).stage ((cfg0 a).slots t 22)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_din_attention (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (spec0_20.stage ((cfg0 a).slots t 20)) (hstage0_20 (((cfg0 a).slots t 20).cast nbuf0_20)) (spec0_21.stage ((cfg0 a).slots t 21)) (hstage0_21 (((cfg0 a).slots t 21).cast nbuf0_21)) (spec0_22.stage ((cfg0 a).slots t 22)) (hstage0_22 (((cfg0 a).slots t 22).cast nbuf0_22)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)

end Cert.Kernel.Gen

end

end
-- ==== Proof.Kernel.Runs.lean ====
/- What the runs of the kernel's body share: the launch, the memory map, the tables, the memrefs of a grid point. -/
module

public import proofs.«01_k».proof.Proof.Gen.Kernel.Launch
public import proofs.«01_k».proof.Proof.Gen.Kernel.Skeleton
public import proofs.«01_k».proof.Proof.Gen.Kernel.Loops
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg24`: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg25`: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg26`: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S48 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1620000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c),
      ((h c).2 main_arg13 (by decide : main_arg13 ∈ Pipeline.restRefs sig spec0)).trans (V_main_arg13 m c),
      ((h c).2 main_arg14 (by decide : main_arg14 ∈ Pipeline.restRefs sig spec0)).trans (V_main_arg14 m c),
      ((h c).2 main_arg15 (by decide : main_arg15 ∈ Pipeline.restRefs sig spec0)).trans (V_main_arg15 m c),
      ((h c).2 main_arg16 (by decide : main_arg16 ∈ Pipeline.restRefs sig spec0)).trans (V_main_arg16 m c),
      ((h c).2 main_arg17 (by decide : main_arg17 ∈ Pipeline.restRefs sig spec0)).trans (V_main_arg17 m c),
      ((h c).2 main_arg18 (by decide : main_arg18 ∈ Pipeline.restRefs sig spec0)).trans (V_main_arg18 m c),
      ((h c).2 main_arg19 (by decide : main_arg19 ∈ Pipeline.restRefs sig spec0)).trans (V_main_arg19 m c),
      ((h c).2 main_arg20 (by decide : main_arg20 ∈ Pipeline.restRefs sig spec0)).trans (V_main_arg20 m c),
      ((h c).2 main_arg21 (by decide : main_arg21 ∈ Pipeline.restRefs sig spec0)).trans (V_main_arg21 m c),
      ((h c).2 main_arg22 (by decide : main_arg22 ∈ Pipeline.restRefs sig spec0)).trans (V_main_arg22 m c),
      ((h c).2 main_arg23 (by decide : main_arg23 ∈ Pipeline.restRefs sig spec0)).trans (V_main_arg23 m c),
      ((h c).2 main_arg24 (by decide : main_arg24 ∈ Pipeline.restRefs sig spec0)).trans (V_main_arg24 m c),
      ((h c).2 main_arg25 (by decide : main_arg25 ∈ Pipeline.restRefs sig spec0)).trans (V_main_arg25 m c),
      ((h c).2 main_arg26 (by decide : main_arg26 ∈ Pipeline.restRefs sig spec0)).trans (V_main_arg26 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x64x512 .i8 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x64x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S80x64x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S64x80x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S160x64 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S160x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S4x160x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S256x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S8x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S40x96 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S5x40x128 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S200x192 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S4x200x128 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .smem S2 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x1x256 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x256x512 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x64x80x256 .fp8e4m3 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x80x256 .f32 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S1x64x256 .fp8e4m3 := spec0_19.stage ((cfgM m hO).slots t 19)
abbrev hs0_19 (hO : Ok m) (t : Fin (cfgM m hO).N) : (ms0_19 m hO t).IsWhole := hstage0_19 (((cfgM m hO).slots t 19).cast nbuf0_19)
abbrev ms0_20 (hO : Ok m) (t : Fin (cfgM m hO).N) : Memref sig .tc .vmem S1x1x256 .f32 := spec0_20.stage ((cfgM m hO).slots t 20)
abbrev hs0_20 (hO : Ok m) (t : Fin (cfgM m hO).N) : (ms0_20 m hO t).IsWhole := hstage0_20 (((cfgM m hO).slots t 20).cast nbuf0_20)
abbrev ms0_21 (hO : Ok m) (t : Fin (cfgM m hO).N) : Memref sig .tc .vmem S1x192x256 .fp8e4m3 := spec0_21.stage ((cfgM m hO).slots t 21)
abbrev hs0_21 (hO : Ok m) (t : Fin (cfgM m hO).N) : (ms0_21 m hO t).IsWhole := hstage0_21 (((cfgM m hO).slots t 21).cast nbuf0_21)
abbrev ms0_22 (hO : Ok m) (t : Fin (cfgM m hO).N) : Memref sig .tc .vmem S1x1x256 .f32 := spec0_22.stage ((cfgM m hO).slots t 22)
abbrev hs0_22 (hO : Ok m) (t : Fin (cfgM m hO).N) : (ms0_22 m hO t).IsWhole := hstage0_22 (((cfgM m hO).slots t 22).cast nbuf0_22)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S512x256 .i32 := Memref.whole cc0_scratch0
abbrev scM0_1 : Memref sig .tc .vmem S512x128 .f32 := Memref.whole cc0_scratch1
abbrev scM0_2 : Memref sig .tc .vmem S2048x128 .f32 := Memref.whole cc0_scratch2
abbrev scM0_3 : Memref sig .tc .vmem S64x256 .f32 := Memref.whole cc0_scratch3
abbrev scM0_4 : Memref sig .tc .vmem S160x256 .f32 := Memref.whole cc0_scratch4
abbrev scM0_5 : Memref sig .tc .vmem S160x256 .f32 := Memref.whole cc0_scratch5
abbrev scM0_6 : Memref sig .tc .vmem S160x256 .f32 := Memref.whole cc0_scratch6
abbrev scM0_7 : Memref sig .tc .vmem S20x256x256 .fp8e4m3 := Memref.whole cc0_scratch7
abbrev scM0_8 : Memref sig .tc .vmem S65x20x4x128 .fp8e4m3 := Memref.whole cc0_scratch8
abbrev scM0_9 : Memref sig .tc .vmem S2x256x128 .f32 := Memref.whole cc0_scratch9
abbrev scM0_10 : Memref sig .tc .vmem S512x256 .f32 := Memref.whole cc0_scratch10
abbrev scM0_11 : Memref sig .tc .vmem S512x256 .bf16 := Memref.whole cc0_scratch11

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, owns_whole]; try rfl

end Cert.Kernel.Gen

end

end
-- ==== Proof.Kernel.Inv.lean ====
/- The INVARIANTS of the kernel's two outer loops over blocks of 32 history slots. The first loop runs once for each
   block that holds a valid slot; nothing is said of what its scratch holds, only that the buffers it reads stay as they
   were. The second loop, the remainder of the first, never runs. -/
module

public import proofs.«01_k».proof.Proof.Kernel.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
set_option maxHeartbeats 4000000 in set_option sl_exec.stridedRows true in
/-- The loop over the blocks with valid slots: one trip keeps the buffers it reads, and leaves the scratch it writes at
    some contents. -/
@[sl_loop] def loopInv_k0_t3 (𝒱 : Variants) (c : Dev nD) (bd : Option 𝒱.V) (E : Set ℕ) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (arg0 : BitVec 32) (v1 : Elt F .i32) (k0_hw1 : k0_chk1 v1) (v3 : BitVec 32) (v6 : FVec F S64x512 .fp8e4m3)  (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg16 : BufTy.Contents (Elt F) arg16.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg0 v1 k0_hw1 v3 v6 where
  inv _ _ := iprop((arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg16.view.loc (c : Thread nD τ) ↦[arg16.view.set]{fullShare} X_arg16) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg29.view.loc (c : Thread nD τ) ↦[arg29.view.set]{fullShare} X_arg29) ∗ (arg30.view.loc (c : Thread nD τ) ↦[arg30.view.set]{fullShare} X_arg30) ∗ (arg31.view.loc (c : Thread nD τ) ↦[arg31.view.set]{fullShare} X_arg31) ∗ (arg32.view.loc (c : Thread nD τ) ↦[arg32.view.set]{fullShare} X_arg32) ∗ (∃ f, (arg33.view.loc (c : Thread nD τ) ↦[arg33.view.set]{fullShare} f)) ∗ (∃ f, (arg34.view.loc (c : Thread nD τ) ↦[arg34.view.set]{fullShare} f)) ∗ (∃ f, (arg35.view.loc (c : Thread nD τ) ↦[arg35.view.set]{fullShare} f)) ∗ (∃ f, (arg36.view.loc (c : Thread nD τ) ↦[arg36.view.set]{fullShare} f)))
  step k acc := by
    unfold k0_t3_body
    iintro ⟨Harg9, Harg10, Harg11, Harg12, Harg13, Harg16, Harg25, Harg26, Harg27, Harg29, Harg30, Harg31, Harg32, ⟨%f_arg33, Harg33⟩, ⟨%f_arg34, Harg34⟩, ⟨%f_arg35, Harg35⟩, ⟨%f_arg36, Harg36⟩⟩
    sl_exec_parts
    sl_step
    isplitl [Harg9]; · iexact Harg9
    isplitl [Harg10]; · iexact Harg10
    isplitl [Harg11]; · iexact Harg11
    isplitl [Harg12]; · iexact Harg12
    isplitl [Harg13]; · iexact Harg13
    isplitl [Harg16]; · iexact Harg16
    isplitl [Harg25]; · iexact Harg25
    isplitl [Harg26]; · iexact Harg26
    isplitl [Harg27]; · iexact Harg27
    isplitl [Harg29]; · iexact Harg29
    isplitl [Harg30]; · iexact Harg30
    isplitl [Harg31]; · iexact Harg31
    isplitl [Harg32]; · iexact Harg32
    isplitl [Harg33]; · iexists _; iexact Harg33
    isplitl [Harg34]; · iexists _; iexact Harg34
    isplitl [Harg35]; · iexists _; iexact Harg35
    iexists _; iexact Harg36

/-- The remainder loop runs from the first loop's bound in steps of 1 to the same bound: it has no trip. -/
theorem trips0_k0_t4 (v1 : BitVec 32) : (k0_t4_loop v1).trips = 0 := by
  have h1 : ∀ x : BitVec 32, Scalar.muli (Scalar.divsi x 1#32) 1#32 = x := by
    intro x; simp [Scalar.muli, Scalar.divsi, IntOp.muli, IntOp.divsi, IntOp.SDivCorner]
  simp only [k0_t4_loop, Scf.Loop.trips, h1]
  simp [Scf.trips]

set_option warn.classDefReducibility false in
/-- The remainder loop, which never runs: it keeps everything. -/
@[sl_loop] def loopInv_k0_t4 (𝒱 : Variants) (c : Dev nD) (bd : Option 𝒱.V) (E : Set ℕ) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (arg0 : BitVec 32) (v1 : Elt F .i32) (k0_hw1 : k0_chk1 v1) (v3 : BitVec 32) (v6 : FVec F S64x512 .fp8e4m3) (v246 : BitVec 32)  (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg16 : BufTy.Contents (Elt F) arg16.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg0 v1 k0_hw1 v3 v6 v246 where
  inv _ _ := iprop((arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg16.view.loc (c : Thread nD τ) ↦[arg16.view.set]{fullShare} X_arg16) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg29.view.loc (c : Thread nD τ) ↦[arg29.view.set]{fullShare} X_arg29) ∗ (arg30.view.loc (c : Thread nD τ) ↦[arg30.view.set]{fullShare} X_arg30) ∗ (arg31.view.loc (c : Thread nD τ) ↦[arg31.view.set]{fullShare} X_arg31) ∗ (arg32.view.loc (c : Thread nD τ) ↦[arg32.view.set]{fullShare} X_arg32) ∗ (∃ f, (arg33.view.loc (c : Thread nD τ) ↦[arg33.view.set]{fullShare} f)) ∗ (∃ f, (arg34.view.loc (c : Thread nD τ) ↦[arg34.view.set]{fullShare} f)) ∗ (∃ f, (arg35.view.loc (c : Thread nD τ) ↦[arg35.view.set]{fullShare} f)) ∗ (∃ f, (arg36.view.loc (c : Thread nD τ) ↦[arg36.view.set]{fullShare} f)))
  step k acc := (k.cast (trips0_k0_t4 v1)).elim0

end Cert.Kernel.Gen

end

end
-- ==== Proof.Kernel.RunA.lean ====
/- The run of the kernel's body at the first grid point, where the scratch `h` is zeroed. -/
module

public import proofs.«01_k».proof.Proof.Kernel.Inv

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1432000 in set_option sl_exec.stridedRows true in
/-- The body's triple IN CASE A (`scf.if` 0 taken: points 0): on whole staging memrefs — the inputs' at their contents,
    the FORGOTTEN outputs' (15, 16, 17, 18, 19, 20, 21, 22) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (hc0 : cond0_0 i)
    (x0 : Vec F S1x64x512 .i8) (x1 : Vec F S1x1x512 .f32) (x2 : Vec F S1x64x256 .bf16) (x3 : Vec F S80x64x128 .f32) (x4 : Vec F S64x80x128 .f32) (x5 : Vec F S160x64 .f32) (x6 : Vec F S160x128 .f32) (x7 : Vec F S4x160x128 .f32) (x8 : Vec F S256x128 .fp8e4m3) (x9 : Vec F S8x128 .f32) (x10 : Vec F S40x96 .fp8e4m3) (x11 : Vec F S5x40x128 .f32) (x12 : Vec F S200x192 .fp8e4m3) (x13 : Vec F S4x200x128 .f32) (x14 : Vec F S2 .f32) (xt0 : TbBuf0 (F := F) c tbM0_0) (k0_hw1 : k0_chk1 (tbM0_0.view.readAt (Elt F) (Rect.unit (s := S48) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ tbPt0 c tbM0_0 xt0) -∗ K ⟨⟩))
          ⊢ wp frame (wpE (defs₀ (F := F)) Variants.none c none) E (cc0_din_attention i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
    intro E K
    simp only [cc0_din_attention_eq_skeleton]; unfold cc0_din_attention_skel
    simp only [k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    iexact HT0

end Cert.Kernel.Gen

end

end
-- ==== Proof.Kernel.RunB.lean ====
/- The run of the kernel's body at every later grid point. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1420000 in set_option sl_exec.stridedRows true in
/-- The body's triple IN CASE B (`scf.if` 0 not taken: points 1, 2, … 47: 47 of 48): on whole staging memrefs — the inputs' at their contents,
    the FORGOTTEN outputs' (15, 16, 17, 18, 19, 20, 21, 22) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (hc0 : ¬cond0_0 i)
    (x0 : Vec F S1x64x512 .i8) (x1 : Vec F S1x1x512 .f32) (x2 : Vec F S1x64x256 .bf16) (x3 : Vec F S80x64x128 .f32) (x4 : Vec F S64x80x128 .f32) (x5 : Vec F S160x64 .f32) (x6 : Vec F S160x128 .f32) (x7 : Vec F S4x160x128 .f32) (x8 : Vec F S256x128 .fp8e4m3) (x9 : Vec F S8x128 .f32) (x10 : Vec F S40x96 .fp8e4m3) (x11 : Vec F S5x40x128 .f32) (x12 : Vec F S200x192 .fp8e4m3) (x13 : Vec F S4x200x128 .f32) (x14 : Vec F S2 .f32) (xt0 : TbBuf0 (F := F) c tbM0_0) (k0_hw1 : k0_chk1 (tbM0_0.view.readAt (Elt F) (Rect.unit (s := S48) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ tbPt0 c tbM0_0 xt0) -∗ K ⟨⟩))
          ⊢ wp frame (wpE (defs₀ (F := F)) Variants.none c none) E (cc0_din_attention i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
    intro E K
    simp only [cc0_din_attention_eq_skeleton]; unfold cc0_din_attention_skel
    simp only [k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    iexact HT0

end Cert.Kernel.Gen

end

end
-- ==== Proof.Kernel.Frame.lean ====
/- The FRAME of the program: it terminates without fault and leaves its arguments unchanged, for history lengths of at most 512. -/
module

public import proofs.«01_k».proof.Proof.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (15, 16, 17, 18, 19, 20, 21, 22): nothing reads what the kernel leaves in them, so nothing
    of it is named (Lib/Pipeline/Dat.lean `Dat.toRForget`). -/
def forgets0 : Fin 23 → Bool := fun w => w.val == 15 || w.val == 16 || w.val == 17 || w.val == 18 || w.val == 19 || w.val == 20 || w.val == 21 || w.val == 22

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, h⟩ => Pipeline.Dat.unnamed (cfg := (cfgM m hO)) ⟨15, h⟩ t
    | ⟨16, h⟩ => Pipeline.Dat.unnamed (cfg := (cfgM m hO)) ⟨16, h⟩ t
    | ⟨17, h⟩ => Pipeline.Dat.unnamed (cfg := (cfgM m hO)) ⟨17, h⟩ t
    | ⟨18, h⟩ => Pipeline.Dat.unnamed (cfg := (cfgM m hO)) ⟨18, h⟩ t
    | ⟨19, h⟩ => Pipeline.Dat.unnamed (cfg := (cfgM m hO)) ⟨19, h⟩ t
    | ⟨20, h⟩ => Pipeline.Dat.unnamed (cfg := (cfgM m hO)) ⟨20, h⟩ t
    | ⟨21, h⟩ => Pipeline.Dat.unnamed (cfg := (cfgM m hO)) ⟨21, h⟩ t
    | ⟨22, h⟩ => Pipeline.Dat.unnamed (cfg := (cfgM m hO)) ⟨22, h⟩ t
    | ⟨_ + 23, h⟩ => absurd h (Nat.not_lt.2 (Nat.le_add_left _ _))
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = iblk m hO c 9 t := by dsimp only [dats]; try rfl
theorem after0_10 (hO : Ok m) (hH : Hyps m hO) (c : Dev nD) (t : Fin (cfgM m hO).N) : (dats m hO hH 0 c).after 10 t = iblk m hO c 10 t := by dsimp only [dats]; try rfl
theorem after0_11 (hO : Ok m) (hH : Hyps m hO) (c : Dev nD) (t : Fin (cfgM m hO).N) : (dats m hO hH 0 c).after 11 t = iblk m hO c 11 t := by dsimp only [dats]; try rfl
theorem after0_12 (hO : Ok m) (hH : Hyps m hO) (c : Dev nD) (t : Fin (cfgM m hO).N) : (dats m hO hH 0 c).after 12 t = iblk m hO c 12 t := by dsimp only [dats]; try rfl
theorem after0_13 (hO : Ok m) (hH : Hyps m hO) (c : Dev nD) (t : Fin (cfgM m hO).N) : (dats m hO hH 0 c).after 13 t = iblk m hO c 13 t := by dsimp only [dats]; try rfl
theorem after0_14 (hO : Ok m) (hH : Hyps m hO) (c : Dev nD) (t : Fin (cfgM m hO).N) : (dats m hO hH 0 c).after 14 t = iblk m hO c 14 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m hO) (c : Dev nD) (t : Fin (cfgM m hO).N) (d) : (dats m hO hH 0 c).before 9 t d = iblk m hO c 9 t :=
  before0_9_of m hO (dats m hO hH 0 c) (A_eq m hO hH c 9) (after0_9 m hO hH c) t d
theorem before0_10 (hO : Ok m) (hH : Hyps m hO) (c : Dev nD) (t : Fin (cfgM m hO).N) (d) : (dats m hO hH 0 c).before 10 t d = iblk m hO c 10 t :=
  before0_10_of m hO (dats m hO hH 0 c) (A_eq m hO hH c 10) (after0_10 m hO hH c) t d
theorem before0_11 (hO : Ok m) (hH : Hyps m hO) (c : Dev nD) (t : Fin (cfgM m hO).N) (d) : (dats m hO hH 0 c).before 11 t d = iblk m hO c 11 t :=
  before0_11_of m hO (dats m hO hH 0 c) (A_eq m hO hH c 11) (after0_11 m hO hH c) t d
theorem before0_12 (hO : Ok m) (hH : Hyps m hO) (c : Dev nD) (t : Fin (cfgM m hO).N) (d) : (dats m hO hH 0 c).before 12 t d = iblk m hO c 12 t :=
  before0_12_of m hO (dats m hO hH 0 c) (A_eq m hO hH c 12) (after0_12 m hO hH c) t d
theorem before0_13 (hO : Ok m) (hH : Hyps m hO) (c : Dev nD) (t : Fin (cfgM m hO).N) (d) : (dats m hO hH 0 c).before 13 t d = iblk m hO c 13 t :=
  before0_13_of m hO (dats m hO hH 0 c) (A_eq m hO hH c 13) (after0_13 m hO hH c) t d
theorem before0_14 (hO : Ok m) (hH : Hyps m hO) (c : Dev nD) (t : Fin (cfgM m hO).N) (d) : (dats m hO hH 0 c).before 14 t d = iblk m hO c 14 t :=
  before0_14_of m hO (dats m hO hH 0 c) (A_eq m hO hH c 14) (after0_14 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d))
    ∗ (∃ d, owns (c : Thread nD τ) (ms0_13 m hO t) fullShare ((dats m hO hH 0 c).before 13 t d))
    ∗ (∃ d, owns (c : Thread nD τ) (ms0_14 m hO t) fullShare ((dats m hO hH 0 c).before 14 t d))
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d)
    ∗ (∃ d, owns (c : Thread nD τ) (ms0_18 m hO t) fullShare d)
    ∗ (∃ d, owns (c : Thread nD τ) (ms0_19 m hO t) fullShare d)
    ∗ (∃ d, owns (c : Thread nD τ) (ms0_20 m hO t) fullShare d)
    ∗ (∃ d, owns (c : Thread nD τ) (ms0_21 m hO t) fullShare d)
    ∗ (∃ d, owns (c : Thread nD τ) (ms0_22 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t)
    ∗ owns (c : Thread nD τ) (ms0_10 m hO t) fullShare ((dats m hO hH 0 c).after 10 t)
    ∗ owns (c : Thread nD τ) (ms0_11 m hO t) fullShare ((dats m hO hH 0 c).after 11 t)
    ∗ owns (c : Thread nD τ) (ms0_12 m hO t) fullShare ((dats m hO hH 0 c).after 12 t)
    ∗ owns (c : Thread nD τ) (ms0_13 m hO t) fullShare ((dats m hO hH 0 c).after 13 t)
    ∗ owns (c : Thread nD τ) (ms0_14 m hO t) fullShare ((dats m hO hH 0 c).after 14 t)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d)
    ∗ (∃ d, owns (c : Thread nD τ) (ms0_18 m hO t) fullShare d)
    ∗ (∃ d, owns (c : Thread nD τ) (ms0_19 m hO t) fullShare d)
    ∗ (∃ d, owns (c : Thread nD τ) (ms0_20 m hO t) fullShare d)
    ∗ (∃ d, owns (c : Thread nD τ) (ms0_21 m hO t) fullShare d)
    ∗ (∃ d, owns (c : Thread nD τ) (ms0_22 m hO t) fullShare d))

set_option maxHeartbeats 6400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9, before0_10, before0_11, before0_12, before0_13, before0_14]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8, after0_9, after0_10, after0_11, after0_12, after0_13, after0_14]
  rw [show (dats m hO hH 0 c).Φ t.castSucc = iprop(Pipeline.ΦA spec0 c ∗ Pipeline.ΦT pre0 (tbl m) c) from rfl, PhiT0_eq, PhiA0_eq]
  have hN : t.val < 48 := lt_of_lt_of_eq t.isLt (show (cfgM m hO).N = 48 from N_0)
  by_cases h0 : t.val % 48 = 0
  · iintro ⟨⟨⟨⟨HS0, HS1, HS2, HS3, HS4, HS5, HS6, HS7, HS8, HS9, HS10, HS11⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) (Hyps.c0 hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HT0]; · iexact HT0
    iintro ⟨H0, H1, H2, H3, H4, H5, H6, H7, H8, H9, H10, H11, H12, H13, H14, H15, H16, H17, H18, H19, H20, H21, H22, HS0, HS1, HS2, HS3, HS4, HS5, HS6, HS7, HS8, HS9, HS10, HS11, HT0⟩
    isplitl [HS0 HS1 HS2 HS3 HS4 HS5 HS6 HS7 HS8 HS9 HS10 HS11 Hg HT0]
    · isplitl [HS0 HS1 HS2 HS3 HS4 HS5 HS6 HS7 HS8 HS9 HS10 HS11 Hg]
      · isplitl [HS0 HS1 HS2 HS3 HS4 HS5 HS6 HS7 HS8 HS9 HS10 HS11]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          isplitl [HS9]
          · iexact HS9
          isplitl [HS10]
          · iexact HS10
          iexact HS11
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · iintro ⟨⟨⟨⟨HS0, HS1, HS2, HS3, HS4, HS5, HS6, HS7, HS8, HS9, HS10, HS11⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) (Hyps.c0 hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HT0]; · iexact HT0
    iintro ⟨H0, H1, H2, H3, H4, H5, H6, H7, H8, H9, H10, H11, H12, H13, H14, H15, H16, H17, H18, H19, H20, H21, H22, HS0, HS1, HS2, HS3, HS4, HS5, HS6, HS7, HS8, HS9, HS10, HS11, HT0⟩
    isplitl [HS0 HS1 HS2 HS3 HS4 HS5 HS6 HS7 HS8 HS9 HS10 HS11 Hg HT0]
    · isplitl [HS0 HS1 HS2 HS3 HS4 HS5 HS6 HS7 HS8 HS9 HS10 HS11 Hg]
      · isplitl [HS0 HS1 HS2 HS3 HS4 HS5 HS6 HS7 HS8 HS9 HS10 HS11]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          isplitl [HS9]
          · iexact HS9
          isplitl [HS10]
          · iexact HS10
          iexact HS11
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in set_option maxHeartbeats 4000000 in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 15, 16, 17, 18, 19, 20, 21, 22) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ hO hH) ((θ_run defs _ _).mono (fun _ h => h.2) (run_main_quiescent m ρ hO hH))

end Cert.Kernel.Gen

end

end
-- ==== Proof.Kernel.Len.lean ====
/- What the body assumes of a user's history length holds of every length of at most 512: the outer loop has at most 16
   trips, each block of 32 slots lies inside its buffers, and the remainder loop has no trip. -/
module

public import proofs.«01_k».proof.Proof.Kernel.Inv

@[expose] public section

noncomputable section

namespace Cert.Kernel.Gen

open Idealize.ShloMosaic Idealize.ShloMosaic.TcCoe

/-- The outer loop's bound is the number of blocks, `(length + 31) / 32`. -/
theorem ub_k0_t3 (v : BitVec 32) : (k0_t3_loop v).ub = (v + 31#32).sdiv 32#32 := by
  simp [k0_t3_loop, Scalar.muli, Scalar.divsi, Scalar.addi, Scalar.subi, IntOp.muli, IntOp.divsi, IntOp.addi, IntOp.subi,
    IntOp.SDivCorner]

/-- Its trips are that number. -/
theorem trips_k0_t3 (v : BitVec 32) : (k0_t3_loop v).trips = ((v + 31#32).sdiv 32#32).toInt.toNat := by
  have h := ub_k0_t3 v
  show Scf.trips (k0_t3_loop v).lb (k0_t3_loop v).ub (k0_t3_loop v).st = _
  rw [h]
  simp [k0_t3_loop, Scf.trips]

/-- A length of at most 512 has at most 16 blocks. -/
theorem trips_le_k0_t3 (v : BitVec 32) (h : v.toInt ≤ 512) : (k0_t3_loop v).trips ≤ 16 := by
  rw [trips_k0_t3, BitVec.toInt_sdiv_of_ne_or_ne _ _ (.inr (by decide)), BitVec.toInt_add]
  have h31 : (31#32 : BitVec 32).toInt = 31 := by decide
  have h32 : (32#32 : BitVec 32).toInt = 32 := by decide
  rw [h31, h32]
  have hb : (v.toInt + 31).bmod (2 ^ 32) ≤ 543 := by
    have hl := v.le_toInt
    simp only [Nat.reduceSub, Int.bmod] at *
    omega
  generalize (v.toInt + 31).bmod (2 ^ 32) = x at *
  rcases Int.le_total 0 x with hx | hx
  · rw [Int.tdiv_eq_ediv_of_nonneg hx]; omega
  · have : x.tdiv 32 ≤ 0 := by
      have h := Int.tdiv_nonneg (a := -x) (b := 32) (by omega) (by decide)
      rw [Int.neg_tdiv] at h; omega
    omega

/-- A block of 32 rows that starts at a multiple of 32 is made of whole packed rows. -/
theorem packed_of_dvd (o : Fin 2 → Nat) (hinb : ∀ a, o a + S32x128.size a ≤ S512x256.size a) (h : 32 ∣ o 0) :
    (Rect.unit (s := S512x256) o S32x128.size hinb).PackedRows (EltTy.packing .bf16) :=
  have h2 : 2 ≤ S512x256.rank := by decide
  .inr ⟨h2, rfl, .inl ⟨Nat.dvd_trans (by decide : EltTy.packing .bf16 ∣ 32) h, by
    show EltTy.packing .bf16 ∣ S32x128.size 0
    decide⟩⟩

/-- The body's assumption holds of every length of at most 512. -/
theorem chk1_of_le (v : BitVec 32) (h : v.toInt ≤ 512) : k0_chk1 v := by
  have h3 := trips_le_k0_t3 v h
  have h4 := trips0_k0_t4 v
  have e4 : ∀ t : Fin (k0_t4_loop v).trips, False := fun t => (t.cast h4).elim0
  have hm : ∀ t : Fin (k0_t3_loop v).trips, 32 ∣ (k0_mult3 v t).toNat := by
    intro t
    obtain ⟨n, hn⟩ := t
    simp only [k0_mult3]
    have hn' : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by omega
    clear hn h3 h4 e4 h
    rcases hn' with rfl | rfl | rfl | rfl | rfl | rfl | rfl | rfl | rfl | rfl | rfl | rfl | rfl | rfl | rfl | rfl <;> decide
  unfold k0_chk1
  refine ⟨⟨(by decide : (0 : Int) < (1#32 : BitVec 32).toInt), ?_⟩, fun t => ?_, fun t => ?_, fun t => ?_, fun t => ?_, fun t => ?_, fun t => ?_, fun t => ?_,
    fun t => ?_, fun t => ?_, fun t => ?_, ⟨(by decide : (0 : Int) < (1#32 : BitVec 32).toInt), ?_⟩, fun t => (e4 t).elim, fun t => (e4 t).elim, fun t => (e4 t).elim,
    fun t => (e4 t).elim, fun t => (e4 t).elim, fun t => (e4 t).elim, fun t => (e4 t).elim, fun t => (e4 t).elim,
    fun t => (e4 t).elim, fun t => (e4 t).elim⟩
  · show (0#32 : BitVec 32).toInt + ((k0_t3_loop v).trips : Int) * (1#32 : BitVec 32).toInt < _
    have h0 : (0#32 : BitVec 32).toInt = 0 := by decide
    have h1 : (1#32 : BitVec 32).toInt = 1 := by decide
    rw [h0, h1]; omega
  all_goals first
    | (obtain ⟨n, hn⟩ := t
       simp only [k0_mult1, k0_mult2, k0_mult3, k0_off11, k0_off12, k0_off13, k0_off14, k0_off15]
       have hn' : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by omega
       clear hn hm h3 h4 e4 h
       rcases hn' with rfl | rfl | rfl | rfl | rfl | rfl | rfl | rfl | rfl | rfl | rfl | rfl | rfl | rfl | rfl | rfl <;> first | decide | (intro hinb; decide))
    | exact fun hinb => packed_of_dvd _ hinb (hm t)
    | skip
  show (k0_t4_loop v).lb.toInt + ((k0_t4_loop v).trips : Int) * (1#32 : BitVec 32).toInt < _
  rw [h4]
  have := (k0_t4_loop v).lb.toInt_lt
  simpa using this

variable {F : FTy → Type} [FloatOps F]

/-- If every user's history length is at most 512, the body's assumption holds at every grid point. -/
theorem hyps_of_len (m : (ℓ : Loc nD τ sig) → Buf (Elt F) ℓ) (hO : Ok m)
    (h : ∀ (c : Dev nD) (y : S48.Idx), (m ((c : Thread nD τ).loc main_arg2) y : BitVec 32).toInt ≤ 512) : Hyps m hO := by
  intro c t
  refine chk1_of_le _ ?_
  have e : tbl m 0 = m (((0 : Dev nD) : Thread nD τ).loc main_arg2) := V_main_arg2 m 0
  rw [e]
  exact h 0 _

end Cert.Kernel.Gen

end

end
-- ==== Proof.KernelIdeal.Points.lean ====
/- The SCHEDULE of the kernel's pipeline: its grid points, each window's block index and buffer slot at a point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%131)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%132)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%133)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%98)) is fetched at the first point only, at any contents of the tables (its index map reads none). -/
theorem fetch0_3 (a : (pcfg0 (F := F)).Adm) : ∀ t : Fin (cfg0 a).N, ((cfg0 a).win 3).fetch t = true ↔ t.val % 48 = 0 :=
  (fun t => Pipeline.Window.fetchOf_const cc0_transform_3 (fun _ _ => rfl) (n := 48) (by decide) t : ∀ t : Fin grid0.N, Pipeline.Window.fetchOf grid0 false cc0_transform_3 t = true ↔ t.val % 48 = 0)
/-- Window 4 (operand 5 (%100)) is fetched at the first point only, at any contents of the tables (its index map reads none). -/
theorem fetch0_4 (a : (pcfg0 (F := F)).Adm) : ∀ t : Fin (cfg0 a).N, ((cfg0 a).win 4).fetch t = true ↔ t.val % 48 = 0 :=
  (fun t => Pipeline.Window.fetchOf_const cc0_transform_4 (fun _ _ => rfl) (n := 48) (by decide) t : ∀ t : Fin grid0.N, Pipeline.Window.fetchOf grid0 false cc0_transform_4 t = true ↔ t.val % 48 = 0)
/-- Window 5 (operand 6 (%95)) is fetched at the first point only, at any contents of the tables (its index map reads none). -/
theorem fetch0_5 (a : (pcfg0 (F := F)).Adm) : ∀ t : Fin (cfg0 a).N, ((cfg0 a).win 5).fetch t = true ↔ t.val % 48 = 0 :=
  (fun t => Pipeline.Window.fetchOf_const cc0_transform_5 (fun _ _ => rfl) (n := 48) (by decide) t : ∀ t : Fin grid0.N, Pipeline.Window.fetchOf grid0 false cc0_transform_5 t = true ↔ t.val % 48 = 0)
/-- Window 6 (operand 7 (%91)) is fetched at the first point only, at any contents of the tables (its index map reads none). -/
theorem fetch0_6 (a : (pcfg0 (F := F)).Adm) : ∀ t : Fin (cfg0 a).N, ((cfg0 a).win 6).fetch t = true ↔ t.val % 48 = 0 :=
  (fun t => Pipeline.Window.fetchOf_const cc0_transform_6 (fun _ _ => rfl) (n := 48) (by decide) t : ∀ t : Fin grid0.N, Pipeline.Window.fetchOf grid0 false cc0_transform_6 t = true ↔ t.val % 48 = 0)
/-- Window 7 (operand 8 (%60)) is fetched at the first point only, at any contents of the tables (its index map reads none). -/
theorem fetch0_7 (a : (pcfg0 (F := F)).Adm) : ∀ t : Fin (cfg0 a).N, ((cfg0 a).win 7).fetch t = true ↔ t.val % 48 = 0 :=
  (fun t => Pipeline.Window.fetchOf_const cc0_transform_7 (fun _ _ => rfl) (n := 48) (by decide) t : ∀ t : Fin grid0.N, Pipeline.Window.fetchOf grid0 false cc0_transform_7 t = true ↔ t.val % 48 = 0)
/-- Window 8 (operand 9 (%106)) is fetched at the first point only, at any contents of the tables (its index map reads none). -/
theorem fetch0_8 (a : (pcfg0 (F := F)).Adm) : ∀ t : Fin (cfg0 a).N, ((cfg0 a).win 8).fetch t = true ↔ t.val % 48 = 0 :=
  (fun t => Pipeline.Window.fetchOf_const cc0_transform_8 (fun _ _ => rfl) (n := 48) (by decide) t : ∀ t : Fin grid0.N, Pipeline.Window.fetchOf grid0 false cc0_transform_8 t = true ↔ t.val % 48 = 0)
/-- Window 9 (operand 10 (%111)) is fetched at the first point only, at any contents of the tables (its index map reads none). -/
theorem fetch0_9 (a : (pcfg0 (F := F)).Adm) : ∀ t : Fin (cfg0 a).N, ((cfg0 a).win 9).fetch t = true ↔ t.val % 48 = 0 :=
  (fun t => Pipeline.Window.fetchOf_const cc0_transform_9 (fun _ _ => rfl) (n := 48) (by decide) t : ∀ t : Fin grid0.N, Pipeline.Window.fetchOf grid0 false cc0_transform_9 t = true ↔ t.val % 48 = 0)
/-- Window 10 (operand 11 (%115)) is fetched at the first point only, at any contents of the tables (its index map reads none). -/
theorem fetch0_10 (a : (pcfg0 (F := F)).Adm) : ∀ t : Fin (cfg0 a).N, ((cfg0 a).win 10).fetch t = true ↔ t.val % 48 = 0 :=
  (fun t => Pipeline.Window.fetchOf_const cc0_transform_10 (fun _ _ => rfl) (n := 48) (by decide) t : ∀ t : Fin grid0.N, Pipeline.Window.fetchOf grid0 false cc0_transform_10 t = true ↔ t.val % 48 = 0)
/-- Window 11 (operand 12 (%86)) is fetched at the first point only, at any contents of the tables (its index map reads none). -/
theorem fetch0_11 (a : (pcfg0 (F := F)).Adm) : ∀ t : Fin (cfg0 a).N, ((cfg0 a).win 11).fetch t = true ↔ t.val % 48 = 0 :=
  (fun t => Pipeline.Window.fetchOf_const cc0_transform_11 (fun _ _ => rfl) (n := 48) (by decide) t : ∀ t : Fin grid0.N, Pipeline.Window.fetchOf grid0 false cc0_transform_11 t = true ↔ t.val % 48 = 0)
/-- Window 12 (operand 13 (%116)) is fetched at the first point only, at any contents of the tables (its index map reads none). -/
theorem fetch0_12 (a : (pcfg0 (F := F)).Adm) : ∀ t : Fin (cfg0 a).N, ((cfg0 a).win 12).fetch t = true ↔ t.val % 48 = 0 :=
  (fun t => Pipeline.Window.fetchOf_const cc0_transform_12 (fun _ _ => rfl) (n := 48) (by decide) t : ∀ t : Fin grid0.N, Pipeline.Window.fetchOf grid0 false cc0_transform_12 t = true ↔ t.val % 48 = 0)
/-- Window 13 (operand 14 (%129)) is fetched at the first point only, at any contents of the tables (its index map reads none). -/
theorem fetch0_13 (a : (pcfg0 (F := F)).Adm) : ∀ t : Fin (cfg0 a).N, ((cfg0 a).win 13).fetch t = true ↔ t.val % 48 = 0 :=
  (fun t => Pipeline.Window.fetchOf_const cc0_transform_13 (fun _ _ => rfl) (n := 48) (by decide) t : ∀ t : Fin grid0.N, Pipeline.Window.fetchOf grid0 false cc0_transform_13 t = true ↔ t.val % 48 = 0)
/-- Window 14 (operand 15 (%130)) is fetched at the first point only, at any contents of the tables (its index map reads none). -/
theorem fetch0_14 (a : (pcfg0 (F := F)).Adm) : ∀ t : Fin (cfg0 a).N, ((cfg0 a).win 14).fetch t = true ↔ t.val % 48 = 0 :=
  (fun t => Pipeline.Window.fetchOf_const cc0_transform_14 (fun _ _ => rfl) (n := 48) (by decide) t : ∀ t : Fin grid0.N, Pipeline.Window.fetchOf grid0 false cc0_transform_14 t = true ↔ t.val % 48 = 0)
/-- Window 15 (result 0 (%134#0)) is written back at every point, at any contents of the tables (its index map reads none). -/
theorem flush0_15 (a : (pcfg0 (F := F)).Adm) : ∀ t : Fin (cfg0 a).N, ((cfg0 a).win 15).flush t = true :=
  (fun t => (Pipeline.Window.flushOf_reads cc0_transform_15 reads0_15 hreads0_15 0 (by decide) (by decide) (Pipeline.Window.sep_of_coord cc0_transform_15 0 0 (fun _ => rfl) (by decide)) (P := 1) (m := 0) (by decide) rfl t).mpr (Nat.mod_one _) : ∀ t : Fin grid0.N, Pipeline.Window.flushOf grid0 true cc0_transform_15 t = true)
/-- Window 16 (result 1 (%134#1)) is written back at every point, at any contents of the tables (its index map reads none). -/
theorem flush0_16 (a : (pcfg0 (F := F)).Adm) : ∀ t : Fin (cfg0 a).N, ((cfg0 a).win 16).flush t = true :=
  (fun t => (Pipeline.Window.flushOf_reads cc0_transform_16 reads0_16 hreads0_16 0 (by decide) (by decide) (Pipeline.Window.sep_of_coord cc0_transform_16 0 0 (fun _ => rfl) (by decide)) (P := 1) (m := 0) (by decide) rfl t).mpr (Nat.mod_one _) : ∀ t : Fin grid0.N, Pipeline.Window.flushOf grid0 true cc0_transform_16 t = true)
/-- Window 17 (result 2 (%134#2)) is written back at every point, at any contents of the tables (its index map reads none). -/
theorem flush0_17 (a : (pcfg0 (F := F)).Adm) : ∀ t : Fin (cfg0 a).N, ((cfg0 a).win 17).flush t = true :=
  (fun t => (Pipeline.Window.flushOf_reads cc0_transform_17 reads0_17 hreads0_17 0 (by decide) (by decide) (Pipeline.Window.sep_of_coord cc0_transform_17 0 0 (fun _ => rfl) (by decide)) (P := 1) (m := 0) (by decide) rfl t).mpr (Nat.mod_one _) : ∀ t : Fin grid0.N, Pipeline.Window.flushOf grid0 true cc0_transform_17 t = true)
/-- Window 18 (result 3 (%134#3)) is written back at every point, at any contents of the tables (its index map reads none). -/
theorem flush0_18 (a : (pcfg0 (F := F)).Adm) : ∀ t : Fin (cfg0 a).N, ((cfg0 a).win 18).flush t = true :=
  (fun t => (Pipeline.Window.flushOf_reads cc0_transform_18 reads0_18 hreads0_18 0 (by decide) (by decide) (Pipeline.Window.sep_of_coord cc0_transform_18 0 0 (fun _ => rfl) (by decide)) (P := 1) (m := 0) (by decide) rfl t).mpr (Nat.mod_one _) : ∀ t : Fin grid0.N, Pipeline.Window.flushOf grid0 true cc0_transform_18 t = true)
/-- Window 19 (result 4 (%134#4)) is written back at every point, at any contents of the tables (its index map reads none). -/
theorem flush0_19 (a : (pcfg0 (F := F)).Adm) : ∀ t : Fin (cfg0 a).N, ((cfg0 a).win 19).flush t = true :=
  (fun t => (Pipeline.Window.flushOf_reads cc0_transform_19 reads0_19 hreads0_19 0 (by decide) (by decide) (Pipeline.Window.sep_of_coord cc0_transform_19 0 0 (fun _ => rfl) (by decide)) (P := 1) (m := 0) (by decide) rfl t).mpr (Nat.mod_one _) : ∀ t : Fin grid0.N, Pipeline.Window.flushOf grid0 true cc0_transform_19 t = true)
/-- Window 20 (result 5 (%134#5)) is written back at every point, at any contents of the tables (its index map reads none). -/
theorem flush0_20 (a : (pcfg0 (F := F)).Adm) : ∀ t : Fin (cfg0 a).N, ((cfg0 a).win 20).flush t = true :=
  (fun t => (Pipeline.Window.flushOf_reads cc0_transform_20 reads0_20 hreads0_20 0 (by decide) (by decide) (Pipeline.Window.sep_of_coord cc0_transform_20 0 0 (fun _ => rfl) (by decide)) (P := 1) (m := 0) (by decide) rfl t).mpr (Nat.mod_one _) : ∀ t : Fin grid0.N, Pipeline.Window.flushOf grid0 true cc0_transform_20 t = true)
/-- Window 21 (result 6 (%134#6)) is written back at every point, at any contents of the tables (its index map reads none). -/
theorem flush0_21 (a : (pcfg0 (F := F)).Adm) : ∀ t : Fin (cfg0 a).N, ((cfg0 a).win 21).flush t = true :=
  (fun t => (Pipeline.Window.flushOf_reads cc0_transform_21 reads0_21 hreads0_21 0 (by decide) (by decide) (Pipeline.Window.sep_of_coord cc0_transform_21 0 0 (fun _ => rfl) (by decide)) (P := 1) (m := 0) (by decide) rfl t).mpr (Nat.mod_one _) : ∀ t : Fin grid0.N, Pipeline.Window.flushOf grid0 true cc0_transform_21 t = true)
/-- Window 22 (result 7 (%134#7)) is written back at every point, at any contents of the tables (its index map reads none). -/
theorem flush0_22 (a : (pcfg0 (F := F)).Adm) : ∀ t : Fin (cfg0 a).N, ((cfg0 a).win 22).flush t = true :=
  (fun t => (Pipeline.Window.flushOf_reads cc0_transform_22 reads0_22 hreads0_22 0 (by decide) (by decide) (Pipeline.Window.sep_of_coord cc0_transform_22 0 0 (fun _ => rfl) (by decide)) (P := 1) (m := 0) (by decide) rfl t).mpr (Nat.mod_one _) : ∀ t : Fin grid0.N, Pipeline.Window.flushOf grid0 true cc0_transform_22 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)
abbrev st0_17 (a : (pcfg0 (F := F)).Adm) (t : Fin (cfg0 a).N) := ((cfg0 a).win 17).stage ((cfg0 a).slots t 17)
abbrev st0_18 (a : (pcfg0 (F := F)).Adm) (t : Fin (cfg0 a).N) := ((cfg0 a).win 18).stage ((cfg0 a).slots t 18)
abbrev st0_19 (a : (pcfg0 (F := F)).Adm) (t : Fin (cfg0 a).N) := ((cfg0 a).win 19).stage ((cfg0 a).slots t 19)
abbrev st0_20 (a : (pcfg0 (F := F)).Adm) (t : Fin (cfg0 a).N) := ((cfg0 a).win 20).stage ((cfg0 a).slots t 20)
abbrev st0_21 (a : (pcfg0 (F := F)).Adm) (t : Fin (cfg0 a).N) := ((cfg0 a).win 21).stage ((cfg0 a).slots t 21)
abbrev st0_22 (a : (pcfg0 (F := F)).Adm) (t : Fin (cfg0 a).N) := ((cfg0 a).win 22).stage ((cfg0 a).slots t 22)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_din_attention (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (spec0_20.stage ((cfg0 a).slots t 20)) (hstage0_20 (((cfg0 a).slots t 20).cast nbuf0_20)) (spec0_21.stage ((cfg0 a).slots t 21)) (hstage0_21 (((cfg0 a).slots t 21).cast nbuf0_21)) (spec0_22.stage ((cfg0 a).slots t 22)) (hstage0_22 (((cfg0 a).slots t 22).cast nbuf0_22)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)

end Cert.KernelIdeal.Gen

end

end
-- ==== Proof.KernelIdeal.Runs.lean ====
/- What the runs of the kernel's body share: the launch, the memory map, the tables, the memrefs of a grid point. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg24`: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg25`: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg26`: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S48 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1620000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c),
      ((h c).2 main_arg13 (by decide : main_arg13 ∈ Pipeline.restRefs sig spec0)).trans (V_main_arg13 m c),
      ((h c).2 main_arg14 (by decide : main_arg14 ∈ Pipeline.restRefs sig spec0)).trans (V_main_arg14 m c),
      ((h c).2 main_arg15 (by decide : main_arg15 ∈ Pipeline.restRefs sig spec0)).trans (V_main_arg15 m c),
      ((h c).2 main_arg16 (by decide : main_arg16 ∈ Pipeline.restRefs sig spec0)).trans (V_main_arg16 m c),
      ((h c).2 main_arg17 (by decide : main_arg17 ∈ Pipeline.restRefs sig spec0)).trans (V_main_arg17 m c),
      ((h c).2 main_arg18 (by decide : main_arg18 ∈ Pipeline.restRefs sig spec0)).trans (V_main_arg18 m c),
      ((h c).2 main_arg19 (by decide : main_arg19 ∈ Pipeline.restRefs sig spec0)).trans (V_main_arg19 m c),
      ((h c).2 main_arg20 (by decide : main_arg20 ∈ Pipeline.restRefs sig spec0)).trans (V_main_arg20 m c),
      ((h c).2 main_arg21 (by decide : main_arg21 ∈ Pipeline.restRefs sig spec0)).trans (V_main_arg21 m c),
      ((h c).2 main_arg22 (by decide : main_arg22 ∈ Pipeline.restRefs sig spec0)).trans (V_main_arg22 m c),
      ((h c).2 main_arg23 (by decide : main_arg23 ∈ Pipeline.restRefs sig spec0)).trans (V_main_arg23 m c),
      ((h c).2 main_arg24 (by decide : main_arg24 ∈ Pipeline.restRefs sig spec0)).trans (V_main_arg24 m c),
      ((h c).2 main_arg25 (by decide : main_arg25 ∈ Pipeline.restRefs sig spec0)).trans (V_main_arg25 m c),
      ((h c).2 main_arg26 (by decide : main_arg26 ∈ Pipeline.restRefs sig spec0)).trans (V_main_arg26 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x64x512 .i8 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x64x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S80x64x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S64x80x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S160x64 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S160x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S4x160x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S256x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S8x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S40x96 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S5x40x128 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S200x192 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S4x200x128 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .smem S2 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x1x256 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x256x512 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x64x80x256 .fp8e4m3 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x80x256 .f32 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S1x64x256 .fp8e4m3 := spec0_19.stage ((cfgM m hO).slots t 19)
abbrev hs0_19 (hO : Ok m) (t : Fin (cfgM m hO).N) : (ms0_19 m hO t).IsWhole := hstage0_19 (((cfgM m hO).slots t 19).cast nbuf0_19)
abbrev ms0_20 (hO : Ok m) (t : Fin (cfgM m hO).N) : Memref sig .tc .vmem S1x1x256 .f32 := spec0_20.stage ((cfgM m hO).slots t 20)
abbrev hs0_20 (hO : Ok m) (t : Fin (cfgM m hO).N) : (ms0_20 m hO t).IsWhole := hstage0_20 (((cfgM m hO).slots t 20).cast nbuf0_20)
abbrev ms0_21 (hO : Ok m) (t : Fin (cfgM m hO).N) : Memref sig .tc .vmem S1x192x256 .fp8e4m3 := spec0_21.stage ((cfgM m hO).slots t 21)
abbrev hs0_21 (hO : Ok m) (t : Fin (cfgM m hO).N) : (ms0_21 m hO t).IsWhole := hstage0_21 (((cfgM m hO).slots t 21).cast nbuf0_21)
abbrev ms0_22 (hO : Ok m) (t : Fin (cfgM m hO).N) : Memref sig .tc .vmem S1x1x256 .f32 := spec0_22.stage ((cfgM m hO).slots t 22)
abbrev hs0_22 (hO : Ok m) (t : Fin (cfgM m hO).N) : (ms0_22 m hO t).IsWhole := hstage0_22 (((cfgM m hO).slots t 22).cast nbuf0_22)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S512x256 .i32 := Memref.whole cc0_scratch0
abbrev scM0_1 : Memref sig .tc .vmem S512x128 .f32 := Memref.whole cc0_scratch1
abbrev scM0_2 : Memref sig .tc .vmem S2048x128 .f32 := Memref.whole cc0_scratch2
abbrev scM0_3 : Memref sig .tc .vmem S64x256 .f32 := Memref.whole cc0_scratch3
abbrev scM0_4 : Memref sig .tc .vmem S160x256 .f32 := Memref.whole cc0_scratch4
abbrev scM0_5 : Memref sig .tc .vmem S160x256 .f32 := Memref.whole cc0_scratch5
abbrev scM0_6 : Memref sig .tc .vmem S160x256 .f32 := Memref.whole cc0_scratch6
abbrev scM0_7 : Memref sig .tc .vmem S20x256x256 .fp8e4m3 := Memref.whole cc0_scratch7
abbrev scM0_8 : Memref sig .tc .vmem S65x20x4x128 .fp8e4m3 := Memref.whole cc0_scratch8
abbrev scM0_9 : Memref sig .tc .vmem S2x256x128 .f32 := Memref.whole cc0_scratch9
abbrev scM0_10 : Memref sig .tc .vmem S512x256 .f32 := Memref.whole cc0_scratch10
abbrev scM0_11 : Memref sig .tc .vmem S512x256 .bf16 := Memref.whole cc0_scratch11

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, owns_whole]; try rfl

end Cert.KernelIdeal.Gen

end

end
-- ==== Proof.KernelIdeal.Inv.lean ====
/- The INVARIANTS of the kernel's two outer loops over blocks of 32 history slots. The first loop runs once for each
   block that holds a valid slot; nothing is said of what its scratch holds, only that the buffers it reads stay as they
   were. The second loop, the remainder of the first, never runs. -/
module

public import proofs.«01_k».proof.Proof.KernelIdeal.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
set_option maxHeartbeats 4000000 in set_option sl_exec.stridedRows true in
/-- The loop over the blocks with valid slots: one trip keeps the buffers it reads, and leaves the scratch it writes at
    some contents. -/
@[sl_loop] def loopInv_k0_t3 (𝒱 : Variants) (c : Dev nD) (bd : Option 𝒱.V) (E : Set ℕ) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (arg0 : BitVec 32) (v1 : Elt F .i32) (k0_hw1 : k0_chk1 v1) (v3 : BitVec 32) (v6 : FVec F S64x512 .fp8e4m3)  (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg16 : BufTy.Contents (Elt F) arg16.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg0 v1 k0_hw1 v3 v6 where
  inv _ _ := iprop((arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg16.view.loc (c : Thread nD τ) ↦[arg16.view.set]{fullShare} X_arg16) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg29.view.loc (c : Thread nD τ) ↦[arg29.view.set]{fullShare} X_arg29) ∗ (arg30.view.loc (c : Thread nD τ) ↦[arg30.view.set]{fullShare} X_arg30) ∗ (arg31.view.loc (c : Thread nD τ) ↦[arg31.view.set]{fullShare} X_arg31) ∗ (arg32.view.loc (c : Thread nD τ) ↦[arg32.view.set]{fullShare} X_arg32) ∗ (∃ f, (arg33.view.loc (c : Thread nD τ) ↦[arg33.view.set]{fullShare} f)) ∗ (∃ f, (arg34.view.loc (c : Thread nD τ) ↦[arg34.view.set]{fullShare} f)) ∗ (∃ f, (arg35.view.loc (c : Thread nD τ) ↦[arg35.view.set]{fullShare} f)) ∗ (∃ f, (arg36.view.loc (c : Thread nD τ) ↦[arg36.view.set]{fullShare} f)))
  step k acc := by
    unfold k0_t3_body
    iintro ⟨Harg9, Harg10, Harg11, Harg12, Harg13, Harg16, Harg25, Harg26, Harg27, Harg29, Harg30, Harg31, Harg32, ⟨%f_arg33, Harg33⟩, ⟨%f_arg34, Harg34⟩, ⟨%f_arg35, Harg35⟩, ⟨%f_arg36, Harg36⟩⟩
    sl_exec_parts
    sl_step
    isplitl [Harg9]; · iexact Harg9
    isplitl [Harg10]; · iexact Harg10
    isplitl [Harg11]; · iexact Harg11
    isplitl [Harg12]; · iexact Harg12
    isplitl [Harg13]; · iexact Harg13
    isplitl [Harg16]; · iexact Harg16
    isplitl [Harg25]; · iexact Harg25
    isplitl [Harg26]; · iexact Harg26
    isplitl [Harg27]; · iexact Harg27
    isplitl [Harg29]; · iexact Harg29
    isplitl [Harg30]; · iexact Harg30
    isplitl [Harg31]; · iexact Harg31
    isplitl [Harg32]; · iexact Harg32
    isplitl [Harg33]; · iexists _; iexact Harg33
    isplitl [Harg34]; · iexists _; iexact Harg34
    isplitl [Harg35]; · iexists _; iexact Harg35
    iexists _; iexact Harg36

/-- The remainder loop runs from the first loop's bound in steps of 1 to the same bound: it has no trip. -/
theorem trips0_k0_t4 (v1 : BitVec 32) : (k0_t4_loop v1).trips = 0 := by
  have h1 : ∀ x : BitVec 32, Scalar.muli (Scalar.divsi x 1#32) 1#32 = x := by
    intro x; simp [Scalar.muli, Scalar.divsi, IntOp.muli, IntOp.divsi, IntOp.SDivCorner]
  simp only [k0_t4_loop, Scf.Loop.trips, h1]
  simp [Scf.trips]

set_option warn.classDefReducibility false in
/-- The remainder loop, which never runs: it keeps everything. -/
@[sl_loop] def loopInv_k0_t4 (𝒱 : Variants) (c : Dev nD) (bd : Option 𝒱.V) (E : Set ℕ) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (arg0 : BitVec 32) (v1 : Elt F .i32) (k0_hw1 : k0_chk1 v1) (v3 : BitVec 32) (v6 : FVec F S64x512 .fp8e4m3) (v246 : BitVec 32)  (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg16 : BufTy.Contents (Elt F) arg16.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg0 v1 k0_hw1 v3 v6 v246 where
  inv _ _ := iprop((arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg16.view.loc (c : Thread nD τ) ↦[arg16.view.set]{fullShare} X_arg16) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg29.view.loc (c : Thread nD τ) ↦[arg29.view.set]{fullShare} X_arg29) ∗ (arg30.view.loc (c : Thread nD τ) ↦[arg30.view.set]{fullShare} X_arg30) ∗ (arg31.view.loc (c : Thread nD τ) ↦[arg31.view.set]{fullShare} X_arg31) ∗ (arg32.view.loc (c : Thread nD τ) ↦[arg32.view.set]{fullShare} X_arg32) ∗ (∃ f, (arg33.view.loc (c : Thread nD τ) ↦[arg33.view.set]{fullShare} f)) ∗ (∃ f, (arg34.view.loc (c : Thread nD τ) ↦[arg34.view.set]{fullShare} f)) ∗ (∃ f, (arg35.view.loc (c : Thread nD τ) ↦[arg35.view.set]{fullShare} f)) ∗ (∃ f, (arg36.view.loc (c : Thread nD τ) ↦[arg36.view.set]{fullShare} f)))
  step k acc := (k.cast (trips0_k0_t4 v1)).elim0

end Cert.KernelIdeal.Gen

end

end
-- ==== Proof.KernelIdeal.Len.lean ====
/- What the body assumes of a user's history length holds of every length of at most 512: the outer loop has at most 16
   trips, each block of 32 slots lies inside its buffers, and the remainder loop has no trip. -/
module

public import proofs.«01_k».proof.Proof.KernelIdeal.Inv

@[expose] public section

noncomputable section

namespace Cert.KernelIdeal.Gen

open Idealize.ShloMosaic Idealize.ShloMosaic.TcCoe

/-- The outer loop's bound is the number of blocks, `(length + 31) / 32`. -/
theorem ub_k0_t3 (v : BitVec 32) : (k0_t3_loop v).ub = (v + 31#32).sdiv 32#32 := by
  simp [k0_t3_loop, Scalar.muli, Scalar.divsi, Scalar.addi, Scalar.subi, IntOp.muli, IntOp.divsi, IntOp.addi, IntOp.subi,
    IntOp.SDivCorner]

/-- Its trips are that number. -/
theorem trips_k0_t3 (v : BitVec 32) : (k0_t3_loop v).trips = ((v + 31#32).sdiv 32#32).toInt.toNat := by
  have h := ub_k0_t3 v
  show Scf.trips (k0_t3_loop v).lb (k0_t3_loop v).ub (k0_t3_loop v).st = _
  rw [h]
  simp [k0_t3_loop, Scf.trips]

/-- A length of at most 512 has at most 16 blocks. -/
theorem trips_le_k0_t3 (v : BitVec 32) (h : v.toInt ≤ 512) : (k0_t3_loop v).trips ≤ 16 := by
  rw [trips_k0_t3, BitVec.toInt_sdiv_of_ne_or_ne _ _ (.inr (by decide)), BitVec.toInt_add]
  have h31 : (31#32 : BitVec 32).toInt = 31 := by decide
  have h32 : (32#32 : BitVec 32).toInt = 32 := by decide
  rw [h31, h32]
  have hb : (v.toInt + 31).bmod (2 ^ 32) ≤ 543 := by
    have hl := v.le_toInt
    simp only [Nat.reduceSub, Int.bmod] at *
    omega
  generalize (v.toInt + 31).bmod (2 ^ 32) = x at *
  rcases Int.le_total 0 x with hx | hx
  · rw [Int.tdiv_eq_ediv_of_nonneg hx]; omega
  · have : x.tdiv 32 ≤ 0 := by
      have h := Int.tdiv_nonneg (a := -x) (b := 32) (by omega) (by decide)
      rw [Int.neg_tdiv] at h; omega
    omega

/-- A block of 32 rows that starts at a multiple of 32 is made of whole packed rows. -/
theorem packed_of_dvd (o : Fin 2 → Nat) (hinb : ∀ a, o a + S32x128.size a ≤ S512x256.size a) (h : 32 ∣ o 0) :
    (Rect.unit (s := S512x256) o S32x128.size hinb).PackedRows (EltTy.packing .bf16) :=
  have h2 : 2 ≤ S512x256.rank := by decide
  .inr ⟨h2, rfl, .inl ⟨Nat.dvd_trans (by decide : EltTy.packing .bf16 ∣ 32) h, by
    show EltTy.packing .bf16 ∣ S32x128.size 0
    decide⟩⟩

/-- The body's assumption holds of every length of at most 512. -/
theorem chk1_of_le (v : BitVec 32) (h : v.toInt ≤ 512) : k0_chk1 v := by
  have h3 := trips_le_k0_t3 v h
  have h4 := trips0_k0_t4 v
  have e4 : ∀ t : Fin (k0_t4_loop v).trips, False := fun t => (t.cast h4).elim0
  have hm : ∀ t : Fin (k0_t3_loop v).trips, 32 ∣ (k0_mult3 v t).toNat := by
    intro t
    obtain ⟨n, hn⟩ := t
    simp only [k0_mult3]
    have hn' : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by omega
    clear hn h3 h4 e4 h
    rcases hn' with rfl | rfl | rfl | rfl | rfl | rfl | rfl | rfl | rfl | rfl | rfl | rfl | rfl | rfl | rfl | rfl <;> decide
  unfold k0_chk1
  refine ⟨⟨(by decide : (0 : Int) < (1#32 : BitVec 32).toInt), ?_⟩, fun t => ?_, fun t => ?_, fun t => ?_, fun t => ?_, fun t => ?_, fun t => ?_, fun t => ?_,
    fun t => ?_, fun t => ?_, fun t => ?_, ⟨(by decide : (0 : Int) < (1#32 : BitVec 32).toInt), ?_⟩, fun t => (e4 t).elim, fun t => (e4 t).elim, fun t => (e4 t).elim,
    fun t => (e4 t).elim, fun t => (e4 t).elim, fun t => (e4 t).elim, fun t => (e4 t).elim, fun t => (e4 t).elim,
    fun t => (e4 t).elim, fun t => (e4 t).elim⟩
  · show (0#32 : BitVec 32).toInt + ((k0_t3_loop v).trips : Int) * (1#32 : BitVec 32).toInt < _
    have h0 : (0#32 : BitVec 32).toInt = 0 := by decide
    have h1 : (1#32 : BitVec 32).toInt = 1 := by decide
    rw [h0, h1]; omega
  all_goals first
    | (obtain ⟨n, hn⟩ := t
       simp only [k0_mult1, k0_mult2, k0_mult3, k0_off11, k0_off12, k0_off13, k0_off14, k0_off15]
       have hn' : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by omega
       clear hn hm h3 h4 e4 h
       rcases hn' with rfl | rfl | rfl | rfl | rfl | rfl | rfl | rfl | rfl | rfl | rfl | rfl | rfl | rfl | rfl | rfl <;> first | decide | (intro hinb; decide))
    | exact fun hinb => packed_of_dvd _ hinb (hm t)
    | skip
  show (k0_t4_loop v).lb.toInt + ((k0_t4_loop v).trips : Int) * (1#32 : BitVec 32).toInt < _
  rw [h4]
  have := (k0_t4_loop v).lb.toInt_lt
  simpa using this

variable {F : FTy → Type} [FloatOps F]

/-- If every user's history length is at most 512, the body's assumption holds at every grid point. -/
theorem hyps_of_len (m : (ℓ : Loc nD τ sig) → Buf (Elt F) ℓ) (hO : Ok m)
    (h : ∀ (c : Dev nD) (y : S48.Idx), (m ((c : Thread nD τ).loc main_arg2) y : BitVec 32).toInt ≤ 512) : Hyps m hO := by
  intro c t
  refine chk1_of_le _ ?_
  have e : tbl m 0 = m (((0 : Dev nD) : Thread nD τ).loc main_arg2) := V_main_arg2 m 0
  rw [e]
  exact h 0 _

end Cert.KernelIdeal.Gen

end

end
-- ==== Proof.KernelIdeal.Blocks.lean ====
module

public import proofs.«01_k».proof.Proof.KernelIdeal.Runs
public import Idealize.ShloMosaic.Lib.Pipeline.ValueKit
public import Idealize.ShloMosaic.Lib.StableHlo.ReadAt

@[expose] public section

noncomputable section

namespace Cert.KernelIdeal.Gen

open Cert.KernelIdeal Idealize.ShloMosaic Idealize.ShloMosaic.TcCoe Idealize.SL.Sem

variable (m : (ℓ : Loc nD τ sig) → Buf (Elt Ideal) ℓ) (hO : Ok m)

theorem blk3 (c : Dev nD) (t : Fin (cfgM m hO).N) : (iblk m hO c 3 t : Vec Ideal S80x64x128 .f32) = (V m c main_v98 : Vec Ideal S80x64x128 .f32) := by
  unfold iblk
  refine funext fun y => congrArg (V m c main_v98) (funext fun a => Fin.ext ?_)
  match a with
  | ⟨0, _⟩ => exact Pipeline.Window.rect_emb_val_of_index_zero _ t _ rfl _
  | ⟨1, _⟩ => exact Pipeline.Window.rect_emb_val_of_index_zero _ t _ rfl _
  | ⟨2, _⟩ => exact Pipeline.Window.rect_emb_val_of_index_zero _ t _ rfl _

theorem blk4 (c : Dev nD) (t : Fin (cfgM m hO).N) : (iblk m hO c 4 t : Vec Ideal S64x80x128 .f32) = (V m c main_v100 : Vec Ideal S64x80x128 .f32) := by
  unfold iblk
  refine funext fun y => congrArg (V m c main_v100) (funext fun a => Fin.ext ?_)
  match a with
  | ⟨0, _⟩ => exact Pipeline.Window.rect_emb_val_of_index_zero _ t _ rfl _
  | ⟨1, _⟩ => exact Pipeline.Window.rect_emb_val_of_index_zero _ t _ rfl _
  | ⟨2, _⟩ => exact Pipeline.Window.rect_emb_val_of_index_zero _ t _ rfl _

theorem blk5 (c : Dev nD) (t : Fin (cfgM m hO).N) : (iblk m hO c 5 t : Vec Ideal S160x64 .f32) = (V m c main_v95 : Vec Ideal S160x64 .f32) := by
  unfold iblk
  refine funext fun y => congrArg (V m c main_v95) (funext fun a => Fin.ext ?_)
  match a with
  | ⟨0, _⟩ => exact Pipeline.Window.rect_emb_val_of_index_zero _ t _ rfl _
  | ⟨1, _⟩ => exact Pipeline.Window.rect_emb_val_of_index_zero _ t _ rfl _

theorem blk6 (c : Dev nD) (t : Fin (cfgM m hO).N) : (iblk m hO c 6 t : Vec Ideal S160x128 .f32) = (V m c main_v91 : Vec Ideal S160x128 .f32) := by
  unfold iblk
  refine funext fun y => congrArg (V m c main_v91) (funext fun a => Fin.ext ?_)
  match a with
  | ⟨0, _⟩ => exact Pipeline.Window.rect_emb_val_of_index_zero _ t _ rfl _
  | ⟨1, _⟩ => exact Pipeline.Window.rect_emb_val_of_index_zero _ t _ rfl _

theorem blk7 (c : Dev nD) (t : Fin (cfgM m hO).N) : (iblk m hO c 7 t : Vec Ideal S4x160x128 .f32) = (V m c main_v60 : Vec Ideal S4x160x128 .f32) := by
  unfold iblk
  refine funext fun y => congrArg (V m c main_v60) (funext fun a => Fin.ext ?_)
  match a with
  | ⟨0, _⟩ => exact Pipeline.Window.rect_emb_val_of_index_zero _ t _ rfl _
  | ⟨1, _⟩ => exact Pipeline.Window.rect_emb_val_of_index_zero _ t _ rfl _
  | ⟨2, _⟩ => exact Pipeline.Window.rect_emb_val_of_index_zero _ t _ rfl _

theorem blk8 (c : Dev nD) (t : Fin (cfgM m hO).N) : (iblk m hO c 8 t : Vec Ideal S256x128 .fp8e4m3) = (V m c main_v106 : Vec Ideal S256x128 .fp8e4m3) := by
  unfold iblk
  refine funext fun y => congrArg (V m c main_v106) (funext fun a => Fin.ext ?_)
  match a with
  | ⟨0, _⟩ => exact Pipeline.Window.rect_emb_val_of_index_zero _ t _ rfl _
  | ⟨1, _⟩ => exact Pipeline.Window.rect_emb_val_of_index_zero _ t _ rfl _

theorem blk9 (c : Dev nD) (t : Fin (cfgM m hO).N) : (iblk m hO c 9 t : Vec Ideal S8x128 .f32) = (V m c main_v111 : Vec Ideal S8x128 .f32) := by
  unfold iblk
  refine funext fun y => congrArg (V m c main_v111) (funext fun a => Fin.ext ?_)
  match a with
  | ⟨0, _⟩ => exact Pipeline.Window.rect_emb_val_of_index_zero _ t _ rfl _
  | ⟨1, _⟩ => exact Pipeline.Window.rect_emb_val_of_index_zero _ t _ rfl _

theorem blk10 (c : Dev nD) (t : Fin (cfgM m hO).N) : (iblk m hO c 10 t : Vec Ideal S40x96 .fp8e4m3) = (V m c main_v115 : Vec Ideal S40x96 .fp8e4m3) := by
  unfold iblk
  refine funext fun y => congrArg (V m c main_v115) (funext fun a => Fin.ext ?_)
  match a with
  | ⟨0, _⟩ => exact Pipeline.Window.rect_emb_val_of_index_zero _ t _ rfl _
  | ⟨1, _⟩ => exact Pipeline.Window.rect_emb_val_of_index_zero _ t _ rfl _

theorem blk11 (c : Dev nD) (t : Fin (cfgM m hO).N) : (iblk m hO c 11 t : Vec Ideal S5x40x128 .f32) = (V m c main_v86 : Vec Ideal S5x40x128 .f32) := by
  unfold iblk
  refine funext fun y => congrArg (V m c main_v86) (funext fun a => Fin.ext ?_)
  match a with
  | ⟨0, _⟩ => exact Pipeline.Window.rect_emb_val_of_index_zero _ t _ rfl _
  | ⟨1, _⟩ => exact Pipeline.Window.rect_emb_val_of_index_zero _ t _ rfl _
  | ⟨2, _⟩ => exact Pipeline.Window.rect_emb_val_of_index_zero _ t _ rfl _

theorem blk14 (c : Dev nD) (t : Fin (cfgM m hO).N) : (iblk m hO c 14 t : Vec Ideal S2 .f32) = (V m c main_v130 : Vec Ideal S2 .f32) := by
  unfold iblk
  refine funext fun y => congrArg (V m c main_v130) (funext fun a => Fin.ext ?_)
  match a with
  | ⟨0, _⟩ => exact Pipeline.Window.rect_emb_val_of_index_zero _ t _ rfl _

theorem tf (t : Fin 48) : cc0_transform_0 (grid0.coords t) 0 = t.val ∧ cc0_transform_1 (grid0.coords t) 0 = t.val ∧ cc0_transform_2 (grid0.coords t) 0 = t.val
    ∧ cc0_transform_16 (grid0.coords t) 0 = t.val ∧ cc0_transform_17 (grid0.coords t) 0 = t.val ∧ cc0_transform_18 (grid0.coords t) 0 = t.val := by
  revert t; decide +kernel

theorem blk0 (c : Dev nD) (t : Fin (cfgM m hO).N) (u : Fin 48) (hu : u.val = t.val) (r : Fin 64) (l : Fin 512) :
    (iblk m hO c 0 t : Vec Ideal S1x64x512 .i8) (ix3 (n0 := 1) 0 r l) = (V m c main_v131 : Vec Ideal S48x64x512 .i8) (ix3 u r l) := by
  unfold iblk
  refine congrArg (V m c main_v131) (funext fun a => Fin.ext ?_)
  match a with
  | ⟨0, _⟩ =>
    refine (Pipeline.Window.rect_emb_val _ t _ _).trans ?_
    show cc0_transform_0 (grid0.coords t) 0 * 1 + 0 = u.val
    rw [hu, Nat.mul_one, Nat.add_zero]
    exact (tf t).1
  | ⟨1, _⟩ => exact Pipeline.Window.rect_emb_val_of_index_zero _ t _ rfl _
  | ⟨2, _⟩ => exact Pipeline.Window.rect_emb_val_of_index_zero _ t _ rfl _

theorem blk1 (c : Dev nD) (t : Fin (cfgM m hO).N) (u : Fin 48) (hu : u.val = t.val) (r : Fin 1) (l : Fin 512) :
    (iblk m hO c 1 t : Vec Ideal S1x1x512 .f32) (ix3 (n0 := 1) 0 r l) = (V m c main_v132 : Vec Ideal S48x1x512 .f32) (ix3 u r l) := by
  unfold iblk
  refine congrArg (V m c main_v132) (funext fun a => Fin.ext ?_)
  match a with
  | ⟨0, _⟩ =>
    refine (Pipeline.Window.rect_emb_val _ t _ _).trans ?_
    show cc0_transform_1 (grid0.coords t) 0 * 1 + 0 = u.val
    rw [hu, Nat.mul_one, Nat.add_zero]
    exact (tf t).2.1
  | ⟨1, _⟩ => exact Pipeline.Window.rect_emb_val_of_index_zero _ t _ rfl _
  | ⟨2, _⟩ => exact Pipeline.Window.rect_emb_val_of_index_zero _ t _ rfl _

theorem blk2 (c : Dev nD) (t : Fin (cfgM m hO).N) (u : Fin 48) (hu : u.val = t.val) (r : Fin 64) (l : Fin 256) :
    (iblk m hO c 2 t : Vec Ideal S1x64x256 .bf16) (ix3 (n0 := 1) 0 r l) = (V m c main_v133 : Vec Ideal S48x64x256 .bf16) (ix3 u r l) := by
  unfold iblk
  refine congrArg (V m c main_v133) (funext fun a => Fin.ext ?_)
  match a with
  | ⟨0, _⟩ =>
    refine (Pipeline.Window.rect_emb_val _ t _ _).trans ?_
    show cc0_transform_2 (grid0.coords t) 0 * 1 + 0 = u.val
    rw [hu, Nat.mul_one, Nat.add_zero]
    exact (tf t).2.2.1
  | ⟨1, _⟩ => exact Pipeline.Window.rect_emb_val_of_index_zero _ t _ rfl _
  | ⟨2, _⟩ => exact Pipeline.Window.rect_emb_val_of_index_zero _ t _ rfl _

end Cert.KernelIdeal.Gen
-- ==== Proof.KernelIdeal.Trip.lean ====
/- ONE TRIP of the kernel's loop over blocks of 32 history slots, run once at symbolic contents: which pieces it writes into
   the two arrays of weights (scratch 35 and 36), as named values over what its input buffers hold. -/
module

public import proofs.«01_k».proof.Proof.KernelIdeal.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in set_option sl_exec.stridedRows true in set_option sl_exec.resultNames true in
/-- One trip: it keeps the buffers it reads, leaves the scratch of the h1 codes and of the partial sums at some contents, and
    writes its pieces into the two arrays of weights. -/
noncomputable def tripRun (𝒱 : Variants) (c : Dev nD) (bd : Option 𝒱.V) (E : Set ℕ) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (arg0 : BitVec 32) (v1 : Elt F .i32) (k0_hw1 : k0_chk1 v1) (v3 : BitVec 32) (v6 : FVec F S64x512 .fp8e4m3)  (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg16 : BufTy.Contents (Elt F) arg16.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) (k : Fin (k0_t3_loop v1).trips) (f_arg33 : BufTy.Contents (Elt F) arg33.view.ty) :
    Σ' (L35 : List (View.Piece (Elt F) S512x256 .f32)), { L36 : List (View.Piece (Elt F) S512x256 .bf16) //
      ∀ (f_arg34 : BufTy.Contents (Elt F) arg34.view.ty) (f_arg35 : BufTy.Contents (Elt F) arg35.view.ty) (f_arg36 : BufTy.Contents (Elt F) arg36.view.ty),
      (iprop((arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg16.view.loc (c : Thread nD τ) ↦[arg16.view.set]{fullShare} X_arg16) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg29.view.loc (c : Thread nD τ) ↦[arg29.view.set]{fullShare} X_arg29) ∗ (arg30.view.loc (c : Thread nD τ) ↦[arg30.view.set]{fullShare} X_arg30) ∗ (arg31.view.loc (c : Thread nD τ) ↦[arg31.view.set]{fullShare} X_arg31) ∗ (arg32.view.loc (c : Thread nD τ) ↦[arg32.view.set]{fullShare} X_arg32) ∗ (arg33.view.loc (c : Thread nD τ) ↦[arg33.view.set]{fullShare} f_arg33) ∗ (arg34.view.loc (c : Thread nD τ) ↦[arg34.view.set]{fullShare} f_arg34) ∗ (arg35.view.loc (c : Thread nD τ) ↦[arg35.view.set]{fullShare} f_arg35) ∗ (arg36.view.loc (c : Thread nD τ) ↦[arg36.view.set]{fullShare} f_arg36)) : sProp 𝕄)
        ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg0 v1 k0_hw1 v3 v6 k ()) (fun _ =>
          iprop((arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg16.view.loc (c : Thread nD τ) ↦[arg16.view.set]{fullShare} X_arg16) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg29.view.loc (c : Thread nD τ) ↦[arg29.view.set]{fullShare} X_arg29) ∗ (arg30.view.loc (c : Thread nD τ) ↦[arg30.view.set]{fullShare} X_arg30) ∗ (arg31.view.loc (c : Thread nD τ) ↦[arg31.view.set]{fullShare} X_arg31) ∗ (arg32.view.loc (c : Thread nD τ) ↦[arg32.view.set]{fullShare} X_arg32) ∗ (∃ f, (arg33.view.loc (c : Thread nD τ) ↦[arg33.view.set]{fullShare} f)) ∗ (∃ f, (arg34.view.loc (c : Thread nD τ) ↦[arg34.view.set]{fullShare} f)) ∗ (arg35.view.loc (c : Thread nD τ) ↦[arg35.view.set]{fullShare} (arg35.view.writes (Elt F) f_arg35 L35)) ∗ (arg36.view.loc (c : Thread nD τ) ↦[arg36.view.set]{fullShare} (arg36.view.writes (Elt F) f_arg36 L36)))) } := by
  refine ⟨?_, ?_, fun f_arg34 f_arg35 f_arg36 => ?run⟩
  case run =>
    unfold k0_t3_body
    iintro ⟨Harg9, Harg10, Harg11, Harg12, Harg13, Harg16, Harg25, Harg26, Harg27, Harg29, Harg30, Harg31, Harg32, Harg33, Harg34, Harg35, Harg36⟩
    sl_exec_parts
    sl_step
    isplitl [Harg9]; · iexact Harg9
    isplitl [Harg10]; · iexact Harg10
    isplitl [Harg11]; · iexact Harg11
    isplitl [Harg12]; · iexact Harg12
    isplitl [Harg13]; · iexact Harg13
    isplitl [Harg16]; · iexact Harg16
    isplitl [Harg25]; · iexact Harg25
    isplitl [Harg26]; · iexact Harg26
    isplitl [Harg27]; · iexact Harg27
    isplitl [Harg29]; · iexact Harg29
    isplitl [Harg30]; · iexact Harg30
    isplitl [Harg31]; · iexact Harg31
    isplitl [Harg32]; · iexact Harg32
    isplitl [Harg33]; · iexists _; iexact Harg33
    isplitl [Harg34]; · iexists _; iexact Harg34
    isplitl [Harg35]; · iexact Harg35
    iexact Harg36

end Cert.KernelIdeal.Gen
end
end
-- ==== Proof.KernelIdeal.BlockForms.lean ====
/- The steps of one trip of the loop over blocks of 32 history slots, each written once: the h1 codes of one group of four
   hidden features (over the group's rows of the constants), and the partial sums over features of one slot. -/
module

public import proofs.«01_k».proof.Proof.KernelIdeal.Runs
public import Idealize.ShloMosaic.Lib.Pointwise
public import Idealize.ShloMosaic.Lib.Pipeline.ValueKit
public import Idealize.ShloMosaic.Lib.Pipeline.ReadBack

@[expose] public section

noncomputable section

namespace Cert.KernelIdeal.Gen

open Idealize.ShloMosaic Idealize.ShloMosaic.TcCoe Idealize.ShloMosaic.Tactic

variable {F : FTy → Type} [FloatOps F]

/-- Eight rows, repeated for sixteen groups of eight. -/
def rows16 (x : FVec F S8x256 .f32) : FVec F S128x256 .f32 :=
  concatenate S128x256 0 [⟨S8x256, x⟩, ⟨S8x256, x⟩, ⟨S8x256, x⟩, ⟨S8x256, x⟩, ⟨S8x256, x⟩, ⟨S8x256, x⟩, ⟨S8x256, x⟩, ⟨S8x256, x⟩, ⟨S8x256, x⟩, ⟨S8x256, x⟩, ⟨S8x256, x⟩, ⟨S8x256, x⟩, ⟨S8x256, x⟩, ⟨S8x256, x⟩, ⟨S8x256, x⟩, ⟨S8x256, x⟩] concatenates_S8x256_S8x256_S8x256_S8x256_S8x256_S8x256_S8x256_S8x256_S8x256_S8x256_S8x256_S8x256_S8x256_S8x256_S8x256_S8x256_S128x256_d0

/-- A plane of constants over 128 lanes, repeated to 256. -/
def lanes2 (x : Vec F S1x8x128 .f32) : FVec F S8x256 .f32 :=
  concatenate S8x256 1 [⟨S8x128, shapeCast S8x128 x shapeCasts_S1x8x128_S8x128⟩, ⟨S8x128, shapeCast S8x128 x shapeCasts_S1x8x128_S8x128⟩] concatenates_S8x128_S8x128_S8x256_d1

/-- One column of the history's part, over all candidates. -/
def hcol (ht : FVec F S128x128 .f32) (q : Nat) (hq : S128x128.Slices ![0, q] S128x1) : FVec F S128x256 .f32 :=
  broadcastTo S128x256 (shapeCast S128x1 (extractStridedSlice S128x1 ![0, q] ht hq) shapeCasts_S128x1_S128x1) broadcasts_S128x1_S128x256

/-- The pre-activation without the candidate's part. -/
def yStep (k4 : FVec F S128x256 .fp8e4m3) (ht : FVec F S128x128 .f32) (kr2 : FVec F S128x256 .f32) (mq : Vec F S1x256x256 .fp8e4m3)
    (pat : Vec F S8x256 .f32) (c0 : Vec F S1x8x128 .f32) (q : Nat) (hq : S128x128.Slices ![0, q] S128x1) : FVec F S128x256 .f32 :=
  addf (mulf (mulf (matmul dot_S128x256_S256x256_S128x256_1_0_0_1_n_n none k4 (shapeCast S256x256 mq shapeCasts_S1x256x256_S256x256) (constant S128x256 .f32 0x00000000#32)) (rows16 (mulf pat (lanes2 c0)))) kr2) (hcol ht q hq)

/-- The h1 codes of one group of features: rows (slot, feature in the group), one lane per candidate. -/
def hStep (k4 : FVec F S128x256 .fp8e4m3) (ht : FVec F S128x128 .f32) (kr2 : FVec F S128x256 .f32) (mq : Vec F S1x256x256 .fp8e4m3)
    (pat a2 a1 : Vec F S8x256 .f32) (c0 c2 c3 : Vec F S1x8x128 .f32) (q : Nat) (hq : S128x128.Slices ![0, q] S128x1) : FVec F S128x256 .fp8e4m3 :=
  truncf .fp8e4m3 (minimumf (broadcast S128x256 (Scalar.ofBits .f32 0x43E00000#32)) (maximumf (broadcast S128x256 (Scalar.ofBits .f32 0xC3E00000#32))
    (mulf (addf (yStep k4 ht kr2 mq pat c0 q hq) (rows16 a1))
      (addf (rows16 (lanes2 c2)) (mulf (rows16 (lanes2 c3)) (tanh (addf (yStep k4 ht kr2 mq pat c0 q hq) (rows16 a2)))))))) bitsLt_fp8e4m3_f32

/-- One half of the lanes of a group's codes, in the layout of the scratch they are stored to. -/
def hHalf (v : FVec F S128x256 .fp8e4m3) (o : Nat) (ho : S32x4x256.Slices ![0, 0, o] S32x4x128) : FVec F S32x1x4x128 .fp8e4m3 :=
  shapeCast S32x1x4x128 (extractStridedSlice S32x4x128 ![0, 0, o] (shapeCast S32x4x256 v shapeCasts_S128x256_S32x4x256) ho) shapeCasts_S32x4x128_S32x1x4x128

theorem inb_grp (q : Fin 20) : ∀ a, (![8 * q.val, 0] : Fin 2 → Nat) a + S8x256.size a ≤ S160x256.size a := by
  revert q; decide
theorem inb_grpC (p : Fin 4) (q : Fin 20) : ∀ a, (![p.val, 8 * q.val, 0] : Fin 3 → Nat) a + S1x8x128.size a ≤ S4x160x128.size a := by
  revert q p; decide
theorem inb_grpM (q : Fin 20) : ∀ a, (![q.val, 0, 0] : Fin 3 → Nat) a + S1x256x256.size a ≤ S20x256x256.size a := by
  revert q; decide
theorem slices_grp (q : Fin 20) : S128x128.Slices ![0, q.val] S128x1 := by
  revert q; decide

/-- Group `q`'s codes, its rows read out of the arrays of constants. -/
def hGrp (Y9 : Vec F S4x160x128 .f32) (Y29 Y30 Y31 : Vec F S160x256 .f32) (Y32 : Vec F S20x256x256 .fp8e4m3)
    (k4 : FVec F S128x256 .fp8e4m3) (ht : FVec F S128x128 .f32) (kr2 : FVec F S128x256 .f32) (q : Fin 20) : FVec F S128x256 .fp8e4m3 :=
  hStep k4 ht kr2 (fun x => Y32 ((Rect.unit (s := S20x256x256) ![q.val, 0, 0] S1x256x256.size (inb_grpM q)).toLoadRect.idx x))
    (fun x => Y31 ((Rect.unit (s := S160x256) ![8 * q.val, 0] S8x256.size (inb_grp q)).toLoadRect.idx x))
    (fun x => Y30 ((Rect.unit (s := S160x256) ![8 * q.val, 0] S8x256.size (inb_grp q)).toLoadRect.idx x))
    (fun x => Y29 ((Rect.unit (s := S160x256) ![8 * q.val, 0] S8x256.size (inb_grp q)).toLoadRect.idx x))
    (fun x => Y9 ((Rect.unit (s := S4x160x128) ![(0 : Fin 4).val, 8 * q.val, 0] S1x8x128.size (inb_grpC 0 q)).toLoadRect.idx x))
    (fun x => Y9 ((Rect.unit (s := S4x160x128) ![(2 : Fin 4).val, 8 * q.val, 0] S1x8x128.size (inb_grpC 2 q)).toLoadRect.idx x))
    (fun x => Y9 ((Rect.unit (s := S4x160x128) ![(3 : Fin 4).val, 8 * q.val, 0] S1x8x128.size (inb_grpC 3 q)).toLoadRect.idx x))
    q.val (slices_grp q)

/-- The array of h1 codes a trip leaves: 32 slots of the first half of the candidates, then of the second half. -/
def G33 (Y9 : Vec F S4x160x128 .f32) (Y29 Y30 Y31 : Vec F S160x256 .f32) (Y32 : Vec F S20x256x256 .fp8e4m3)
    (k4 : FVec F S128x256 .fp8e4m3) (ht : FVec F S128x128 .f32) (kr2 : FVec F S128x256 .f32) (y : S65x20x4x128.Idx) : F .fp8e4m3 :=
  hGrp Y9 Y29 Y30 Y31 Y32 k4 ht kr2 (y 1)
    (ix2 (n0 := 128) (n1 := 256) ⟨((y 0).val % 32) * 4 + (y 2).val, by have : (y 2).val < 4 := (y 2).isLt; omega⟩
      ⟨128 * (((y 0).val / 32) % 2) + (y 3).val, by have : (y 3).val < 128 := (y 3).isLt; omega⟩)

end Cert.KernelIdeal.Gen
-- ==== Proof.KernelIdeal.Block33.lean ====
/- The h1 codes of a trip: every piece is a half of a group's codes. -/
module

public import proofs.«01_k».proof.Proof.KernelIdeal.Trip
public import proofs.«01_k».proof.Proof.KernelIdeal.BlockForms

@[expose] public section

set_option maxRecDepth 16384

noncomputable section

namespace Cert.KernelIdeal.Gen

open Idealize.ShloMosaic Idealize.ShloMosaic.TcCoe Idealize.ShloMosaic.Tactic

variable {F : FTy → Type} [FloatOps F]

theorem hHalf_apply (c : Fin 2) (v : FVec F S128x256 .fp8e4m3) (ho : S32x4x256.Slices ![0, 0, 128 * c.val] S32x4x128)
    (x : S32x1x4x128.Idx) : hHalf v (128 * c.val) ho x
      = v (ix2 (n0 := 128) (n1 := 256) ⟨(x 0).val * 4 + (x 2).val, by have : (x 2).val < 4 := (x 2).isLt; have : (x 0).val < 32 := (x 0).isLt; omega⟩
      ⟨128 * c.val + (x 3).val, by have : (x 3).val < 128 := (x 3).isLt; have := c.isLt; omega⟩) := by
  unfold hHalf
  fin_cases c <;> (idx_vars x; pointwise)

theorem inb_h33 (c : Fin 2) (q : Fin 20) : ∀ a, (![32 * c.val, q.val, 0, 0] : Fin 4 → Nat) a + S32x1x4x128.size a ≤ S65x20x4x128.size a := by
  revert q c; decide
theorem slices_half (c : Fin 2) : S32x4x256.Slices ![0, 0, 128 * c.val] S32x4x128 := by revert c; decide

/-- A half of group `q`'s codes is the array's block at (half, group). -/
theorem G33_piece (Y9 : Vec F S4x160x128 .f32) (Y29 Y30 Y31 : Vec F S160x256 .f32) (Y32 : Vec F S20x256x256 .fp8e4m3)
    (k4 : FVec F S128x256 .fp8e4m3) (ht : FVec F S128x128 .f32) (kr2 : FVec F S128x256 .f32) (c : Fin 2) (q : Fin 20)
    (ho : S32x4x256.Slices ![0, 0, 128 * c.val] S32x4x128)
    (inb : ∀ a, (![32 * c.val, q.val, 0, 0] : Fin 4 → Nat) a + S32x1x4x128.size a ≤ S65x20x4x128.size a)
    (x : (Rect.unit (s := S65x20x4x128) ![32 * c.val, q.val, 0, 0] S32x1x4x128.size inb).shape.Idx) :
    hHalf (hGrp Y9 Y29 Y30 Y31 Y32 k4 ht kr2 q) (128 * c.val) ho x
      = G33 Y9 Y29 Y30 Y31 Y32 k4 ht kr2 ((Rect.unit (s := S65x20x4x128) ![32 * c.val, q.val, 0, 0] S32x1x4x128.size inb).emb x) := by
  have h0 : (x 0).val < 32 := (x 0).isLt
  have h1 : (x 1).val < 1 := (x 1).isLt
  have hc := c.isLt
  rw [hHalf_apply]
  unfold G33
  have e0 : (((Rect.unit (s := S65x20x4x128) ![32 * c.val, q.val, 0, 0] S32x1x4x128.size inb).emb x) 0).val = 32 * c.val + (x 0).val := by
    rw [Rect.emb_apply]; show 32 * c.val + 1 * (x 0).val = _; omega
  have e1 : ((Rect.unit (s := S65x20x4x128) ![32 * c.val, q.val, 0, 0] S32x1x4x128.size inb).emb x) 1 = q := by
    apply Fin.ext; rw [Rect.emb_apply]; show q.val + 1 * (x 1).val = _; omega
  have e2 : (((Rect.unit (s := S65x20x4x128) ![32 * c.val, q.val, 0, 0] S32x1x4x128.size inb).emb x) 2).val = (x 2).val := by
    rw [Rect.emb_apply]; show 0 + 1 * (x 2).val = _; omega
  have e3 : (((Rect.unit (s := S65x20x4x128) ![32 * c.val, q.val, 0, 0] S32x1x4x128.size inb).emb x) 3).val = (x 3).val := by
    rw [Rect.emb_apply]; show 0 + 1 * (x 3).val = _; omega
  rw [e1]
  congr 1
  refine (ix2_inj _ _ _ _).2 ⟨Fin.ext ?_, Fin.ext ?_⟩
  · show (x 0).val * 4 + (x 2).val = (_ % 32) * 4 + _
    rw [e0, e2]; omega
  · show 128 * c.val + (x 3).val = 128 * ((_ / 32) % 2) + _
    rw [e0, e3]; omega

section
variable (arg9 : Memref sig .tc .vmem S4x160x128 .f32) (arg10 : Memref sig .tc .vmem S256x128 .fp8e4m3) (arg11 : Memref sig .tc .vmem S8x128 .f32) (arg25 : Memref sig .tc .vmem S512x256 .i32) (arg27 : Memref sig .tc .vmem S2048x128 .f32) (arg29 : Memref sig .tc .vmem S160x256 .f32) (arg30 : Memref sig .tc .vmem S160x256 .f32) (arg31 : Memref sig .tc .vmem S160x256 .f32) (arg32 : Memref sig .tc .vmem S20x256x256 .fp8e4m3) (v1 : Elt F .i32) (k0_hw1 : k0_chk1 v1) (X_arg9 : BufTy.Contents (Elt F) arg9.view.ty) (X_arg10 : BufTy.Contents (Elt F) arg10.view.ty) (X_arg11 : BufTy.Contents (Elt F) arg11.view.ty) (X_arg25 : BufTy.Contents (Elt F) arg25.view.ty) (X_arg27 : BufTy.Contents (Elt F) arg27.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) (k : Fin (k0_t3_loop v1).trips)

/-- The codes a trip computes, over what its buffers hold. -/
def G33r : S65x20x4x128.Idx → F .fp8e4m3 :=
  G33 (arg9.view.read (Elt F) X_arg9) (arg29.view.read (Elt F) X_arg29) (arg30.view.read (Elt F) X_arg30) (arg31.view.read (Elt F) X_arg31)
    (arg32.view.read (Elt F) X_arg32) (tripRun.sl.v340 arg25 v1 k0_hw1 X_arg25 k) (tripRun.sl.v352 arg10 arg11 arg25 arg27 v1 k0_hw1 X_arg10 X_arg11 X_arg25 X_arg27 k) (tripRun.sl.v353 arg27 v1 k0_hw1 X_arg27 k)

theorem pieces33 : View.PiecesOf (G33r arg9 arg10 arg11 arg25 arg27 arg29 arg30 arg31 arg32 v1 k0_hw1 X_arg9 X_arg10 X_arg11 X_arg25 X_arg27 X_arg29 X_arg30 X_arg31 X_arg32 k) (tripRun.sl.Harg33_40 arg9 arg10 arg11 arg25 arg27 arg29 arg30 arg31 arg32 v1 k0_hw1 X_arg9 X_arg10 X_arg11 X_arg25 X_arg27 X_arg29 X_arg30 X_arg31 X_arg32 k) := by
  exact ⟨fun x => G33_piece _ _ _ _ _ _ _ _ 1 19 (slices_half 1) (inb_h33 1 19) x, fun x => G33_piece _ _ _ _ _ _ _ _ 0 19 (slices_half 0) (inb_h33 0 19) x,
    fun x => G33_piece _ _ _ _ _ _ _ _ 1 18 (slices_half 1) (inb_h33 1 18) x, fun x => G33_piece _ _ _ _ _ _ _ _ 0 18 (slices_half 0) (inb_h33 0 18) x,
    fun x => G33_piece _ _ _ _ _ _ _ _ 1 17 (slices_half 1) (inb_h33 1 17) x, fun x => G33_piece _ _ _ _ _ _ _ _ 0 17 (slices_half 0) (inb_h33 0 17) x,
    fun x => G33_piece _ _ _ _ _ _ _ _ 1 16 (slices_half 1) (inb_h33 1 16) x, fun x => G33_piece _ _ _ _ _ _ _ _ 0 16 (slices_half 0) (inb_h33 0 16) x,
    fun x => G33_piece _ _ _ _ _ _ _ _ 1 15 (slices_half 1) (inb_h33 1 15) x, fun x => G33_piece _ _ _ _ _ _ _ _ 0 15 (slices_half 0) (inb_h33 0 15) x,
    fun x => G33_piece _ _ _ _ _ _ _ _ 1 14 (slices_half 1) (inb_h33 1 14) x, fun x => G33_piece _ _ _ _ _ _ _ _ 0 14 (slices_half 0) (inb_h33 0 14) x,
    fun x => G33_piece _ _ _ _ _ _ _ _ 1 13 (slices_half 1) (inb_h33 1 13) x, fun x => G33_piece _ _ _ _ _ _ _ _ 0 13 (slices_half 0) (inb_h33 0 13) x,
    fun x => G33_piece _ _ _ _ _ _ _ _ 1 12 (slices_half 1) (inb_h33 1 12) x, fun x => G33_piece _ _ _ _ _ _ _ _ 0 12 (slices_half 0) (inb_h33 0 12) x,
    fun x => G33_piece _ _ _ _ _ _ _ _ 1 11 (slices_half 1) (inb_h33 1 11) x, fun x => G33_piece _ _ _ _ _ _ _ _ 0 11 (slices_half 0) (inb_h33 0 11) x,
    fun x => G33_piece _ _ _ _ _ _ _ _ 1 10 (slices_half 1) (inb_h33 1 10) x, fun x => G33_piece _ _ _ _ _ _ _ _ 0 10 (slices_half 0) (inb_h33 0 10) x,
    fun x => G33_piece _ _ _ _ _ _ _ _ 1 9 (slices_half 1) (inb_h33 1 9) x, fun x => G33_piece _ _ _ _ _ _ _ _ 0 9 (slices_half 0) (inb_h33 0 9) x,
    fun x => G33_piece _ _ _ _ _ _ _ _ 1 8 (slices_half 1) (inb_h33 1 8) x, fun x => G33_piece _ _ _ _ _ _ _ _ 0 8 (slices_half 0) (inb_h33 0 8) x,
    fun x => G33_piece _ _ _ _ _ _ _ _ 1 7 (slices_half 1) (inb_h33 1 7) x, fun x => G33_piece _ _ _ _ _ _ _ _ 0 7 (slices_half 0) (inb_h33 0 7) x,
    fun x => G33_piece _ _ _ _ _ _ _ _ 1 6 (slices_half 1) (inb_h33 1 6) x, fun x => G33_piece _ _ _ _ _ _ _ _ 0 6 (slices_half 0) (inb_h33 0 6) x,
    fun x => G33_piece _ _ _ _ _ _ _ _ 1 5 (slices_half 1) (inb_h33 1 5) x, fun x => G33_piece _ _ _ _ _ _ _ _ 0 5 (slices_half 0) (inb_h33 0 5) x,
    fun x => G33_piece _ _ _ _ _ _ _ _ 1 4 (slices_half 1) (inb_h33 1 4) x, fun x => G33_piece _ _ _ _ _ _ _ _ 0 4 (slices_half 0) (inb_h33 0 4) x,
    fun x => G33_piece _ _ _ _ _ _ _ _ 1 3 (slices_half 1) (inb_h33 1 3) x, fun x => G33_piece _ _ _ _ _ _ _ _ 0 3 (slices_half 0) (inb_h33 0 3) x,
    fun x => G33_piece _ _ _ _ _ _ _ _ 1 2 (slices_half 1) (inb_h33 1 2) x, fun x => G33_piece _ _ _ _ _ _ _ _ 0 2 (slices_half 0) (inb_h33 0 2) x,
    fun x => G33_piece _ _ _ _ _ _ _ _ 1 1 (slices_half 1) (inb_h33 1 1) x, fun x => G33_piece _ _ _ _ _ _ _ _ 0 1 (slices_half 0) (inb_h33 0 1) x,
    fun x => G33_piece _ _ _ _ _ _ _ _ 1 0 (slices_half 1) (inb_h33 1 0) x, fun x => G33_piece _ _ _ _ _ _ _ _ 0 0 (slices_half 0) (inb_h33 0 0) x, trivial⟩
/-- What the trip's loads of the codes read, wherever a slot was written. -/
theorem canon33 (y : S65x20x4x128.Idx) (hy : (y 0).val < 64) :
    View.canon (tripRun.sl.Harg33_40 arg9 arg10 arg11 arg25 arg27 arg29 arg30 arg31 arg32 v1 k0_hw1 X_arg9 X_arg10 X_arg11 X_arg25 X_arg27 X_arg29 X_arg30 X_arg31 X_arg32 k) y
      = G33r arg9 arg10 arg11 arg25 arg27 arg29 arg30 arg31 arg32 v1 k0_hw1 X_arg9 X_arg10 X_arg11 X_arg25 X_arg27 X_arg29 X_arg30 X_arg31 X_arg32 k y := by
  refine View.canon_eq_of_allAt _ _ _ ?_ ?_
  · have h : ∀ c : Fin 2, ∀ q : Fin 20, ∃ p ∈ (tripRun.sl.Harg33_40 arg9 arg10 arg11 arg25 arg27 arg29 arg30 arg31 arg32 v1 k0_hw1 X_arg9 X_arg10 X_arg11 X_arg25 X_arg27 X_arg29 X_arg30 X_arg31 X_arg32 k).map (·.1), p.off = ![32 * c.val, q.val, 0, 0] ∧ p.size = S32x1x4x128.size ∧ p.stride = fun _ => 1 := by
      exact of_decide_eq_true (by sl_kernel_rfl)
    obtain ⟨r, hr, h1, h2, h3⟩ := h ⟨(y 0).val / 32, by omega⟩ (y 1)
    obtain ⟨p, hp, rfl⟩ := List.mem_map.1 hr
    refine ⟨p, hp, ?_⟩
    refine (LoadRect.mem_set _).2 fun a => ?_
    show ∃ j < p.1.size a, ((y a : Nat)) = p.1.off a + p.1.stride a * j
    rw [h1, h2, h3]
    have b0 : (y 1).val < 20 := (y 1).isLt
    have b2 : (y 2).val < 4 := (y 2).isLt
    have b3 : (y 3).val < 128 := (y 3).isLt
    match a with
    | ⟨0, _⟩ => exact ⟨(y 0).val % 32, Nat.mod_lt _ (by decide), by show (y 0).val = 32 * ((y 0).val / 32) + 1 * _; omega⟩
    | ⟨1, _⟩ => exact ⟨0, Nat.one_pos, by show (y 1).val = (y 1).val + 1 * 0; omega⟩
    | ⟨2, _⟩ => exact ⟨(y 2).val, b2, by show (y 2).val = 0 + 1 * (y 2).val; omega⟩
    | ⟨3, _⟩ => exact ⟨(y 3).val, b3, by show (y 3).val = 0 + 1 * (y 3).val; omega⟩
  · intro p hp x hx
    rw [(pieces33 arg9 arg10 arg11 arg25 arg27 arg29 arg30 arg31 arg32 v1 k0_hw1 X_arg9 X_arg10 X_arg11 X_arg25 X_arg27 X_arg29 X_arg30 X_arg31 X_arg32 k).mem p hp x, hx]
end

end Cert.KernelIdeal.Gen
-- ==== Proof.KernelIdeal.Block34.lean ====
/- The partial sums of a trip: every piece is a half of a slot's eight partial sums over features. -/
module

public import proofs.«01_k».proof.Proof.KernelIdeal.Trip
public import proofs.«01_k».proof.Proof.KernelIdeal.Block33

@[expose] public section

set_option maxRecDepth 16384

noncomputable section

namespace Cert.KernelIdeal.Gen

open Idealize.ShloMosaic Idealize.ShloMosaic.TcCoe Idealize.ShloMosaic.Tactic

variable {F : FTy → Type} [FloatOps F]

/-- One half of the lanes of a slot's partial sums. -/
def gHalf (v : FVec F S8x256 .f32) (o : Nat) (ho : S8x256.Slices ![0, o] S8x128) : FVec F S1x8x128 .f32 :=
  shapeCast S1x8x128 (extractStridedSlice S8x128 ![0, o] v ho) shapeCasts_S8x128_S1x8x128

theorem gHalf_apply (c : Fin 2) (v : FVec F S8x256 .f32) (ho : S8x256.Slices ![0, 128 * c.val] S8x128) (x : S1x8x128.Idx) :
    gHalf v (128 * c.val) ho x = v (ix2 (n0 := 8) (n1 := 256) (x 1)
      ⟨128 * c.val + (x 2).val, by have : (x 2).val < 128 := (x 2).isLt; have := c.isLt; omega⟩) := by
  unfold gHalf
  fin_cases c <;> (idx_vars x; pointwise)

theorem inb_slot (j : Fin 64) : ∀ a, (![j.val, 0, 0, 0] : Fin 4 → Nat) a + S1x20x4x128.size a ≤ S65x20x4x128.size a := by
  revert j; decide
theorem inb_tail (j : Fin 65) : ∀ a, (![j.val, 0, 0, 0] : Fin 4 → Nat) a + S1x4x4x128.size a ≤ S65x20x4x128.size a := by
  revert j; decide
theorem inb_h34 (c : Fin 2) (j : Fin 32) : ∀ a, (![c.val, 8 * j.val, 0] : Fin 3 → Nat) a + S1x8x128.size a ≤ S2x256x128.size a := by
  revert j c; decide
theorem slices_half34 (c : Fin 2) : S8x256.Slices ![0, 128 * c.val] S8x128 := by revert c; decide

/-- The eight partial sums of slot `j`, over what the loads of the codes read. -/
def gSlot (Y12 : Vec F S40x96 .fp8e4m3) (Y13 : Vec F S5x40x128 .f32) (arg33 : Memref sig .tc .vmem S65x20x4x128 .fp8e4m3) (L : List (View.Piece (Elt F) S65x20x4x128 .fp8e4m3))
    (tail : Vec F S1x4x4x128 .fp8e4m3) (j : Fin 32) : FVec F S8x256 .f32 :=
  k0_pay128 (k0_pay127 (arg33.view.readCov L (Rect.unit (s := S65x20x4x128) ![j.val, 0, 0, 0] S1x20x4x128.size (inb_slot ⟨j.val, by omega⟩)).toLoadRect)
      (arg33.view.readCov L (Rect.unit (s := S65x20x4x128) ![j.val + 1, 0, 0, 0] S1x4x4x128.size (inb_tail ⟨j.val + 1, by omega⟩)).toLoadRect)
      (arg33.view.readCov L (Rect.unit (s := S65x20x4x128) ![32 + j.val, 0, 0, 0] S1x20x4x128.size (inb_slot ⟨32 + j.val, by omega⟩)).toLoadRect)
      (if j.val = 31 then tail else (arg33.view.readCov L (Rect.unit (s := S65x20x4x128) ![32 + j.val + 1, 0, 0, 0] S1x4x4x128.size (inb_tail ⟨32 + j.val + 1, by omega⟩)).toLoadRect)))
    (fun x => Y12 ((Rect.unit (s := S40x96) ![0, 0] S40x96.size inb_S40x96_S40x96_0_0).toLoadRect.idx x))
    (fun x => Y13 ((Rect.unit (s := S5x40x128) ![0, 0, 0] S1x40x128.size inb_S5x40x128_S1x40x128_0_0_0).toLoadRect.idx x))
    (fun x => Y13 ((Rect.unit (s := S5x40x128) ![1, 0, 0] S1x40x128.size inb_S5x40x128_S1x40x128_1_0_0).toLoadRect.idx x))
    (fun x => Y13 ((Rect.unit (s := S5x40x128) ![2, 0, 0] S1x40x128.size inb_S5x40x128_S1x40x128_2_0_0).toLoadRect.idx x))
    (fun x => Y13 ((Rect.unit (s := S5x40x128) ![3, 0, 0] S1x40x128.size inb_S5x40x128_S1x40x128_3_0_0).toLoadRect.idx x))
    (fun x => Y13 ((Rect.unit (s := S5x40x128) ![4, 0, 0] S1x40x128.size inb_S5x40x128_S1x40x128_4_0_0).toLoadRect.idx x))

/-- The array of partial sums a trip leaves. -/
def G34 (g : Fin 32 → FVec F S8x256 .f32) (y : S2x256x128.Idx) : F .f32 :=
  g ⟨(y 1).val / 8, by have : (y 1).val < 256 := (y 1).isLt; omega⟩
    (ix2 (n0 := 8) (n1 := 256) ⟨(y 1).val % 8, by omega⟩
      ⟨128 * (y 0).val + (y 2).val, by have : (y 0).val < 2 := (y 0).isLt; have : (y 2).val < 128 := (y 2).isLt; omega⟩)

theorem G34_piece (g : Fin 32 → FVec F S8x256 .f32) (c : Fin 2) (j : Fin 32) (ho : S8x256.Slices ![0, 128 * c.val] S8x128)
    (inb : ∀ a, (![c.val, 8 * j.val, 0] : Fin 3 → Nat) a + S1x8x128.size a ≤ S2x256x128.size a)
    (x : (Rect.unit (s := S2x256x128) ![c.val, 8 * j.val, 0] S1x8x128.size inb).shape.Idx) :
    gHalf (g j) (128 * c.val) ho x = G34 g ((Rect.unit (s := S2x256x128) ![c.val, 8 * j.val, 0] S1x8x128.size inb).emb x) := by
  have h0 : (x 0).val < 1 := (x 0).isLt
  have h1 : (x 1).val < 8 := (x 1).isLt
  rw [gHalf_apply]
  unfold G34
  have e0 : (((Rect.unit (s := S2x256x128) ![c.val, 8 * j.val, 0] S1x8x128.size inb).emb x) 0).val = c.val := by
    rw [Rect.emb_apply]; show c.val + 1 * (x 0).val = _; omega
  have e1 : (((Rect.unit (s := S2x256x128) ![c.val, 8 * j.val, 0] S1x8x128.size inb).emb x) 1).val = 8 * j.val + (x 1).val := by
    rw [Rect.emb_apply]; show 8 * j.val + 1 * (x 1).val = _; omega
  have e2 : (((Rect.unit (s := S2x256x128) ![c.val, 8 * j.val, 0] S1x8x128.size inb).emb x) 2).val = (x 2).val := by
    rw [Rect.emb_apply]; show 0 + 1 * (x 2).val = _; omega
  congr 1
  · congr 1; apply Fin.ext; show j.val = _ / 8; rw [e1]; omega
  · refine (ix2_inj _ _ _ _).2 ⟨Fin.ext ?_, Fin.ext ?_⟩
    · show (x 1).val = _ % 8; rw [e1]; omega
    · show 128 * c.val + (x 2).val = 128 * _ + _; rw [e0, e2]

section
variable (arg9 : Memref sig .tc .vmem S4x160x128 .f32) (arg10 : Memref sig .tc .vmem S256x128 .fp8e4m3) (arg11 : Memref sig .tc .vmem S8x128 .f32) (arg12 : Memref sig .tc .vmem S40x96 .fp8e4m3) (arg13 : Memref sig .tc .vmem S5x40x128 .f32) (arg25 : Memref sig .tc .vmem S512x256 .i32) (arg27 : Memref sig .tc .vmem S2048x128 .f32) (arg29 : Memref sig .tc .vmem S160x256 .f32) (arg30 : Memref sig .tc .vmem S160x256 .f32) (arg31 : Memref sig .tc .vmem S160x256 .f32) (arg32 : Memref sig .tc .vmem S20x256x256 .fp8e4m3) (arg33 : Memref sig .tc .vmem S65x20x4x128 .fp8e4m3) (v1 : Elt F .i32) (k0_hw1 : k0_chk1 v1) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg25 : BufTy.Contents (Elt F) arg25.view.ty) (X_arg27 : BufTy.Contents (Elt F) arg27.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) (k : Fin (k0_t3_loop v1).trips) (f_arg33 : BufTy.Contents (Elt F) arg33.view.ty)

/-- The partial sums of each slot of a trip, over what its buffers hold. -/
def g34r : Fin 32 → FVec F S8x256 .f32 :=
  gSlot (arg12.view.read (Elt F) X_arg12) (arg13.view.read (Elt F) X_arg13) arg33 (tripRun.sl.Harg33_40 arg9 arg10 arg11 arg25 arg27 arg29 arg30 arg31 arg32 v1 k0_hw1 X_arg9 X_arg10 X_arg11 X_arg25 X_arg27 X_arg29 X_arg30 X_arg31 X_arg32 k)
    (View.readAt (Elt F) arg33.view (Rect.unit (s := S65x20x4x128) ![64, 0, 0, 0] S1x4x4x128.size inb_S65x20x4x128_S1x4x4x128_64_0_0_0).toLoadRect f_arg33)

/-- The partial sums a trip computes, over what its buffers hold. -/
def G34r : S2x256x128.Idx → F .f32 := G34 (g34r arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33)

theorem pieces34 : View.PiecesOf (G34r arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33) (tripRun.sl.Harg34_64 arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33) := by
  have P := G34_piece (g34r arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33)
  exact ⟨fun x => P 1 31 (slices_half34 1) (inb_h34 1 31) x, fun x => P 0 31 (slices_half34 0) (inb_h34 0 31) x,
    fun x => P 1 30 (slices_half34 1) (inb_h34 1 30) x, fun x => P 0 30 (slices_half34 0) (inb_h34 0 30) x,
    fun x => P 1 29 (slices_half34 1) (inb_h34 1 29) x, fun x => P 0 29 (slices_half34 0) (inb_h34 0 29) x,
    fun x => P 1 28 (slices_half34 1) (inb_h34 1 28) x, fun x => P 0 28 (slices_half34 0) (inb_h34 0 28) x,
    fun x => P 1 27 (slices_half34 1) (inb_h34 1 27) x, fun x => P 0 27 (slices_half34 0) (inb_h34 0 27) x,
    fun x => P 1 26 (slices_half34 1) (inb_h34 1 26) x, fun x => P 0 26 (slices_half34 0) (inb_h34 0 26) x,
    fun x => P 1 25 (slices_half34 1) (inb_h34 1 25) x, fun x => P 0 25 (slices_half34 0) (inb_h34 0 25) x,
    fun x => P 1 24 (slices_half34 1) (inb_h34 1 24) x, fun x => P 0 24 (slices_half34 0) (inb_h34 0 24) x,
    fun x => P 1 23 (slices_half34 1) (inb_h34 1 23) x, fun x => P 0 23 (slices_half34 0) (inb_h34 0 23) x,
    fun x => P 1 22 (slices_half34 1) (inb_h34 1 22) x, fun x => P 0 22 (slices_half34 0) (inb_h34 0 22) x,
    fun x => P 1 21 (slices_half34 1) (inb_h34 1 21) x, fun x => P 0 21 (slices_half34 0) (inb_h34 0 21) x,
    fun x => P 1 20 (slices_half34 1) (inb_h34 1 20) x, fun x => P 0 20 (slices_half34 0) (inb_h34 0 20) x,
    fun x => P 1 19 (slices_half34 1) (inb_h34 1 19) x, fun x => P 0 19 (slices_half34 0) (inb_h34 0 19) x,
    fun x => P 1 18 (slices_half34 1) (inb_h34 1 18) x, fun x => P 0 18 (slices_half34 0) (inb_h34 0 18) x,
    fun x => P 1 17 (slices_half34 1) (inb_h34 1 17) x, fun x => P 0 17 (slices_half34 0) (inb_h34 0 17) x,
    fun x => P 1 16 (slices_half34 1) (inb_h34 1 16) x, fun x => P 0 16 (slices_half34 0) (inb_h34 0 16) x,
    fun x => P 1 15 (slices_half34 1) (inb_h34 1 15) x, fun x => P 0 15 (slices_half34 0) (inb_h34 0 15) x,
    fun x => P 1 14 (slices_half34 1) (inb_h34 1 14) x, fun x => P 0 14 (slices_half34 0) (inb_h34 0 14) x,
    fun x => P 1 13 (slices_half34 1) (inb_h34 1 13) x, fun x => P 0 13 (slices_half34 0) (inb_h34 0 13) x,
    fun x => P 1 12 (slices_half34 1) (inb_h34 1 12) x, fun x => P 0 12 (slices_half34 0) (inb_h34 0 12) x,
    fun x => P 1 11 (slices_half34 1) (inb_h34 1 11) x, fun x => P 0 11 (slices_half34 0) (inb_h34 0 11) x,
    fun x => P 1 10 (slices_half34 1) (inb_h34 1 10) x, fun x => P 0 10 (slices_half34 0) (inb_h34 0 10) x,
    fun x => P 1 9 (slices_half34 1) (inb_h34 1 9) x, fun x => P 0 9 (slices_half34 0) (inb_h34 0 9) x,
    fun x => P 1 8 (slices_half34 1) (inb_h34 1 8) x, fun x => P 0 8 (slices_half34 0) (inb_h34 0 8) x,
    fun x => P 1 7 (slices_half34 1) (inb_h34 1 7) x, fun x => P 0 7 (slices_half34 0) (inb_h34 0 7) x,
    fun x => P 1 6 (slices_half34 1) (inb_h34 1 6) x, fun x => P 0 6 (slices_half34 0) (inb_h34 0 6) x,
    fun x => P 1 5 (slices_half34 1) (inb_h34 1 5) x, fun x => P 0 5 (slices_half34 0) (inb_h34 0 5) x,
    fun x => P 1 4 (slices_half34 1) (inb_h34 1 4) x, fun x => P 0 4 (slices_half34 0) (inb_h34 0 4) x,
    fun x => P 1 3 (slices_half34 1) (inb_h34 1 3) x, fun x => P 0 3 (slices_half34 0) (inb_h34 0 3) x,
    fun x => P 1 2 (slices_half34 1) (inb_h34 1 2) x, fun x => P 0 2 (slices_half34 0) (inb_h34 0 2) x,
    fun x => P 1 1 (slices_half34 1) (inb_h34 1 1) x, fun x => P 0 1 (slices_half34 0) (inb_h34 0 1) x,
    fun x => P 1 0 (slices_half34 1) (inb_h34 1 0) x, fun x => P 0 0 (slices_half34 0) (inb_h34 0 0) x, trivial⟩

theorem cover34 (y : S2x256x128.Idx) : ∃ p ∈ tripRun.sl.Harg34_64 arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33, y ∈ p.1.set :=
  View.cover_of_tiledL (s := S2x256x128) _ S1x8x128.size (by sl_kernel_rfl) y

/-- What the trip's loads of the partial sums read. -/
theorem canon34 (y : S2x256x128.Idx) : View.canon (tripRun.sl.Harg34_64 arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33) y = G34r arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33 y := by
  refine View.canon_eq_of_allAt _ _ _ (cover34 arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33 y) fun p hp x hx => ?_
  rw [(pieces34 arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33).mem p hp x, hx]
end

end Cert.KernelIdeal.Gen
-- ==== Proof.KernelIdeal.BlockAt.lean ====
/- The steps of a trip, read at an index over the extended reals. -/
module

public import proofs.«01_k».proof.Proof.KernelIdeal.Block34
public import Idealize.ShloMosaic.Lib.BitcastPair

@[expose] public section

set_option maxRecDepth 16384

noncomputable section

namespace Cert.KernelIdeal.Gen

open Idealize.ShloMosaic Idealize.ShloMosaic.TcCoe Idealize.ShloMosaic.Tactic

theorem rows16_apply (x : FVec Ideal S8x256 .f32) (r : Fin 128) (c : Fin 256) :
    rows16 x (ix2 r c) = x (ix2 (n0 := 8) ⟨r.val % 8, by omega⟩ c) := by
  unfold rows16
  refine concatenate_replicate_apply (t := S128x256) (s₁ := S8x256) 0 16 x _ rfl (ix2 r c) (ix2 (n0 := 8) ⟨r.val % 8, by omega⟩ c) rfl ?_
  intro b hb
  match b with
  | ⟨0, _⟩ => exact absurd rfl hb
  | ⟨1, _⟩ => rfl

theorem lanes2_apply (x : Vec Ideal S1x8x128 .f32) (r : Fin 8) (c : Fin 256) :
    lanes2 x (ix2 r c) = x (ix3 (n0 := 1) (n2 := 128) 0 r ⟨c.val % 128, by omega⟩) := by
  unfold lanes2
  pointwise
  split_ifs with h
  rotate_left
  all_goals first
    | (congr 1; exact (ix3_inj _ _ _ _ _ _).2 ⟨rfl, rfl, Fin.ext (by show c.val - 128 = c.val % 128; have := c.isLt; omega)⟩)
    | (congr 1; exact (ix3_inj _ _ _ _ _ _).2 ⟨rfl, rfl, Fin.ext (by show c.val = c.val % 128; omega)⟩)

theorem hcol_apply (ht : FVec Ideal S128x128 .f32) (q : Fin 20) (hq : S128x128.Slices ![0, q.val] S128x1) (r : Fin 128) (c : Fin 256) :
    hcol ht q.val hq (ix2 r c) = ht (ix2 (n1 := 128) r ⟨q.val, by omega⟩) := by
  unfold hcol
  pointwise

/-- The pre-activation of one row and candidate, without the candidate's part. -/
theorem yStep_apply (k4 : FVec Ideal S128x256 .fp8e4m3) (ht : FVec Ideal S128x128 .f32) (kr2 : FVec Ideal S128x256 .f32) (mq : Vec Ideal S1x256x256 .fp8e4m3)
    (pat : Vec Ideal S8x256 .f32) (c0 : Vec Ideal S1x8x128 .f32) (q : Fin 20) (hq : S128x128.Slices ![0, q.val] S128x1) (r : Fin 128) (c : Fin 256) :
    yStep k4 ht kr2 mq pat c0 q.val hq (ix2 r c)
      = (∑ x : Fin 256, k4 (ix2 r x) * mq (ix3 (n0 := 1) 0 x c)) * (pat (ix2 (n0 := 8) ⟨r.val % 8, by omega⟩ c) * c0 (ix3 (n0 := 1) (n1 := 8) (n2 := 128) 0 ⟨r.val % 8, by omega⟩ ⟨c.val % 128, by omega⟩)) *
        kr2 (ix2 r c) + ht (ix2 (n1 := 128) r ⟨q.val, by omega⟩) := by
  unfold yStep
  pointwise [rows16_apply, lanes2_apply, hcol_apply]

/-- The code of one h1 value: the product of the pre-activation and the gate, clipped. -/
def hV (p m kr ht a1 a2 c2 c3 : EReal) : EReal :=
  min (Ideal.ofBits .f32 0x43E00000#32) (max (Ideal.ofBits .f32 0xC3E00000#32) ((p * m * kr + ht + a1) * (c2 + c3 * Ideal.tanh (p * m * kr + ht + a2))))

theorem hStep_apply (k4 : FVec Ideal S128x256 .fp8e4m3) (ht : FVec Ideal S128x128 .f32) (kr2 : FVec Ideal S128x256 .f32) (mq : Vec Ideal S1x256x256 .fp8e4m3)
    (pat a2 a1 : Vec Ideal S8x256 .f32) (c0 c2 c3 : Vec Ideal S1x8x128 .f32) (q : Fin 20) (hq : S128x128.Slices ![0, q.val] S128x1) (r : Fin 128) (c : Fin 256) :
    hStep k4 ht kr2 mq pat a2 a1 c0 c2 c3 q.val hq (ix2 r c)
      = hV (∑ x : Fin 256, k4 (ix2 r x) * mq (ix3 (n0 := 1) 0 x c))
          (pat (ix2 (n0 := 8) ⟨r.val % 8, by omega⟩ c) * c0 (ix3 (n0 := 1) (n1 := 8) (n2 := 128) 0 ⟨r.val % 8, by omega⟩ ⟨c.val % 128, by omega⟩))
          (kr2 (ix2 r c)) (ht (ix2 (n1 := 128) r ⟨q.val, by omega⟩)) (a1 (ix2 (n0 := 8) ⟨r.val % 8, by omega⟩ c)) (a2 (ix2 (n0 := 8) ⟨r.val % 8, by omega⟩ c))
          (c2 (ix3 (n0 := 1) (n1 := 8) (n2 := 128) 0 ⟨r.val % 8, by omega⟩ ⟨c.val % 128, by omega⟩))
          (c3 (ix3 (n0 := 1) (n1 := 8) (n2 := 128) 0 ⟨r.val % 8, by omega⟩ ⟨c.val % 128, by omega⟩)) := by
  unfold hStep hV
  pointwise [rows16_apply, lanes2_apply, yStep_apply]

theorem hGrp_apply (Y9 : Vec Ideal S4x160x128 .f32) (Y29 Y30 Y31 : Vec Ideal S160x256 .f32) (Y32 : Vec Ideal S20x256x256 .fp8e4m3)
    (k4 : FVec Ideal S128x256 .fp8e4m3) (ht : FVec Ideal S128x128 .f32) (kr2 : FVec Ideal S128x256 .f32) (q : Fin 20) (r : Fin 128) (c : Fin 256) :
    hGrp Y9 Y29 Y30 Y31 Y32 k4 ht kr2 q (ix2 r c)
      = hV (∑ x : Fin 256, k4 (ix2 r x) * Y32 (ix3 (n0 := 20) q x c))
          (Y31 (ix2 (n0 := 160) ⟨8 * q.val + r.val % 8, by omega⟩ c) * Y9 (ix3 (n0 := 4) (n1 := 160) (n2 := 128) 0 ⟨8 * q.val + r.val % 8, by omega⟩ ⟨c.val % 128, by omega⟩))
          (kr2 (ix2 r c)) (ht (ix2 (n1 := 128) r ⟨q.val, by omega⟩))
          (Y29 (ix2 (n0 := 160) ⟨8 * q.val + r.val % 8, by omega⟩ c)) (Y30 (ix2 (n0 := 160) ⟨8 * q.val + r.val % 8, by omega⟩ c))
          (Y9 (ix3 (n0 := 4) (n1 := 160) (n2 := 128) 2 ⟨8 * q.val + r.val % 8, by omega⟩ ⟨c.val % 128, by omega⟩))
          (Y9 (ix3 (n0 := 4) (n1 := 160) (n2 := 128) 3 ⟨8 * q.val + r.val % 8, by omega⟩ ⟨c.val % 128, by omega⟩)) := by
  unfold hGrp
  rw [hStep_apply]
  have e2 : ∀ (R : Fin 8) (C : Fin 256), (Rect.unit (s := S160x256) ![8 * q.val, 0] S8x256.size (inb_grp q)).toLoadRect.idx (ix2 R C)
      = ix2 (n0 := 160) ⟨8 * q.val + R.val, by omega⟩ C := fun R C => by
    funext a; apply Fin.ext
    match a with
    | ⟨0, _⟩ => show 8 * q.val + 1 * R.val = 8 * q.val + R.val; omega
    | ⟨1, _⟩ => show 0 + 1 * C.val = C.val; omega
  have e3 : ∀ (p : Fin 4) (R : Fin 8) (C : Fin 128), (Rect.unit (s := S4x160x128) ![p.val, 8 * q.val, 0] S1x8x128.size (inb_grpC p q)).toLoadRect.idx (ix3 0 R C)
      = ix3 (n0 := 4) (n1 := 160) p ⟨8 * q.val + R.val, by omega⟩ C := fun p R C => by
    funext a; apply Fin.ext
    match a with
    | ⟨0, _⟩ => show p.val + 1 * 0 = p.val; omega
    | ⟨1, _⟩ => show 8 * q.val + 1 * R.val = 8 * q.val + R.val; omega
    | ⟨2, _⟩ => show 0 + 1 * C.val = C.val; omega
  have em : ∀ (R : Fin 256) (C : Fin 256), (Rect.unit (s := S20x256x256) ![q.val, 0, 0] S1x256x256.size (inb_grpM q)).toLoadRect.idx (ix3 0 R C)
      = ix3 (n0 := 20) q R C := fun R C => by
    funext a; apply Fin.ext
    match a with
    | ⟨0, _⟩ => show q.val + 1 * 0 = q.val; omega
    | ⟨1, _⟩ => show 0 + 1 * R.val = R.val; omega
    | ⟨2, _⟩ => show 0 + 1 * C.val = C.val; omega
  simp only [e2, e3, em]

/-- One term of a partial sum: the layer's value times its gate. -/
def gV (x c1 c2 c3 c4 : EReal) : EReal := (x + c2) * (c3 + c4 * Ideal.tanh (x + c1))

theorem pay128_apply (v1308 : FVec Ideal S96x256 .fp8e4m3) (v1309 : Vec Ideal S40x96 .fp8e4m3) (v1312 v1316 v1321 v1325 v1328 : Vec Ideal S1x40x128 .f32)
    (r : Fin 8) (c : Fin 256) : k0_pay128 v1308 v1309 v1312 v1316 v1321 v1325 v1328 (ix2 r c)
      = ∑ x : Fin 5, gV ((∑ k : Fin 96, v1309 (ix2 (n0 := 40) ⟨x.val * 8 + r.val, by omega⟩ k) * v1308 (ix2 k c)) * v1312 (ix3 (n0 := 1) (n1 := 40) (n2 := 128) 0 ⟨x.val * 8 + r.val, by omega⟩ ⟨c.val % 128, by omega⟩))
          (v1316 (ix3 (n0 := 1) (n1 := 40) (n2 := 128) 0 ⟨x.val * 8 + r.val, by omega⟩ ⟨c.val % 128, by omega⟩))
          (v1321 (ix3 (n0 := 1) (n1 := 40) (n2 := 128) 0 ⟨x.val * 8 + r.val, by omega⟩ ⟨c.val % 128, by omega⟩))
          (v1325 (ix3 (n0 := 1) (n1 := 40) (n2 := 128) 0 ⟨x.val * 8 + r.val, by omega⟩ ⟨c.val % 128, by omega⟩))
          (v1328 (ix3 (n0 := 1) (n1 := 40) (n2 := 128) 0 ⟨x.val * 8 + r.val, by omega⟩ ⟨c.val % 128, by omega⟩)) := by
  unfold k0_pay128 gV
  pointwise
  refine Finset.sum_congr rfl fun x _ => ?_
  by_cases h : c.val < 128
  · have e : c.val % 128 = c.val := by omega
    simp only [h, e, dite_true]
  · have e : c.val % 128 = c.val - 128 := by omega
    simp only [h, e, dite_false]

/-- A word read at eight bits: the result's row picks the byte. -/
theorem bitcast_32_8_ix2 {R r n : Nat} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = (x (ix2 p l)).extractLsb' (8 * (a.val % 4)) 8 := by
  apply BitVec.eq_of_getLsbD_eq
  intro i hi
  rw [bitcast_getLsbD x h _ i hi (by decide), BitVec.getLsbD_extractLsb']
  have er : (⟨2, ![R, n]⟩ : Shape).row (ix2 a l) = a.val := rfl
  have ep : ((⟨2, ![R, n]⟩ : Shape).row (ix2 a l) * 8 + i) / 32 = a.val / 4 := by rw [er]; omega
  have eq : ((⟨2, ![R, n]⟩ : Shape).row (ix2 a l) * 8 + i) % 32 = 8 * (a.val % 4) + i := by rw [er]; omega
  have es : h.srcIdx (ix2 a l) (((⟨2, ![R, n]⟩ : Shape).row (ix2 a l) * 8 + i) / 32) (fun b hb =>
      (Nat.div_lt_iff_lt_mul (by decide)).2 (h.pos_lt (ix2 a l) i hi b hb)) = ix2 p l := by
    funext c
    match c with
    | ⟨0, _⟩ => exact Fin.ext ((h.srcIdx_row _ _ _ ⟨0, Nat.zero_lt_two⟩ rfl).trans (ep.trans hp.symm))
    | ⟨1, _⟩ => exact Fin.ext (h.srcIdx_other _ _ _ ⟨1, Nat.one_lt_two⟩ (by show ¬ 1 + 2 = 2; omega))
  rw [es, eq]
  simp [hi]

/-- The value of one byte of a word of codes. -/
def byteV (w : BitVec 32) (b : Nat) : EReal := Ideal.ofBits .fp8e4m3 (w.extractLsb' (8 * b) 8)

theorem pay20_apply (v339 : Vec Ideal S32x256 .i32) (r : Fin 128) (x : Fin 256) :
    k0_pay20 v339 (ix2 r x) = byteV (v339 (ix2 (n0 := 32) ⟨r.val / 4, by omega⟩ x)) (r.val % 4) := by
  unfold k0_pay20 byteV
  pointwise
  exact congrArg _ (bitcast_32_8_ix2 _ _ _ _ _ rfl)

theorem pay22_apply (v : Vec Ideal S128x128 .f32) (r : Fin 128) (c : Fin 256) : k0_pay22 v (ix2 r c) = v (ix2 (n1 := 128) r ⟨c.val % 128, by omega⟩) := by
  unfold k0_pay22
  pointwise
  split_ifs with h
  rotate_left
  all_goals first
    | (congr 1; exact (ix2_inj _ _ _ _).2 ⟨rfl, Fin.ext (by show c.val - 128 = c.val % 128; have := c.isLt; omega)⟩)
    | (congr 1; exact (ix2_inj _ _ _ _).2 ⟨rfl, Fin.ext (by show c.val = c.val % 128; omega)⟩)

/-- Eight rows over 128 lanes, repeated for sixteen groups of eight. -/
def rep16 (x : FVec Ideal S8x128 .f32) : FVec Ideal S128x128 .f32 :=
  concatenate S128x128 0 (List.replicate 16 ⟨S8x128, x⟩) concatenates_S8x128_S8x128_S8x128_S8x128_S8x128_S8x128_S8x128_S8x128_S8x128_S8x128_S8x128_S8x128_S8x128_S8x128_S8x128_S8x128_S128x128_d0

theorem rep16_apply (x : FVec Ideal S8x128 .f32) (r : Fin 128) (c : Fin 128) :
    rep16 x (ix2 r c) = x (ix2 (n0 := 8) ⟨r.val % 8, by omega⟩ c) := by
  unfold rep16
  refine concatenate_replicate_apply (t := S128x128) (s₁ := S8x128) 0 16 x _ rfl (ix2 r c) (ix2 (n0 := 8) ⟨r.val % 8, by omega⟩ c) rfl ?_
  intro b hb
  match b with
  | ⟨0, _⟩ => exact absurd rfl hb
  | ⟨1, _⟩ => rfl

theorem pay21_apply (v339 : Vec Ideal S32x256 .i32) (v344 : Vec Ideal S128x128 .f32) (v345 : Vec Ideal S256x128 .fp8e4m3) (v348 : Vec Ideal S8x128 .f32) (r c : Fin 128) :
    k0_pay21 v339 v344 v345 v348 (ix2 r c)
      = (∑ x : Fin 256, k0_pay20 v339 (ix2 r x) * v345 (ix2 x c)) * v348 (ix2 (n0 := 8) ⟨r.val % 8, by omega⟩ c) * v344 (ix2 r c) := by
  have e : k0_pay21 v339 v344 v345 v348 = mulf (mulf (matmul dot_S128x256_S256x128_S128x128_1_0_0_1_n_n none (k0_pay20 v339) (shapeCast S256x128 v345 shapeCasts_S256x128_S256x128)
      (constant S128x128 .f32 0x00000000#32)) (rep16 (shapeCast S8x128 v348 shapeCasts_S8x128_S8x128))) v344 := rfl
  rw [e]
  pointwise [rep16_apply]

end Cert.KernelIdeal.Gen
-- ==== Proof.KernelIdeal.TripAt.lean ====
/- A trip's pieces, read at an index over the extended reals: the weight of each slot of the block and each candidate. -/
module

public import proofs.«01_k».proof.Proof.KernelIdeal.BlockAt
public import proofs.«01_k».proof.Proof.KernelIdeal.Len

@[expose] public section

set_option maxRecDepth 16384

noncomputable section

namespace Cert.KernelIdeal.Gen

open Idealize.ShloMosaic Idealize.ShloMosaic.TcCoe Idealize.ShloMosaic.Tactic

/-- The h1 code of slot `i`, feature `kk` and candidate `c`, over the arrays the block loop reads. -/
def hAt (Y9 : Vec Ideal S4x160x128 .f32) (Y10 : Vec Ideal S256x128 .fp8e4m3) (Y11 : Vec Ideal S8x128 .f32) (Y25 : Vec Ideal S512x256 .i32)
    (Y27 : Vec Ideal S2048x128 .f32) (Y29 Y30 Y31 : Vec Ideal S160x256 .f32) (Y32 : Vec Ideal S20x256x256 .fp8e4m3) (i : Fin 512) (kk : Fin 80) (c : Fin 256) : EReal :=
  hV (∑ x : Fin 256, byteV (Y25 (ix2 i x)) (kk.val % 4) * Y32 (ix3 (n0 := 20) ⟨kk.val / 4, by omega⟩ x c))
    (Y31 (ix2 (n0 := 160) ⟨8 * (kk.val / 4) + (4 * i.val + kk.val % 4) % 8, by omega⟩ c)
      * Y9 (ix3 (n0 := 4) (n1 := 160) (n2 := 128) 0 ⟨8 * (kk.val / 4) + (4 * i.val + kk.val % 4) % 8, by omega⟩ ⟨c.val % 128, by omega⟩))
    (Y27 (ix2 (n0 := 2048) (n1 := 128) ⟨4 * i.val + kk.val % 4, by omega⟩ ⟨c.val % 128, by omega⟩))
    ((∑ x : Fin 256, byteV (Y25 (ix2 i x)) (kk.val % 4) * Y10 (ix2 (n1 := 128) x ⟨kk.val / 4, by omega⟩))
      * Y11 (ix2 (n0 := 8) (n1 := 128) ⟨(4 * i.val + kk.val % 4) % 8, by omega⟩ ⟨kk.val / 4, by omega⟩)
      * Y27 (ix2 (n0 := 2048) (n1 := 128) ⟨4 * i.val + kk.val % 4, by omega⟩ ⟨kk.val / 4, by omega⟩))
    (Y29 (ix2 (n0 := 160) ⟨8 * (kk.val / 4) + (4 * i.val + kk.val % 4) % 8, by omega⟩ c))
    (Y30 (ix2 (n0 := 160) ⟨8 * (kk.val / 4) + (4 * i.val + kk.val % 4) % 8, by omega⟩ c))
    (Y9 (ix3 (n0 := 4) (n1 := 160) (n2 := 128) 2 ⟨8 * (kk.val / 4) + (4 * i.val + kk.val % 4) % 8, by omega⟩ ⟨c.val % 128, by omega⟩))
    (Y9 (ix3 (n0 := 4) (n1 := 160) (n2 := 128) 3 ⟨8 * (kk.val / 4) + (4 * i.val + kk.val % 4) % 8, by omega⟩ ⟨c.val % 128, by omega⟩))

/-- One feature's term of the weight, over the codes of one slot and candidate. -/
def gAt (Y12 : Vec Ideal S40x96 .fp8e4m3) (Y13 : Vec Ideal S5x40x128 .f32) (H : Fin 80 → EReal) (c : Fin 256) (p : Fin 40) : EReal :=
  gV ((∑ k : Fin 80, Y12 (ix2 (n1 := 96) p ⟨k.val, by omega⟩) * H k) * Y13 (ix3 (n0 := 5) (n2 := 128) 0 p ⟨c.val % 128, by omega⟩))
    (Y13 (ix3 (n0 := 5) (n2 := 128) 1 p ⟨c.val % 128, by omega⟩)) (Y13 (ix3 (n0 := 5) (n2 := 128) 2 p ⟨c.val % 128, by omega⟩))
    (Y13 (ix3 (n0 := 5) (n2 := 128) 3 p ⟨c.val % 128, by omega⟩)) (Y13 (ix3 (n0 := 5) (n2 := 128) 4 p ⟨c.val % 128, by omega⟩))

/-- The two halves of the codes of a slot's loads, of the features that carry weight. -/
theorem pay127_apply (v1294 : Vec Ideal S1x20x4x128 .fp8e4m3) (v1297 : Vec Ideal S1x4x4x128 .fp8e4m3) (v1301 : Vec Ideal S1x20x4x128 .fp8e4m3) (v1304 : Vec Ideal S1x4x4x128 .fp8e4m3)
    (k : Fin 80) (c : Fin 256) : k0_pay127 v1294 v1297 v1301 v1304 (ix2 (n0 := 96) ⟨k.val, by omega⟩ c)
      = if c.val < 128 then v1294 (ix4 (n0 := 1) (n1 := 20) (n2 := 4) (n3 := 128) 0 ⟨k.val / 4, by omega⟩ ⟨k.val % 4, by omega⟩ ⟨c.val % 128, by omega⟩)
        else v1301 (ix4 (n0 := 1) (n1 := 20) (n2 := 4) (n3 := 128) 0 ⟨k.val / 4, by omega⟩ ⟨k.val % 4, by omega⟩ ⟨c.val % 128, by omega⟩) := by
  unfold k0_pay127
  pointwise
  by_cases h : c.val < 128
  · have e : c.val % 128 = c.val := by omega
    simp only [h, e, dite_true, if_true, k.isLt]
  · have e : c.val % 128 = c.val - 128 := by omega
    simp only [h, e, dite_false, if_false, k.isLt, dite_true]

/-- A sum over the features and the padding, where the padding carries no weight. -/
theorem sum_pad (f : Fin 96 → EReal) (h : ∀ k : Fin 96, 80 ≤ k.val → f k = 0) : ∑ k, f k = ∑ k : Fin 80, f ⟨k.val, by omega⟩ := by
  rw [show (∑ k, f k) = ∑ k : Fin (80 + 16), f k from rfl, Fin.sum_univ_add]
  rw [Finset.sum_eq_zero (s := Finset.univ) (f := fun i : Fin 16 => f (Fin.natAdd 80 i)) (fun i _ => h _ (by show 80 ≤ 80 + i.val; omega)), add_zero]
  rfl

/-- A strided load of the partial sums: every eighth row. -/
theorem strided (arg34 : Memref sig .tc .vmem S2x256x128 .f32) (L : List (View.Piece (Elt Ideal) S2x256x128 .f32)) (h : Fin 2) (s : Fin 8)
    (i1 : ∀ a, (![h.val, 0, 0] : Fin 3 → Nat) a + S1x256x128.size a ≤ S2x256x128.size a) (i2) (i3) (r : Fin 32) (l : Fin 128) :
    View.readAt (Elt Ideal) ((arg34.slice (Rect.unit (s := S2x256x128) ![h.val, 0, 0] S1x256x128.size i1) i2).squeeze S256x128 squeezes_S1x256x128_S256x128).view
        { off := ![s.val, 0], size := S32x128.size, stride := ![8, 1], inb := i3 } (arg34.view.writes (Elt Ideal) arg34.view.junk L) (ix2 r l)
      = View.canon L (ix3 (n0 := 2) (n1 := 256) h ⟨8 * r.val + s.val, by omega⟩ l) := by
  rw [← View.read_writes_junk_apply_eq_canon arg34.view]
  rw [View.readAt_apply]
  have e : ∀ (w : FVec Ideal S1x256x128 .f32) (y : Fin 256), shapeCast S256x128 w squeezes_S1x256x128_S256x128.numel_eq (ix2 y l) = w (ix3 0 y l) := fun w y => by pointwise
  have q : (Rect.unit (s := S2x256x128) ![h.val, 0, 0] S1x256x128.size i1).emb (ix3 0 ⟨8 * r.val + s.val, by omega⟩ l) = ix3 (n0 := 2) (n1 := 256) h ⟨8 * r.val + s.val, by omega⟩ l := by
    funext a; apply Fin.ext
    match a with
    | ⟨0, _⟩ => show h.val + 1 * 0 = h.val; omega
    | ⟨1, _⟩ => show 0 + 1 * (8 * r.val + s.val) = 8 * r.val + s.val; omega
    | ⟨2, _⟩ => show 0 + 1 * l.val = l.val; omega
  have z : LoadRect.idx (s := S256x128) { off := ![s.val, 0], size := S32x128.size, stride := ![8, 1], inb := i3 } (ix2 r l) = ix2 (n0 := 256) ⟨8 * r.val + s.val, by omega⟩ l := by
    funext a; apply Fin.ext
    match a with
    | ⟨0, _⟩ => show s.val + 8 * r.val = 8 * r.val + s.val; omega
    | ⟨1, _⟩ => show 0 + 1 * l.val = l.val; omega
  rw [z, ← q]
  exact e (fun x => arg34.view.read (Elt Ideal) (arg34.view.writes (Elt Ideal) arg34.view.junk L) ((Rect.unit (s := S2x256x128) ![h.val, 0, 0] S1x256x128.size i1).emb x)) ⟨8 * r.val + s.val, by omega⟩

/-! ### Where a trip reads -/

theorem lt16 (v : BitVec 32) (hv : v.toInt ≤ 512) (k : Fin (k0_t3_loop v).trips) : k.val < 16 :=
  Nat.lt_of_lt_of_le k.isLt (trips_le_k0_t3 v hv)

theorem offs (v : BitVec 32) (hv : v.toInt ≤ 512) (k : Fin (k0_t3_loop v).trips) :
    k0_off11 v k = ![32 * k.val, 0] ∧ k0_off12 v k = ![128 * k.val, 0] ∧ k0_off13 v k = ![32 * k.val, 0]
      ∧ k0_off14 v k = ![32 * k.val, 0] ∧ k0_off15 v k = ![32 * k.val, 128] := by
  have h := lt16 v hv k
  obtain ⟨n, hn⟩ := k
  have hn' : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by
    simp only at h; omega
  simp only [k0_off11, k0_off12, k0_off13, k0_off14, k0_off15]
  clear hn h
  rcases hn' with rfl | rfl | rfl | rfl | rfl | rfl | rfl | rfl | rfl | rfl | rfl | rfl | rfl | rfl | rfl | rfl <;> decide

section
variable (arg9 : Memref sig .tc .vmem S4x160x128 .f32) (arg10 : Memref sig .tc .vmem S256x128 .fp8e4m3) (arg11 : Memref sig .tc .vmem S8x128 .f32) (arg12 : Memref sig .tc .vmem S40x96 .fp8e4m3) (arg13 : Memref sig .tc .vmem S5x40x128 .f32) (arg25 : Memref sig .tc .vmem S512x256 .i32) (arg27 : Memref sig .tc .vmem S2048x128 .f32) (arg29 : Memref sig .tc .vmem S160x256 .f32) (arg30 : Memref sig .tc .vmem S160x256 .f32) (arg31 : Memref sig .tc .vmem S160x256 .f32) (arg32 : Memref sig .tc .vmem S20x256x256 .fp8e4m3) (arg33 : Memref sig .tc .vmem S65x20x4x128 .fp8e4m3) (v1 : Elt Ideal .i32) (k0_hw1 : k0_chk1 v1) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (X_arg25 : BufTy.Contents (Elt Ideal) arg25.view.ty) (X_arg27 : BufTy.Contents (Elt Ideal) arg27.view.ty) (X_arg29 : BufTy.Contents (Elt Ideal) arg29.view.ty) (X_arg30 : BufTy.Contents (Elt Ideal) arg30.view.ty) (X_arg31 : BufTy.Contents (Elt Ideal) arg31.view.ty) (X_arg32 : BufTy.Contents (Elt Ideal) arg32.view.ty) (k : Fin (k0_t3_loop v1).trips) (f_arg33 : BufTy.Contents (Elt Ideal) arg33.view.ty) (hv : (v1 : BitVec 32).toInt ≤ 512)

/-- The codes a trip's loads read: slot `32k + j`. -/
theorem canon33_at (j : Fin 32) (kk : Fin 80) (c : Fin 256) :
    View.canon (tripRun.sl.Harg33_40 arg9 arg10 arg11 arg25 arg27 arg29 arg30 arg31 arg32 v1 k0_hw1 X_arg9 X_arg10 X_arg11 X_arg25 X_arg27 X_arg29 X_arg30 X_arg31 X_arg32 k) (ix4 (n0 := 65) (n1 := 20) (n2 := 4) (n3 := 128) ⟨32 * (c.val / 128) + j.val, by omega⟩ ⟨kk.val / 4, by omega⟩ ⟨kk.val % 4, by omega⟩ ⟨c.val % 128, by omega⟩)
      = hAt (arg9.view.read (Elt Ideal) X_arg9) (arg10.view.read (Elt Ideal) X_arg10) (arg11.view.read (Elt Ideal) X_arg11) (arg25.view.read (Elt Ideal) X_arg25)
          (arg27.view.read (Elt Ideal) X_arg27) (arg29.view.read (Elt Ideal) X_arg29) (arg30.view.read (Elt Ideal) X_arg30) (arg31.view.read (Elt Ideal) X_arg31) (arg32.view.read (Elt Ideal) X_arg32)
          ⟨32 * k.val + j.val, by have := lt16 v1 hv k; omega⟩ kk c := by
  have hk := lt16 v1 hv k
  obtain ⟨o11, o12, -, -, -⟩ := offs v1 hv k
  rw [canon33 arg9 arg10 arg11 arg25 arg27 arg29 arg30 arg31 arg32 v1 k0_hw1 X_arg9 X_arg10 X_arg11 X_arg25 X_arg27 X_arg29 X_arg30 X_arg31 X_arg32 k _ (by show 32 * (c.val / 128) + j.val < 64; omega)]
  unfold G33r G33
  have e : (ix2 (n0 := 128) (n1 := 256) ⟨((32 * (c.val / 128) + j.val) % 32) * 4 + kk.val % 4, by omega⟩ ⟨128 * (((32 * (c.val / 128) + j.val) / 32) % 2) + c.val % 128, by omega⟩)
      = ix2 (n0 := 128) (n1 := 256) ⟨4 * j.val + kk.val % 4, by omega⟩ c := by
    refine (ix2_inj _ _ _ _).2 ⟨Fin.ext ?_, Fin.ext ?_⟩
    · show ((32 * (c.val / 128) + j.val) % 32) * 4 + kk.val % 4 = 4 * j.val + kk.val % 4; omega
    · show 128 * (((32 * (c.val / 128) + j.val) / 32) % 2) + c.val % 128 = c.val; omega
  show hGrp _ _ _ _ _ _ _ _ (⟨kk.val / 4, _⟩ : Fin 20) (ix2 (n0 := 128) (n1 := 256) ⟨((32 * (c.val / 128) + j.val) % 32) * 4 + kk.val % 4, _⟩ ⟨128 * (((32 * (c.val / 128) + j.val) / 32) % 2) + c.val % 128, _⟩) = _
  rw [e, hGrp_apply]
  unfold tripRun.sl.v352 tripRun.sl.v353 tripRun.sl.v340 hAt
  simp only [pay21_apply, pay22_apply, pay20_apply]
  have r25 : ∀ x : Fin 256, View.readAt (Elt Ideal) arg25.view (Rect.unit (s := S512x256) (k0_off11 v1 k) S32x256.size (k0_off11_inb v1 k0_hw1 k)).toLoadRect X_arg25 (ix2 (n0 := 32) ⟨(4 * j.val + kk.val % 4) / 4, by omega⟩ x)
      = arg25.view.read (Elt Ideal) X_arg25 (ix2 (n0 := 512) ⟨32 * k.val + j.val, by omega⟩ x) := fun x => by
    rw [View.readAt_apply]
    congr 1
    funext a; apply Fin.ext
    match a with
    | ⟨0, _⟩ => show k0_off11 v1 k 0 + 1 * ((4 * j.val + kk.val % 4) / 4) = _; rw [o11]; show 32 * k.val + _ = 32 * k.val + j.val; omega
    | ⟨1, _⟩ => show k0_off11 v1 k 1 + 1 * x.val = _; rw [o11]; show 0 + 1 * x.val = x.val; omega
  have r27 : ∀ x : Fin 128, View.readAt (Elt Ideal) arg27.view (Rect.unit (s := S2048x128) (k0_off12 v1 k) S128x128.size (k0_off12_inb v1 k0_hw1 k)).toLoadRect X_arg27 (ix2 (n0 := 128) ⟨4 * j.val + kk.val % 4, by omega⟩ x)
      = arg27.view.read (Elt Ideal) X_arg27 (ix2 (n0 := 2048) ⟨4 * (32 * k.val + j.val) + kk.val % 4, by omega⟩ x) := fun x => by
    rw [View.readAt_apply]
    congr 1
    funext a; apply Fin.ext
    match a with
    | ⟨0, _⟩ => show k0_off12 v1 k 0 + 1 * (4 * j.val + kk.val % 4) = _; rw [o12]; show 128 * k.val + _ = 4 * (32 * k.val + j.val) + kk.val % 4; omega
    | ⟨1, _⟩ => show k0_off12 v1 k 1 + 1 * x.val = _; rw [o12]; show 0 + 1 * x.val = x.val; omega
  have m4 : (4 * j.val + kk.val % 4) % 4 = kk.val % 4 := by omega
  have m8 : (4 * j.val + kk.val % 4) % 8 = (4 * (32 * k.val + j.val) + kk.val % 4) % 8 := by omega
  have r10 : ∀ (x : Fin 256) (y : Fin 128), View.readAt (Elt Ideal) arg10.view (Rect.unit (s := S256x128) ![0, 0] S256x128.size inb_S256x128_S256x128_0_0).toLoadRect X_arg10 (ix2 x y)
      = arg10.view.read (Elt Ideal) X_arg10 (ix2 x y) := fun x y => by
    rw [View.readAt_apply]
    congr 1
    funext a; apply Fin.ext
    match a with
    | ⟨0, _⟩ => show 0 + 1 * x.val = x.val; omega
    | ⟨1, _⟩ => show 0 + 1 * y.val = y.val; omega
  have r11 : ∀ (x : Fin 8) (y : Fin 128), View.readAt (Elt Ideal) arg11.view (Rect.unit (s := S8x128) ![0, 0] S8x128.size inb_S8x128_S8x128_0_0).toLoadRect X_arg11 (ix2 x y)
      = arg11.view.read (Elt Ideal) X_arg11 (ix2 x y) := fun x y => by
    rw [View.readAt_apply]
    congr 1
    funext a; apply Fin.ext
    match a with
    | ⟨0, _⟩ => show 0 + 1 * x.val = x.val; omega
    | ⟨1, _⟩ => show 0 + 1 * y.val = y.val; omega
  simp only [r25, r27, r10, r11, m4, m8]

/-- The partial sums of a slot. -/
theorem g34_at (hz : ∀ (p : Fin 40) (k : Fin 96), 80 ≤ k.val → (arg12.view.read (Elt Ideal) X_arg12) (ix2 p k) = 0) (j : Fin 32) (s : Fin 8) (c : Fin 256) :
    g34r arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33 j (ix2 s c)
      = ∑ x : Fin 5, gAt (arg12.view.read (Elt Ideal) X_arg12) (arg13.view.read (Elt Ideal) X_arg13) (fun kk => hAt (arg9.view.read (Elt Ideal) X_arg9) (arg10.view.read (Elt Ideal) X_arg10) (arg11.view.read (Elt Ideal) X_arg11) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + j.val, by have := lt16 v1 hv k; omega⟩ kk c) c ⟨x.val * 8 + s.val, by omega⟩ := by
  unfold g34r gSlot
  rw [pay128_apply]
  refine Finset.sum_congr rfl fun x _ => ?_
  have e12 : ∀ (p : Fin 40) (k : Fin 96), (Rect.unit (s := S40x96) ![0, 0] S40x96.size inb_S40x96_S40x96_0_0).toLoadRect.idx (ix2 p k) = ix2 p k := fun p k => by
    funext a; apply Fin.ext
    match a with
    | ⟨0, _⟩ => show 0 + 1 * p.val = p.val; omega
    | ⟨1, _⟩ => show 0 + 1 * k.val = k.val; omega
  have e13 : ∀ (t : Fin 5) (inb) (p : Fin 40) (l : Fin 128), (Rect.unit (s := S5x40x128) ![t.val, 0, 0] S1x40x128.size inb).toLoadRect.idx (ix3 0 p l) = ix3 (n0 := 5) t p l := fun t inb p l => by
    funext a; apply Fin.ext
    match a with
    | ⟨0, _⟩ => show t.val + 1 * 0 = t.val; omega
    | ⟨1, _⟩ => show 0 + 1 * p.val = p.val; omega
    | ⟨2, _⟩ => show 0 + 1 * l.val = l.val; omega
  unfold gAt
  simp only [e12]
  rw [sum_pad _ (fun k hk => by rw [hz _ k hk, zero_mul])]
  have ek : ∀ (t1 t2 : Vec Ideal S1x4x4x128 .fp8e4m3) (kk : Fin 80), k0_pay127 (F := Ideal) (arg33.view.readCov (tripRun.sl.Harg33_40 arg9 arg10 arg11 arg25 arg27 arg29 arg30 arg31 arg32 v1 k0_hw1 X_arg9 X_arg10 X_arg11 X_arg25 X_arg27 X_arg29 X_arg30 X_arg31 X_arg32 k) (Rect.unit (s := S65x20x4x128) ![j.val, 0, 0, 0] S1x20x4x128.size (inb_slot ⟨j.val, by omega⟩)).toLoadRect) t1
      (arg33.view.readCov (tripRun.sl.Harg33_40 arg9 arg10 arg11 arg25 arg27 arg29 arg30 arg31 arg32 v1 k0_hw1 X_arg9 X_arg10 X_arg11 X_arg25 X_arg27 X_arg29 X_arg30 X_arg31 X_arg32 k) (Rect.unit (s := S65x20x4x128) ![32 + j.val, 0, 0, 0] S1x20x4x128.size (inb_slot ⟨32 + j.val, by omega⟩)).toLoadRect) t2 (ix2 (n0 := 96) ⟨kk.val, by omega⟩ c) = (fun kk => hAt (arg9.view.read (Elt Ideal) X_arg9) (arg10.view.read (Elt Ideal) X_arg10) (arg11.view.read (Elt Ideal) X_arg11) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + j.val, by have := lt16 v1 hv k; omega⟩ kk c) kk := fun t1 t2 kk => by
    rw [pay127_apply, View.readCov_eq_canon', View.readCov_eq_canon']
    refine Eq.trans ?_ (canon33_at arg9 arg10 arg11 arg25 arg27 arg29 arg30 arg31 arg32 v1 k0_hw1 X_arg9 X_arg10 X_arg11 X_arg25 X_arg27 X_arg29 X_arg30 X_arg31 X_arg32 k hv j kk c)
    split_ifs with h
    · refine congrArg (View.canon _) ?_
      funext a; apply Fin.ext
      match a with
      | ⟨0, _⟩ => show j.val + 1 * 0 = 32 * (c.val / 128) + j.val; omega
      | ⟨1, _⟩ => show 0 + 1 * (kk.val / 4) = kk.val / 4; omega
      | ⟨2, _⟩ => show 0 + 1 * (kk.val % 4) = kk.val % 4; omega
      | ⟨3, _⟩ => show 0 + 1 * (c.val % 128) = c.val % 128; omega
    · refine congrArg (View.canon _) ?_
      funext a; apply Fin.ext
      match a with
      | ⟨0, _⟩ => show 32 + j.val + 1 * 0 = 32 * (c.val / 128) + j.val; omega
      | ⟨1, _⟩ => show 0 + 1 * (kk.val / 4) = kk.val / 4; omega
      | ⟨2, _⟩ => show 0 + 1 * (kk.val % 4) = kk.val % 4; omega
      | ⟨3, _⟩ => show 0 + 1 * (c.val % 128) = c.val % 128; omega
  rw [Finset.sum_congr rfl fun kk _ => congrArg _ (ek _ _ kk)]
  have E0 := e13 0 inb_S5x40x128_S1x40x128_0_0_0
  have E1 := e13 1 inb_S5x40x128_S1x40x128_1_0_0
  have E2 := e13 2 inb_S5x40x128_S1x40x128_2_0_0
  have E3 := e13 3 inb_S5x40x128_S1x40x128_3_0_0
  have E4 := e13 4 inb_S5x40x128_S1x40x128_4_0_0
  exact congr (congr (congr (congr (congrArg gV (congrArg _ (congrArg _ (E0 _ _)))) (congrArg _ (E1 _ _))) (congrArg _ (E2 _ _))) (congrArg _ (E3 _ _))) (congrArg _ (E4 _ _))

end

end Cert.KernelIdeal.Gen
-- ==== Proof.KernelIdeal.TripW.lean ====
/- What a trip of the block loop leaves in the array of weights: rows `32k … 32k + 31` hold the weights of those slots. -/
module

public import proofs.«01_k».proof.Proof.KernelIdeal.TripAt
public import Idealize.ShloMosaic.Lib.WritesUnit

@[expose] public section

set_option maxRecDepth 16384

noncomputable section

namespace Cert.KernelIdeal.Gen

open Idealize.ShloMosaic Idealize.ShloMosaic.TcCoe Idealize.ShloMosaic.Tactic

/-- The weight of slot `i` and candidate `c`: the sum of the features' terms and the bias, where the slot is valid. -/
def atW (len : BitVec 32) (Y9 : Vec Ideal S4x160x128 .f32) (Y10 : Vec Ideal S256x128 .fp8e4m3) (Y11 : Vec Ideal S8x128 .f32) (Y12 : Vec Ideal S40x96 .fp8e4m3)
    (Y13 : Vec Ideal S5x40x128 .f32) (Y16 : Vec Ideal S2 .f32) (Y25 : Vec Ideal S512x256 .i32) (Y27 : Vec Ideal S2048x128 .f32) (Y29 Y30 Y31 : Vec Ideal S160x256 .f32)
    (Y32 : Vec Ideal S20x256x256 .fp8e4m3) (i : Fin 512) (c : Fin 256) : EReal :=
  Scalar.select (IntOp.cmpi .slt (BitVec.ofNat 32 i.val) len)
    ((∑ p : Fin 40, gAt Y12 Y13 (fun kk => hAt Y9 Y10 Y11 Y25 Y27 Y29 Y30 Y31 Y32 i kk c) c p) + Y16 (ix1 (n0 := 2) 0)) 0

/-- A slot's partial sum `s`: of the features `s`, `s + 8`, …. -/
def part8 (Y9 : Vec Ideal S4x160x128 .f32) (Y10 : Vec Ideal S256x128 .fp8e4m3) (Y11 : Vec Ideal S8x128 .f32) (Y12 : Vec Ideal S40x96 .fp8e4m3)
    (Y13 : Vec Ideal S5x40x128 .f32) (Y25 : Vec Ideal S512x256 .i32) (Y27 : Vec Ideal S2048x128 .f32) (Y29 Y30 Y31 : Vec Ideal S160x256 .f32)
    (Y32 : Vec Ideal S20x256x256 .fp8e4m3) (i : Fin 512) (c : Fin 256) (s : Fin 8) : EReal :=
  ∑ x : Fin 5, gAt Y12 Y13 (fun kk => hAt Y9 Y10 Y11 Y25 Y27 Y29 Y30 Y31 Y32 i kk c) c ⟨x.val * 8 + s.val, by omega⟩

/-- Eight partial sums over five rows each, one after the other, are the sum over the forty rows. -/
theorem sum_eight (f : Fin 40 → EReal) (g : Fin 8 → EReal) (h : ∀ s : Fin 8, g s = ∑ x : Fin 5, f ⟨x.val * 8 + s.val, by omega⟩) :
    g 0 + g 1 + g 2 + g 3 + g 4 + g 5 + g 6 + g 7 = ∑ p, f p := by
  rw [← Fin.sum_univ_eight g]
  simp only [h]
  rw [Finset.sum_comm]
  rw [← (finProdFinEquiv (m := 5) (n := 8)).sum_comp (fun p => f p), Fintype.sum_prod_type]
  refine Finset.sum_congr rfl fun x _ => Finset.sum_congr rfl fun s _ => ?_
  congr 1
  apply Fin.ext
  show x.val * 8 + s.val = s.val + 8 * x.val
  omega

theorem pay305_apply (v1 : Elt Ideal .i32) (n : IVec S32x128 32) (a b c d : Vec Ideal S32x128 .f32) (z : Elt Ideal .f32) (r : Fin 32) (l : Fin 128) :
    k0_pay305 v1 n a b c d z (ix2 r l) = Scalar.select (IntOp.cmpi .slt (n (ix2 r l)) v1) (a (ix2 r l) + b (ix2 r l) + c (ix2 r l) + d (ix2 r l) + z) (0 : EReal) := by
  unfold k0_pay305
  pointwise

theorem pay306_apply (v1 : Elt Ideal .i32) (n : IVec S32x128 32) (a b c d : Vec Ideal S32x128 .f32) (z : Elt Ideal .f32) (r : Fin 32) (l : Fin 128) :
    k0_pay306 v1 n a b c d z (ix2 r l) = k0_pay305 v1 n a b c d z (ix2 r l) := by
  unfold k0_pay306
  pointwise

theorem pay304_apply (a b c d e : Vec Ideal S32x128 .f32) (r : Fin 32) (l : Fin 128) :
    k0_pay304 a b c d e (ix2 r l) = a (ix2 r l) + b (ix2 r l) + c (ix2 r l) + d (ix2 r l) + e (ix2 r l) := by
  unfold k0_pay304
  pointwise

theorem pay308_apply (a b c d e f g h : Vec Ideal S32x128 .f32) (r : Fin 32) (l : Fin 128) :
    k0_pay308 a b c d e f g h (ix2 r l) = a (ix2 r l) + b (ix2 r l) + c (ix2 r l) + d (ix2 r l) + e (ix2 r l) + f (ix2 r l) + g (ix2 r l) + h (ix2 r l) := by
  unfold k0_pay308
  pointwise

theorem pay660_apply (v1 : Elt Ideal .i32) (n : IVec S32x128 32) (a : Vec Ideal S32x128 .f32) (z : Elt Ideal .f32) (r : Fin 32) (l : Fin 128) :
    k0_pay660 a (k0_pay309 (F := Ideal) v1 n) z (ix2 r l) = Scalar.select (IntOp.cmpi .slt (n (ix2 r l)) v1) (a (ix2 r l) + z) (0 : EReal) := by
  unfold k0_pay660 k0_pay659 k0_pay309
  pointwise

theorem slot_lit : ∀ (n : Fin 16) (r : Fin 32), IntOp.addi (Scalar.muli (Scf.iv 0#32 1#32 n.val) 32#32) (BitVec.ofNat 32 r.val) = BitVec.ofNat 32 (32 * n.val + r.val) := by
  decide +kernel

/-- The slot a row of a trip's block is. -/
theorem slot_at (v : BitVec 32) (hv : v.toInt ≤ 512) (k : Fin (k0_t3_loop v).trips) (r : Fin 32) (l : Fin 128) :
    tripRun.sl.v2898 (F := Ideal) v k (ix2 r l) = BitVec.ofNat 32 (32 * k.val + r.val) := by
  have h := lt16 v hv k
  unfold tripRun.sl.v2898
  unfold k0_pay303
  pointwise
  exact slot_lit ⟨k.val, h⟩ r

section
variable (arg16 : Memref sig .tc .smem S2 .f32) (X_arg16 : BufTy.Contents (Elt Ideal) arg16.view.ty) (arg9 : Memref sig .tc .vmem S4x160x128 .f32) (arg10 : Memref sig .tc .vmem S256x128 .fp8e4m3) (arg11 : Memref sig .tc .vmem S8x128 .f32) (arg12 : Memref sig .tc .vmem S40x96 .fp8e4m3) (arg13 : Memref sig .tc .vmem S5x40x128 .f32) (arg25 : Memref sig .tc .vmem S512x256 .i32) (arg27 : Memref sig .tc .vmem S2048x128 .f32) (arg29 : Memref sig .tc .vmem S160x256 .f32) (arg30 : Memref sig .tc .vmem S160x256 .f32) (arg31 : Memref sig .tc .vmem S160x256 .f32) (arg32 : Memref sig .tc .vmem S20x256x256 .fp8e4m3) (arg33 : Memref sig .tc .vmem S65x20x4x128 .fp8e4m3) (arg34 : Memref sig .tc .vmem S2x256x128 .f32) (v1 : Elt Ideal .i32) (k0_hw1 : k0_chk1 v1) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (X_arg25 : BufTy.Contents (Elt Ideal) arg25.view.ty) (X_arg27 : BufTy.Contents (Elt Ideal) arg27.view.ty) (X_arg29 : BufTy.Contents (Elt Ideal) arg29.view.ty) (X_arg30 : BufTy.Contents (Elt Ideal) arg30.view.ty) (X_arg31 : BufTy.Contents (Elt Ideal) arg31.view.ty) (X_arg32 : BufTy.Contents (Elt Ideal) arg32.view.ty) (k : Fin (k0_t3_loop v1).trips) (f_arg33 : BufTy.Contents (Elt Ideal) arg33.view.ty) (hv : (v1 : BitVec 32).toInt ≤ 512)

/-- A load of the partial sums: row `r` of the trip is the slot's partial sum `s`. -/
theorem ld34 (hz : ∀ (p : Fin 40) (k : Fin 96), 80 ≤ k.val → (arg12.view.read (Elt Ideal) X_arg12) (ix2 p k) = 0) (h : Fin 2) (s : Fin 8)
    (i1 : ∀ a, (![h.val, 0, 0] : Fin 3 → Nat) a + S1x256x128.size a ≤ S2x256x128.size a) (i2) (i3) (r : Fin 32) (l : Fin 128) :
    View.readAt (Elt Ideal) ((arg34.slice (Rect.unit (s := S2x256x128) ![h.val, 0, 0] S1x256x128.size i1) i2).squeeze S256x128 squeezes_S1x256x128_S256x128).view
        { off := ![s.val, 0], size := S32x128.size, stride := ![8, 1], inb := i3 } (arg34.view.writes (Elt Ideal) arg34.view.junk (tripRun.sl.Harg34_64 arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33)) (ix2 r l)
      = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * h.val + l.val, by omega⟩ s := by
  rw [strided, canon34 arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33]
  refine Eq.trans ?_ (g34_at arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33 hv hz r s ⟨128 * h.val + l.val, by omega⟩)
  unfold G34r G34
  have e1 : (⟨(8 * r.val + s.val) / 8, by omega⟩ : Fin 32) = r := Fin.ext (by show (8 * r.val + s.val) / 8 = r.val; omega)
  have e2 : (⟨(8 * r.val + s.val) % 8, by omega⟩ : Fin 8) = s := Fin.ext (by show (8 * r.val + s.val) % 8 = s.val; omega)
  show g34r arg9 arg10 arg11 arg12 arg13 arg25 arg27 arg29 arg30 arg31 arg32 arg33 v1 k0_hw1 X_arg9 X_arg10 X_arg11 X_arg12 X_arg13 X_arg25 X_arg27 X_arg29 X_arg30 X_arg31 X_arg32 k f_arg33 ⟨(8 * r.val + s.val) / 8, _⟩ (ix2 (n0 := 8) ⟨(8 * r.val + s.val) % 8, _⟩ ⟨128 * h.val + l.val, _⟩) = _
  rw [e1, e2]

theorem ld16 : tripRun.sl.v2934 arg16 X_arg16 = (arg16.view.read (Elt Ideal) X_arg16) (ix1 (n0 := 2) 0) := by
  unfold tripRun.sl.v2934
  rw [View.readAt_apply]
  congr 1
  funext a
  match a with
  | ⟨0, _⟩ => rfl

theorem at0 (hz : ∀ (p : Fin 40) (k : Fin 96), 80 ≤ k.val → (arg12.view.read (Elt Ideal) X_arg12) (ix2 p k) = 0) (r : Fin 32) (l : Fin 128) :
    k0_pay306 v1 (tripRun.sl.v2898 v1 k) (tripRun.sl.v2919 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) (tripRun.sl.v2922 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) (tripRun.sl.v2926 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) (tripRun.sl.v2930 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) (tripRun.sl.v2934 arg16 X_arg16) (ix2 r l)
      = atW v1 (arg9.view.read (Elt Ideal) X_arg9) (arg10.view.read (Elt Ideal) X_arg10) (arg11.view.read (Elt Ideal) X_arg11) (arg12.view.read (Elt Ideal) X_arg12) (arg13.view.read (Elt Ideal) X_arg13) (arg16.view.read (Elt Ideal) X_arg16) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 0 + l.val, by omega⟩ := by
  have e0 : tripRun.sl.v2903 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 0 + l.val, by omega⟩ 0 := by
    unfold tripRun.sl.v2903; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 0 0 inb_S2x256x128_S1x256x128_0_0_0 _ _ r l
  have e1 : tripRun.sl.v2906 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 0 + l.val, by omega⟩ 1 := by
    unfold tripRun.sl.v2906; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 0 1 inb_S2x256x128_S1x256x128_0_0_0 _ _ r l
  have e2 : tripRun.sl.v2910 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 0 + l.val, by omega⟩ 2 := by
    unfold tripRun.sl.v2910; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 0 2 inb_S2x256x128_S1x256x128_0_0_0 _ _ r l
  have e3 : tripRun.sl.v2914 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 0 + l.val, by omega⟩ 3 := by
    unfold tripRun.sl.v2914; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 0 3 inb_S2x256x128_S1x256x128_0_0_0 _ _ r l
  have e4 : tripRun.sl.v2918 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 0 + l.val, by omega⟩ 4 := by
    unfold tripRun.sl.v2918; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 0 4 inb_S2x256x128_S1x256x128_0_0_0 _ _ r l
  have e5 : tripRun.sl.v2922 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 0 + l.val, by omega⟩ 5 := by
    unfold tripRun.sl.v2922; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 0 5 inb_S2x256x128_S1x256x128_0_0_0 _ _ r l
  have e6 : tripRun.sl.v2926 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 0 + l.val, by omega⟩ 6 := by
    unfold tripRun.sl.v2926; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 0 6 inb_S2x256x128_S1x256x128_0_0_0 _ _ r l
  have e7 : tripRun.sl.v2930 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 0 + l.val, by omega⟩ 7 := by
    unfold tripRun.sl.v2930; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 0 7 inb_S2x256x128_S1x256x128_0_0_0 _ _ r l
  rw [pay306_apply, pay305_apply, slot_at v1 hv, ld16]
  unfold tripRun.sl.v2919
  rw [pay304_apply]
  rw [e0, e1, e2, e3, e4, e5, e6, e7]
  unfold atW
  exact congrArg (fun q => Scalar.select _ (q + _) _) (sum_eight (fun p => gAt (arg12.view.read (Elt Ideal) X_arg12) (arg13.view.read (Elt Ideal) X_arg13) (fun kk => hAt (arg9.view.read (Elt Ideal) X_arg9) (arg10.view.read (Elt Ideal) X_arg10) (arg11.view.read (Elt Ideal) X_arg11) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ kk ⟨128 * 0 + l.val, by omega⟩) ⟨128 * 0 + l.val, by omega⟩ p) _ fun s => rfl)

theorem at1 (hz : ∀ (p : Fin 40) (k : Fin 96), 80 ≤ k.val → (arg12.view.read (Elt Ideal) X_arg12) (ix2 p k) = 0) (r : Fin 32) (l : Fin 128) :
    k0_pay660 (tripRun.sl.v2979 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) (tripRun.sl.v2981 v1 k) (tripRun.sl.v2934 arg16 X_arg16) (ix2 r l)
      = atW v1 (arg9.view.read (Elt Ideal) X_arg9) (arg10.view.read (Elt Ideal) X_arg10) (arg11.view.read (Elt Ideal) X_arg11) (arg12.view.read (Elt Ideal) X_arg12) (arg13.view.read (Elt Ideal) X_arg13) (arg16.view.read (Elt Ideal) X_arg16) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 1 + l.val, by omega⟩ := by
  have e0 : tripRun.sl.v2951 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 1 + l.val, by omega⟩ 0 := by
    unfold tripRun.sl.v2951; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 1 0 inb_S2x256x128_S1x256x128_1_0_0 _ _ r l
  have e1 : tripRun.sl.v2954 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 1 + l.val, by omega⟩ 1 := by
    unfold tripRun.sl.v2954; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 1 1 inb_S2x256x128_S1x256x128_1_0_0 _ _ r l
  have e2 : tripRun.sl.v2958 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 1 + l.val, by omega⟩ 2 := by
    unfold tripRun.sl.v2958; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 1 2 inb_S2x256x128_S1x256x128_1_0_0 _ _ r l
  have e3 : tripRun.sl.v2962 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 1 + l.val, by omega⟩ 3 := by
    unfold tripRun.sl.v2962; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 1 3 inb_S2x256x128_S1x256x128_1_0_0 _ _ r l
  have e4 : tripRun.sl.v2966 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 1 + l.val, by omega⟩ 4 := by
    unfold tripRun.sl.v2966; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 1 4 inb_S2x256x128_S1x256x128_1_0_0 _ _ r l
  have e5 : tripRun.sl.v2970 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 1 + l.val, by omega⟩ 5 := by
    unfold tripRun.sl.v2970; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 1 5 inb_S2x256x128_S1x256x128_1_0_0 _ _ r l
  have e6 : tripRun.sl.v2974 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 1 + l.val, by omega⟩ 6 := by
    unfold tripRun.sl.v2974; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 1 6 inb_S2x256x128_S1x256x128_1_0_0 _ _ r l
  have e7 : tripRun.sl.v2978 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 (ix2 r l) = part8 (arg9.view.read (Elt Ideal) X_arg9) (arg10.view.read (Elt Ideal) X_arg10) (arg11.view.read (Elt Ideal) X_arg11) (arg12.view.read (Elt Ideal) X_arg12) (arg13.view.read (Elt Ideal) X_arg13) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ ⟨128 * 1 + l.val, by omega⟩ 7 := by
    unfold tripRun.sl.v2978; exact ld34 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz 1 7 inb_S2x256x128_S1x256x128_1_0_0 _ _ r l
  unfold tripRun.sl.v2981
  rw [pay660_apply, slot_at v1 hv, ld16]
  unfold tripRun.sl.v2979
  rw [pay308_apply]
  rw [e0, e1, e2, e3, e4, e5, e6, e7]
  unfold atW
  exact congrArg (fun q => Scalar.select _ (q + _) _) (sum_eight (fun p => gAt (arg12.view.read (Elt Ideal) X_arg12) (arg13.view.read (Elt Ideal) X_arg13) (fun kk => hAt (arg9.view.read (Elt Ideal) X_arg9) (arg10.view.read (Elt Ideal) X_arg10) (arg11.view.read (Elt Ideal) X_arg11) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) ⟨32 * k.val + r.val, by have := lt16 v1 hv k; omega⟩ kk ⟨128 * 1 + l.val, by omega⟩) ⟨128 * 1 + l.val, by omega⟩ p) _ fun s => rfl)

/-- The pieces a trip writes into the array of weights. -/
def L35 : List (View.Piece (Elt Ideal) S512x256 .f32) :=
  [⟨Rect.unit (s := S512x256) (k0_off15 v1 k) S32x128.size (k0_off15_inb v1 k0_hw1 k), k0_pay660 (tripRun.sl.v2979 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) (tripRun.sl.v2981 v1 k) (tripRun.sl.v2934 arg16 X_arg16)⟩,
   ⟨Rect.unit (s := S512x256) (k0_off14 v1 k) S32x128.size (k0_off14_inb v1 k0_hw1 k), k0_pay306 v1 (tripRun.sl.v2898 v1 k) (tripRun.sl.v2919 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) (tripRun.sl.v2922 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) (tripRun.sl.v2926 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) (tripRun.sl.v2930 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) (tripRun.sl.v2934 arg16 X_arg16)⟩]

/-- The array of weights after a trip: the trip's rows hold their slots' weights, the other rows what they held. -/
theorem read35 (hv : (v1 : BitVec 32).toInt ≤ 512) (hz : ∀ (p : Fin 40) (k : Fin 96), 80 ≤ k.val → (arg12.view.read (Elt Ideal) X_arg12) (ix2 p k) = 0) (arg35 : Memref sig .tc .vmem S512x256 .f32) (f : BufTy.Contents (Elt Ideal) arg35.view.ty) (i : Fin 512) (c : Fin 256) :
    arg35.view.read (Elt Ideal) (arg35.view.writes (Elt Ideal) f (L35 arg16 X_arg16 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33)) (ix2 i c)
      = if 32 * k.val ≤ i.val ∧ i.val < 32 * k.val + 32 then atW v1 (arg9.view.read (Elt Ideal) X_arg9) (arg10.view.read (Elt Ideal) X_arg10) (arg11.view.read (Elt Ideal) X_arg11) (arg12.view.read (Elt Ideal) X_arg12) (arg13.view.read (Elt Ideal) X_arg13) (arg16.view.read (Elt Ideal) X_arg16) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) i c else arg35.view.read (Elt Ideal) f (ix2 i c) := by
  have hk := lt16 v1 hv k
  obtain ⟨-, -, -, o14, o15⟩ := offs v1 hv k
  unfold L35
  by_cases h : 32 * k.val ≤ i.val ∧ i.val < 32 * k.val + 32
  · rw [if_pos h]
    by_cases hc : c.val < 128
    · refine (View.read_writes_cons_unit_of_not_mem arg35.view f _ _ _ (ix2 (n0 := 512) (n1 := 256) i c) o15 (1 : Fin 2) (.inl (by show c.val < 128; exact hc))).trans ?_
      refine (View.read_writes_cons_unit_of_mem arg35.view f _ _ _ (ix2 (n0 := 512) (n1 := 256) i c) (ix2 (n0 := 32) (n1 := 128) ⟨i.val - 32 * k.val, by omega⟩ ⟨c.val, hc⟩) o14
        (fun a => match a with
          | ⟨0, _⟩ => by show i.val = 32 * k.val + (i.val - 32 * k.val); omega
          | ⟨1, _⟩ => by show c.val = 0 + c.val; omega)).trans ?_
      rw [at0 arg16 X_arg16 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz]
      congr 1 <;> apply Fin.ext
      · show 32 * k.val + (i.val - 32 * k.val) = i.val; omega
      · show 128 * 0 + c.val = c.val; omega
    · refine (View.read_writes_cons_unit_of_mem arg35.view f _ _ _ (ix2 (n0 := 512) (n1 := 256) i c) (ix2 (n0 := 32) (n1 := 128) ⟨i.val - 32 * k.val, by omega⟩ ⟨c.val - 128, by omega⟩) o15
        (fun a => match a with
          | ⟨0, _⟩ => by show i.val = 32 * k.val + (i.val - 32 * k.val); omega
          | ⟨1, _⟩ => by show c.val = 128 + (c.val - 128); omega)).trans ?_
      rw [at1 arg16 X_arg16 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz]
      congr 1 <;> apply Fin.ext
      · show 32 * k.val + (i.val - 32 * k.val) = i.val; omega
      · show 128 * 1 + (c.val - 128) = c.val; omega
  · rw [if_neg h]
    have h' : i.val < 32 * k.val ∨ 32 * k.val + 32 ≤ i.val := by omega
    refine (View.read_writes_cons_unit_of_not_mem arg35.view f _ _ _ (ix2 (n0 := 512) (n1 := 256) i c) o15 (0 : Fin 2) (by show i.val < 32 * k.val ∨ 32 * k.val + 32 ≤ i.val; exact h')).trans ?_
    exact View.read_writes_cons_unit_of_not_mem arg35.view f _ _ _ (ix2 (n0 := 512) (n1 := 256) i c) o14 (0 : Fin 2) (by show i.val < 32 * k.val ∨ 32 * k.val + 32 ≤ i.val; exact h')

end

end Cert.KernelIdeal.Gen
-- ==== Proof.KernelIdeal.InvV.lean ====
/- The INVARIANTS of the kernel's two outer loops over blocks of 32 history slots, over the extended reals. Before trip `k` of
   the first loop the array of weights holds the weights of the first `32k` slots, and what it held at entry in the other
   rows; the other scratch is at some contents. The second loop, the remainder of the first, never runs. -/
module

public import proofs.«01_k».proof.Proof.KernelIdeal.Trip
public import proofs.«01_k».proof.Proof.KernelIdeal.TripW

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The array of weights before trip `n`: the first `32n` rows hold their slots' weights, the others what they held. -/
def F35 (arg35 : Memref sig .tc .vmem S512x256 .f32) (harg35 : arg35.IsWhole) (G : BufTy.Contents (Elt Ideal) arg35.view.ty) (A : Fin 512 → Fin 256 → EReal) :
    ℕ → BufTy.Contents (Elt Ideal) arg35.view.ty
  | 0 => G
  | n + 1 => harg35.unread (fun y : S512x256.Idx => if (y 0).val < 32 * (n + 1) then A (y 0) (y 1) else arg35.view.read (Elt Ideal) G y)

theorem F35_read (arg35 : Memref sig .tc .vmem S512x256 .f32) (harg35 : arg35.IsWhole) (G : BufTy.Contents (Elt Ideal) arg35.view.ty) (A : Fin 512 → Fin 256 → EReal)
    (n : ℕ) (i : Fin 512) (c : Fin 256) :
    arg35.view.read (Elt Ideal) (F35 arg35 harg35 G A n) (ix2 i c) = if i.val < 32 * n then A i c else arg35.view.read (Elt Ideal) G (ix2 i c) := by
  cases n with
  | zero => rw [if_neg (by omega)]; rfl
  | succ n => unfold F35; rw [harg35.read_unread]; rfl

theorem F35_step (arg16 : Memref sig .tc .smem S2 .f32) (X_arg16 : BufTy.Contents (Elt Ideal) arg16.view.ty) (arg9 : Memref sig .tc .vmem S4x160x128 .f32) (arg10 : Memref sig .tc .vmem S256x128 .fp8e4m3) (arg11 : Memref sig .tc .vmem S8x128 .f32) (arg12 : Memref sig .tc .vmem S40x96 .fp8e4m3) (arg13 : Memref sig .tc .vmem S5x40x128 .f32) (arg25 : Memref sig .tc .vmem S512x256 .i32) (arg27 : Memref sig .tc .vmem S2048x128 .f32) (arg29 : Memref sig .tc .vmem S160x256 .f32) (arg30 : Memref sig .tc .vmem S160x256 .f32) (arg31 : Memref sig .tc .vmem S160x256 .f32) (arg32 : Memref sig .tc .vmem S20x256x256 .fp8e4m3) (arg33 : Memref sig .tc .vmem S65x20x4x128 .fp8e4m3) (arg34 : Memref sig .tc .vmem S2x256x128 .f32) (v1 : Elt Ideal .i32) (k0_hw1 : k0_chk1 v1) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (X_arg25 : BufTy.Contents (Elt Ideal) arg25.view.ty) (X_arg27 : BufTy.Contents (Elt Ideal) arg27.view.ty) (X_arg29 : BufTy.Contents (Elt Ideal) arg29.view.ty) (X_arg30 : BufTy.Contents (Elt Ideal) arg30.view.ty) (X_arg31 : BufTy.Contents (Elt Ideal) arg31.view.ty) (X_arg32 : BufTy.Contents (Elt Ideal) arg32.view.ty) (k : Fin (k0_t3_loop v1).trips) (f_arg33 : BufTy.Contents (Elt Ideal) arg33.view.ty)  (arg35 : Memref sig .tc .vmem S512x256 .f32) (harg35 : arg35.IsWhole) (G_arg35 f : BufTy.Contents (Elt Ideal) arg35.view.ty)
    (hv : (v1 : BitVec 32).toInt ≤ 512) (hz : ∀ (p : Fin 40) (k : Fin 96), 80 ≤ k.val → (arg12.view.read (Elt Ideal) X_arg12) (ix2 p k) = 0)
    (h : f = F35 arg35 harg35 G_arg35 (atW v1 (arg9.view.read (Elt Ideal) X_arg9) (arg10.view.read (Elt Ideal) X_arg10) (arg11.view.read (Elt Ideal) X_arg11) (arg12.view.read (Elt Ideal) X_arg12) (arg13.view.read (Elt Ideal) X_arg13) (arg16.view.read (Elt Ideal) X_arg16) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32)) k.val) :
    arg35.view.writes (Elt Ideal) f (L35 arg16 X_arg16 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33) = F35 arg35 harg35 G_arg35 (atW v1 (arg9.view.read (Elt Ideal) X_arg9) (arg10.view.read (Elt Ideal) X_arg10) (arg11.view.read (Elt Ideal) X_arg11) (arg12.view.read (Elt Ideal) X_arg12) (arg13.view.read (Elt Ideal) X_arg13) (arg16.view.read (Elt Ideal) X_arg16) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32)) (k.val + 1) := by
  refine harg35.eq_unread ?_
  funext y
  obtain ⟨i, c, rfl⟩ : ∃ (i : Fin 512) (c : Fin 256), y = ix2 i c := ⟨y 0, y 1, (ix2_eta y).symm⟩
  refine (read35 arg16 X_arg16 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 hv hz arg35 f i c).trans ?_
  rw [h, F35_read]
  show _ = if i.val < 32 * (k.val + 1) then atW v1 (arg9.view.read (Elt Ideal) X_arg9) (arg10.view.read (Elt Ideal) X_arg10) (arg11.view.read (Elt Ideal) X_arg11) (arg12.view.read (Elt Ideal) X_arg12) (arg13.view.read (Elt Ideal) X_arg13) (arg16.view.read (Elt Ideal) X_arg16) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32) i c else arg35.view.read (Elt Ideal) G_arg35 (ix2 i c)
  split_ifs <;> first | rfl | omega

set_option warn.classDefReducibility false in
set_option maxHeartbeats 4000000 in set_option sl_exec.stridedRows true in
/-- The loop over the blocks with valid slots: one trip keeps the buffers it reads, and leaves the scratch it writes at
    some contents. -/
@[sl_loop] def loopInvV_k0_t3 (𝒱 : Variants) (c : Dev nD) (bd : Option 𝒱.V) (E : Set ℕ) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (arg0 : BitVec 32) (v1 : Elt Ideal .i32) (k0_hw1 : k0_chk1 v1) (v3 : BitVec 32) (v6 : FVec Ideal S64x512 .fp8e4m3)  (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (X_arg16 : BufTy.Contents (Elt Ideal) arg16.view.ty) (X_arg25 : BufTy.Contents (Elt Ideal) arg25.view.ty) (X_arg26 : BufTy.Contents (Elt Ideal) arg26.view.ty) (X_arg27 : BufTy.Contents (Elt Ideal) arg27.view.ty) (X_arg29 : BufTy.Contents (Elt Ideal) arg29.view.ty) (X_arg30 : BufTy.Contents (Elt Ideal) arg30.view.ty) (X_arg31 : BufTy.Contents (Elt Ideal) arg31.view.ty) (X_arg32 : BufTy.Contents (Elt Ideal) arg32.view.ty) (hv : (v1 : BitVec 32).toInt ≤ 512) (hz : ∀ (p : Fin 40) (k : Fin 96), 80 ≤ k.val → (arg12.view.read (Elt Ideal) X_arg12) (ix2 p k) = 0) (G_arg35 : BufTy.Contents (Elt Ideal) arg35.view.ty) :
    LoopInvTy_k0_t3 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg0 v1 k0_hw1 v3 v6 where
  inv n _ := iprop((arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg16.view.loc (c : Thread nD τ) ↦[arg16.view.set]{fullShare} X_arg16) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg29.view.loc (c : Thread nD τ) ↦[arg29.view.set]{fullShare} X_arg29) ∗ (arg30.view.loc (c : Thread nD τ) ↦[arg30.view.set]{fullShare} X_arg30) ∗ (arg31.view.loc (c : Thread nD τ) ↦[arg31.view.set]{fullShare} X_arg31) ∗ (arg32.view.loc (c : Thread nD τ) ↦[arg32.view.set]{fullShare} X_arg32) ∗ (∃ f, (arg33.view.loc (c : Thread nD τ) ↦[arg33.view.set]{fullShare} f)) ∗ (∃ f, (arg34.view.loc (c : Thread nD τ) ↦[arg34.view.set]{fullShare} f)) ∗ (∃ f, (arg35.view.loc (c : Thread nD τ) ↦[arg35.view.set]{fullShare} f) ∗ ⌜f = F35 arg35 harg35 G_arg35 (atW v1 (arg9.view.read (Elt Ideal) X_arg9) (arg10.view.read (Elt Ideal) X_arg10) (arg11.view.read (Elt Ideal) X_arg11) (arg12.view.read (Elt Ideal) X_arg12) (arg13.view.read (Elt Ideal) X_arg13) (arg16.view.read (Elt Ideal) X_arg16) (arg25.view.read (Elt Ideal) X_arg25) (arg27.view.read (Elt Ideal) X_arg27) (arg29.view.read (Elt Ideal) X_arg29) (arg30.view.read (Elt Ideal) X_arg30) (arg31.view.read (Elt Ideal) X_arg31) (arg32.view.read (Elt Ideal) X_arg32)) n⌝) ∗ (∃ f, (arg36.view.loc (c : Thread nD τ) ↦[arg36.view.set]{fullShare} f)))
  step k acc := by
    iintro ⟨Harg9, Harg10, Harg11, Harg12, Harg13, Harg16, Harg25, Harg26, Harg27, Harg29, Harg30, Harg31, Harg32, ⟨%f_arg33, Harg33⟩, ⟨%f_arg34, Harg34⟩, ⟨%f_arg35, Harg35, %h35⟩, ⟨%f_arg36, Harg36⟩⟩
    iapply (wp_wand_r frame (wpE (defs₀ (F := Ideal)) 𝒱 (c : Thread nD τ) bd) E)
    isplitl [Harg9 Harg10 Harg11 Harg12 Harg13 Harg16 Harg25 Harg26 Harg27 Harg29 Harg30 Harg31 Harg32 Harg33 Harg34 Harg35 Harg36]
    · iapply ((tripRun (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg0 v1 k0_hw1 v3 v6 X_arg9 X_arg10 X_arg11 X_arg12 X_arg13 X_arg16 X_arg25 X_arg26 X_arg27 X_arg29 X_arg30 X_arg31 X_arg32 k f_arg33).2.2 f_arg34 f_arg35 f_arg36)
      isplitl [Harg9]; · iexact Harg9
      isplitl [Harg10]; · iexact Harg10
      isplitl [Harg11]; · iexact Harg11
      isplitl [Harg12]; · iexact Harg12
      isplitl [Harg13]; · iexact Harg13
      isplitl [Harg16]; · iexact Harg16
      isplitl [Harg25]; · iexact Harg25
      isplitl [Harg26]; · iexact Harg26
      isplitl [Harg27]; · iexact Harg27
      isplitl [Harg29]; · iexact Harg29
      isplitl [Harg30]; · iexact Harg30
      isplitl [Harg31]; · iexact Harg31
      isplitl [Harg32]; · iexact Harg32
      isplitl [Harg33]; · iexact Harg33
      isplitl [Harg34]; · iexact Harg34
      isplitl [Harg35]; · iexact Harg35
      iexact Harg36
    · iintro %_ ⟨Harg9, Harg10, Harg11, Harg12, Harg13, Harg16, Harg25, Harg26, Harg27, Harg29, Harg30, Harg31, Harg32, Harg33, Harg34, Harg35, Harg36⟩
      isplitl [Harg9]; · iexact Harg9
      isplitl [Harg10]; · iexact Harg10
      isplitl [Harg11]; · iexact Harg11
      isplitl [Harg12]; · iexact Harg12
      isplitl [Harg13]; · iexact Harg13
      isplitl [Harg16]; · iexact Harg16
      isplitl [Harg25]; · iexact Harg25
      isplitl [Harg26]; · iexact Harg26
      isplitl [Harg27]; · iexact Harg27
      isplitl [Harg29]; · iexact Harg29
      isplitl [Harg30]; · iexact Harg30
      isplitl [Harg31]; · iexact Harg31
      isplitl [Harg32]; · iexact Harg32
      isplitl [Harg33]; · iexact Harg33
      isplitl [Harg34]; · iexact Harg34
      isplitl [Harg35]
      · iexists _; isplitl [Harg35]; · iexact Harg35
        ipureintro
        exact F35_step arg16 X_arg16 arg9 arg10 arg11 arg12 arg13 arg25 arg27 arg29 arg30 arg31 arg32 arg33 arg34 v1 k0_hw1 X_arg9 X_arg10 X_arg11 X_arg12 X_arg13 X_arg25 X_arg27 X_arg29 X_arg30 X_arg31 X_arg32 k f_arg33 arg35 harg35 G_arg35 f_arg35 hv hz h35
      iexists _; iexact Harg36

/-- The remainder loop runs from the first loop's bound in steps of 1 to the same bound: it has no trip. -/
theorem trips0V_k0_t4 (v1 : BitVec 32) : (k0_t4_loop v1).trips = 0 := by
  have h1 : ∀ x : BitVec 32, Scalar.muli (Scalar.divsi x 1#32) 1#32 = x := by
    intro x; simp [Scalar.muli, Scalar.divsi, IntOp.muli, IntOp.divsi, IntOp.SDivCorner]
  simp only [k0_t4_loop, Scf.Loop.trips, h1]
  simp [Scf.trips]

set_option warn.classDefReducibility false in
/-- The remainder loop, which never runs: it keeps everything. -/
@[sl_loop] def loopInvV_k0_t4 (𝒱 : Variants) (c : Dev nD) (bd : Option 𝒱.V) (E : Set ℕ) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (arg0 : BitVec 32) (v1 : Elt Ideal .i32) (k0_hw1 : k0_chk1 v1) (v3 : BitVec 32) (v6 : FVec Ideal S64x512 .fp8e4m3) (v246 : BitVec 32)  (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (X_arg16 : BufTy.Contents (Elt Ideal) arg16.view.ty) (X_arg25 : BufTy.Contents (Elt Ideal) arg25.view.ty) (X_arg26 : BufTy.Contents (Elt Ideal) arg26.view.ty) (X_arg27 : BufTy.Contents (Elt Ideal) arg27.view.ty) (X_arg29 : BufTy.Contents (Elt Ideal) arg29.view.ty) (X_arg30 : BufTy.Contents (Elt Ideal) arg30.view.ty) (X_arg31 : BufTy.Contents (Elt Ideal) arg31.view.ty) (X_arg32 : BufTy.Contents (Elt Ideal) arg32.view.ty) (X_arg35 : BufTy.Contents (Elt Ideal) arg35.view.ty) :
    LoopInvTy_k0_t4 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg0 v1 k0_hw1 v3 v6 v246 where
  inv _ _ := iprop((arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg16.view.loc (c : Thread nD τ) ↦[arg16.view.set]{fullShare} X_arg16) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg29.view.loc (c : Thread nD τ) ↦[arg29.view.set]{fullShare} X_arg29) ∗ (arg30.view.loc (c : Thread nD τ) ↦[arg30.view.set]{fullShare} X_arg30) ∗ (arg31.view.loc (c : Thread nD τ) ↦[arg31.view.set]{fullShare} X_arg31) ∗ (arg32.view.loc (c : Thread nD τ) ↦[arg32.view.set]{fullShare} X_arg32) ∗ (∃ f, (arg33.view.loc (c : Thread nD τ) ↦[arg33.view.set]{fullShare} f)) ∗ (∃ f, (arg34.view.loc (c : Thread nD τ) ↦[arg34.view.set]{fullShare} f)) ∗ (arg35.view.loc (c : Thread nD τ) ↦[arg35.view.set]{fullShare} X_arg35) ∗ (∃ f, (arg36.view.loc (c : Thread nD τ) ↦[arg36.view.set]{fullShare} f)))
  step k acc := (k.cast (trips0V_k0_t4 v1)).elim0

end Cert.KernelIdeal.Gen

end

end
-- ==== Proof.KernelIdeal.Codes.lean ====
/- The VALUES of the products' codes and scales: what the two loops over the quads and over the channels leave in their arrays. -/
module

public import proofs.«01_k».proof.Proof.Gen.KernelIdeal.Loops
public import Idealize.ShloMosaic.Lib.Pointwise
public import Idealize.ShloMosaic.Lib.ValueIdx
public import Idealize.ShloMosaic.Lib.WritesUnit

@[expose] public section

set_option maxRecDepth 16384

noncomputable section

namespace Cert.KernelIdeal.Gen

open Idealize.ShloMosaic Idealize.ShloMosaic.TcCoe Idealize.ShloMosaic.Tactic

/-- The scale of a column of products: its largest magnitude over 448, or one where that is zero. -/
def scl (v : Fin 64 → EReal) : EReal :=
  if Finset.fold max (Ideal.ofBits .f32 0xFF800000#32) (fun x => FloatOps.absf (F := Ideal) (φ := .f32) (v x)) Finset.univ = 0 then 1
  else Ideal.div (Finset.fold max (Ideal.ofBits .f32 0xFF800000#32) (fun x => FloatOps.absf (F := Ideal) (φ := .f32) (v x)) Finset.univ) (Ideal.ofBits .f32 0x43E00000#32)

/-- A code of scale `s`: the quotient, clipped at ±448. -/
def cod (x s : EReal) : EReal := min (Ideal.ofBits .f32 0x43E00000#32) (max (Ideal.ofBits .f32 0xC3E00000#32) (Ideal.div x s))

/-- The lane `c` of a row repeated every 128 lanes. -/
def ln (c : Fin 256) : Fin 128 := ⟨c.val % 128, by omega⟩

theorem ln_lt (c : Fin 256) (h : c.val < 128) : ln c = ⟨c.val, h⟩ := Fin.ext (by show c.val % 128 = c.val; omega)

theorem ln_ge (c : Fin 256) (h : ¬ c.val < 128) : ln c = ⟨c.val - 128, by omega⟩ := Fin.ext (by show c.val % 128 = c.val - 128; omega)

theorem codq {P P' : Fin 64 → EReal} {d d' : Fin 64} (h : P = P') (hd : d = d') : cod (P d) (scl P) = cod (P' d') (scl P') := by
  subst h hd; rfl

/-- The products of one output channel. -/
def pr (Q : Vec Ideal S64x256 .f32) (W : Vec Ideal S1x64x128 .f32) (c : Fin 256) (d : Fin 64) : EReal :=
  Q (ix2 d c) * W (ix3 (n0 := 1) 0 d (ln c))

theorem cod0 (Q : Vec Ideal S64x256 .f32) (W : Vec Ideal S1x64x128 .f32) (d : Fin 64) (c : Fin 256) :
    k0_pay4 Q W (ix3 (n0 := 1) 0 d c) = cod (pr Q W c d) (scl (pr Q W c)) := by
  unfold k0_pay4 k0_pay3 k0_pay2
  pointwise
  unfold cod scl pr
  by_cases h : c.val < 128
  · simp only [h, ln_lt c h, dite_true]
  · simp only [h, ln_ge c h, dite_false]

theorem cod1 (Q : Vec Ideal S64x256 .f32) (W : Vec Ideal S1x64x128 .f32) (d : Fin 64) (c : Fin 256) :
    k0_pay8 Q W (ix3 (n0 := 1) 0 d c) = cod (pr Q W c d) (scl (pr Q W c)) := by
  unfold k0_pay8 k0_pay7 k0_pay6
  pointwise
  unfold cod scl pr
  by_cases h : c.val < 128
  · simp only [h, ln_lt c h, dite_true]
  · simp only [h, ln_ge c h, dite_false]

theorem cod2 (Q : Vec Ideal S64x256 .f32) (W : Vec Ideal S1x64x128 .f32) (d : Fin 64) (c : Fin 256) :
    k0_pay15 (k0_pay10 Q W) (k0_pay12 Q W) (k0_pay13 Q W) (FloatOps.ofBits (F := Ideal) .f32 1065353216#32) (ix3 (n0 := 1) 0 d c) = cod (pr Q W c d) (scl (pr Q W c)) := by
  unfold k0_pay15 k0_pay14 k0_pay10 k0_pay12 k0_pay13 k0_pay11 k0_pay10
  pointwise
  unfold cod scl pr
  by_cases h : c.val < 128
  · simp only [h, ln_lt c h, dite_true]
  · simp only [h, ln_ge c h, dite_false]

theorem cod3 (Q : Vec Ideal S64x256 .f32) (W : Vec Ideal S1x64x128 .f32) (d : Fin 64) (c : Fin 256) :
    k0_pay633 (k0_pay19 Q W) (ix3 (n0 := 1) 0 d c) = cod (pr Q W c d) (scl (pr Q W c)) := by
  unfold k0_pay633 k0_pay19 k0_pay18 k0_pay17
  pointwise
  unfold cod scl pr
  by_cases h : c.val < 128
  · simp only [h, ln_lt c h, dite_true]
  · simp only [h, ln_ge c h, dite_false]

theorem sub_apply (r : Fin 8) (c : Fin 256) : k0_pay632 (ix2 r c) = BitVec.ofNat 32 (r.val % 4) := by
  unfold k0_pay632
  pointwise
  revert r
  decide +kernel

/-- The eight rows of a quad's scales: its four scales, twice. -/
theorem pat_apply (Q : Vec Ideal S64x256 .f32) (W0 W1 W2 W3 : Vec Ideal S1x64x128 .f32) (r : Fin 8) (c : Fin 256) :
    k0_pay634 (k0_pay16 k0_pay632 (k0_pay9 k0_pay632 Q (k0_pay5 k0_pay632 Q W0) W1) (k0_pay12 Q W2) (k0_pay13 Q W2) (FloatOps.ofBits (F := Ideal) .f32 1065353216#32)) (k0_pay18 Q W3) (ix2 r c)
      = scl (pr Q ((![W0, W1, W2, W3] : Fin 4 → Vec Ideal S1x64x128 .f32) ⟨r.val % 4, by omega⟩) c) := by
  unfold k0_pay634 k0_pay16 k0_pay14 k0_pay9 k0_pay5 k0_pay12 k0_pay13 k0_pay11 k0_pay10 k0_pay18 k0_pay17 k0_pay7 k0_pay6 k0_pay3 k0_pay2
  pointwise [sub_apply]
  unfold scl pr
  have h : r.val % 4 = 0 ∨ r.val % 4 = 1 ∨ r.val % 4 = 2 ∨ r.val % 4 = 3 := by omega
  by_cases hc : c.val < 128
  · simp only [hc, ln_lt c hc, dite_true]
    rcases h with h | h | h | h <;> simp only [h] <;> rfl
  · simp only [hc, ln_ge c hc, dite_false]
    rcases h with h | h | h | h <;> simp only [h] <;> rfl

/-- The codes of one channel, at the given scales. -/
theorem cod4 (q : Vec Ideal S1x256 .f32) (W : Vec Ideal S1x80x128 .f32) (s : Vec Ideal S1x80x256 .f32) (o : Fin 80) (c : Fin 256) :
    k0_pay655 q W s (ix4 (n0 := 1) (n1 := 1) 0 0 o c) = cod (q (ix2 (n0 := 1) 0 c) * W (ix3 (n0 := 1) 0 o (ln c))) (s (ix3 (n0 := 1) 0 o c)) := by
  unfold k0_pay655
  pointwise
  unfold cod
  by_cases h : c.val < 128
  · simp only [h, ln_lt c h, dite_true]
  · simp only [h, ln_ge c h, dite_false]

/-- The products of output channel `o`, over the whole array of the weights. -/
def prw (Q : Vec Ideal S64x256 .f32) (W : Vec Ideal S80x64x128 .f32) (o : Fin 80) (c : Fin 256) (d : Fin 64) : EReal :=
  Q (ix2 d c) * W (ix3 o d (ln c))

section
variable (𝒱 : Variants) (c : Dev nD) (bd : Option 𝒱.V) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (v128 : FVec Ideal S160x256 .f32) (X_arg5 : BufTy.Contents (Elt Ideal) arg5.view.ty) (X_arg28 : BufTy.Contents (Elt Ideal) arg28.view.ty) (k : Fin k0_t1_loop.trips)

theorem lt20 : k.val < 20 := Nat.lt_of_lt_of_le k.isLt k0_t1_abs.2.1

/-- The products of channel `4k + o`, as the trip computes them. -/
theorem pr_eq (o : Fin 4) (l : Fin 256) :
    pr (trip_k0_t1.sl.r arg28 X_arg28) (View.readAt (Elt Ideal) arg5.view (Rect.unit (s := S80x64x128) (k0_off2 k (BitVec.ofNat 32 o.val)) S1x64x128.size (k0_off2_inb k o)).toLoadRect X_arg5) l
      = prw (arg28.view.read (Elt Ideal) X_arg28) (arg5.view.read (Elt Ideal) X_arg5) ⟨4 * k.val + o.val, by have := lt20 k; omega⟩ l := by
  have e := k0_off2_eq k o
  funext d
  unfold pr prw trip_k0_t1.sl.r
  congr 1
  · rw [View.readAt_apply]
    congr 1
    funext a; apply Fin.ext
    match a with
    | ⟨0, _⟩ => show 0 + 1 * d.val = d.val; omega
    | ⟨1, _⟩ => show 0 + 1 * l.val = l.val; omega
  · rw [View.readAt_apply]
    congr 1
    funext a; apply Fin.ext
    match a with
    | ⟨0, _⟩ => show k0_off2 k (BitVec.ofNat 32 o.val) 0 + 1 * 0 = _; rw [e]; rfl
    | ⟨1, _⟩ => show k0_off2 k (BitVec.ofNat 32 o.val) 1 + 1 * d.val = _; rw [e]; show 0 + 1 * d.val = d.val; omega
    | ⟨2, _⟩ => show k0_off2 k (BitVec.ofNat 32 o.val) 2 + 1 * (ln l).val = _; rw [e]; show 0 + 1 * (ln l).val = (ln l).val; omega

/-- A trip's rows of scales. -/
theorem trip31 (f : BufTy.Contents (Elt Ideal) arg31.view.ty) (r : Fin 160) (l : Fin 256) :
    arg31.view.read (Elt Ideal) (arg31.view.writes (Elt Ideal) f (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28 k).1) (ix2 r l)
      = if 8 * k.val ≤ r.val ∧ r.val < 8 * k.val + 8 then scl (prw (arg28.view.read (Elt Ideal) X_arg28) (arg5.view.read (Elt Ideal) X_arg5) ⟨4 * (r.val / 8) + r.val % 4, by omega⟩ l) else arg31.view.read (Elt Ideal) f (ix2 r l) := by
  have o7 := k0_off7_eq k
  unfold tripL_k0_t1 trip_k0_t1
  by_cases h : 8 * k.val ≤ r.val ∧ r.val < 8 * k.val + 8
  · rw [if_pos h]
    refine (View.read_writes_cons_unit_of_mem arg31.view f _ _ _ (ix2 (n0 := 160) (n1 := 256) r l) (ix2 (n0 := 8) (n1 := 256) ⟨r.val - 8 * k.val, by omega⟩ l) o7
      (fun a => match a with
        | ⟨0, _⟩ => by show r.val = 8 * k.val + (r.val - 8 * k.val); omega
        | ⟨1, _⟩ => by show l.val = 0 + l.val; omega)).trans ?_
    refine (pat_apply _ _ _ _ _ _ _).trans (congrArg scl ?_)
    have e : ∀ o : Fin 4, r.val % 4 = o.val → prw (arg28.view.read (Elt Ideal) X_arg28) (arg5.view.read (Elt Ideal) X_arg5) ⟨4 * (r.val / 8) + r.val % 4, by omega⟩ l = prw (arg28.view.read (Elt Ideal) X_arg28) (arg5.view.read (Elt Ideal) X_arg5) ⟨4 * k.val + o.val, by have := lt20 k; omega⟩ l :=
      fun o ho => congrArg (fun z => prw (arg28.view.read (Elt Ideal) X_arg28) (arg5.view.read (Elt Ideal) X_arg5) z l) (Fin.ext (by show 4 * (r.val / 8) + r.val % 4 = 4 * k.val + o.val; omega))
    have m : (r.val - 8 * k.val) % 4 = r.val % 4 := by omega
    have h4 : r.val % 4 = 0 ∨ r.val % 4 = 1 ∨ r.val % 4 = 2 ∨ r.val % 4 = 3 := by omega
    rcases h4 with h4 | h4 | h4 | h4
    · rw [e 0 h4, ← pr_eq arg5 arg28 X_arg5 X_arg28 k 0 l]; simp only [m, h4]; rfl
    · rw [e 1 h4, ← pr_eq arg5 arg28 X_arg5 X_arg28 k 1 l]; simp only [m, h4]; rfl
    · rw [e 2 h4, ← pr_eq arg5 arg28 X_arg5 X_arg28 k 2 l]; simp only [m, h4]; rfl
    · rw [e 3 h4, ← pr_eq arg5 arg28 X_arg5 X_arg28 k 3 l]; simp only [m, h4]; rfl
  · rw [if_neg h]
    refine (View.read_writes_cons_unit_of_not_mem arg31.view f _ _ _ (ix2 (n0 := 160) (n1 := 256) r l) o7 (0 : Fin 2) (by show r.val < 8 * k.val ∨ 8 * k.val + 8 ≤ r.val; omega)).trans ?_
    rfl

/-- A trip's block of codes. -/
theorem trip32 (f : BufTy.Contents (Elt Ideal) arg32.view.ty) (q : Fin 20) (x l : Fin 256) :
    arg32.view.read (Elt Ideal) (arg32.view.writes (Elt Ideal) f (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28 k).2) (ix3 q x l)
      = if q.val = k.val then cod (prw (arg28.view.read (Elt Ideal) X_arg28) (arg5.view.read (Elt Ideal) X_arg5) ⟨4 * q.val + x.val / 64, by omega⟩ l ⟨x.val % 64, by omega⟩) (scl (prw (arg28.view.read (Elt Ideal) X_arg28) (arg5.view.read (Elt Ideal) X_arg5) ⟨4 * q.val + x.val / 64, by omega⟩ l))
        else arg32.view.read (Elt Ideal) f (ix3 q x l) := by
  have o3 := k0_off3_eq k
  have o4 := k0_off4_eq k
  have o5 := k0_off5_eq k
  have o6 := k0_off6_eq k
  unfold tripL_k0_t1 trip_k0_t1
  by_cases h : q.val = k.val
  · rw [if_pos h]
    by_cases h3 : 192 ≤ x.val
    · refine (View.read_writes_cons_unit_of_mem arg32.view f _ _ _ (ix3 (n0 := 20) (n1 := 256) (n2 := 256) q x l) (ix3 (n0 := 1) (n1 := 64) (n2 := 256) 0 ⟨x.val - 192, by omega⟩ l) o6
        (fun a => match a with
          | ⟨0, _⟩ => by show q.val = k.val + 0; omega
          | ⟨1, _⟩ => by show x.val = 192 + (x.val - 192); omega
          | ⟨2, _⟩ => by show l.val = 0 + l.val; omega)).trans ?_
      refine (cod3 _ _ _ _).trans ?_
      exact codq ((pr_eq arg5 arg28 X_arg5 X_arg28 k 3 l).trans (congrArg (fun z => prw (arg28.view.read (Elt Ideal) X_arg28) (arg5.view.read (Elt Ideal) X_arg5) z l) (Fin.ext (by show 4 * k.val + 3 = 4 * q.val + x.val / 64; omega))))
        (Fin.ext (by show x.val - 192 = x.val % 64; omega))
    refine (View.read_writes_cons_unit_of_not_mem arg32.view f _ _ _ (ix3 (n0 := 20) (n1 := 256) (n2 := 256) q x l) o6 (1 : Fin 3) (.inl (by show x.val < 192; omega))).trans ?_
    by_cases h2 : 128 ≤ x.val
    · refine (View.read_writes_cons_unit_of_mem arg32.view f _ _ _ (ix3 (n0 := 20) (n1 := 256) (n2 := 256) q x l) (ix3 (n0 := 1) (n1 := 64) (n2 := 256) 0 ⟨x.val - 128, by omega⟩ l) o5
        (fun a => match a with
          | ⟨0, _⟩ => by show q.val = k.val + 0; omega
          | ⟨1, _⟩ => by show x.val = 128 + (x.val - 128); omega
          | ⟨2, _⟩ => by show l.val = 0 + l.val; omega)).trans ?_
      refine (cod2 _ _ _ _).trans ?_
      exact codq ((pr_eq arg5 arg28 X_arg5 X_arg28 k 2 l).trans (congrArg (fun z => prw (arg28.view.read (Elt Ideal) X_arg28) (arg5.view.read (Elt Ideal) X_arg5) z l) (Fin.ext (by show 4 * k.val + 2 = 4 * q.val + x.val / 64; omega))))
        (Fin.ext (by show x.val - 128 = x.val % 64; omega))
    refine (View.read_writes_cons_unit_of_not_mem arg32.view f _ _ _ (ix3 (n0 := 20) (n1 := 256) (n2 := 256) q x l) o5 (1 : Fin 3) (.inl (by show x.val < 128; omega))).trans ?_
    by_cases h1 : 64 ≤ x.val
    · refine (View.read_writes_cons_unit_of_mem arg32.view f _ _ _ (ix3 (n0 := 20) (n1 := 256) (n2 := 256) q x l) (ix3 (n0 := 1) (n1 := 64) (n2 := 256) 0 ⟨x.val - 64, by omega⟩ l) o4
        (fun a => match a with
          | ⟨0, _⟩ => by show q.val = k.val + 0; omega
          | ⟨1, _⟩ => by show x.val = 64 + (x.val - 64); omega
          | ⟨2, _⟩ => by show l.val = 0 + l.val; omega)).trans ?_
      refine (cod1 _ _ _ _).trans ?_
      exact codq ((pr_eq arg5 arg28 X_arg5 X_arg28 k 1 l).trans (congrArg (fun z => prw (arg28.view.read (Elt Ideal) X_arg28) (arg5.view.read (Elt Ideal) X_arg5) z l) (Fin.ext (by show 4 * k.val + 1 = 4 * q.val + x.val / 64; omega))))
        (Fin.ext (by show x.val - 64 = x.val % 64; omega))
    refine (View.read_writes_cons_unit_of_not_mem arg32.view f _ _ _ (ix3 (n0 := 20) (n1 := 256) (n2 := 256) q x l) o4 (1 : Fin 3) (.inl (by show x.val < 64; omega))).trans ?_
    refine (View.read_writes_cons_unit_of_mem arg32.view f _ _ _ (ix3 (n0 := 20) (n1 := 256) (n2 := 256) q x l) (ix3 (n0 := 1) (n1 := 64) (n2 := 256) 0 ⟨x.val - 0, by omega⟩ l) o3
      (fun a => match a with
        | ⟨0, _⟩ => by show q.val = k.val + 0; omega
        | ⟨1, _⟩ => by show x.val = 0 + (x.val - 0); omega
        | ⟨2, _⟩ => by show l.val = 0 + l.val; omega)).trans ?_
    refine (cod0 _ _ _ _).trans ?_
    exact codq ((pr_eq arg5 arg28 X_arg5 X_arg28 k 0 l).trans (congrArg (fun z => prw (arg28.view.read (Elt Ideal) X_arg28) (arg5.view.read (Elt Ideal) X_arg5) z l) (Fin.ext (by show 4 * k.val + 0 = 4 * q.val + x.val / 64; omega))))
      (Fin.ext (by show x.val - 0 = x.val % 64; omega))
  · rw [if_neg h]
    refine (View.read_writes_cons_unit_of_not_mem arg32.view f _ _ _ (ix3 (n0 := 20) (n1 := 256) (n2 := 256) q x l) o6 (0 : Fin 3) (by show q.val < k.val ∨ k.val + 1 ≤ q.val; omega)).trans ?_
    refine (View.read_writes_cons_unit_of_not_mem arg32.view f _ _ _ (ix3 (n0 := 20) (n1 := 256) (n2 := 256) q x l) o5 (0 : Fin 3) (by show q.val < k.val ∨ k.val + 1 ≤ q.val; omega)).trans ?_
    refine (View.read_writes_cons_unit_of_not_mem arg32.view f _ _ _ (ix3 (n0 := 20) (n1 := 256) (n2 := 256) q x l) o4 (0 : Fin 3) (by show q.val < k.val ∨ k.val + 1 ≤ q.val; omega)).trans ?_
    refine (View.read_writes_cons_unit_of_not_mem arg32.view f _ _ _ (ix3 (n0 := 20) (n1 := 256) (n2 := 256) q x l) o3 (0 : Fin 3) (by show q.val < k.val ∨ k.val + 1 ≤ q.val; omega)).trans ?_
    rfl
end

section
variable (𝒱 : Variants) (c : Dev nD) (bd : Option 𝒱.V) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (v128 : FVec Ideal S160x256 .f32) (X_arg5 : BufTy.Contents (Elt Ideal) arg5.view.ty) (X_arg28 : BufTy.Contents (Elt Ideal) arg28.view.ty)

/-- The rows of scales before trip `n`. -/
theorem pat31 (f : BufTy.Contents (Elt Ideal) arg31.view.ty) (n : ℕ) (hn : n ≤ k0_t1_loop.trips) (r : Fin 160) (l : Fin 256) :
    arg31.view.read (Elt Ideal) (arg31.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28  n).1) (ix2 r l)
      = if r.val < 8 * n then scl (prw (arg28.view.read (Elt Ideal) X_arg28) (arg5.view.read (Elt Ideal) X_arg5) ⟨4 * (r.val / 8) + r.val % 4, by omega⟩ l) else arg31.view.read (Elt Ideal) f (ix2 r l) := by
  induction n with
  | zero => rw [if_neg (by omega)]; rfl
  | succ n ih =>
    rw [show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28  (n + 1)) = _ from pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28 ⟨n, hn⟩]
    simp only [View.writes_append]
    refine (trip31 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28 ⟨n, hn⟩ _ r l).trans ?_
    rw [ih (Nat.le_of_succ_le hn)]
    split_ifs <;> first | rfl | (simp only at *; omega)

/-- The codes before trip `n`. -/
theorem codes32 (f : BufTy.Contents (Elt Ideal) arg32.view.ty) (n : ℕ) (hn : n ≤ k0_t1_loop.trips) (q : Fin 20) (x l : Fin 256) :
    arg32.view.read (Elt Ideal) (arg32.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28  n).2) (ix3 q x l)
      = if q.val < n then cod (prw (arg28.view.read (Elt Ideal) X_arg28) (arg5.view.read (Elt Ideal) X_arg5) ⟨4 * q.val + x.val / 64, by omega⟩ l ⟨x.val % 64, by omega⟩) (scl (prw (arg28.view.read (Elt Ideal) X_arg28) (arg5.view.read (Elt Ideal) X_arg5) ⟨4 * q.val + x.val / 64, by omega⟩ l))
        else arg32.view.read (Elt Ideal) f (ix3 q x l) := by
  induction n with
  | zero => rw [if_neg (by omega)]; rfl
  | succ n ih =>
    rw [show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28  (n + 1)) = _ from pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28 ⟨n, hn⟩]
    simp only [View.writes_append]
    refine (trip32 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28 ⟨n, hn⟩ _ q x l).trans ?_
    rw [ih (Nat.le_of_succ_le hn)]
    split_ifs <;> first | rfl | (simp only at *; omega)
end

section
variable (𝒱 : Variants) (c : Dev nD) (bd : Option 𝒱.V) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (v206 : Vec Ideal S4x256 .f32) (X_arg6 : BufTy.Contents (Elt Ideal) arg6.view.ty) (X_arg20 : BufTy.Contents (Elt Ideal) arg20.view.ty) (X_arg28 : BufTy.Contents (Elt Ideal) arg28.view.ty) (k : Fin k0_t2_loop.trips)

/-- A trip's codes: those of one channel. -/
theorem trip19 (f : BufTy.Contents (Elt Ideal) arg19.view.ty) (d : Fin 64) (o : Fin 80) (l : Fin 256) :
    arg19.view.read (Elt Ideal) (arg19.view.writes (Elt Ideal) f (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v206 X_arg6 X_arg20 X_arg28 k)) (ix4 (n0 := 1) 0 d o l)
      = if d.val = k.val then cod ((arg28.view.read (Elt Ideal) X_arg28) (ix2 d l) * (arg6.view.read (Elt Ideal) X_arg6) (ix3 d o (ln l))) ((arg20.view.read (Elt Ideal) X_arg20) (ix3 (n0 := 1) 0 o l)) else arg19.view.read (Elt Ideal) f (ix4 (n0 := 1) 0 d o l) := by
  have o8 := k0_off8_eq k
  have o9 := k0_off9_eq k
  have o10 := k0_off10_eq k
  unfold tripL_k0_t2 trip_k0_t2
  by_cases h : d.val = k.val
  · rw [if_pos h]
    refine (View.read_writes_cons_unit_of_mem arg19.view f _ _ _ (ix4 (n0 := 1) (n1 := 64) (n2 := 80) (n3 := 256) 0 d o l) (ix4 (n0 := 1) (n1 := 1) (n2 := 80) (n3 := 256) 0 0 o l) o10
      (fun a => match a with
        | ⟨0, _⟩ => rfl
        | ⟨1, _⟩ => by show d.val = k.val + 0; omega
        | ⟨2, _⟩ => by show o.val = 0 + o.val; omega
        | ⟨3, _⟩ => by show l.val = 0 + l.val; omega)).trans ?_
    refine (cod4 _ _ _ _ _).trans (congrArg₂ cod (congrArg₂ (· * ·) ?_ ?_) ?_)
    · rw [View.readAt_apply]
      congr 1
      funext a; apply Fin.ext
      match a with
      | ⟨0, _⟩ => show k0_off8 k 0 + 1 * 0 = d.val; rw [o8]; show k.val + 0 = d.val; omega
      | ⟨1, _⟩ => show k0_off8 k 1 + 1 * l.val = l.val; rw [o8]; show 0 + 1 * l.val = l.val; omega
    · rw [View.readAt_apply]
      congr 1
      funext a; apply Fin.ext
      match a with
      | ⟨0, _⟩ => show k0_off9 k 0 + 1 * 0 = d.val; rw [o9]; show k.val + 0 = d.val; omega
      | ⟨1, _⟩ => show k0_off9 k 1 + 1 * o.val = o.val; rw [o9]; show 0 + 1 * o.val = o.val; omega
      | ⟨2, _⟩ => show k0_off9 k 2 + 1 * (ln l).val = (ln l).val; rw [o9]; show 0 + 1 * (ln l).val = (ln l).val; omega
    · rw [View.readAt_apply]
      congr 1
      funext a; apply Fin.ext
      match a with
      | ⟨0, _⟩ => rfl
      | ⟨1, _⟩ => show 0 + 1 * o.val = o.val; omega
      | ⟨2, _⟩ => show 0 + 1 * l.val = l.val; omega
  · rw [if_neg h]
    refine (View.read_writes_cons_unit_of_not_mem arg19.view f _ _ _ (ix4 (n0 := 1) (n1 := 64) (n2 := 80) (n3 := 256) 0 d o l) o10 (1 : Fin 4) (by show d.val < k.val ∨ k.val + 1 ≤ d.val; omega)).trans ?_
    rfl
end

section
variable (𝒱 : Variants) (c : Dev nD) (bd : Option 𝒱.V) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (v206 : Vec Ideal S4x256 .f32) (X_arg6 : BufTy.Contents (Elt Ideal) arg6.view.ty) (X_arg20 : BufTy.Contents (Elt Ideal) arg20.view.ty) (X_arg28 : BufTy.Contents (Elt Ideal) arg28.view.ty)

/-- The codes of the channels before trip `n`. -/
theorem codes19 (f : BufTy.Contents (Elt Ideal) arg19.view.ty) (n : ℕ) (hn : n ≤ k0_t2_loop.trips) (d : Fin 64) (o : Fin 80) (l : Fin 256) :
    arg19.view.read (Elt Ideal) (arg19.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v206 X_arg6 X_arg20 X_arg28  n)) (ix4 (n0 := 1) 0 d o l)
      = if d.val < n then cod ((arg28.view.read (Elt Ideal) X_arg28) (ix2 d l) * (arg6.view.read (Elt Ideal) X_arg6) (ix3 d o (ln l))) ((arg20.view.read (Elt Ideal) X_arg20) (ix3 (n0 := 1) 0 o l)) else arg19.view.read (Elt Ideal) f (ix4 (n0 := 1) 0 d o l) := by
  induction n with
  | zero => rw [if_neg (by omega)]; rfl
  | succ n ih =>
    rw [show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v206 X_arg6 X_arg20 X_arg28  (n + 1)) = _ from pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v206 X_arg6 X_arg20 X_arg28 ⟨n, hn⟩]
    simp only [View.writes_append]
    refine (trip19 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v206 X_arg6 X_arg20 X_arg28 ⟨n, hn⟩ _ d o l).trans ?_
    rw [ih (Nat.le_of_succ_le hn)]
    split_ifs <;> first | rfl | (simp only at *; omega)
end

end Cert.KernelIdeal.Gen
-- ==== Proof.KernelIdeal.Spec.lean ====
/- The VALUES a grid point leaves in the windows of the weights, the products' codes and the products' scales, as functions
   of the windows it reads. -/
module

public import proofs.«01_k».proof.Proof.KernelIdeal.InvV
public import proofs.«01_k».proof.Proof.KernelIdeal.Len
public import proofs.«01_k».proof.Proof.KernelIdeal.Codes
public import Idealize.ShloMosaic.Lib.VecWindow

@[expose] public section

set_option maxRecDepth 16384

noncomputable section

namespace Cert.KernelIdeal.Gen

open Idealize.ShloMosaic Idealize.ShloMosaic.TcCoe Idealize.ShloMosaic.Tactic

/-- The queries, channel by candidate. -/
def qS (x2 : Vec Ideal S1x64x256 .bf16) : Vec Ideal S64x256 .f32 := fun y => x2 (ix3 (n0 := 1) (n1 := 64) (n2 := 256) 0 (y 0) (y 1))

/-- The history's scale, on each slot's four rows. -/
def krowS (x1 : Vec Ideal S1x1x512 .f32) : Vec Ideal S2048x128 .f32 :=
  fun y => x1 (ix3 (n0 := 1) (n1 := 1) (n2 := 512) 0 0 ⟨(y 0).val / 4, by have h : (y 0).val < 2048 := (y 0).isLt; omega⟩)

/-- The candidate's term, normalised. -/
def a1S (x2 : Vec Ideal S1x64x256 .bf16) (x5 : Vec Ideal S160x64 .f32) (x6 : Vec Ideal S160x128 .f32) (x7 : Vec Ideal S4x160x128 .f32) : Vec Ideal S160x256 .f32 :=
  fun y => ((∑ x : Fin 64, x5 (ix2 (n0 := 160) (n1 := 64) (y 0) x) * x2 (ix3 (n0 := 1) (n1 := 64) (n2 := 256) 0 x (y 1))) + x6 (ix2 (n0 := 160) (n1 := 128) (y 0) (ln (y 1))))
    * x7 (ix3 (n0 := 4) (n1 := 160) (n2 := 128) 0 (y 0) (ln (y 1)))

/-- The candidate's term, normalised and shifted. -/
def a2S (x2 : Vec Ideal S1x64x256 .bf16) (x5 : Vec Ideal S160x64 .f32) (x6 : Vec Ideal S160x128 .f32) (x7 : Vec Ideal S4x160x128 .f32) : Vec Ideal S160x256 .f32 :=
  fun y => a1S x2 x5 x6 x7 y + x7 (ix3 (n0 := 4) (n1 := 160) (n2 := 128) 1 (y 0) (ln (y 1)))

/-- The products' scales, a quad's four twice. -/
def patS (x2 : Vec Ideal S1x64x256 .bf16) (x3 : Vec Ideal S80x64x128 .f32) : Vec Ideal S160x256 .f32 :=
  fun y => scl (prw (qS x2) x3 ⟨4 * ((y 0).val / 8) + (y 0).val % 4, by have h : (y 0).val < 160 := (y 0).isLt; omega⟩ (y 1))

/-- The products' codes, a quad's four channels one after the other. -/
def m4S (x2 : Vec Ideal S1x64x256 .bf16) (x3 : Vec Ideal S80x64x128 .f32) : Vec Ideal S20x256x256 .fp8e4m3 :=
  fun y => cod (prw (qS x2) x3 ⟨4 * (y 0).val + (y 1).val / 64, by have h : (y 0).val < 20 := (y 0).isLt; have h' : (y 1).val < 256 := (y 1).isLt; omega⟩ (y 2) ⟨(y 1).val % 64, by omega⟩)
    (scl (prw (qS x2) x3 ⟨4 * (y 0).val + (y 1).val / 64, by have h : (y 0).val < 20 := (y 0).isLt; have h' : (y 1).val < 256 := (y 1).isLt; omega⟩ (y 2)))

/-- The weights' window. -/
def wtS (len : BitVec 32) (x0 : Vec Ideal S1x64x512 .i8) (x1 : Vec Ideal S1x1x512 .f32) (x2 : Vec Ideal S1x64x256 .bf16) (x3 : Vec Ideal S80x64x128 .f32)
    (x5 : Vec Ideal S160x64 .f32) (x6 : Vec Ideal S160x128 .f32) (x7 : Vec Ideal S4x160x128 .f32) (x8 : Vec Ideal S256x128 .fp8e4m3) (x9 : Vec Ideal S8x128 .f32)
    (x10 : Vec Ideal S40x96 .fp8e4m3) (x11 : Vec Ideal S5x40x128 .f32) (x14 : Vec Ideal S2 .f32) : Vec Ideal S1x256x512 .f32 :=
  fun y => atW len x7 x8 x9 x10 x11 x14 (k0_pay601 x0) (krowS x1) (a1S x2 x5 x6 x7) (a2S x2 x5 x6 x7) (patS x2 x3) (m4S x2 x3) (y 2) (y 1)

/-- The window of the products' scales. -/
def msS (x2 : Vec Ideal S1x64x256 .bf16) (x3 : Vec Ideal S80x64x128 .f32) : Vec Ideal S1x80x256 .f32 :=
  fun y => scl (prw (qS x2) x3 (y 1) (y 2))

/-- The window of the products' codes. -/
def mcS (x2 : Vec Ideal S1x64x256 .bf16) (x3 : Vec Ideal S80x64x128 .f32) (x4 : Vec Ideal S64x80x128 .f32) : Vec Ideal S1x64x80x256 .fp8e4m3 :=
  fun y => cod (x2 (ix3 (n0 := 1) (n1 := 64) (n2 := 256) 0 (y 1) (y 3)) * x4 (ix3 (n0 := 64) (n1 := 80) (n2 := 128) (y 1) (y 2) (ln (y 3)))) (scl (prw (qS x2) x3 (y 2) (y 3)))

/-! ### The scratch arrays -/

/-- The rows under a strided store. -/
theorem rd_str (v : View sig .tc .vmem S2048x128 .f32) (f : v.ty.Contents (Elt Ideal)) (o : ℕ) (ho : o < 1540)
    (inb : ∀ a : Fin S2048x128.rank, S128x128.size a = 0 ∨ (![o, 0] : Fin 2 → ℕ) a + (![4, 1] : Fin 2 → ℕ) a * (S128x128.size a - 1) < S2048x128.size a)
    (pos : ∀ a : Fin S2048x128.rank, 0 < (![4, 1] : Fin 2 → ℕ) a)
    (w : Vec Ideal S128x128 .f32) (L : List (View.Piece (Elt Ideal) S2048x128 .f32)) (G : Fin 2048 → Fin 128 → EReal) (r : Fin 2048) (l : Fin 128)
    (hw : ∀ (j : Fin 128) (hj : o + 4 * j.val < 2048) (l : Fin 128), w (ix2 j l) = G ⟨o + 4 * j.val, hj⟩ l)
    (hr : ¬ (o ≤ r.val ∧ r.val < o + 512 ∧ (r.val - o) % 4 = 0) → v.read (Elt Ideal) (v.writes (Elt Ideal) f L) (ix2 r l) = G r l) :
    v.read (Elt Ideal) (v.writes (Elt Ideal) f ((⟨{ off := ![o, 0], size := S128x128.size, stride := ![4, 1], inb := inb, stride_pos := pos }, w⟩ : View.Piece (Elt Ideal) S2048x128 .f32) :: L)) (ix2 r l) = G r l := by
  by_cases h : o ≤ r.val ∧ r.val < o + 512 ∧ (r.val - o) % 4 = 0
  · obtain ⟨h1, h2, h3⟩ := h
    have e : ix2 (n0 := 2048) (n1 := 128) r l = (({ off := ![o, 0], size := S128x128.size, stride := ![4, 1], inb := inb, stride_pos := pos } : Rect S2048x128)).emb
        (ix2 (n0 := 128) (n1 := 128) ⟨(r.val - o) / 4, by omega⟩ l) := by
      funext a; apply Fin.ext
      match a with
      | ⟨0, _⟩ => show r.val = o + 4 * ((r.val - o) / 4); omega
      | ⟨1, _⟩ => show l.val = 0 + 1 * l.val; omega
    rw [e]
    refine (View.read_writes_cons_emb _ _ _ _ _ _).trans ?_
    have hj : o + 4 * ((r.val - o) / 4) < 2048 := by omega
    refine (hw ⟨(r.val - o) / 4, by omega⟩ hj l).trans ?_
    congr 1
    apply Fin.ext; show o + 4 * ((r.val - o) / 4) = r.val; omega
  · refine Eq.trans ?_ (hr h)
    rw [View.writes_cons]
    refine View.read_slice_write_of_not_mem _ _ _ _ ?_
    rw [Rect.map_emb_univ]
    intro hm
    rw [LoadRect.mem_set] at hm
    obtain ⟨j, hj, ej⟩ := hm 0
    have hj' : j < 128 := hj
    have ej' : r.val = o + 4 * j := ej
    exact h ⟨by omega, by omega, by omega⟩

theorem valid_lt (v : BitVec 32) (hv : v.toInt ≤ 512) (i : Fin 512) (h : ¬ i.val < 32 * (k0_t3_loop v).trips) : IntOp.cmpi .slt (BitVec.ofNat 32 i.val) v = 0#1 := by
  show BitVec.ofBool ((BitVec.ofNat 32 i.val).slt v) = 0#1
  by_contra hc
  have hs : (BitVec.ofNat 32 i.val).slt v = true := by
    cases e : (BitVec.ofNat 32 i.val).slt v
    · rw [e] at hc; exact absurd rfl hc
    · rfl
  rw [BitVec.slt_iff_toInt_lt] at hs
  have ei : (BitVec.ofNat 32 i.val).toInt = i.val := by
    have := i.isLt
    rw [BitVec.toInt_eq_toNat_cond, BitVec.toNat_ofNat]; split <;> omega
  rw [ei] at hs
  apply h
  rw [trips_k0_t3, BitVec.toInt_sdiv_of_ne_or_ne _ _ (.inr (by decide)), BitVec.toInt_add]
  have h31 : (31#32 : BitVec 32).toInt = 31 := by decide
  have h32 : (32#32 : BitVec 32).toInt = 32 := by decide
  rw [h31, h32]
  have hb : (v.toInt + 31).bmod (2 ^ 32) = v.toInt + 31 := by
    simp only [Int.bmod] at *
    omega
  rw [hb, Int.tdiv_eq_ediv_of_nonneg (by omega)]
  omega

theorem read28 (arg4 : Memref sig .tc .vmem S1x64x256 .bf16) (harg4 : arg4.IsWhole) (arg28 : Memref sig .tc .vmem S64x256 .f32) (f : BufTy.Contents (Elt Ideal) arg28.view.ty)
    (inb inb') (x2 : Vec Ideal S1x64x256 .bf16) :
    arg28.view.read (Elt Ideal) (arg28.view.writes (Elt Ideal) f [⟨Rect.unit (s := S64x256) ![0, 0] S64x256.size inb,
      k0_pay627 (View.readAt (Elt Ideal) arg4.view (Rect.unit (s := S1x64x256) ![0, 0, 0] S1x64x256.size inb').toLoadRect (harg4.unread x2))⟩]) = qS x2 := by
  rw [View.readAt_full, harg4.read_unread]
  refine (View.read_writes_full _ _ _ _ _).trans ?_
  funext y
  obtain ⟨d, l, rfl⟩ : ∃ d l, y = ix2 d l := ⟨y 0, y 1, (ix2_eta y).symm⟩
  unfold k0_pay627 k0_pay626
  pointwise
  rfl

theorem read25 (arg2 : Memref sig .tc .vmem S1x64x512 .i8) (harg2 : arg2.IsWhole) (arg25 : Memref sig .tc .vmem S512x256 .i32) (f : BufTy.Contents (Elt Ideal) arg25.view.ty)
    (inb inb') (x0 : Vec Ideal S1x64x512 .i8) :
    arg25.view.read (Elt Ideal) (arg25.view.writes (Elt Ideal) f [⟨Rect.unit (s := S512x256) ![0, 0] S512x256.size inb,
      k0_pay601 (View.readAt (Elt Ideal) arg2.view (Rect.unit (s := S1x64x512) ![0, 0, 0] S1x64x512.size inb').toLoadRect (harg2.unread x0))⟩]) = k0_pay601 x0 := by
  rw [View.readAt_full, harg2.read_unread]
  exact View.read_writes_full _ _ _ _ _

/-- A row of a stack of arrays, read out of its window. -/
theorem ld_c (arg9 : Memref sig .tc .vmem S4x160x128 .f32) (harg9 : arg9.IsWhole) (x7 : Vec Ideal S4x160x128 .f32) (s : ℕ) (hs : s < 4) (inb) (r : Fin 160) (l : Fin 128) :
    View.readAt (Elt Ideal) arg9.view (Rect.unit (s := S4x160x128) ![s, 0, 0] S1x160x128.size inb).toLoadRect (harg9.unread x7) (ix3 (n0 := 1) 0 r l) = x7 (ix3 ⟨s, hs⟩ r l) := by
  rw [View.readAt_apply]
  refine (congrFun (harg9.read_unread x7) _).trans ?_
  congr 1
  funext a; apply Fin.ext
  match a with
  | ⟨0, _⟩ => show s + 1 * 0 = s; omega
  | ⟨1, _⟩ => show 0 + 1 * r.val = r.val; omega
  | ⟨2, _⟩ => show 0 + 1 * l.val = l.val; omega

theorem pay628_apply (x2 : Vec Ideal S1x64x256 .bf16) (x5 : Vec Ideal S160x64 .f32) (x6 : Vec Ideal S160x128 .f32) (v : Vec Ideal S1x160x128 .f32) (r : Fin 160) (l : Fin 256) :
    k0_pay628 x2 x5 x6 v (ix2 r l) = ((∑ x : Fin 64, x5 (ix2 r x) * x2 (ix3 (n0 := 1) 0 x l)) + x6 (ix2 r (ln l))) * v (ix3 (n0 := 1) 0 r (ln l)) := by
  unfold k0_pay628 k0_pay626
  pointwise
  by_cases h : l.val < 128
  · simp only [h, ln_lt l h, dite_true]
  · simp only [h, ln_ge l h, dite_false]

section
variable (arg4 : Memref sig .tc .vmem S1x64x256 .bf16) (harg4 : arg4.IsWhole) (arg7 : Memref sig .tc .vmem S160x64 .f32) (harg7 : arg7.IsWhole)
  (arg8 : Memref sig .tc .vmem S160x128 .f32) (harg8 : arg8.IsWhole) (arg9 : Memref sig .tc .vmem S4x160x128 .f32) (harg9 : arg9.IsWhole)

theorem read29 (arg29 : Memref sig .tc .vmem S160x256 .f32) (f : BufTy.Contents (Elt Ideal) arg29.view.ty)
    (inb inb4 inb7 inb8 inb9) (x2 : Vec Ideal S1x64x256 .bf16) (x5 : Vec Ideal S160x64 .f32) (x6 : Vec Ideal S160x128 .f32) (x7 : Vec Ideal S4x160x128 .f32) :
    arg29.view.read (Elt Ideal) (arg29.view.writes (Elt Ideal) f [⟨Rect.unit (s := S160x256) ![0, 0] S160x256.size inb,
      k0_pay629 (View.readAt (Elt Ideal) arg4.view (Rect.unit (s := S1x64x256) ![0, 0, 0] S1x64x256.size inb4).toLoadRect (harg4.unread x2))
        (View.readAt (Elt Ideal) arg7.view (Rect.unit (s := S160x64) ![0, 0] S160x64.size inb7).toLoadRect (harg7.unread x5))
        (View.readAt (Elt Ideal) arg8.view (Rect.unit (s := S160x128) ![0, 0] S160x128.size inb8).toLoadRect (harg8.unread x6))
        (View.readAt (Elt Ideal) arg9.view (Rect.unit (s := S4x160x128) ![0, 0, 0] S1x160x128.size inb9).toLoadRect (harg9.unread x7))⟩]) = a1S x2 x5 x6 x7 := by
  rw [View.readAt_full, harg4.read_unread, View.readAt_full, harg7.read_unread, View.readAt_full, harg8.read_unread]
  refine (View.read_writes_full _ _ _ _ _).trans ?_
  funext y
  obtain ⟨r, l, rfl⟩ : ∃ r l, y = ix2 r l := ⟨y 0, y 1, (ix2_eta y).symm⟩
  unfold k0_pay629
  pointwise [pay628_apply]
  exact congrArg _ (ld_c arg9 harg9 x7 0 (by omega) inb9 r (ln l))

theorem read30 (arg30 : Memref sig .tc .vmem S160x256 .f32) (f : BufTy.Contents (Elt Ideal) arg30.view.ty)
    (inb inb4 inb7 inb8 inb9 inb9') (x2 : Vec Ideal S1x64x256 .bf16) (x5 : Vec Ideal S160x64 .f32) (x6 : Vec Ideal S160x128 .f32) (x7 : Vec Ideal S4x160x128 .f32) :
    arg30.view.read (Elt Ideal) (arg30.view.writes (Elt Ideal) f [⟨Rect.unit (s := S160x256) ![0, 0] S160x256.size inb,
      k0_pay631 (k0_pay630 (View.readAt (Elt Ideal) arg4.view (Rect.unit (s := S1x64x256) ![0, 0, 0] S1x64x256.size inb4).toLoadRect (harg4.unread x2))
        (View.readAt (Elt Ideal) arg7.view (Rect.unit (s := S160x64) ![0, 0] S160x64.size inb7).toLoadRect (harg7.unread x5))
        (View.readAt (Elt Ideal) arg8.view (Rect.unit (s := S160x128) ![0, 0] S160x128.size inb8).toLoadRect (harg8.unread x6))
        (View.readAt (Elt Ideal) arg9.view (Rect.unit (s := S4x160x128) ![0, 0, 0] S1x160x128.size inb9).toLoadRect (harg9.unread x7))
        (View.readAt (Elt Ideal) arg9.view (Rect.unit (s := S4x160x128) ![1, 0, 0] S1x160x128.size inb9').toLoadRect (harg9.unread x7)))⟩]) = a2S x2 x5 x6 x7 := by
  rw [View.readAt_full, harg4.read_unread, View.readAt_full, harg7.read_unread, View.readAt_full, harg8.read_unread]
  refine (View.read_writes_full _ _ _ _ _).trans ?_
  funext y
  obtain ⟨r, l, rfl⟩ : ∃ r l, y = ix2 r l := ⟨y 0, y 1, (ix2_eta y).symm⟩
  have e0 := ld_c arg9 harg9 x7 0 (by omega) inb9 r (ln l)
  have e1 := ld_c arg9 harg9 x7 1 (by omega) inb9' r (ln l)
  generalize View.readAt (Elt Ideal) arg9.view (Rect.unit (s := S4x160x128) ![0, 0, 0] S1x160x128.size inb9).toLoadRect (harg9.unread x7) = V0 at *
  generalize View.readAt (Elt Ideal) arg9.view (Rect.unit (s := S4x160x128) ![1, 0, 0] S1x160x128.size inb9').toLoadRect (harg9.unread x7) = V1 at *
  have e : k0_pay631 (k0_pay630 x2 x5 x6 V0 V1) (ix2 r l) = k0_pay628 x2 x5 x6 V0 (ix2 r l) + V1 (ix3 (n0 := 1) 0 r (ln l)) := by
    unfold k0_pay631 k0_pay630
    pointwise
    by_cases h : l.val < 128
    · simp only [h, ln_lt l h, dite_true]
    · simp only [h, ln_ge l h, dite_false]
  rw [e, pay628_apply]
  rw [show V0 (ix3 (n0 := 1) 0 r (ln l)) = _ from e0, show V1 (ix3 (n0 := 1) 0 r (ln l)) = _ from e1]
  rfl
end

/-! ### The history's scale on its rows: sixteen strided stores -/

theorem pay625_apply (V : Vec Ideal S1x1x128 .f32) (j l : Fin 128) : k0_pay625 (k0_pay620 V) (ix2 j l) = V (ix3 (n0 := 1) (n1 := 1) (n2 := 128) 0 0 j) := by
  unfold k0_pay625 k0_pay620
  pointwise

theorem pay624_apply (V : Vec Ideal S1x1x128 .f32) (j l : Fin 128) : k0_pay624 (k0_pay620 V) (ix2 j l) = V (ix3 (n0 := 1) (n1 := 1) (n2 := 128) 0 0 j) := by
  unfold k0_pay624 k0_pay620
  pointwise

theorem pay623_apply (V : Vec Ideal S1x1x128 .f32) (j l : Fin 128) : k0_pay623 (k0_pay620 V) (ix2 j l) = V (ix3 (n0 := 1) (n1 := 1) (n2 := 128) 0 0 j) := by
  unfold k0_pay623 k0_pay620
  pointwise

theorem pay622_apply (V : Vec Ideal S1x1x128 .f32) (j l : Fin 128) : k0_pay622 V (ix2 j l) = V (ix3 (n0 := 1) (n1 := 1) (n2 := 128) 0 0 j) := by
  unfold k0_pay622 k0_pay620
  pointwise

theorem pay619_apply (V : Vec Ideal S1x1x128 .f32) (j l : Fin 128) : k0_pay619 V (ix2 j l) = V (ix3 (n0 := 1) (n1 := 1) (n2 := 128) 0 0 j) := by
  unfold k0_pay619 k0_pay614
  pointwise

theorem pay618_apply (V : Vec Ideal S1x1x128 .f32) (j l : Fin 128) : k0_pay618 V (ix2 j l) = V (ix3 (n0 := 1) (n1 := 1) (n2 := 128) 0 0 j) := by
  unfold k0_pay618 k0_pay614
  pointwise

theorem pay617_apply (V : Vec Ideal S1x1x128 .f32) (j l : Fin 128) : k0_pay617 V (ix2 j l) = V (ix3 (n0 := 1) (n1 := 1) (n2 := 128) 0 0 j) := by
  unfold k0_pay617 k0_pay614
  pointwise

theorem pay616_apply (V : Vec Ideal S1x1x128 .f32) (j l : Fin 128) : k0_pay616 V (ix2 j l) = V (ix3 (n0 := 1) (n1 := 1) (n2 := 128) 0 0 j) := by
  unfold k0_pay616 k0_pay614
  pointwise

theorem pay613_apply (V : Vec Ideal S1x1x128 .f32) (j l : Fin 128) : k0_pay613 V (ix2 j l) = V (ix3 (n0 := 1) (n1 := 1) (n2 := 128) 0 0 j) := by
  unfold k0_pay613 k0_pay608
  pointwise

theorem pay612_apply (V : Vec Ideal S1x1x128 .f32) (j l : Fin 128) : k0_pay612 V (ix2 j l) = V (ix3 (n0 := 1) (n1 := 1) (n2 := 128) 0 0 j) := by
  unfold k0_pay612 k0_pay608
  pointwise

theorem pay611_apply (V : Vec Ideal S1x1x128 .f32) (j l : Fin 128) : k0_pay611 V (ix2 j l) = V (ix3 (n0 := 1) (n1 := 1) (n2 := 128) 0 0 j) := by
  unfold k0_pay611 k0_pay608
  pointwise

theorem pay610_apply (V : Vec Ideal S1x1x128 .f32) (j l : Fin 128) : k0_pay610 V (ix2 j l) = V (ix3 (n0 := 1) (n1 := 1) (n2 := 128) 0 0 j) := by
  unfold k0_pay610 k0_pay608
  pointwise

theorem pay607_apply (V : Vec Ideal S1x1x128 .f32) (j l : Fin 128) : k0_pay607 (k0_pay602 V) (ix2 j l) = V (ix3 (n0 := 1) (n1 := 1) (n2 := 128) 0 0 j) := by
  unfold k0_pay607 k0_pay602
  pointwise

theorem pay606_apply (V : Vec Ideal S1x1x128 .f32) (j l : Fin 128) : k0_pay606 (k0_pay602 V) (ix2 j l) = V (ix3 (n0 := 1) (n1 := 1) (n2 := 128) 0 0 j) := by
  unfold k0_pay606 k0_pay602
  pointwise

theorem pay605_apply (V : Vec Ideal S1x1x128 .f32) (j l : Fin 128) : k0_pay605 (k0_pay602 V) (ix2 j l) = V (ix3 (n0 := 1) (n1 := 1) (n2 := 128) 0 0 j) := by
  unfold k0_pay605 k0_pay602
  pointwise

theorem pay604_apply (V : Vec Ideal S1x1x128 .f32) (j l : Fin 128) : k0_pay604 (k0_pay602 V) (ix2 j l) = V (ix3 (n0 := 1) (n1 := 1) (n2 := 128) 0 0 j) := by
  unfold k0_pay604 k0_pay602
  pointwise

theorem ld_k (arg3 : Memref sig .tc .vmem S1x1x512 .f32) (harg3 : arg3.IsWhole) (x1 : Vec Ideal S1x1x512 .f32) (o : ℕ) (ho : o + 128 ≤ 512) (inb) (j : Fin 128) :
    View.readAt (Elt Ideal) arg3.view (Rect.unit (s := S1x1x512) ![0, 0, o] S1x1x128.size inb).toLoadRect (harg3.unread x1) (ix3 (n0 := 1) (n1 := 1) (n2 := 128) 0 0 j)
      = x1 (ix3 (n0 := 1) (n1 := 1) (n2 := 512) 0 0 ⟨o + j.val, by omega⟩) := by
  rw [View.readAt_apply]
  refine (congrFun (harg3.read_unread x1) _).trans ?_
  congr 1
  funext a; apply Fin.ext
  match a with
  | ⟨0, _⟩ => rfl
  | ⟨1, _⟩ => rfl
  | ⟨2, _⟩ => show o + 1 * j.val = o + j.val; omega

theorem str_eq (t k : ℕ) (hk : k < 4) (j : ℕ) : 128 * t + j = (512 * t + k + 4 * j) / 4 := by omega

theorem str_at (r : Fin 2048) : ∃ t k : ℕ, t < 4 ∧ k < 4 ∧ (512 * t + k ≤ r.val ∧ r.val < 512 * t + k + 512 ∧ (r.val - (512 * t + k)) % 4 = 0) := by
  have := r.isLt
  exact ⟨(r.val - r.val % 4) / 512, r.val % 4, by omega, by omega, by omega, by omega, by omega⟩

/-- The history's scale, on each slot's four rows, by row and lane. -/
def krG (x1 : Vec Ideal S1x1x512 .f32) (r : Fin 2048) (_ : Fin 128) : EReal := x1 (ix3 (n0 := 1) (n1 := 1) (n2 := 512) 0 0 ⟨r.val / 4, by omega⟩)

theorem read27 (arg27 : Memref sig .tc .vmem S2048x128 .f32) (f : BufTy.Contents (Elt Ideal) arg27.view.ty) (x1 : Vec Ideal S1x1x512 .f32) (V0 V1 V2 V3 : Vec Ideal S1x1x128 .f32)
    (h0 : ∀ j : Fin 128, V0 (ix3 (n0 := 1) (n1 := 1) (n2 := 128) 0 0 j) = x1 (ix3 (n0 := 1) (n1 := 1) (n2 := 512) 0 0 ⟨0 + j.val, by omega⟩))
    (h1 : ∀ j : Fin 128, V1 (ix3 (n0 := 1) (n1 := 1) (n2 := 128) 0 0 j) = x1 (ix3 (n0 := 1) (n1 := 1) (n2 := 512) 0 0 ⟨128 + j.val, by omega⟩))
    (h2 : ∀ j : Fin 128, V2 (ix3 (n0 := 1) (n1 := 1) (n2 := 128) 0 0 j) = x1 (ix3 (n0 := 1) (n1 := 1) (n2 := 512) 0 0 ⟨256 + j.val, by omega⟩))
    (h3 : ∀ j : Fin 128, V3 (ix3 (n0 := 1) (n1 := 1) (n2 := 128) 0 0 j) = x1 (ix3 (n0 := 1) (n1 := 1) (n2 := 512) 0 0 ⟨384 + j.val, by omega⟩)) :
    arg27.view.read (Elt Ideal) (arg27.view.writes (Elt Ideal) f [
      ⟨{ off := ![1539, 0], size := S128x128.size, stride := ![4, 1], inb := inb_S2048x128_S128x128_1539_0_s_4_1, stride_pos := spos_4_1 }, k0_pay625 (k0_pay620 V3)⟩,
      ⟨{ off := ![1538, 0], size := S128x128.size, stride := ![4, 1], inb := inb_S2048x128_S128x128_1538_0_s_4_1, stride_pos := spos_4_1 }, k0_pay624 (k0_pay620 V3)⟩,
      ⟨{ off := ![1537, 0], size := S128x128.size, stride := ![4, 1], inb := inb_S2048x128_S128x128_1537_0_s_4_1, stride_pos := spos_4_1 }, k0_pay623 (k0_pay620 V3)⟩,
      ⟨{ off := ![1536, 0], size := S128x128.size, stride := ![4, 1], inb := inb_S2048x128_S128x128_1536_0_s_4_1, stride_pos := spos_4_1 }, k0_pay622 V3⟩,
      ⟨{ off := ![1027, 0], size := S128x128.size, stride := ![4, 1], inb := inb_S2048x128_S128x128_1027_0_s_4_1, stride_pos := spos_4_1 }, k0_pay619 V2⟩,
      ⟨{ off := ![1026, 0], size := S128x128.size, stride := ![4, 1], inb := inb_S2048x128_S128x128_1026_0_s_4_1, stride_pos := spos_4_1 }, k0_pay618 V2⟩,
      ⟨{ off := ![1025, 0], size := S128x128.size, stride := ![4, 1], inb := inb_S2048x128_S128x128_1025_0_s_4_1, stride_pos := spos_4_1 }, k0_pay617 V2⟩,
      ⟨{ off := ![1024, 0], size := S128x128.size, stride := ![4, 1], inb := inb_S2048x128_S128x128_1024_0_s_4_1, stride_pos := spos_4_1 }, k0_pay616 V2⟩,
      ⟨{ off := ![515, 0], size := S128x128.size, stride := ![4, 1], inb := inb_S2048x128_S128x128_515_0_s_4_1, stride_pos := spos_4_1 }, k0_pay613 V1⟩,
      ⟨{ off := ![514, 0], size := S128x128.size, stride := ![4, 1], inb := inb_S2048x128_S128x128_514_0_s_4_1, stride_pos := spos_4_1 }, k0_pay612 V1⟩,
      ⟨{ off := ![513, 0], size := S128x128.size, stride := ![4, 1], inb := inb_S2048x128_S128x128_513_0_s_4_1, stride_pos := spos_4_1 }, k0_pay611 V1⟩,
      ⟨{ off := ![512, 0], size := S128x128.size, stride := ![4, 1], inb := inb_S2048x128_S128x128_512_0_s_4_1, stride_pos := spos_4_1 }, k0_pay610 V1⟩,
      ⟨{ off := ![3, 0], size := S128x128.size, stride := ![4, 1], inb := inb_S2048x128_S128x128_3_0_s_4_1, stride_pos := spos_4_1 }, k0_pay607 (k0_pay602 V0)⟩,
      ⟨{ off := ![2, 0], size := S128x128.size, stride := ![4, 1], inb := inb_S2048x128_S128x128_2_0_s_4_1, stride_pos := spos_4_1 }, k0_pay606 (k0_pay602 V0)⟩,
      ⟨{ off := ![1, 0], size := S128x128.size, stride := ![4, 1], inb := inb_S2048x128_S128x128_1_0_s_4_1, stride_pos := spos_4_1 }, k0_pay605 (k0_pay602 V0)⟩,
      ⟨{ off := ![0, 0], size := S128x128.size, stride := ![4, 1], inb := inb_S2048x128_S128x128_0_0_s_4_1, stride_pos := spos_4_1 }, k0_pay604 (k0_pay602 V0)⟩]) = krowS x1 := by
  funext y
  obtain ⟨r, l, rfl⟩ : ∃ r l, y = ix2 r l := ⟨y 0, y 1, (ix2_eta y).symm⟩
  show _ = krG x1 r l
  refine rd_str _ _ 1539 (by decide) _ _ _ _ (krG x1) r l (fun j hj l => (pay625_apply V3 j l).trans ((h3 j).trans (congrArg (fun z => x1 (ix3 (n0 := 1) (n1 := 1) (n2 := 512) 0 0 z)) (Fin.ext (str_eq 3 3 (by decide) j.val))))) fun g1539 => ?_
  refine rd_str _ _ 1538 (by decide) _ _ _ _ (krG x1) r l (fun j hj l => (pay624_apply V3 j l).trans ((h3 j).trans (congrArg (fun z => x1 (ix3 (n0 := 1) (n1 := 1) (n2 := 512) 0 0 z)) (Fin.ext (str_eq 3 2 (by decide) j.val))))) fun g1538 => ?_
  refine rd_str _ _ 1537 (by decide) _ _ _ _ (krG x1) r l (fun j hj l => (pay623_apply V3 j l).trans ((h3 j).trans (congrArg (fun z => x1 (ix3 (n0 := 1) (n1 := 1) (n2 := 512) 0 0 z)) (Fin.ext (str_eq 3 1 (by decide) j.val))))) fun g1537 => ?_
  refine rd_str _ _ 1536 (by decide) _ _ _ _ (krG x1) r l (fun j hj l => (pay622_apply V3 j l).trans ((h3 j).trans (congrArg (fun z => x1 (ix3 (n0 := 1) (n1 := 1) (n2 := 512) 0 0 z)) (Fin.ext (str_eq 3 0 (by decide) j.val))))) fun g1536 => ?_
  refine rd_str _ _ 1027 (by decide) _ _ _ _ (krG x1) r l (fun j hj l => (pay619_apply V2 j l).trans ((h2 j).trans (congrArg (fun z => x1 (ix3 (n0 := 1) (n1 := 1) (n2 := 512) 0 0 z)) (Fin.ext (str_eq 2 3 (by decide) j.val))))) fun g1027 => ?_
  refine rd_str _ _ 1026 (by decide) _ _ _ _ (krG x1) r l (fun j hj l => (pay618_apply V2 j l).trans ((h2 j).trans (congrArg (fun z => x1 (ix3 (n0 := 1) (n1 := 1) (n2 := 512) 0 0 z)) (Fin.ext (str_eq 2 2 (by decide) j.val))))) fun g1026 => ?_
  refine rd_str _ _ 1025 (by decide) _ _ _ _ (krG x1) r l (fun j hj l => (pay617_apply V2 j l).trans ((h2 j).trans (congrArg (fun z => x1 (ix3 (n0 := 1) (n1 := 1) (n2 := 512) 0 0 z)) (Fin.ext (str_eq 2 1 (by decide) j.val))))) fun g1025 => ?_
  refine rd_str _ _ 1024 (by decide) _ _ _ _ (krG x1) r l (fun j hj l => (pay616_apply V2 j l).trans ((h2 j).trans (congrArg (fun z => x1 (ix3 (n0 := 1) (n1 := 1) (n2 := 512) 0 0 z)) (Fin.ext (str_eq 2 0 (by decide) j.val))))) fun g1024 => ?_
  refine rd_str _ _ 515 (by decide) _ _ _ _ (krG x1) r l (fun j hj l => (pay613_apply V1 j l).trans ((h1 j).trans (congrArg (fun z => x1 (ix3 (n0 := 1) (n1 := 1) (n2 := 512) 0 0 z)) (Fin.ext (str_eq 1 3 (by decide) j.val))))) fun g515 => ?_
  refine rd_str _ _ 514 (by decide) _ _ _ _ (krG x1) r l (fun j hj l => (pay612_apply V1 j l).trans ((h1 j).trans (congrArg (fun z => x1 (ix3 (n0 := 1) (n1 := 1) (n2 := 512) 0 0 z)) (Fin.ext (str_eq 1 2 (by decide) j.val))))) fun g514 => ?_
  refine rd_str _ _ 513 (by decide) _ _ _ _ (krG x1) r l (fun j hj l => (pay611_apply V1 j l).trans ((h1 j).trans (congrArg (fun z => x1 (ix3 (n0 := 1) (n1 := 1) (n2 := 512) 0 0 z)) (Fin.ext (str_eq 1 1 (by decide) j.val))))) fun g513 => ?_
  refine rd_str _ _ 512 (by decide) _ _ _ _ (krG x1) r l (fun j hj l => (pay610_apply V1 j l).trans ((h1 j).trans (congrArg (fun z => x1 (ix3 (n0 := 1) (n1 := 1) (n2 := 512) 0 0 z)) (Fin.ext (str_eq 1 0 (by decide) j.val))))) fun g512 => ?_
  refine rd_str _ _ 3 (by decide) _ _ _ _ (krG x1) r l (fun j hj l => (pay607_apply V0 j l).trans ((h0 j).trans (congrArg (fun z => x1 (ix3 (n0 := 1) (n1 := 1) (n2 := 512) 0 0 z)) (Fin.ext (str_eq 0 3 (by decide) j.val))))) fun g3 => ?_
  refine rd_str _ _ 2 (by decide) _ _ _ _ (krG x1) r l (fun j hj l => (pay606_apply V0 j l).trans ((h0 j).trans (congrArg (fun z => x1 (ix3 (n0 := 1) (n1 := 1) (n2 := 512) 0 0 z)) (Fin.ext (str_eq 0 2 (by decide) j.val))))) fun g2 => ?_
  refine rd_str _ _ 1 (by decide) _ _ _ _ (krG x1) r l (fun j hj l => (pay605_apply V0 j l).trans ((h0 j).trans (congrArg (fun z => x1 (ix3 (n0 := 1) (n1 := 1) (n2 := 512) 0 0 z)) (Fin.ext (str_eq 0 1 (by decide) j.val))))) fun g1 => ?_
  refine rd_str _ _ 0 (by decide) _ _ _ _ (krG x1) r l (fun j hj l => (pay604_apply V0 j l).trans ((h0 j).trans (congrArg (fun z => x1 (ix3 (n0 := 1) (n1 := 1) (n2 := 512) 0 0 z)) (Fin.ext (str_eq 0 0 (by decide) j.val))))) fun g0 => ?_
  exfalso
  obtain ⟨t, k, ht, hk, e⟩ : ∃ t k : ℕ, t < 4 ∧ k < 4 ∧ (512 * t + k ≤ r.val ∧ r.val < 512 * t + k + 512 ∧ (r.val - (512 * t + k)) % 4 = 0) := str_at r
  match t, k, ht, hk, e with
  | 0, 0, _, _, e => exact g0 e
  | 0, 1, _, _, e => exact g1 e
  | 0, 2, _, _, e => exact g2 e
  | 0, 3, _, _, e => exact g3 e
  | 1, 0, _, _, e => exact g512 e
  | 1, 1, _, _, e => exact g513 e
  | 1, 2, _, _, e => exact g514 e
  | 1, 3, _, _, e => exact g515 e
  | 2, 0, _, _, e => exact g1024 e
  | 2, 1, _, _, e => exact g1025 e
  | 2, 2, _, _, e => exact g1026 e
  | 2, 3, _, _, e => exact g1027 e
  | 3, 0, _, _, e => exact g1536 e
  | 3, 1, _, _, e => exact g1537 e
  | 3, 2, _, _, e => exact g1538 e
  | 3, 3, _, _, e => exact g1539 e

end Cert.KernelIdeal.Gen

end

end
-- ==== Proof.KernelIdeal.SpecOut.lean ====
/- The VALUES in the windows a grid point writes: the lists of stores, read back. -/
module

public import proofs.«01_k».proof.Proof.KernelIdeal.Spec

@[expose] public section

set_option maxRecDepth 16384

noncomputable section

namespace Cert.KernelIdeal.Gen

open Idealize.ShloMosaic Idealize.ShloMosaic.TcCoe Idealize.ShloMosaic.Tactic

/-! ### The two loops over products -/

section
variable (𝒱 : Variants) (c : Dev nD) (bd : Option 𝒱.V) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (v128 : FVec Ideal S160x256 .f32) (X_arg5 : BufTy.Contents (Elt Ideal) arg5.view.ty) (X_arg28 : BufTy.Contents (Elt Ideal) arg28.view.ty)

theorem read31 (f : BufTy.Contents (Elt Ideal) arg31.view.ty) (x2 : Vec Ideal S1x64x256 .bf16) (x3 : Vec Ideal S80x64x128 .f32)
    (h28 : arg28.view.read (Elt Ideal) X_arg28 = qS x2) (h5 : arg5.view.read (Elt Ideal) X_arg5 = x3) :
    arg31.view.read (Elt Ideal) (arg31.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28  k0_t1_loop.trips).1) = patS x2 x3 := by
  have ht : k0_t1_loop.trips = 20 := by decide
  funext y
  obtain ⟨r, l, rfl⟩ : ∃ r l, y = ix2 r l := ⟨y 0, y 1, (ix2_eta y).symm⟩
  refine (pat31 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28  f _ (le_refl _) r l).trans ?_
  rw [if_pos (by rw [ht]; omega), h28, h5]
  rfl

theorem read32 (f : BufTy.Contents (Elt Ideal) arg32.view.ty) (x2 : Vec Ideal S1x64x256 .bf16) (x3 : Vec Ideal S80x64x128 .f32)
    (h28 : arg28.view.read (Elt Ideal) X_arg28 = qS x2) (h5 : arg5.view.read (Elt Ideal) X_arg5 = x3) :
    arg32.view.read (Elt Ideal) (arg32.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28  k0_t1_loop.trips).2) = m4S x2 x3 := by
  have ht : k0_t1_loop.trips = 20 := by decide
  funext y
  obtain ⟨q, x, l, rfl⟩ : ∃ q x l, y = ix3 q x l := ⟨y 0, y 1, y 2, (ix3_eta y).symm⟩
  refine (codes32 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v128 X_arg5 X_arg28  f _ (le_refl _) q x l).trans ?_
  rw [if_pos (by rw [ht]; omega), h28, h5]
  rfl

end

section
variable (𝒱 : Variants) (c : Dev nD) (bd : Option 𝒱.V) (i : grid0.Coords) (arg1 : Memref sig .tc .smem S48 .i32) (harg1 : arg1.IsWhole) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (v206 : Vec Ideal S4x256 .f32) (X_arg6 : BufTy.Contents (Elt Ideal) arg6.view.ty) (X_arg20 : BufTy.Contents (Elt Ideal) arg20.view.ty) (X_arg28 : BufTy.Contents (Elt Ideal) arg28.view.ty)

/-- The window of the products' codes. -/
theorem mc_eq (f : BufTy.Contents (Elt Ideal) arg19.view.ty) (x2 : Vec Ideal S1x64x256 .bf16) (x3 : Vec Ideal S80x64x128 .f32) (x4 : Vec Ideal S64x80x128 .f32)
    (h28 : arg28.view.read (Elt Ideal) X_arg28 = qS x2) (h6 : arg6.view.read (Elt Ideal) X_arg6 = x4) (h20 : arg20.view.read (Elt Ideal) X_arg20 = msS x2 x3) :
    arg19.view.read (Elt Ideal) (arg19.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v206 X_arg6 X_arg20 X_arg28  k0_t2_loop.trips)) = mcS x2 x3 x4 := by
  have ht : k0_t2_loop.trips = 64 := by decide
  funext y
  obtain ⟨d, o, l, rfl⟩ : ∃ d o l, y = ix4 (n0 := 1) 0 d o l := ⟨y 1, y 2, y 3, by
    conv_lhs => rw [← ix4_eta y]
    congr 1
    exact Subsingleton.elim _ _⟩
  refine (codes19 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v206 X_arg6 X_arg20 X_arg28  f _ (le_refl _) d o l).trans ?_
  rw [if_pos (by rw [ht]; omega), h28, h6, h20]
  rfl
end

/-! ### The window of the products' scales: twenty stores of four rows -/

theorem ld_p (arg31 : Memref sig .tc .vmem S160x256 .f32) (X : BufTy.Contents (Elt Ideal) arg31.view.ty) (P : Vec Ideal S160x256 .f32) (h : arg31.view.read (Elt Ideal) X = P)
    (q : ℕ) (hq : q < 20) (inb) (j : Fin 4) (l : Fin 256) :
    View.readAt (Elt Ideal) arg31.view (Rect.unit (s := S160x256) ![8 * q, 0] S4x256.size inb).toLoadRect X (ix2 (n0 := 4) (n1 := 256) j l) = P (ix2 ⟨8 * q + j.val, by omega⟩ l) := by
  rw [View.readAt_apply]
  refine (congrFun h _).trans ?_
  congr 1
  funext a; apply Fin.ext
  match a with
  | ⟨0, _⟩ => show 8 * q + 1 * j.val = 8 * q + j.val; omega
  | ⟨1, _⟩ => show 0 + 1 * l.val = l.val; omega

/-- The rows under a store of four. -/
theorem rd_row (v : View sig .tc .vmem S1x80x256 .f32) (f : v.ty.Contents (Elt Ideal)) (q : ℕ) (hq : q < 20) (inb)
    (w : Vec Ideal S1x4x256 .f32) (L : List (View.Piece (Elt Ideal) S1x80x256 .f32)) (P : Vec Ideal S160x256 .f32) (o : Fin 80) (l : Fin 256)
    (hw : ∀ (j : Fin 4) (l : Fin 256), w (ix3 (n0 := 1) 0 j l) = P (ix2 ⟨8 * q + j.val, by omega⟩ l))
    (hr : o.val / 4 ≠ q → v.read (Elt Ideal) (v.writes (Elt Ideal) f L) (ix3 (n0 := 1) 0 o l) = P (ix2 ⟨8 * (o.val / 4) + o.val % 4, by omega⟩ l)) :
    v.read (Elt Ideal) (v.writes (Elt Ideal) f ((⟨Rect.unit (s := S1x80x256) ![0, 4 * q, 0] S1x4x256.size inb, w⟩ : View.Piece (Elt Ideal) S1x80x256 .f32) :: L)) (ix3 (n0 := 1) 0 o l)
      = P (ix2 ⟨8 * (o.val / 4) + o.val % 4, by omega⟩ l) := by
  by_cases h : o.val / 4 = q
  · have e : ix3 (n0 := 1) (n1 := 80) (n2 := 256) 0 o l = (Rect.unit (s := S1x80x256) ![0, 4 * q, 0] S1x4x256.size inb).emb (ix3 (n0 := 1) (n1 := 4) (n2 := 256) 0 ⟨o.val % 4, by omega⟩ l) := by
      funext a; apply Fin.ext
      match a with
      | ⟨0, _⟩ => rfl
      | ⟨1, _⟩ => show o.val = 4 * q + 1 * (o.val % 4); omega
      | ⟨2, _⟩ => show l.val = 0 + 1 * l.val; omega
    conv_lhs => rw [e]
    refine (View.read_writes_cons_emb _ _ _ _ _ _).trans ((hw ⟨o.val % 4, by omega⟩ l).trans ?_)
    subst h
    rfl
  · refine Eq.trans ?_ (hr h)
    refine View.read_writes_cons_unit_of_not_mem v f inb w L _ rfl 1 ?_
    show o.val < 4 * q ∨ 4 * q + 4 ≤ o.val
    omega

theorem pay654_apply (V : Vec Ideal S4x256 .f32) (o : Fin 4) (l : Fin 256) : k0_pay654 V (ix3 (n0 := 1) 0 o l) = V (ix2 o l) := by
  unfold k0_pay654
  pointwise

theorem pay653_apply (V : Vec Ideal S4x256 .f32) (o : Fin 4) (l : Fin 256) : k0_pay653 V (ix3 (n0 := 1) 0 o l) = V (ix2 o l) := by
  unfold k0_pay653
  pointwise

theorem pay652_apply (V : Vec Ideal S4x256 .f32) (o : Fin 4) (l : Fin 256) : k0_pay652 V (ix3 (n0 := 1) 0 o l) = V (ix2 o l) := by
  unfold k0_pay652
  pointwise

theorem pay651_apply (V : Vec Ideal S4x256 .f32) (o : Fin 4) (l : Fin 256) : k0_pay651 V (ix3 (n0 := 1) 0 o l) = V (ix2 o l) := by
  unfold k0_pay651
  pointwise

theorem pay650_apply (V : Vec Ideal S4x256 .f32) (o : Fin 4) (l : Fin 256) : k0_pay650 V (ix3 (n0 := 1) 0 o l) = V (ix2 o l) := by
  unfold k0_pay650
  pointwise

theorem pay649_apply (V : Vec Ideal S4x256 .f32) (o : Fin 4) (l : Fin 256) : k0_pay649 V (ix3 (n0 := 1) 0 o l) = V (ix2 o l) := by
  unfold k0_pay649
  pointwise

theorem pay648_apply (V : Vec Ideal S4x256 .f32) (o : Fin 4) (l : Fin 256) : k0_pay648 V (ix3 (n0 := 1) 0 o l) = V (ix2 o l) := by
  unfold k0_pay648
  pointwise

theorem pay647_apply (V : Vec Ideal S4x256 .f32) (o : Fin 4) (l : Fin 256) : k0_pay647 V (ix3 (n0 := 1) 0 o l) = V (ix2 o l) := by
  unfold k0_pay647
  pointwise

theorem pay646_apply (V : Vec Ideal S4x256 .f32) (o : Fin 4) (l : Fin 256) : k0_pay646 V (ix3 (n0 := 1) 0 o l) = V (ix2 o l) := by
  unfold k0_pay646
  pointwise

theorem pay645_apply (V : Vec Ideal S4x256 .f32) (o : Fin 4) (l : Fin 256) : k0_pay645 V (ix3 (n0 := 1) 0 o l) = V (ix2 o l) := by
  unfold k0_pay645
  pointwise

theorem pay644_apply (V : Vec Ideal S4x256 .f32) (o : Fin 4) (l : Fin 256) : k0_pay644 V (ix3 (n0 := 1) 0 o l) = V (ix2 o l) := by
  unfold k0_pay644
  pointwise

theorem pay643_apply (V : Vec Ideal S4x256 .f32) (o : Fin 4) (l : Fin 256) : k0_pay643 V (ix3 (n0 := 1) 0 o l) = V (ix2 o l) := by
  unfold k0_pay643
  pointwise

theorem pay642_apply (V : Vec Ideal S4x256 .f32) (o : Fin 4) (l : Fin 256) : k0_pay642 V (ix3 (n0 := 1) 0 o l) = V (ix2 o l) := by
  unfold k0_pay642
  pointwise

theorem pay641_apply (V : Vec Ideal S4x256 .f32) (o : Fin 4) (l : Fin 256) : k0_pay641 V (ix3 (n0 := 1) 0 o l) = V (ix2 o l) := by
  unfold k0_pay641
  pointwise

theorem pay640_apply (V : Vec Ideal S4x256 .f32) (o : Fin 4) (l : Fin 256) : k0_pay640 V (ix3 (n0 := 1) 0 o l) = V (ix2 o l) := by
  unfold k0_pay640
  pointwise

theorem pay639_apply (V : Vec Ideal S4x256 .f32) (o : Fin 4) (l : Fin 256) : k0_pay639 V (ix3 (n0 := 1) 0 o l) = V (ix2 o l) := by
  unfold k0_pay639
  pointwise

theorem pay638_apply (V : Vec Ideal S4x256 .f32) (o : Fin 4) (l : Fin 256) : k0_pay638 V (ix3 (n0 := 1) 0 o l) = V (ix2 o l) := by
  unfold k0_pay638
  pointwise

theorem pay637_apply (V : Vec Ideal S4x256 .f32) (o : Fin 4) (l : Fin 256) : k0_pay637 V (ix3 (n0 := 1) 0 o l) = V (ix2 o l) := by
  unfold k0_pay637
  pointwise

theorem pay636_apply (V : Vec Ideal S4x256 .f32) (o : Fin 4) (l : Fin 256) : k0_pay636 V (ix3 (n0 := 1) 0 o l) = V (ix2 o l) := by
  unfold k0_pay636
  pointwise

theorem pay635_apply (V : Vec Ideal S4x256 .f32) (o : Fin 4) (l : Fin 256) : k0_pay635 V (ix3 (n0 := 1) 0 o l) = V (ix2 o l) := by
  unfold k0_pay635
  pointwise

theorem pat_row (x2 : Vec Ideal S1x64x256 .bf16) (x3 : Vec Ideal S80x64x128 .f32) (o : Fin 80) (l : Fin 256) :
    patS x2 x3 (ix2 ⟨8 * (o.val / 4) + o.val % 4, by omega⟩ l) = msS x2 x3 (ix3 (n0 := 1) 0 o l) := by
  show scl (prw (qS x2) x3 ⟨4 * ((8 * (o.val / 4) + o.val % 4) / 8) + (8 * (o.val / 4) + o.val % 4) % 4, _⟩ l) = scl (prw (qS x2) x3 o l)
  congr 2
  apply Fin.ext
  show 4 * ((8 * (o.val / 4) + o.val % 4) / 8) + (8 * (o.val / 4) + o.val % 4) % 4 = o.val
  omega

theorem ms_eq (arg20 : Memref sig .tc .vmem S1x80x256 .f32) (f : BufTy.Contents (Elt Ideal) arg20.view.ty) (arg31 : Memref sig .tc .vmem S160x256 .f32) (X : BufTy.Contents (Elt Ideal) arg31.view.ty)
    (x2 : Vec Ideal S1x64x256 .bf16) (x3 : Vec Ideal S80x64x128 .f32) (hX : arg31.view.read (Elt Ideal) X = patS x2 x3) :
    arg20.view.read (Elt Ideal) (arg20.view.writes (Elt Ideal) f [
      ⟨Rect.unit (s := S1x80x256) ![0, 76, 0] S1x4x256.size inb_S1x80x256_S1x4x256_0_76_0, k0_pay654 (View.readAt (Elt Ideal) arg31.view (Rect.unit (s := S160x256) ![152, 0] S4x256.size inb_S160x256_S4x256_152_0).toLoadRect X)⟩,
      ⟨Rect.unit (s := S1x80x256) ![0, 72, 0] S1x4x256.size inb_S1x80x256_S1x4x256_0_72_0, k0_pay653 (View.readAt (Elt Ideal) arg31.view (Rect.unit (s := S160x256) ![144, 0] S4x256.size inb_S160x256_S4x256_144_0).toLoadRect X)⟩,
      ⟨Rect.unit (s := S1x80x256) ![0, 68, 0] S1x4x256.size inb_S1x80x256_S1x4x256_0_68_0, k0_pay652 (View.readAt (Elt Ideal) arg31.view (Rect.unit (s := S160x256) ![136, 0] S4x256.size inb_S160x256_S4x256_136_0).toLoadRect X)⟩,
      ⟨Rect.unit (s := S1x80x256) ![0, 64, 0] S1x4x256.size inb_S1x80x256_S1x4x256_0_64_0, k0_pay651 (View.readAt (Elt Ideal) arg31.view (Rect.unit (s := S160x256) ![128, 0] S4x256.size inb_S160x256_S4x256_128_0).toLoadRect X)⟩,
      ⟨Rect.unit (s := S1x80x256) ![0, 60, 0] S1x4x256.size inb_S1x80x256_S1x4x256_0_60_0, k0_pay650 (View.readAt (Elt Ideal) arg31.view (Rect.unit (s := S160x256) ![120, 0] S4x256.size inb_S160x256_S4x256_120_0).toLoadRect X)⟩,
      ⟨Rect.unit (s := S1x80x256) ![0, 56, 0] S1x4x256.size inb_S1x80x256_S1x4x256_0_56_0, k0_pay649 (View.readAt (Elt Ideal) arg31.view (Rect.unit (s := S160x256) ![112, 0] S4x256.size inb_S160x256_S4x256_112_0).toLoadRect X)⟩,
      ⟨Rect.unit (s := S1x80x256) ![0, 52, 0] S1x4x256.size inb_S1x80x256_S1x4x256_0_52_0, k0_pay648 (View.readAt (Elt Ideal) arg31.view (Rect.unit (s := S160x256) ![104, 0] S4x256.size inb_S160x256_S4x256_104_0).toLoadRect X)⟩,
      ⟨Rect.unit (s := S1x80x256) ![0, 48, 0] S1x4x256.size inb_S1x80x256_S1x4x256_0_48_0, k0_pay647 (View.readAt (Elt Ideal) arg31.view (Rect.unit (s := S160x256) ![96, 0] S4x256.size inb_S160x256_S4x256_96_0).toLoadRect X)⟩,
      ⟨Rect.unit (s := S1x80x256) ![0, 44, 0] S1x4x256.size inb_S1x80x256_S1x4x256_0_44_0, k0_pay646 (View.readAt (Elt Ideal) arg31.view (Rect.unit (s := S160x256) ![88, 0] S4x256.size inb_S160x256_S4x256_88_0).toLoadRect X)⟩,
      ⟨Rect.unit (s := S1x80x256) ![0, 40, 0] S1x4x256.size inb_S1x80x256_S1x4x256_0_40_0, k0_pay645 (View.readAt (Elt Ideal) arg31.view (Rect.unit (s := S160x256) ![80, 0] S4x256.size inb_S160x256_S4x256_80_0).toLoadRect X)⟩,
      ⟨Rect.unit (s := S1x80x256) ![0, 36, 0] S1x4x256.size inb_S1x80x256_S1x4x256_0_36_0, k0_pay644 (View.readAt (Elt Ideal) arg31.view (Rect.unit (s := S160x256) ![72, 0] S4x256.size inb_S160x256_S4x256_72_0).toLoadRect X)⟩,
      ⟨Rect.unit (s := S1x80x256) ![0, 32, 0] S1x4x256.size inb_S1x80x256_S1x4x256_0_32_0, k0_pay643 (View.readAt (Elt Ideal) arg31.view (Rect.unit (s := S160x256) ![64, 0] S4x256.size inb_S160x256_S4x256_64_0).toLoadRect X)⟩,
      ⟨Rect.unit (s := S1x80x256) ![0, 28, 0] S1x4x256.size inb_S1x80x256_S1x4x256_0_28_0, k0_pay642 (View.readAt (Elt Ideal) arg31.view (Rect.unit (s := S160x256) ![56, 0] S4x256.size inb_S160x256_S4x256_56_0).toLoadRect X)⟩,
      ⟨Rect.unit (s := S1x80x256) ![0, 24, 0] S1x4x256.size inb_S1x80x256_S1x4x256_0_24_0, k0_pay641 (View.readAt (Elt Ideal) arg31.view (Rect.unit (s := S160x256) ![48, 0] S4x256.size inb_S160x256_S4x256_48_0).toLoadRect X)⟩,
      ⟨Rect.unit (s := S1x80x256) ![0, 20, 0] S1x4x256.size inb_S1x80x256_S1x4x256_0_20_0, k0_pay640 (View.readAt (Elt Ideal) arg31.view (Rect.unit (s := S160x256) ![40, 0] S4x256.size inb_S160x256_S4x256_40_0).toLoadRect X)⟩,
      ⟨Rect.unit (s := S1x80x256) ![0, 16, 0] S1x4x256.size inb_S1x80x256_S1x4x256_0_16_0, k0_pay639 (View.readAt (Elt Ideal) arg31.view (Rect.unit (s := S160x256) ![32, 0] S4x256.size inb_S160x256_S4x256_32_0).toLoadRect X)⟩,
      ⟨Rect.unit (s := S1x80x256) ![0, 12, 0] S1x4x256.size inb_S1x80x256_S1x4x256_0_12_0, k0_pay638 (View.readAt (Elt Ideal) arg31.view (Rect.unit (s := S160x256) ![24, 0] S4x256.size inb_S160x256_S4x256_24_0).toLoadRect X)⟩,
      ⟨Rect.unit (s := S1x80x256) ![0, 8, 0] S1x4x256.size inb_S1x80x256_S1x4x256_0_8_0, k0_pay637 (View.readAt (Elt Ideal) arg31.view (Rect.unit (s := S160x256) ![16, 0] S4x256.size inb_S160x256_S4x256_16_0).toLoadRect X)⟩,
      ⟨Rect.unit (s := S1x80x256) ![0, 4, 0] S1x4x256.size inb_S1x80x256_S1x4x256_0_4_0, k0_pay636 (View.readAt (Elt Ideal) arg31.view (Rect.unit (s := S160x256) ![8, 0] S4x256.size inb_S160x256_S4x256_8_0).toLoadRect X)⟩,
      ⟨Rect.unit (s := S1x80x256) ![0, 0, 0] S1x4x256.size inb_S1x80x256_S1x4x256_0_0_0, k0_pay635 (View.readAt (Elt Ideal) arg31.view (Rect.unit (s := S160x256) ![0, 0] S4x256.size inb_S160x256_S4x256_0_0).toLoadRect X)⟩]) = msS x2 x3 := by
  funext y
  obtain ⟨o, l, rfl⟩ : ∃ o l, y = ix3 (n0 := 1) 0 o l := ⟨y 1, y 2, by
    conv_lhs => rw [← ix3_eta y]
    congr 1
    exact Subsingleton.elim _ _⟩
  rw [← pat_row]
  refine rd_row _ _ 19 (by decide) _ _ _ _ o l (fun j l => (pay654_apply _ j l).trans (ld_p arg31 X _ hX 19 (by decide) _ j l)) fun g19 => ?_
  refine rd_row _ _ 18 (by decide) _ _ _ _ o l (fun j l => (pay653_apply _ j l).trans (ld_p arg31 X _ hX 18 (by decide) _ j l)) fun g18 => ?_
  refine rd_row _ _ 17 (by decide) _ _ _ _ o l (fun j l => (pay652_apply _ j l).trans (ld_p arg31 X _ hX 17 (by decide) _ j l)) fun g17 => ?_
  refine rd_row _ _ 16 (by decide) _ _ _ _ o l (fun j l => (pay651_apply _ j l).trans (ld_p arg31 X _ hX 16 (by decide) _ j l)) fun g16 => ?_
  refine rd_row _ _ 15 (by decide) _ _ _ _ o l (fun j l => (pay650_apply _ j l).trans (ld_p arg31 X _ hX 15 (by decide) _ j l)) fun g15 => ?_
  refine rd_row _ _ 14 (by decide) _ _ _ _ o l (fun j l => (pay649_apply _ j l).trans (ld_p arg31 X _ hX 14 (by decide) _ j l)) fun g14 => ?_
  refine rd_row _ _ 13 (by decide) _ _ _ _ o l (fun j l => (pay648_apply _ j l).trans (ld_p arg31 X _ hX 13 (by decide) _ j l)) fun g13 => ?_
  refine rd_row _ _ 12 (by decide) _ _ _ _ o l (fun j l => (pay647_apply _ j l).trans (ld_p arg31 X _ hX 12 (by decide) _ j l)) fun g12 => ?_
  refine rd_row _ _ 11 (by decide) _ _ _ _ o l (fun j l => (pay646_apply _ j l).trans (ld_p arg31 X _ hX 11 (by decide) _ j l)) fun g11 => ?_
  refine rd_row _ _ 10 (by decide) _ _ _ _ o l (fun j l => (pay645_apply _ j l).trans (ld_p arg31 X _ hX 10 (by decide) _ j l)) fun g10 => ?_
  refine rd_row _ _ 9 (by decide) _ _ _ _ o l (fun j l => (pay644_apply _ j l).trans (ld_p arg31 X _ hX 9 (by decide) _ j l)) fun g9 => ?_
  refine rd_row _ _ 8 (by decide) _ _ _ _ o l (fun j l => (pay643_apply _ j l).trans (ld_p arg31 X _ hX 8 (by decide) _ j l)) fun g8 => ?_
  refine rd_row _ _ 7 (by decide) _ _ _ _ o l (fun j l => (pay642_apply _ j l).trans (ld_p arg31 X _ hX 7 (by decide) _ j l)) fun g7 => ?_
  refine rd_row _ _ 6 (by decide) _ _ _ _ o l (fun j l => (pay641_apply _ j l).trans (ld_p arg31 X _ hX 6 (by decide) _ j l)) fun g6 => ?_
  refine rd_row _ _ 5 (by decide) _ _ _ _ o l (fun j l => (pay640_apply _ j l).trans (ld_p arg31 X _ hX 5 (by decide) _ j l)) fun g5 => ?_
  refine rd_row _ _ 4 (by decide) _ _ _ _ o l (fun j l => (pay639_apply _ j l).trans (ld_p arg31 X _ hX 4 (by decide) _ j l)) fun g4 => ?_
  refine rd_row _ _ 3 (by decide) _ _ _ _ o l (fun j l => (pay638_apply _ j l).trans (ld_p arg31 X _ hX 3 (by decide) _ j l)) fun g3 => ?_
  refine rd_row _ _ 2 (by decide) _ _ _ _ o l (fun j l => (pay637_apply _ j l).trans (ld_p arg31 X _ hX 2 (by decide) _ j l)) fun g2 => ?_
  refine rd_row _ _ 1 (by decide) _ _ _ _ o l (fun j l => (pay636_apply _ j l).trans (ld_p arg31 X _ hX 1 (by decide) _ j l)) fun g1 => ?_
  refine rd_row _ _ 0 (by decide) _ _ _ _ o l (fun j l => (pay635_apply _ j l).trans (ld_p arg31 X _ hX 0 (by decide) _ j l)) fun g0 => ?_
  exfalso
  obtain ⟨t, ht, e⟩ : ∃ t : ℕ, t < 20 ∧ o.val / 4 = t := ⟨o.val / 4, by omega, rfl⟩
  match t, ht, e with
  | 0, _, e => exact g0 e
  | 1, _, e => exact g1 e
  | 2, _, e => exact g2 e
  | 3, _, e => exact g3 e
  | 4, _, e => exact g4 e
  | 5, _, e => exact g5 e
  | 6, _, e => exact g6 e
  | 7, _, e => exact g7 e
  | 8, _, e => exact g8 e
  | 9, _, e => exact g9 e
  | 10, _, e => exact g10 e
  | 11, _, e => exact g11 e
  | 12, _, e => exact g12 e
  | 13, _, e => exact g13 e
  | 14, _, e => exact g14 e
  | 15, _, e => exact g15 e
  | 16, _, e => exact g16 e
  | 17, _, e => exact g17 e
  | 18, _, e => exact g18 e
  | 19, _, e => exact g19 e
  | t + 20, ht, _ => exact absurd ht (by omega)

/-! ### The weights' window -/

theorem read35z (arg35 : Memref sig .tc .vmem S512x256 .f32) (f : BufTy.Contents (Elt Ideal) arg35.view.ty) (inb) (i : Fin 512) (c : Fin 256) :
    arg35.view.read (Elt Ideal) (arg35.view.writes (Elt Ideal) f [⟨Rect.unit (s := S512x256) ![0, 0] S512x256.size inb, k0_pay656 (F := Ideal)⟩]) (ix2 i c) = 0 := by
  refine (congrFun (View.read_writes_full _ _ _ _ _) _).trans ?_
  unfold k0_pay656
  pointwise

theorem wt_eq (arg18 : Memref sig .tc .vmem S1x256x512 .f32) (f : BufTy.Contents (Elt Ideal) arg18.view.ty) (inb inb')
    (arg35 : Memref sig .tc .vmem S512x256 .f32) (harg35 : arg35.IsWhole) (G : BufTy.Contents (Elt Ideal) arg35.view.ty) (hG : ∀ i c, arg35.view.read (Elt Ideal) G (ix2 i c) = 0)
    (len : BitVec 32) (hv : len.toInt ≤ 512)
    (Y9 : Vec Ideal S4x160x128 .f32) (Y10 : Vec Ideal S256x128 .fp8e4m3) (Y11 : Vec Ideal S8x128 .f32) (Y12 : Vec Ideal S40x96 .fp8e4m3)
    (Y13 : Vec Ideal S5x40x128 .f32) (Y16 : Vec Ideal S2 .f32) (Y25 : Vec Ideal S512x256 .i32) (Y27 : Vec Ideal S2048x128 .f32) (Y29 Y30 Y31 : Vec Ideal S160x256 .f32) (Y32 : Vec Ideal S20x256x256 .fp8e4m3)
    (x0 : Vec Ideal S1x64x512 .i8) (x1 : Vec Ideal S1x1x512 .f32) (x2 : Vec Ideal S1x64x256 .bf16) (x3 : Vec Ideal S80x64x128 .f32)
    (x5 : Vec Ideal S160x64 .f32) (x6 : Vec Ideal S160x128 .f32) (x7 : Vec Ideal S4x160x128 .f32) (x8 : Vec Ideal S256x128 .fp8e4m3) (x9 : Vec Ideal S8x128 .f32)
    (x10 : Vec Ideal S40x96 .fp8e4m3) (x11 : Vec Ideal S5x40x128 .f32) (x14 : Vec Ideal S2 .f32)
    (h9 : Y9 = x7) (h10 : Y10 = x8) (h11 : Y11 = x9) (h12 : Y12 = x10) (h13 : Y13 = x11) (h16 : Y16 = x14)
    (h25 : Y25 = k0_pay601 x0) (h27 : Y27 = krowS x1) (h29 : Y29 = a1S x2 x5 x6 x7) (h30 : Y30 = a2S x2 x5 x6 x7) (h31 : Y31 = patS x2 x3) (h32 : Y32 = m4S x2 x3) :
    arg18.view.read (Elt Ideal) (arg18.view.writes (Elt Ideal) f [⟨Rect.unit (s := S1x256x512) ![0, 0, 0] S1x256x512.size inb,
      k0_pay665 (View.readAt (Elt Ideal) arg35.view (Rect.unit (s := S512x256) ![0, 0] S512x256.size inb').toLoadRect
        (F35 arg35 harg35 G (atW len Y9 Y10 Y11 Y12 Y13 Y16 Y25 Y27 Y29 Y30 Y31 Y32) (k0_t3_loop len).trips))⟩])
      = wtS len x0 x1 x2 x3 x5 x6 x7 x8 x9 x10 x11 x14 := by
  subst h9 h10 h11 h12 h13 h16 h25 h27 h29 h30 h31 h32
  rw [View.readAt_full]
  refine (View.read_writes_full _ _ _ _ _).trans ?_
  funext y
  obtain ⟨c, i, rfl⟩ : ∃ c i, y = ix3 (n0 := 1) 0 c i := ⟨y 1, y 2, by
    conv_lhs => rw [← ix3_eta y]
    congr 1
    exact Subsingleton.elim _ _⟩
  unfold k0_pay665
  pointwise
  rw [F35_read]
  split_ifs with h
  · rfl
  · rw [hG]
    show _ = atW len _ _ _ _ _ _ _ _ _ _ _ _ i c
    unfold atW
    rw [valid_lt len hv i h]
    rfl

end Cert.KernelIdeal.Gen

end

end
-- ==== Proof.KernelIdeal.RunVA.lean ====
/- The run of the kernel's body at the first grid point, where the scratch `h` is zeroed. -/
module

public import proofs.«01_k».proof.Proof.KernelIdeal.SpecOut

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1432000 in set_option sl_exec.stridedRows true in
/-- The body's triple IN CASE A (`scf.if` 0 taken: points 0): on whole staging memrefs — the inputs' at their contents,
    the FORGOTTEN outputs' (15, 16, 17, 18, 19, 20, 21, 22) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRunV_A (c : Dev nD) (i : grid0.Coords) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (hc0 : cond0_0 i)
    (x0 : Vec Ideal S1x64x512 .i8) (x1 : Vec Ideal S1x1x512 .f32) (x2 : Vec Ideal S1x64x256 .bf16) (x3 : Vec Ideal S80x64x128 .f32) (x4 : Vec Ideal S64x80x128 .f32) (x5 : Vec Ideal S160x64 .f32) (x6 : Vec Ideal S160x128 .f32) (x7 : Vec Ideal S4x160x128 .f32) (x8 : Vec Ideal S256x128 .fp8e4m3) (x9 : Vec Ideal S8x128 .f32) (x10 : Vec Ideal S40x96 .fp8e4m3) (x11 : Vec Ideal S5x40x128 .f32) (x12 : Vec Ideal S200x192 .fp8e4m3) (x13 : Vec Ideal S4x200x128 .f32) (x14 : Vec Ideal S2 .f32) (xt0 : TbBuf0 (F := Ideal) c tbM0_0) (k0_hw1 : k0_chk1 (tbM0_0.view.readAt (Elt Ideal) (Rect.unit (s := S48) (k0_off1 i) S1.size (k0_off1_inb i)).toLoadRect xt0 (Shape.Idx.first (numel1_S1.symm ▸ Nat.one_pos))))
    (hv : ((tbM0_0.view.readAt (Elt Ideal) (Rect.unit (s := S48) (k0_off1 i) S1.size (k0_off1_inb i)).toLoadRect xt0 (Shape.Idx.first (numel1_S1.symm ▸ Nat.one_pos))) : BitVec 32).toInt ≤ 512) (hz : ∀ (p : Fin 40) (k : Fin 96), 80 ≤ k.val → arg12.view.read (Elt Ideal) (harg12.unread x10) (ix2 p k) = 0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare (wtS (tbM0_0.view.readAt (Elt Ideal) (Rect.unit (s := S48) (k0_off1 i) S1.size (k0_off1_inb i)).toLoadRect xt0 (Shape.Idx.first (numel1_S1.symm ▸ Nat.one_pos))) x0 x1 x2 x3 x5 x6 x7 x8 x9 x10 x11 x14) ∗ owns (c : Thread nD τ) arg19 fullShare (mcS x2 x3 x4) ∗ owns (c : Thread nD τ) arg20 fullShare (msS x2 x3) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ tbPt0 c tbM0_0 xt0) -∗ K ⟨⟩))
          ⊢ wp frame (wpE (defs₀ (F := Ideal)) Variants.none c none) E (cc0_din_attention i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
    intro E K
    simp only [cc0_din_attention_eq_skeleton]; unfold cc0_din_attention_skel
    simp only [k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _, _; isplitr; swap; · iexact H15
      ipureintro; rfl
    isplitl [H16]
    · iexists _; isplitr; swap; · iexact H16
      ipureintro
      refine wt_eq _ _ _ _ _ _ _ (fun i c => read35z _ _ _ i c) _ hv _ _ _ _ _ _ _ _ _ _ _ _ x0 x1 x2 x3 x5 x6 x7 x8 x9 x10 x11 x14 (harg9.read_unread _) (harg10.read_unread _) (harg11.read_unread _) (harg12.read_unread _) (harg13.read_unread _) (harg16.read_unread _) ?_ ?_ ?_ ?_ ?_ ?_
      · exact read25 arg2 harg2 arg25 _ _ _ x0
      · exact read27 arg27 _ x1 _ _ _ _ (ld_k arg3 harg3 x1 0 (by decide) _) (ld_k arg3 harg3 x1 128 (by decide) _) (ld_k arg3 harg3 x1 256 (by decide) _) (ld_k arg3 harg3 x1 384 (by decide) _)
      · exact read29 arg4 harg4 arg7 harg7 arg8 harg8 arg9 harg9 arg29 _ _ _ _ _ _ x2 x5 x6 x7
      · exact read30 arg4 harg4 arg7 harg7 arg8 harg8 arg9 harg9 arg30 _ _ _ _ _ _ _ x2 x5 x6 x7
      · apply read31
        · exact (read28 arg4 harg4 arg28 _ _ _ x2)
        · exact (harg5.read_unread _)
      · apply read32
        · exact (read28 arg4 harg4 arg28 _ _ _ x2)
        · exact (harg5.read_unread _)
    isplitl [H17]
    · iexists _; isplitr; swap; · iexact H17
      ipureintro
      apply mc_eq
      · exact (read28 arg4 harg4 arg28 _ _ _ x2)
      · exact harg6.read_unread _
      · apply ms_eq
        apply read31
        · exact (read28 arg4 harg4 arg28 _ _ _ x2)
        · exact (harg5.read_unread _)
    isplitl [H18]
    · iexists _; isplitr; swap; · iexact H18
      ipureintro
      apply ms_eq
      apply read31
      · exact (read28 arg4 harg4 arg28 _ _ _ x2)
      · exact (harg5.read_unread _)
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    iexact HT0

end Cert.KernelIdeal.Gen

end

end
-- ==== Proof.KernelIdeal.RunVB.lean ====
/- The run of the kernel's body at every later grid point. -/
module

public import proofs.«01_k».proof.Proof.KernelIdeal.RunVA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1420000 in set_option sl_exec.stridedRows true in
/-- The body's triple IN CASE B (`scf.if` 0 not taken: points 1, 2, … 47: 47 of 48): on whole staging memrefs — the inputs' at their contents,
    the FORGOTTEN outputs' (15, 16, 17, 18, 19, 20, 21, 22) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRunV_B (c : Dev nD) (i : grid0.Coords) (arg2 : Memref sig .tc .vmem S1x64x512 .i8) (harg2 : arg2.IsWhole) (arg3 : Memref sig .tc .vmem S1x1x512 .f32) (harg3 : arg3.IsWhole) (arg4 : Memref sig .tc .vmem S1x64x256 .bf16) (harg4 : arg4.IsWhole) (arg5 : Memref sig .tc .vmem S80x64x128 .f32) (harg5 : arg5.IsWhole) (arg6 : Memref sig .tc .vmem S64x80x128 .f32) (harg6 : arg6.IsWhole) (arg7 : Memref sig .tc .vmem S160x64 .f32) (harg7 : arg7.IsWhole) (arg8 : Memref sig .tc .vmem S160x128 .f32) (harg8 : arg8.IsWhole) (arg9 : Memref sig .tc .vmem S4x160x128 .f32) (harg9 : arg9.IsWhole) (arg10 : Memref sig .tc .vmem S256x128 .fp8e4m3) (harg10 : arg10.IsWhole) (arg11 : Memref sig .tc .vmem S8x128 .f32) (harg11 : arg11.IsWhole) (arg12 : Memref sig .tc .vmem S40x96 .fp8e4m3) (harg12 : arg12.IsWhole) (arg13 : Memref sig .tc .vmem S5x40x128 .f32) (harg13 : arg13.IsWhole) (arg14 : Memref sig .tc .vmem S200x192 .fp8e4m3) (harg14 : arg14.IsWhole) (arg15 : Memref sig .tc .vmem S4x200x128 .f32) (harg15 : arg15.IsWhole) (arg16 : Memref sig .tc .smem S2 .f32) (harg16 : arg16.IsWhole) (arg17 : Memref sig .tc .vmem S1x1x256 .f32) (harg17 : arg17.IsWhole) (arg18 : Memref sig .tc .vmem S1x256x512 .f32) (harg18 : arg18.IsWhole) (arg19 : Memref sig .tc .vmem S1x64x80x256 .fp8e4m3) (harg19 : arg19.IsWhole) (arg20 : Memref sig .tc .vmem S1x80x256 .f32) (harg20 : arg20.IsWhole) (arg21 : Memref sig .tc .vmem S1x64x256 .fp8e4m3) (harg21 : arg21.IsWhole) (arg22 : Memref sig .tc .vmem S1x1x256 .f32) (harg22 : arg22.IsWhole) (arg23 : Memref sig .tc .vmem S1x192x256 .fp8e4m3) (harg23 : arg23.IsWhole) (arg24 : Memref sig .tc .vmem S1x1x256 .f32) (harg24 : arg24.IsWhole) (arg25 : Memref sig .tc .vmem S512x256 .i32) (harg25 : arg25.IsWhole) (arg26 : Memref sig .tc .vmem S512x128 .f32) (harg26 : arg26.IsWhole) (arg27 : Memref sig .tc .vmem S2048x128 .f32) (harg27 : arg27.IsWhole) (arg28 : Memref sig .tc .vmem S64x256 .f32) (harg28 : arg28.IsWhole) (arg29 : Memref sig .tc .vmem S160x256 .f32) (harg29 : arg29.IsWhole) (arg30 : Memref sig .tc .vmem S160x256 .f32) (harg30 : arg30.IsWhole) (arg31 : Memref sig .tc .vmem S160x256 .f32) (harg31 : arg31.IsWhole) (arg32 : Memref sig .tc .vmem S20x256x256 .fp8e4m3) (harg32 : arg32.IsWhole) (arg33 : Memref sig .tc .vmem S65x20x4x128 .fp8e4m3) (harg33 : arg33.IsWhole) (arg34 : Memref sig .tc .vmem S2x256x128 .f32) (harg34 : arg34.IsWhole) (arg35 : Memref sig .tc .vmem S512x256 .f32) (harg35 : arg35.IsWhole) (arg36 : Memref sig .tc .vmem S512x256 .bf16) (harg36 : arg36.IsWhole) (hc0 : ¬cond0_0 i)
    (x0 : Vec Ideal S1x64x512 .i8) (x1 : Vec Ideal S1x1x512 .f32) (x2 : Vec Ideal S1x64x256 .bf16) (x3 : Vec Ideal S80x64x128 .f32) (x4 : Vec Ideal S64x80x128 .f32) (x5 : Vec Ideal S160x64 .f32) (x6 : Vec Ideal S160x128 .f32) (x7 : Vec Ideal S4x160x128 .f32) (x8 : Vec Ideal S256x128 .fp8e4m3) (x9 : Vec Ideal S8x128 .f32) (x10 : Vec Ideal S40x96 .fp8e4m3) (x11 : Vec Ideal S5x40x128 .f32) (x12 : Vec Ideal S200x192 .fp8e4m3) (x13 : Vec Ideal S4x200x128 .f32) (x14 : Vec Ideal S2 .f32) (xt0 : TbBuf0 (F := Ideal) c tbM0_0) (k0_hw1 : k0_chk1 (tbM0_0.view.readAt (Elt Ideal) (Rect.unit (s := S48) (k0_off1 i) S1.size (k0_off1_inb i)).toLoadRect xt0 (Shape.Idx.first (numel1_S1.symm ▸ Nat.one_pos))))
    (hv : ((tbM0_0.view.readAt (Elt Ideal) (Rect.unit (s := S48) (k0_off1 i) S1.size (k0_off1_inb i)).toLoadRect xt0 (Shape.Idx.first (numel1_S1.symm ▸ Nat.one_pos))) : BitVec 32).toInt ≤ 512) (hz : ∀ (p : Fin 40) (k : Fin 96), 80 ≤ k.val → arg12.view.read (Elt Ideal) (harg12.unread x10) (ix2 p k) = 0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare (wtS (tbM0_0.view.readAt (Elt Ideal) (Rect.unit (s := S48) (k0_off1 i) S1.size (k0_off1_inb i)).toLoadRect xt0 (Shape.Idx.first (numel1_S1.symm ▸ Nat.one_pos))) x0 x1 x2 x3 x5 x6 x7 x8 x9 x10 x11 x14) ∗ owns (c : Thread nD τ) arg19 fullShare (mcS x2 x3 x4) ∗ owns (c : Thread nD τ) arg20 fullShare (msS x2 x3) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ tbPt0 c tbM0_0 xt0) -∗ K ⟨⟩))
          ⊢ wp frame (wpE (defs₀ (F := Ideal)) Variants.none c none) E (cc0_din_attention i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
    intro E K
    simp only [cc0_din_attention_eq_skeleton]; unfold cc0_din_attention_skel
    simp only [k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _, _; isplitr; swap; · iexact H15
      ipureintro; rfl
    isplitl [H16]
    · iexists _; isplitr; swap; · iexact H16
      ipureintro
      refine wt_eq _ _ _ _ _ _ _ (fun i c => read35z _ _ _ i c) _ hv _ _ _ _ _ _ _ _ _ _ _ _ x0 x1 x2 x3 x5 x6 x7 x8 x9 x10 x11 x14 (harg9.read_unread _) (harg10.read_unread _) (harg11.read_unread _) (harg12.read_unread _) (harg13.read_unread _) (harg16.read_unread _) ?_ ?_ ?_ ?_ ?_ ?_
      · exact read25 arg2 harg2 arg25 _ _ _ x0
      · exact read27 arg27 _ x1 _ _ _ _ (ld_k arg3 harg3 x1 0 (by decide) _) (ld_k arg3 harg3 x1 128 (by decide) _) (ld_k arg3 harg3 x1 256 (by decide) _) (ld_k arg3 harg3 x1 384 (by decide) _)
      · exact read29 arg4 harg4 arg7 harg7 arg8 harg8 arg9 harg9 arg29 _ _ _ _ _ _ x2 x5 x6 x7
      · exact read30 arg4 harg4 arg7 harg7 arg8 harg8 arg9 harg9 arg30 _ _ _ _ _ _ _ x2 x5 x6 x7
      · apply read31
        · exact (read28 arg4 harg4 arg28 _ _ _ x2)
        · exact (harg5.read_unread _)
      · apply read32
        · exact (read28 arg4 harg4 arg28 _ _ _ x2)
        · exact (harg5.read_unread _)
    isplitl [H17]
    · iexists _; isplitr; swap; · iexact H17
      ipureintro
      apply mc_eq
      · exact (read28 arg4 harg4 arg28 _ _ _ x2)
      · exact harg6.read_unread _
      · apply ms_eq
        apply read31
        · exact (read28 arg4 harg4 arg28 _ _ _ x2)
        · exact (harg5.read_unread _)
    isplitl [H18]
    · iexists _; isplitr; swap; · iexact H18
      ipureintro
      apply ms_eq
      apply read31
      · exact (read28 arg4 harg4 arg28 _ _ _ x2)
      · exact (harg5.read_unread _)
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    iexact HT0

end Cert.KernelIdeal.Gen

end

end
-- ==== Proof.KernelIdeal.FrameV.lean ====
/- The RUN of the program over the extended reals, naming what it leaves in the windows of the weights, of the products' codes and of
   the products' scales; and its frame: it terminates without fault and leaves its arguments unchanged. -/
module

public import proofs.«01_k».proof.Proof.KernelIdeal.RunVB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The output windows this certificate FORGETS (15, 19, 20, 21, 22): nothing reads what the kernel leaves in them, so nothing
    of it is named (Lib/Pipeline/Dat.lean `Dat.toRForget`). -/
def forgets0 : Fin 23 → Bool := fun w => w.val == 15 || w.val == 19 || w.val == 20 || w.val == 21 || w.val == 22

/-- The history length a point reads. -/
abbrev lenV (i : grid0.Coords) : BitVec 32 :=
  tbM0_0.view.readAt (Elt Ideal) (Rect.unit (s := S48) (k0_off1 i) S1.size (k0_off1_inb i)).toLoadRect (tbl m 0) (Shape.Idx.first (numel1_S1.symm ▸ Nat.one_pos))

/-- What point `t` leaves in the window of the weights. -/
abbrev wtAt (hO : Ok m) (c : Dev nD) (t : Fin (cfgM m hO).N) : Vec Ideal S1x256x512 .f32 :=
  wtS (lenV m (grid0.coords t)) (iblk m hO c 0 t) (iblk m hO c 1 t) (iblk m hO c 2 t) (iblk m hO c 3 t) (iblk m hO c 5 t) (iblk m hO c 6 t) (iblk m hO c 7 t) (iblk m hO c 8 t) (iblk m hO c 9 t) (iblk m hO c 10 t) (iblk m hO c 11 t) (iblk m hO c 14 t)

/-- What point `t` leaves in the window of the products' codes. -/
abbrev mcAt (hO : Ok m) (c : Dev nD) (t : Fin (cfgM m hO).N) : Vec Ideal S1x64x80x256 .fp8e4m3 :=
  mcS (iblk m hO c 2 t) (iblk m hO c 3 t) (iblk m hO c 4 t)

/-- What point `t` leaves in the window of the products' scales. -/
abbrev msAt (hO : Ok m) (c : Dev nD) (t : Fin (cfgM m hO).N) : Vec Ideal S1x80x256 .f32 :=
  msS (iblk m hO c 2 t) (iblk m hO c 3 t)

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, h⟩ => Pipeline.Dat.unnamed (cfg := (cfgM m hO)) ⟨15, h⟩ t
    | ⟨16, _⟩ => wtAt m hO c t
    | ⟨17, _⟩ => mcAt m hO c t
    | ⟨18, _⟩ => msAt m hO c t
    | ⟨19, h⟩ => Pipeline.Dat.unnamed (cfg := (cfgM m hO)) ⟨19, h⟩ t
    | ⟨20, h⟩ => Pipeline.Dat.unnamed (cfg := (cfgM m hO)) ⟨20, h⟩ t
    | ⟨21, h⟩ => Pipeline.Dat.unnamed (cfg := (cfgM m hO)) ⟨21, h⟩ t
    | ⟨22, h⟩ => Pipeline.Dat.unnamed (cfg := (cfgM m hO)) ⟨22, h⟩ t
    | ⟨_ + 23, h⟩ => absurd h (Nat.not_lt.2 (Nat.le_add_left _ _))
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = iblk m hO c 9 t := by dsimp only [dats]; try rfl
theorem after0_10 (hO : Ok m) (hH : Hyps m hO) (c : Dev nD) (t : Fin (cfgM m hO).N) : (dats m hO hH 0 c).after 10 t = iblk m hO c 10 t := by dsimp only [dats]; try rfl
theorem after0_11 (hO : Ok m) (hH : Hyps m hO) (c : Dev nD) (t : Fin (cfgM m hO).N) : (dats m hO hH 0 c).after 11 t = iblk m hO c 11 t := by dsimp only [dats]; try rfl
theorem after0_12 (hO : Ok m) (hH : Hyps m hO) (c : Dev nD) (t : Fin (cfgM m hO).N) : (dats m hO hH 0 c).after 12 t = iblk m hO c 12 t := by dsimp only [dats]; try rfl
theorem after0_13 (hO : Ok m) (hH : Hyps m hO) (c : Dev nD) (t : Fin (cfgM m hO).N) : (dats m hO hH 0 c).after 13 t = iblk m hO c 13 t := by dsimp only [dats]; try rfl
theorem after0_14 (hO : Ok m) (hH : Hyps m hO) (c : Dev nD) (t : Fin (cfgM m hO).N) : (dats m hO hH 0 c).after 14 t = iblk m hO c 14 t := by dsimp only [dats]; try rfl
theorem after0_16 (hO : Ok m) (hH : Hyps m hO) (c : Dev nD) (t : Fin (cfgM m hO).N) : (dats m hO hH 0 c).after 16 t = wtAt m hO c t := by dsimp only [dats]; try rfl
theorem after0_17 (hO : Ok m) (hH : Hyps m hO) (c : Dev nD) (t : Fin (cfgM m hO).N) : (dats m hO hH 0 c).after 17 t = mcAt m hO c t := by dsimp only [dats]; try rfl
theorem after0_18 (hO : Ok m) (hH : Hyps m hO) (c : Dev nD) (t : Fin (cfgM m hO).N) : (dats m hO hH 0 c).after 18 t = msAt m hO c t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m hO) (c : Dev nD) (t : Fin (cfgM m hO).N) (d) : (dats m hO hH 0 c).before 9 t d = iblk m hO c 9 t :=
  before0_9_of m hO (dats m hO hH 0 c) (A_eq m hO hH c 9) (after0_9 m hO hH c) t d
theorem before0_10 (hO : Ok m) (hH : Hyps m hO) (c : Dev nD) (t : Fin (cfgM m hO).N) (d) : (dats m hO hH 0 c).before 10 t d = iblk m hO c 10 t :=
  before0_10_of m hO (dats m hO hH 0 c) (A_eq m hO hH c 10) (after0_10 m hO hH c) t d
theorem before0_11 (hO : Ok m) (hH : Hyps m hO) (c : Dev nD) (t : Fin (cfgM m hO).N) (d) : (dats m hO hH 0 c).before 11 t d = iblk m hO c 11 t :=
  before0_11_of m hO (dats m hO hH 0 c) (A_eq m hO hH c 11) (after0_11 m hO hH c) t d
theorem before0_12 (hO : Ok m) (hH : Hyps m hO) (c : Dev nD) (t : Fin (cfgM m hO).N) (d) : (dats m hO hH 0 c).before 12 t d = iblk m hO c 12 t :=
  before0_12_of m hO (dats m hO hH 0 c) (A_eq m hO hH c 12) (after0_12 m hO hH c) t d
theorem before0_13 (hO : Ok m) (hH : Hyps m hO) (c : Dev nD) (t : Fin (cfgM m hO).N) (d) : (dats m hO hH 0 c).before 13 t d = iblk m hO c 13 t :=
  before0_13_of m hO (dats m hO hH 0 c) (A_eq m hO hH c 13) (after0_13 m hO hH c) t d
theorem before0_14 (hO : Ok m) (hH : Hyps m hO) (c : Dev nD) (t : Fin (cfgM m hO).N) (d) : (dats m hO hH 0 c).before 14 t d = iblk m hO c 14 t :=
  before0_14_of m hO (dats m hO hH 0 c) (A_eq m hO hH c 14) (after0_14 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d))
    ∗ (∃ d, owns (c : Thread nD τ) (ms0_13 m hO t) fullShare ((dats m hO hH 0 c).before 13 t d))
    ∗ (∃ d, owns (c : Thread nD τ) (ms0_14 m hO t) fullShare ((dats m hO hH 0 c).before 14 t d))
    ∗ (∃ d, owns (c : Thread nD τ) (ms0_15 m hO t) fullShare d)
    ∗ (∃ d, owns (c : Thread nD τ) (ms0_16 m hO t) fullShare ((dats m hO hH 0 c).before 16 t d))
    ∗ (∃ d, owns (c : Thread nD τ) (ms0_17 m hO t) fullShare ((dats m hO hH 0 c).before 17 t d))
    ∗ (∃ d, owns (c : Thread nD τ) (ms0_18 m hO t) fullShare ((dats m hO hH 0 c).before 18 t d))
    ∗ (∃ d, owns (c : Thread nD τ) (ms0_19 m hO t) fullShare d)
    ∗ (∃ d, owns (c : Thread nD τ) (ms0_20 m hO t) fullShare d)
    ∗ (∃ d, owns (c : Thread nD τ) (ms0_21 m hO t) fullShare d)
    ∗ (∃ d, owns (c : Thread nD τ) (ms0_22 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t)
    ∗ owns (c : Thread nD τ) (ms0_10 m hO t) fullShare ((dats m hO hH 0 c).after 10 t)
    ∗ owns (c : Thread nD τ) (ms0_11 m hO t) fullShare ((dats m hO hH 0 c).after 11 t)
    ∗ owns (c : Thread nD τ) (ms0_12 m hO t) fullShare ((dats m hO hH 0 c).after 12 t)
    ∗ owns (c : Thread nD τ) (ms0_13 m hO t) fullShare ((dats m hO hH 0 c).after 13 t)
    ∗ owns (c : Thread nD τ) (ms0_14 m hO t) fullShare ((dats m hO hH 0 c).after 14 t)
    ∗ (∃ d, owns (c : Thread nD τ) (ms0_15 m hO t) fullShare d)
    ∗ owns (c : Thread nD τ) (ms0_16 m hO t) fullShare ((dats m hO hH 0 c).after 16 t)
    ∗ owns (c : Thread nD τ) (ms0_17 m hO t) fullShare ((dats m hO hH 0 c).after 17 t)
    ∗ owns (c : Thread nD τ) (ms0_18 m hO t) fullShare ((dats m hO hH 0 c).after 18 t)
    ∗ (∃ d, owns (c : Thread nD τ) (ms0_19 m hO t) fullShare d)
    ∗ (∃ d, owns (c : Thread nD τ) (ms0_20 m hO t) fullShare d)
    ∗ (∃ d, owns (c : Thread nD τ) (ms0_21 m hO t) fullShare d)
    ∗ (∃ d, owns (c : Thread nD τ) (ms0_22 m hO t) fullShare d))

set_option maxHeartbeats 6400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (hV : ∀ i : grid0.Coords, (lenV m i).toInt ≤ 512) (hZ : ∀ (c : Dev nD) (t : Fin (cfgM m hO).N) (p : Fin 40) (k : Fin 96), 80 ≤ k.val → iblk m hO c 10 t (ix2 p k) = (0 : EReal)) (c : Dev nD) (t : Fin (cfgM m hO).N) :
    bodyPre m hO hH c t ⊢ wp frame (wpE (defs₀ (F := Ideal)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9, before0_10, before0_11, before0_12, before0_13, before0_14]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8, after0_9, after0_10, after0_11, after0_12, after0_13, after0_14, after0_16, after0_17, after0_18]
  rw [show (dats m hO hH 0 c).Φ t.castSucc = iprop(Pipeline.ΦA spec0 c ∗ Pipeline.ΦT pre0 (tbl m) c) from rfl, PhiT0_eq, PhiA0_eq]
  have hN : t.val < 48 := lt_of_lt_of_eq t.isLt (show (cfgM m hO).N = 48 from N_0)
  by_cases h0 : t.val % 48 = 0
  · iintro ⟨⟨⟨⟨HS0, HS1, HS2, HS3, HS4, HS5, HS6, HS7, HS8, HS9, HS10, HS11⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRunV_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) (Hyps.c0 hH c t) (hV _) (fun p k hk => (congrFun (Memref.IsWhole.read_unread _ _) _).trans (hZ c t p k hk))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HT0]; · iexact HT0
    iintro ⟨H0, H1, H2, H3, H4, H5, H6, H7, H8, H9, H10, H11, H12, H13, H14, H15, H16, H17, H18, H19, H20, H21, H22, HS0, HS1, HS2, HS3, HS4, HS5, HS6, HS7, HS8, HS9, HS10, HS11, HT0⟩
    isplitl [HS0 HS1 HS2 HS3 HS4 HS5 HS6 HS7 HS8 HS9 HS10 HS11 Hg HT0]
    · isplitl [HS0 HS1 HS2 HS3 HS4 HS5 HS6 HS7 HS8 HS9 HS10 HS11 Hg]
      · isplitl [HS0 HS1 HS2 HS3 HS4 HS5 HS6 HS7 HS8 HS9 HS10 HS11]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          isplitl [HS9]
          · iexact HS9
          isplitl [HS10]
          · iexact HS10
          iexact HS11
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · iintro ⟨⟨⟨⟨HS0, HS1, HS2, HS3, HS4, HS5, HS6, HS7, HS8, HS9, HS10, HS11⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRunV_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) (Hyps.c0 hH c t) (hV _) (fun p k hk => (congrFun (Memref.IsWhole.read_unread _ _) _).trans (hZ c t p k hk))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HT0]; · iexact HT0
    iintro ⟨H0, H1, H2, H3, H4, H5, H6, H7, H8, H9, H10, H11, H12, H13, H14, H15, H16, H17, H18, H19, H20, H21, H22, HS0, HS1, HS2, HS3, HS4, HS5, HS6, HS7, HS8, HS9, HS10, HS11, HT0⟩
    isplitl [HS0 HS1 HS2 HS3 HS4 HS5 HS6 HS7 HS8 HS9 HS10 HS11 Hg HT0]
    · isplitl [HS0 HS1 HS2 HS3 HS4 HS5 HS6 HS7 HS8 HS9 HS10 HS11 Hg]
      · isplitl [HS0 HS1 HS2 HS3 HS4 HS5 HS6 HS7 HS8 HS9 HS10 HS11]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          isplitl [HS9]
          · iexact HS9
          isplitl [HS10]
          · iexact HS10
          iexact HS11
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

set_option maxHeartbeats 4000000 in
/-- The library's body obligation, at every point: the body's triple restated (Lib/Pipeline/FrameBody.lean `triple_restated`). -/
theorem body_obligation (hO : Ok m) (hH : Hyps m hO) (hV : ∀ i : grid0.Coords, (lenV m i).toInt ≤ 512) (hZ : ∀ (c : Dev nD) (t : Fin (cfgM m hO).N) (p : Fin 40) (k : Fin 96), 80 ≤ k.val → iblk m hO c 10 t (ix2 p k) = (0 : EReal)) (c : Dev nD) : BodyObligation (dats m hO hH 0 c) (defs₀ (F := Ideal)) Variants.none () Set.univ forgets0 := fun t => by
  rw [bigSep_W0, bigSep_W0, defs₀_row m hO]
  exact triple_restated (sound_body m hO hH hV hZ c t) rfl .rfl fun _ => .rfl

/-! ## The run and the frame -/

-- `θ_run_frameP_forget`'s implicit arguments are found by unifying its conclusion with this one, which takes unfolding plain
-- definitions in a metavariable's type
set_option backward.isDefEq.respectTransparency.types false in set_option maxHeartbeats 4000000 in
/-- THE LAUNCH: `run_main`'s statement, and every semaphore counter of the machine at zero at every final state. -/
theorem run_main_quiescent (hO : Ok m) (hH : Hyps m hO) (hV : ∀ i : grid0.Coords, (lenV m i).toInt ≤ 512) (hZ : ∀ (c : Dev nD) (t : Fin (cfgM m hO).N) (p : Fin 40) (k : Fin 96), 80 ≤ k.val → iblk m hO c 10 t (ix2 p k) = (0 : EReal)) : θ_run defs (onTc (τ := τ) (main (F := Ideal))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH hV hZ c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 15, 19, 20, 21, 22) (Lib/Pipeline/Frame.lean `RDat.FramePost` over the proof data with those windows
    forgotten, Dat.lean `Dat.toRForget`), and every other unscoped buffer at its region-entry contents. -/
theorem run_main (hO : Ok m) (hH : Hyps m hO) (hV : ∀ i : grid0.Coords, (lenV m i).toInt ≤ 512) (hZ : ∀ (c : Dev nD) (t : Fin (cfgM m hO).N) (p : Fin 40) (k : Fin 96), 80 ≤ k.val → iblk m hO c 10 t (ix2 p k) = (0 : EReal)) : θ_run defs (onTc (τ := τ) (main (F := Ideal))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH hV hZ)

/-- `frame` without the counters: the argument arrays end unchanged. -/
theorem unchanged (hO : Ok m) (hH : Hyps m hO) (hV : ∀ i : grid0.Coords, (lenV m i).toInt ≤ 512) (hZ : ∀ (c : Dev nD) (t : Fin (cfgM m hO).N) (p : Fin 40) (k : Fin 96), 80 ≤ k.val → iblk m hO c 10 t (ix2 p k) = (0 : EReal)) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ hO (fun c => (dats m hO hH 0 c).toRForget forgets0) (A_eq m hO hH) (run_main m ρ hO hH hV hZ)

/-- THE FRAME: `Cert.quiescent_KernelIdeal`'s statement (Defs.lean) over the extended reals — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) (hV : ∀ i : grid0.Coords, (lenV m i).toInt ≤ 512) (hZ : ∀ (c : Dev nD) (t : Fin (cfgM m hO).N) (p : Fin 40) (k : Fin 96), 80 ≤ k.val → iblk m hO c 10 t (ix2 p k) = (0 : EReal)) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ hO hH hV hZ) ((θ_run defs _ _).mono (fun _ h => h.2) (run_main_quiescent m ρ hO hH hV hZ))

end Cert.KernelIdeal.Gen.Val

end

end
-- ==== Proof.KernelIdeal.Arrays.lean ====
/- The three arrays of the weights, the codes and the scales that the program leaves, block by block. -/
module

public import proofs.«01_k».proof.Proof.KernelIdeal.Blocks
public import proofs.«01_k».proof.Proof.KernelIdeal.FrameV
public import Idealize.ShloMosaic.Lib.Pipeline.Covers
public import Idealize.ShloMosaic.Lib.Pipeline.ValueKit
public import Idealize.ShloMosaic.Lib.StableHlo.ReadAt

@[expose] public section

noncomputable section

namespace Cert.KernelIdeal.Gen.Val

open Cert.KernelIdeal Cert.KernelIdeal.Gen Idealize.ShloMosaic Idealize.ShloMosaic.TcCoe Idealize.SL.Sem

set_option maxHeartbeats 4000000

variable (m : (ℓ : Loc nD τ sig) → Buf (Elt Ideal) ℓ) (hO : Ok m) (hH : Hyps m hO)

/-- A value at a block's own coordinates is the value at the array's. -/
theorem key3 {α : Type} {a b : ℕ} (f : Fin 48 → (⟨3, ![1, a, b]⟩ : Shape).Idx → α) (t : Fin 48) (y : (⟨3, ![1, a, b]⟩ : Shape).Idx) (z : (⟨3, ![48, a, b]⟩ : Shape).Idx)
    (e0 : (z 0).val = t.val) (e1 : (z 1).val = (y 1).val) (e2 : (z 2).val = (y 2).val) : f t y = f (z 0) (ix3 (n0 := 1) 0 (z 1) (z 2)) := by
  have h0 : z 0 = t := Fin.ext e0
  have h1 : z 1 = y 1 := Fin.ext e1
  have h2 : z 2 = y 2 := Fin.ext e2
  rw [h0, h1, h2]
  refine congrArg (f t) (funext fun k => ?_)
  match k with
  | ⟨0, _⟩ => exact Fin.ext (by have hy : (y 0).val < 1 := (y 0).isLt
                                show (y 0).val = 0
                                omega)
  | ⟨1, _⟩ => rfl
  | ⟨2, _⟩ => rfl

theorem key4 {α : Type} {a b d : ℕ} (f : Fin 48 → (⟨4, ![1, a, b, d]⟩ : Shape).Idx → α) (t : Fin 48) (y : (⟨4, ![1, a, b, d]⟩ : Shape).Idx) (z : (⟨4, ![48, a, b, d]⟩ : Shape).Idx)
    (e0 : (z 0).val = t.val) (e1 : (z 1).val = (y 1).val) (e2 : (z 2).val = (y 2).val) (e3 : (z 3).val = (y 3).val) : f t y = f (z 0) (ix4 (n0 := 1) 0 (z 1) (z 2) (z 3)) := by
  have h0 : z 0 = t := Fin.ext e0
  have h1 : z 1 = y 1 := Fin.ext e1
  have h2 : z 2 = y 2 := Fin.ext e2
  have h3 : z 3 = y 3 := Fin.ext e3
  rw [h0, h1, h2, h3]
  refine congrArg (f t) (funext fun k => ?_)
  match k with
  | ⟨0, _⟩ => exact Fin.ext (by have hy : (y 0).val < 1 := (y 0).isLt
                                show (y 0).val = 0
                                omega)
  | ⟨1, _⟩ => rfl
  | ⟨2, _⟩ => rfl
  | ⟨3, _⟩ => rfl

theorem cov16 : ((cfgM m hO).win 16).Covers := by
  refine Pipeline.Window.covers_of_index_surj _ rfl (fun a => ?_) (fun β => ?_)
  · match a with
    | ⟨0, _⟩ => show 0 < 1; decide
    | ⟨1, _⟩ => show 0 < 256; decide
    | ⟨2, _⟩ => show 0 < 512; decide
  · have hN : ((cfgM m hO).win 16).nblk ⟨0, by show 0 < 3; decide⟩ = 48 := by
      show (48 + 1 - 1) / 1 = 48
      decide
    have b0 : (β ⟨0, by show 0 < 3; decide⟩).val < 48 := lt_of_lt_of_eq (β ⟨0, by show 0 < 3; decide⟩).isLt hN
    refine ⟨⟨(β ⟨0, by show 0 < 3; decide⟩).val, b0⟩, fun a => ?_⟩
    match a with
    | ⟨0, _⟩ => exact (tf ⟨_, b0⟩).2.2.2.1
    | ⟨1, _⟩ =>
      have h1 : ((cfgM m hO).win 16).nblk ⟨1, by show 1 < 3; decide⟩ = 1 := by
        show (256 + 256 - 1) / 256 = 1
        decide
      have := (β ⟨1, by show 1 < 3; decide⟩).isLt
      have h2 : (β ⟨1, by show 1 < 3; decide⟩ : Nat) = 0 := by omega
      exact h2.symm
    | ⟨2, _⟩ =>
      have h1 : ((cfgM m hO).win 16).nblk ⟨2, by show 2 < 3; decide⟩ = 1 := by
        show (512 + 512 - 1) / 512 = 1
        decide
      have := (β ⟨2, by show 2 < 3; decide⟩).isLt
      have h2 : (β ⟨2, by show 2 < 3; decide⟩ : Nat) = 0 := by omega
      exact h2.symm

theorem arr16 (c : Dev nD) (u : Fin 48) (a : Fin 256) (b : Fin 512) :
    ((dats m hO hH 0 c).arrAt 16 (cfgM m hO).N : Vec Ideal S48x256x512 .f32) (ix3 u a b) = wtAt m hO c u (ix3 (n0 := 1) 0 a b) := by
  have h := (dats m hO hH 0 c).arrAt_eq_of_covers 16 (fun y : S48x256x512.Idx => wtAt m hO c (y 0) (ix3 (n0 := 1) 0 (y 1) (y 2))) (cov16 m hO) fun t hf y => ?_
  · exact congrFun h (ix3 u a b)
  · rw [after0_16]
    generalize wtAt m hO c = f
    refine key3 f t y ((((cfgM m hO).win 16).blk t).view.emb y) ?_ ?_ ?_
    · refine (Pipeline.Window.rect_emb_val ((cfgM m hO).win 16) t y _).trans ?_
      have hy : ((show (⟨3, ![1, 256, 512]⟩ : Shape).Idx from y) 0).val < 1 := Fin.isLt _
      show cc0_transform_16 (grid0.coords t) 0 * 1 + ((show (⟨3, ![1, 256, 512]⟩ : Shape).Idx from y) 0).val = t.val
      have := (tf t).2.2.2.1
      omega
    · exact Pipeline.Window.rect_emb_val_of_index_zero ((cfgM m hO).win 16) t _ rfl y
    · exact Pipeline.Window.rect_emb_val_of_index_zero ((cfgM m hO).win 16) t _ rfl y

theorem cov17 : ((cfgM m hO).win 17).Covers := by
  refine Pipeline.Window.covers_of_index_surj _ rfl (fun a => ?_) (fun β => ?_)
  · match a with
    | ⟨0, _⟩ => show 0 < 1; decide
    | ⟨1, _⟩ => show 0 < 64; decide
    | ⟨2, _⟩ => show 0 < 80; decide
    | ⟨3, _⟩ => show 0 < 256; decide
  · have hN : ((cfgM m hO).win 17).nblk ⟨0, by show 0 < 4; decide⟩ = 48 := by
      show (48 + 1 - 1) / 1 = 48
      decide
    have b0 : (β ⟨0, by show 0 < 4; decide⟩).val < 48 := lt_of_lt_of_eq (β ⟨0, by show 0 < 4; decide⟩).isLt hN
    refine ⟨⟨(β ⟨0, by show 0 < 4; decide⟩).val, b0⟩, fun a => ?_⟩
    match a with
    | ⟨0, _⟩ => exact (tf ⟨_, b0⟩).2.2.2.2.1
    | ⟨1, _⟩ =>
      have h1 : ((cfgM m hO).win 17).nblk ⟨1, by show 1 < 4; decide⟩ = 1 := by
        show (64 + 64 - 1) / 64 = 1
        decide
      have := (β ⟨1, by show 1 < 4; decide⟩).isLt
      have h2 : (β ⟨1, by show 1 < 4; decide⟩ : Nat) = 0 := by omega
      exact h2.symm
    | ⟨2, _⟩ =>
      have h1 : ((cfgM m hO).win 17).nblk ⟨2, by show 2 < 4; decide⟩ = 1 := by
        show (80 + 80 - 1) / 80 = 1
        decide
      have := (β ⟨2, by show 2 < 4; decide⟩).isLt
      have h2 : (β ⟨2, by show 2 < 4; decide⟩ : Nat) = 0 := by omega
      exact h2.symm
    | ⟨3, _⟩ =>
      have h1 : ((cfgM m hO).win 17).nblk ⟨3, by show 3 < 4; decide⟩ = 1 := by
        show (256 + 256 - 1) / 256 = 1
        decide
      have := (β ⟨3, by show 3 < 4; decide⟩).isLt
      have h2 : (β ⟨3, by show 3 < 4; decide⟩ : Nat) = 0 := by omega
      exact h2.symm

theorem arr17 (c : Dev nD) (u : Fin 48) (a : Fin 64) (b : Fin 80) (j : Fin 256) :
    ((dats m hO hH 0 c).arrAt 17 (cfgM m hO).N : Vec Ideal S48x64x80x256 .fp8e4m3) (ix4 u a b j) = mcAt m hO c u (ix4 (n0 := 1) 0 a b j) := by
  have h := (dats m hO hH 0 c).arrAt_eq_of_covers 17 (fun y : S48x64x80x256.Idx => mcAt m hO c (y 0) (ix4 (n0 := 1) 0 (y 1) (y 2) (y 3))) (cov17 m hO) fun t hf y => ?_
  · exact congrFun h (ix4 u a b j)
  · rw [after0_17]
    generalize mcAt m hO c = f
    refine key4 f t y ((((cfgM m hO).win 17).blk t).view.emb y) ?_ ?_ ?_ ?_
    · refine (Pipeline.Window.rect_emb_val ((cfgM m hO).win 17) t y _).trans ?_
      have hy : ((show (⟨4, ![1, 64, 80, 256]⟩ : Shape).Idx from y) 0).val < 1 := Fin.isLt _
      show cc0_transform_17 (grid0.coords t) 0 * 1 + ((show (⟨4, ![1, 64, 80, 256]⟩ : Shape).Idx from y) 0).val = t.val
      have := (tf t).2.2.2.2.1
      omega
    · exact Pipeline.Window.rect_emb_val_of_index_zero ((cfgM m hO).win 17) t _ rfl y
    · exact Pipeline.Window.rect_emb_val_of_index_zero ((cfgM m hO).win 17) t _ rfl y
    · exact Pipeline.Window.rect_emb_val_of_index_zero ((cfgM m hO).win 17) t _ rfl y

theorem cov18 : ((cfgM m hO).win 18).Covers := by
  refine Pipeline.Window.covers_of_index_surj _ rfl (fun a => ?_) (fun β => ?_)
  · match a with
    | ⟨0, _⟩ => show 0 < 1; decide
    | ⟨1, _⟩ => show 0 < 80; decide
    | ⟨2, _⟩ => show 0 < 256; decide
  · have hN : ((cfgM m hO).win 18).nblk ⟨0, by show 0 < 3; decide⟩ = 48 := by
      show (48 + 1 - 1) / 1 = 48
      decide
    have b0 : (β ⟨0, by show 0 < 3; decide⟩).val < 48 := lt_of_lt_of_eq (β ⟨0, by show 0 < 3; decide⟩).isLt hN
    refine ⟨⟨(β ⟨0, by show 0 < 3; decide⟩).val, b0⟩, fun a => ?_⟩
    match a with
    | ⟨0, _⟩ => exact (tf ⟨_, b0⟩).2.2.2.2.2
    | ⟨1, _⟩ =>
      have h1 : ((cfgM m hO).win 18).nblk ⟨1, by show 1 < 3; decide⟩ = 1 := by
        show (80 + 80 - 1) / 80 = 1
        decide
      have := (β ⟨1, by show 1 < 3; decide⟩).isLt
      have h2 : (β ⟨1, by show 1 < 3; decide⟩ : Nat) = 0 := by omega
      exact h2.symm
    | ⟨2, _⟩ =>
      have h1 : ((cfgM m hO).win 18).nblk ⟨2, by show 2 < 3; decide⟩ = 1 := by
        show (256 + 256 - 1) / 256 = 1
        decide
      have := (β ⟨2, by show 2 < 3; decide⟩).isLt
      have h2 : (β ⟨2, by show 2 < 3; decide⟩ : Nat) = 0 := by omega
      exact h2.symm

theorem arr18 (c : Dev nD) (u : Fin 48) (a : Fin 80) (b : Fin 256) :
    ((dats m hO hH 0 c).arrAt 18 (cfgM m hO).N : Vec Ideal S48x80x256 .f32) (ix3 u a b) = msAt m hO c u (ix3 (n0 := 1) 0 a b) := by
  have h := (dats m hO hH 0 c).arrAt_eq_of_covers 18 (fun y : S48x80x256.Idx => msAt m hO c (y 0) (ix3 (n0 := 1) 0 (y 1) (y 2))) (cov18 m hO) fun t hf y => ?_
  · exact congrFun h (ix3 u a b)
  · rw [after0_18]
    generalize msAt m hO c = f
    refine key3 f t y ((((cfgM m hO).win 18).blk t).view.emb y) ?_ ?_ ?_
    · refine (Pipeline.Window.rect_emb_val ((cfgM m hO).win 18) t y _).trans ?_
      have hy : ((show (⟨3, ![1, 80, 256]⟩ : Shape).Idx from y) 0).val < 1 := Fin.isLt _
      show cc0_transform_18 (grid0.coords t) 0 * 1 + ((show (⟨3, ![1, 80, 256]⟩ : Shape).Idx from y) 0).val = t.val
      have := (tf t).2.2.2.2.2
      omega
    · exact Pipeline.Window.rect_emb_val_of_index_zero ((cfgM m hO).win 18) t _ rfl y
    · exact Pipeline.Window.rect_emb_val_of_index_zero ((cfgM m hO).win 18) t _ rfl y

end Cert.KernelIdeal.Gen.Val
-- ==== Proof.Value.Layers.lean ====
/- The two layers of the activation unit: normalising before or after the sums gives the same values. -/
module

public import proofs.«01_k».proof.Proof.KernelIdeal.BlockAt

@[expose] public section

noncomputable section

namespace Cert.Value

open Idealize.ShloMosaic Cert.KernelIdeal.Gen

/-- The first layer's code, of the pre-activation `p`. -/
def h1 (p mid half rate shift : EReal) : EReal :=
  min (Ideal.ofBits .f32 0x43E00000#32) (max (Ideal.ofBits .f32 0xC3E00000#32) (p * (mid + half * Ideal.tanh (rate * p + shift))))

/-- The second layer's term, of the pre-activation `q`. -/
def h2 (q mid half rate shift w : EReal) : EReal := q * (mid + half * Ideal.tanh (rate * q + shift)) * w

theorem div_real (r : ℝ) (hr : 0 < r) (x : EReal) : Ideal.div x (r : EReal) = x * ((r⁻¹ : ℝ) : EReal) := by
  rw [Ideal.div_coe hr.ne', one_div]

theorem tanh_real (x : EReal) : ∃ t : ℝ, Ideal.tanh x = (t : EReal) := by
  induction x with
  | bot => exact ⟨-1, by rw [EReal.coe_neg, EReal.coe_one]; rfl⟩
  | coe x => exact ⟨Real.tanh x, rfl⟩
  | top => exact ⟨1, by rw [EReal.coe_one]; rfl⟩

theorem cancel (r : ℝ) (hr : 0 < r) (x y : EReal) : (r : EReal) * x * (((r⁻¹ : ℝ) : EReal) * y) = x * y := by
  have h : (r : EReal) * ((r⁻¹ : ℝ) : EReal) = 1 := by
    rw [← EReal.coe_mul, mul_inv_cancel₀ hr.ne', EReal.coe_one]
  calc (r : EReal) * x * (((r⁻¹ : ℝ) : EReal) * y) = ((r : EReal) * ((r⁻¹ : ℝ) : EReal)) * (x * y) := by ac_rfl
    _ = x * y := by rw [h, one_mul]

theorem layer1 (p ms h w ks ct sh A B : EReal) (r : ℝ) (hr : 0 < r) (hk : 0 ≤ ks) (hk' : ks ≠ ⊤) :
    hV p (ms * r) ks (h * (w * r) * ks) (ct * r) (ct * r + sh) (Ideal.div A r) (Ideal.div B r)
      = h1 ((p * ms + h * w) * ks + ct) A B r sh := by
  have hr0 : (0 : EReal) ≤ (r : EReal) := by exact_mod_cast hr.le
  have hi0 : (0 : EReal) ≤ ((r⁻¹ : ℝ) : EReal) := by exact_mod_cast (inv_pos.mpr hr).le
  have e1 : p * (ms * r) * ks + h * (w * r) * ks + ct * r = (r : EReal) * ((p * ms + h * w) * ks + ct) := by
    rw [EReal.left_distrib_of_nonneg_of_ne_top hr0 (EReal.coe_ne_top r), EReal.right_distrib_of_nonneg_of_ne_top hk hk',
      EReal.left_distrib_of_nonneg_of_ne_top hr0 (EReal.coe_ne_top r)]
    congr 1
    · congr 1 <;> ac_rfl
    · ac_rfl
  have e2 : p * (ms * r) * ks + h * (w * r) * ks + (ct * r + sh) = (r : EReal) * ((p * ms + h * w) * ks + ct) + sh := by
    rw [← add_assoc, e1]
  unfold hV h1
  rw [e1, e2, div_real r hr, div_real r hr]
  congr 2
  generalize Ideal.tanh _ = T
  have e3 : A * ((r⁻¹ : ℝ) : EReal) + B * ((r⁻¹ : ℝ) : EReal) * T = ((r⁻¹ : ℝ) : EReal) * (A + B * T) := by
    rw [EReal.left_distrib_of_nonneg_of_ne_top hi0 (EReal.coe_ne_top _)]
    congr 1 <;> ac_rfl
  rw [e3, cancel r hr]

theorem layer2 (X S b sh : EReal) (r M N w : ℝ) (hr : 0 < r) :
    gV (X * (r * S)) (r * b + sh) (r * b) (Ideal.div M r * w) (Ideal.div N r * w) = h2 (X * S + b) M N r sh w := by
  have hr0 : (0 : EReal) ≤ (r : EReal) := by exact_mod_cast hr.le
  have e1 : X * (r * S) + r * b = (r : EReal) * (X * S + b) := by
    rw [EReal.left_distrib_of_nonneg_of_ne_top hr0 (EReal.coe_ne_top r)]
    congr 1
    ac_rfl
  have e2 : X * (r * S) + (r * b + sh) = (r : EReal) * (X * S + b) + sh := by rw [← add_assoc, e1]
  unfold gV h2
  rw [e1, e2, div_real r hr, div_real r hr]
  obtain ⟨t, ht⟩ := tanh_real ((r : EReal) * (X * S + b) + sh)
  rw [ht]
  have e3 : (M : EReal) * ((r⁻¹ : ℝ) : EReal) * w + (N : EReal) * ((r⁻¹ : ℝ) : EReal) * w * t
      = ((r⁻¹ : ℝ) : EReal) * (((M : EReal) + N * t) * w) := by
    norm_cast
    ring
  rw [e3, cancel r hr, mul_assoc]

theorem half_eq : Ideal.ofBits .f32 1056964608#32 = ((1 / 2 : ℝ) : EReal) := by
  simp [Ideal.ofBits, Ideal.ieee, -EReal.coe_mul]; norm_num

theorem eps_eq : ∃ e : ℝ, 0 < e ∧ Ideal.ofBits .f32 981668463#32 = (e : EReal) := by
  refine ⟨_, ?_, by simp [Ideal.ofBits, Ideal.ieee, -EReal.coe_mul]; rfl⟩
  norm_num

/-- The rate of an activation: half the inverse root of its variance. -/
def rate (v : EReal) : EReal := Ideal.ofBits .f32 1056964608#32 * Ideal.rsqrt (v + Ideal.ofBits .f32 981668463#32)

theorem rate_real (v : EReal) (h0 : 0 ≤ v) (h1 : v < ⊤) : ∃ r : ℝ, 0 < r ∧ rate v = (r : EReal) := by
  lift v to ℝ using ⟨h1.ne, fun h => by simp [h] at h0⟩
  have h0' : 0 ≤ v := by exact_mod_cast h0
  obtain ⟨e, he, hE⟩ := eps_eq
  have hs : 0 < v + e := by linarith
  refine ⟨1 / 2 * (Real.sqrt (v + e))⁻¹, by positivity, ?_⟩
  unfold rate
  rw [half_eq, hE, ← EReal.coe_add]
  have : Ideal.rsqrt ((v + e : ℝ) : EReal) = (((Real.sqrt (v + e))⁻¹ : ℝ) : EReal) := by
    show (if v + e < 0 then (⊥ : EReal) else if v + e = 0 then ⊤ else (((Real.sqrt (v + e))⁻¹ : ℝ) : EReal)) = _
    rw [if_neg (not_lt.mpr hs.le), if_neg hs.ne']
  rw [this, ← EReal.coe_mul]

end Cert.Value
-- ==== Proof.KernelIdeal.Entry.lean ====
module

public import proofs.«01_k».proof.Proof.KernelIdeal.Runs
public import proofs.«01_k».proof.Proof.Value.Layers
public import Idealize.ShloMosaic.Lib.Pipeline.Covers
public import proofs.«01_k».proof.Proof.KernelIdeal.Runs
public import Idealize.ShloMosaic.Lib.Pipeline.ValueKit
public import Idealize.ShloMosaic.Lib.StableHlo.ReadAt

@[expose] public section

noncomputable section

namespace Cert.KernelIdeal.Gen

open Cert.Value (rate)
open Cert.KernelIdeal Idealize.ShloMosaic Idealize.ShloMosaic.TcCoe Idealize.SL.Sem

variable (m : (ℓ : Loc nD τ sig) → Buf (Elt Ideal) ℓ)

/-- An element, read as an extended real. -/
abbrev el (x : EReal) : EReal := x

/-- The channel of a row of the tables of 160 rows: 20 groups of 4 channels, each twice. -/
def ch (r : Fin 160) : Fin 80 := ⟨r.val / 8 * 4 + r.val % 4, by omega⟩

theorem V_60_0 (c : Dev nD) (r : Fin 160) (l : Fin 128) :
    (V m c main_v60 : Vec Ideal S4x160x128 .f32) (ix3 0 r l) = rate (el ((m ((c : Thread nD τ).loc main_arg10) : Vec Ideal S80 .f32) (ix1 (ch r)))) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_60_1 (c : Dev nD) (r : Fin 160) (l : Fin 128) :
    (V m c main_v60 : Vec Ideal S4x160x128 .f32) (ix3 1 r l) = -el ((m ((c : Thread nD τ).loc main_arg9) : Vec Ideal S80 .f32) (ix1 (ch r))) * rate (el ((m ((c : Thread nD τ).loc main_arg10) : Vec Ideal S80 .f32) (ix1 (ch r)))) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_60_2 (c : Dev nD) (r : Fin 160) (l : Fin 128) :
    (V m c main_v60 : Vec Ideal S4x160x128 .f32) (ix3 2 r l) = Ideal.div (Ideal.div (Ideal.ofBits .f32 1056964608#32 * (1 + el ((m ((c : Thread nD τ).loc main_arg11) : Vec Ideal S80 .f32) (ix1 (ch r))))) (el ((m ((c : Thread nD τ).loc main_arg12) : Vec Ideal S1 .f32) (ix1 0)))) (rate (el ((m ((c : Thread nD τ).loc main_arg10) : Vec Ideal S80 .f32) (ix1 (ch r))))) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_60_3 (c : Dev nD) (r : Fin 160) (l : Fin 128) :
    (V m c main_v60 : Vec Ideal S4x160x128 .f32) (ix3 3 r l) = Ideal.div (Ideal.div (Ideal.ofBits .f32 1056964608#32 * (1 - el ((m ((c : Thread nD τ).loc main_arg11) : Vec Ideal S80 .f32) (ix1 (ch r))))) (el ((m ((c : Thread nD τ).loc main_arg12) : Vec Ideal S1 .f32) (ix1 0)))) (rate (el ((m ((c : Thread nD τ).loc main_arg10) : Vec Ideal S80 .f32) (ix1 (ch r))))) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_86_0 (c : Dev nD) (p : Fin 40) (l : Fin 128) :
    (V m c main_v86 : Vec Ideal S5x40x128 .f32) (ix3 0 p l) = rate (el ((m ((c : Thread nD τ).loc main_arg17) : Vec Ideal S40 .f32) (ix1 p))) * (el ((m ((c : Thread nD τ).loc main_arg12) : Vec Ideal S1 .f32) (ix1 0)) * el ((m ((c : Thread nD τ).loc main_arg14) : Vec Ideal S40 .f32) (ix1 p))) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_86_1 (c : Dev nD) (p : Fin 40) (l : Fin 128) :
    (V m c main_v86 : Vec Ideal S5x40x128 .f32) (ix3 1 p l) = rate (el ((m ((c : Thread nD τ).loc main_arg17) : Vec Ideal S40 .f32) (ix1 p))) * el ((m ((c : Thread nD τ).loc main_arg15) : Vec Ideal S40 .f32) (ix1 p)) + -el ((m ((c : Thread nD τ).loc main_arg16) : Vec Ideal S40 .f32) (ix1 p)) * rate (el ((m ((c : Thread nD τ).loc main_arg17) : Vec Ideal S40 .f32) (ix1 p))) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_86_2 (c : Dev nD) (p : Fin 40) (l : Fin 128) :
    (V m c main_v86 : Vec Ideal S5x40x128 .f32) (ix3 2 p l) = rate (el ((m ((c : Thread nD τ).loc main_arg17) : Vec Ideal S40 .f32) (ix1 p))) * el ((m ((c : Thread nD τ).loc main_arg15) : Vec Ideal S40 .f32) (ix1 p)) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_86_3 (c : Dev nD) (p : Fin 40) (l : Fin 128) :
    (V m c main_v86 : Vec Ideal S5x40x128 .f32) (ix3 3 p l) = Ideal.div (Ideal.ofBits .f32 1056964608#32 * (1 + el ((m ((c : Thread nD τ).loc main_arg18) : Vec Ideal S40 .f32) (ix1 p)))) (rate (el ((m ((c : Thread nD τ).loc main_arg17) : Vec Ideal S40 .f32) (ix1 p)))) * el ((m ((c : Thread nD τ).loc main_arg19) : Vec Ideal S40 .f32) (ix1 p)) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_86_4 (c : Dev nD) (p : Fin 40) (l : Fin 128) :
    (V m c main_v86 : Vec Ideal S5x40x128 .f32) (ix3 4 p l) = Ideal.div (Ideal.ofBits .f32 1056964608#32 * (1 - el ((m ((c : Thread nD τ).loc main_arg18) : Vec Ideal S40 .f32) (ix1 p)))) (rate (el ((m ((c : Thread nD τ).loc main_arg17) : Vec Ideal S40 .f32) (ix1 p)))) * el ((m ((c : Thread nD τ).loc main_arg19) : Vec Ideal S40 .f32) (ix1 p)) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_91 (c : Dev nD) (r : Fin 160) (l : Fin 128) :
    (V m c main_v91 : Vec Ideal S160x128 .f32) (ix2 r l) = el ((m ((c : Thread nD τ).loc main_arg8) : Vec Ideal S80 .f32) (ix1 (ch r))) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_95 (c : Dev nD) (r : Fin 160) (l : Fin 64) :
    (V m c main_v95 : Vec Ideal S160x64 .f32) (ix2 r l) = el ((m ((c : Thread nD τ).loc main_arg4) : Vec Ideal S64x80 .f32) (ix2 l (ch r))) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_98 (c : Dev nD) (o : Fin 80) (d : Fin 64) (l : Fin 128) :
    (V m c main_v98 : Vec Ideal S80x64x128 .f32) (ix3 o d l) = el ((m ((c : Thread nD τ).loc main_arg7) : Vec Ideal S64x80 .f32) (ix2 d o)) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_100 (c : Dev nD) (d : Fin 64) (o : Fin 80) (l : Fin 128) :
    (V m c main_v100 : Vec Ideal S64x80x128 .f32) (ix3 d o l) = el ((m ((c : Thread nD τ).loc main_arg7) : Vec Ideal S64x80 .f32) (ix2 d o)) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_106 (c : Dev nD) (r : Fin 256) (q : Fin 20) :
    (V m c main_v106 : Vec Ideal S256x128 .fp8e4m3) (ix2 r ⟨q.val, by omega⟩) = el ((m ((c : Thread nD τ).loc main_arg5) : Vec Ideal S64x80 .fp8e4m3) (ix2 ⟨r.val % 64, by omega⟩ ⟨q.val * 4 + r.val / 64, by omega⟩)) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_111 (c : Dev nD) (r : Fin 8) (q : Fin 20) :
    (V m c main_v111 : Vec Ideal S8x128 .f32) (ix2 r ⟨q.val, by omega⟩) = el ((m ((c : Thread nD τ).loc main_arg6) : Vec Ideal S80 .f32) (ix1 ⟨q.val * 4 + r.val % 4, by omega⟩)) * rate (el ((m ((c : Thread nD τ).loc main_arg10) : Vec Ideal S80 .f32) (ix1 ⟨q.val * 4 + r.val % 4, by omega⟩))) := by
  simp only [V, hostOps0, hostOps0_1, hostOps0_2, List.flatten_cons, List.flatten_nil, List.cons_append, List.nil_append, List.append_nil]
  repeat after_reads_at
  all_goals (try unfold rate); all_goals (try unfold ch); all_goals (try rfl)
  split
  · rename_i h; have e : r.val % 4 = r.val := Nat.mod_eq_of_lt h; simp only [e]
  · rename_i h; have e : r.val % 4 = r.val - 4 := by omega
    simp only [e]

theorem V_115 (c : Dev nD) (p : Fin 40) (k : Fin 96) :
    (V m c main_v115 : Vec Ideal S40x96 .fp8e4m3) (ix2 p k) = if h : k.val < 80 then el ((m ((c : Thread nD τ).loc main_arg13) : Vec Ideal S80x40 .fp8e4m3) (ix2 ⟨k.val, h⟩ p)) else Ideal.ofBits .fp8e4m3 0#8 := by
  simp only [V, hostOps0, hostOps0_1, hostOps0_2, List.flatten_cons, List.flatten_nil, List.cons_append, List.nil_append, List.append_nil]
  repeat after_reads_at
  all_goals (try unfold rate); all_goals (try unfold ch); all_goals (try rfl)

theorem V_130 (c : Dev nD)  :
    (V m c main_v130 : Vec Ideal S2 .f32) (ix1 0) = el ((m ((c : Thread nD τ).loc main_arg20) : Vec Ideal S1 .f32) (ix1 0)) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_131 (c : Dev nD) (u : Fin 48) (r : Fin 64) (l : Fin 512) :
    (V m c main_v131 : Vec Ideal S48x64x512 .i8) (ix3 u r l) = ((m ((c : Thread nD τ).loc main_arg0) : Vec Ideal S48x512x64 .i8) (ix3 u l r)) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_132 (c : Dev nD) (u : Fin 48) (l : Fin 512) :
    (V m c main_v132 : Vec Ideal S48x1x512 .f32) (ix3 (n1 := 1) u 0 l) = el ((m ((c : Thread nD τ).loc main_arg1) : Vec Ideal S48x512 .f32) (ix2 u l)) := by
  simp only [V, hostOps0, hostOps0_1, hostOps0_2, List.flatten_cons, List.flatten_nil, List.cons_append, List.nil_append, List.append_nil]
  repeat after_reads_at
  all_goals (try unfold rate); all_goals (try unfold ch); all_goals (try rfl)

theorem V_133 (c : Dev nD) (u : Fin 48) (r : Fin 64) (l : Fin 256) :
    (V m c main_v133 : Vec Ideal S48x64x256 .bf16) (ix3 u r l) = el ((m ((c : Thread nD τ).loc main_arg3) : Vec Ideal S48x256x64 .bf16) (ix3 u l r)) := by
  simp only [V, hostOps0, hostOps0_1, hostOps0_2, List.flatten_cons, List.flatten_nil, List.cons_append, List.nil_append, List.append_nil]
  repeat after_reads_at
  all_goals (try unfold rate); all_goals (try unfold ch); all_goals (try rfl)

end Cert.KernelIdeal.Gen
-- ==== Proof.KernelIdeal.Bytes.lean ====
/- A sum over the packed words of a slot is a sum over the codes of one lane group. -/
module

public import proofs.«01_k».proof.Proof.KernelIdeal.TripAt
public import Idealize.ShloMosaic.Lib.Pipeline.ValueKit

@[expose] public section

noncomputable section

namespace Cert.KernelIdeal.Gen

open Idealize.ShloMosaic Idealize.ShloMosaic.TcCoe Idealize.ShloMosaic.Tactic

theorem byte_same (w : BitVec 8) (b : Fin 4) : ((IntOp.andi (w.signExtend 32) 255#32) <<< (8 * b.val)).extractLsb' (8 * b.val) 8 = w := by
  unfold IntOp.andi
  revert w b; decide +kernel

theorem byte_other (w : BitVec 8) (a b : Fin 4) (h : a ≠ b) : ((IntOp.andi (w.signExtend 32) 255#32) <<< (8 * a.val)).extractLsb' (8 * b.val) 8 = 0#8 := by
  unfold IntOp.andi
  revert w a b; decide +kernel

theorem pay601_apply (x0 : Vec Ideal S1x64x512 .i8) (i : Fin 512) (a : Fin 4) (d : Fin 64) :
    k0_pay601 x0 (ix2 (n0 := 512) (n1 := 256) i ⟨d.val + 64 * a.val, by omega⟩) = (IntOp.andi ((x0 (ix3 (n0 := 1) 0 d i) : BitVec 8).signExtend 32) 255#32) <<< (8 * a.val) := by
  unfold k0_pay601
  fin_cases a <;> pointwise
  · rfl
  · rw [dif_neg (by omega), dif_pos (by omega), show (⟨d.val + 64 - 64, by omega⟩ : Fin 64) = d from Fin.ext (by show d.val + 64 - 64 = d.val; omega)]
    rfl
  · rw [dif_neg (by omega), dif_neg (by omega), dif_pos (by omega),
      show (⟨d.val + 128 - 64 - 64, by omega⟩ : Fin 64) = d from Fin.ext (by show d.val + 128 - 64 - 64 = d.val; omega)]
    rfl
  · rw [dif_neg (by omega), dif_neg (by omega), dif_neg (by omega),
      show (⟨d.val + 192 - 64 - 64 - 64, by omega⟩ : Fin 64) = d from Fin.ext (by show d.val + 192 - 64 - 64 - 64 = d.val; omega)]
    rfl

theorem ofBits_zero8 : Ideal.ofBits .fp8e4m3 0#8 = 0 := by
  simp [Ideal.ofBits, Ideal.e4m3fn]

theorem bytes_sum (x0 : Vec Ideal S1x64x512 .i8) (i : Fin 512) (b : Nat) (hb : b < 4) (F : Fin 256 → EReal) :
    (∑ x : Fin 256, byteV (k0_pay601 x0 (ix2 i x)) b * F x) = ∑ d : Fin 64, Ideal.ofBits .fp8e4m3 (x0 (ix3 (n0 := 1) 0 d i)) * F ⟨d.val + 64 * b, by omega⟩ := by
  have e := (Equiv.sum_comp (finProdFinEquiv (m := 4) (n := 64)) (fun x : Fin 256 => byteV (k0_pay601 x0 (ix2 i x)) b * F x)).symm
  refine e.trans ?_
  rw [Fintype.sum_prod_type, Finset.sum_eq_single (⟨b, hb⟩ : Fin 4)]
  · refine Finset.sum_congr rfl fun d _ => congrArg₂ (· * ·) ?_ rfl
    refine (congrArg (byteV · b) (pay601_apply x0 i ⟨b, hb⟩ d)).trans ?_
    exact congrArg (Ideal.ofBits .fp8e4m3) (byte_same _ ⟨b, hb⟩)
  · intro a _ ha
    refine Finset.sum_eq_zero fun d _ => ?_
    have h0 : byteV (k0_pay601 x0 (ix2 (n0 := 512) (n1 := 256) i ⟨d.val + 64 * a.val, by omega⟩)) b = 0 := by
      refine (congrArg (byteV · b) (pay601_apply x0 i a d)).trans ?_
      exact (congrArg (Ideal.ofBits .fp8e4m3) (byte_other _ a ⟨b, hb⟩ ha)).trans ofBits_zero8
    exact (congrArg (· * _) h0).trans (zero_mul _)
  · intro h; exact absurd (Finset.mem_univ _) h

end Cert.KernelIdeal.Gen
-- ==== Proof.Value.Weights.lean ====
/- The attention's weights, from one user's history, candidates and the layers' parameters. -/
module

public import proofs.«01_k».proof.Proof.KernelIdeal.Codes
public import proofs.«01_k».proof.Proof.Value.Layers

@[expose] public section

noncomputable section

namespace Cert.Value

open Idealize.ShloMosaic
open Cert.KernelIdeal.Gen (scl cod)

/-- The parameters of the attention: the history's codes and scales, the candidates, and the two layers. -/
structure Params where
  /-- The history's codes, slot by dimension. -/
  K : Fin 512 → Fin 64 → EReal
  /-- The history's scales. -/
  KS : Fin 512 → EReal
  /-- The candidates, candidate by dimension. -/
  Q : Fin 256 → Fin 64 → EReal
  /-- The candidate's weights in the first layer. -/
  wqd : Fin 64 → Fin 80 → EReal
  /-- The codes of the history's weights in the first layer. -/
  wkd : Fin 64 → Fin 80 → EReal
  /-- The scales of the history's weights. -/
  wkds : Fin 80 → EReal
  /-- The products' weights. -/
  wp : Fin 64 → Fin 80 → EReal
  /-- The first layer's bias. -/
  b1 : Fin 80 → EReal
  /-- The first activation's mean. -/
  mu : Fin 80 → EReal
  /-- The first activation's variance. -/
  var : Fin 80 → EReal
  /-- The first activation's slope. -/
  al : Fin 80 → EReal
  /-- The scale of the first layer's codes. -/
  hs : EReal
  /-- The second layer's codes. -/
  w2 : Fin 80 → Fin 40 → EReal
  /-- The second layer's scales. -/
  w2s : Fin 40 → EReal
  /-- The second layer's bias. -/
  b2 : Fin 40 → EReal
  /-- The second activation's mean. -/
  mu2 : Fin 40 → EReal
  /-- The second activation's variance. -/
  var2 : Fin 40 → EReal
  /-- The second activation's slope. -/
  al2 : Fin 40 → EReal
  /-- The last weights. -/
  w3 : Fin 40 → EReal
  /-- The last bias. -/
  b3 : EReal

namespace Params

variable (P : Params)

/-- One half. -/
def half : EReal := Ideal.ofBits .f32 1056964608#32

/-- The product of candidate `c` and channel `o`'s weights. -/
def m (c : Fin 256) (o : Fin 80) (d : Fin 64) : EReal := P.Q c d * P.wp d o

/-- The first layer's pre-activation of channel `o`, candidate `c` and slot `j`. -/
def pre1 (o : Fin 80) (c : Fin 256) (j : Fin 512) : EReal :=
  ((∑ d : Fin 64, cod (P.m c o d) (scl (P.m c o)) * P.K j d) * scl (P.m c o) + (∑ d : Fin 64, P.K j d * P.wkd d o) * P.wkds o) * P.KS j
    + ((∑ d : Fin 64, P.Q c d * P.wqd d o) + P.b1 o)

/-- The first layer's code. -/
def hid (o : Fin 80) (c : Fin 256) (j : Fin 512) : EReal :=
  h1 (P.pre1 o c j) (Ideal.div (half * (1 + P.al o)) P.hs) (Ideal.div (half * (1 - P.al o)) P.hs) (rate (P.var o)) (-P.mu o * rate (P.var o))

/-- The second layer's term of feature `p`. -/
def term (p : Fin 40) (c : Fin 256) (j : Fin 512) : EReal :=
  h2 ((∑ o : Fin 80, P.w2 o p * P.hid o c j) * (P.hs * P.w2s p) + P.b2 p) (half * (1 + P.al2 p)) (half * (1 - P.al2 p)) (rate (P.var2 p))
    (-P.mu2 p * rate (P.var2 p)) (P.w3 p)

/-- The weight of candidate `c` and slot `j`, of a history of `len` slots. -/
def weight (len : BitVec 32) (c : Fin 256) (j : Fin 512) : EReal :=
  Scalar.select (IntOp.cmpi .slt (BitVec.ofNat 32 j.val) len) ((∑ p : Fin 40, P.term p c j) + P.b3) 0

/-- The bounds under which the two ways to apply the activations agree. -/
structure Bounded : Prop where
  /-- The history's scales are not negative. -/
  KS0 : ∀ j, 0 ≤ P.KS j
  /-- The history's scales are finite. -/
  KS1 : ∀ j, P.KS j < ⊤
  /-- The first variance is not negative. -/
  var0 : ∀ o, 0 ≤ P.var o
  /-- The first variance is finite. -/
  var1 : ∀ o, P.var o < ⊤
  /-- The second variance is not negative. -/
  var20 : ∀ p, 0 ≤ P.var2 p
  /-- The second variance is finite. -/
  var21 : ∀ p, P.var2 p < ⊤
  /-- The second slope is finite. -/
  al2 : ∀ p, ∃ a : ℝ, P.al2 p = (a : EReal)
  /-- The last weights are finite. -/
  w3 : ∀ p, ∃ a : ℝ, P.w3 p = (a : EReal)

end Params

/-- One user's parameters, out of the arguments. -/
def params (a0 : Vec Ideal ⟨3, ![48, 512, 64]⟩ .i8) (a1 : Vec Ideal ⟨2, ![48, 512]⟩ .f32) (a3 : Vec Ideal ⟨3, ![48, 256, 64]⟩ .bf16) (a4 : Vec Ideal ⟨2, ![64, 80]⟩ .f32)
    (a5 : Vec Ideal ⟨2, ![64, 80]⟩ .fp8e4m3) (a6 : Vec Ideal ⟨1, ![80]⟩ .f32) (a7 : Vec Ideal ⟨2, ![64, 80]⟩ .f32) (a8 a9 a10 a11 : Vec Ideal ⟨1, ![80]⟩ .f32)
    (a12 : Vec Ideal ⟨1, ![1]⟩ .f32) (a13 : Vec Ideal ⟨2, ![80, 40]⟩ .fp8e4m3) (a14 a15 a16 a17 a18 a19 : Vec Ideal ⟨1, ![40]⟩ .f32) (a20 : Vec Ideal ⟨1, ![1]⟩ .f32)
    (u : Fin 48) : Params where
  K j d := Ideal.ofBits .fp8e4m3 (a0 (ix3 u j d))
  KS j := a1 (ix2 u j)
  Q c d := a3 (ix3 u c d)
  wqd d o := a4 (ix2 d o)
  wkd d o := a5 (ix2 d o)
  wkds o := a6 (ix1 o)
  wp d o := a7 (ix2 d o)
  b1 o := a8 (ix1 o)
  mu o := a9 (ix1 o)
  var o := a10 (ix1 o)
  al o := a11 (ix1 o)
  hs := a12 (ix1 0)
  w2 o p := a13 (ix2 o p)
  w2s p := a14 (ix1 p)
  b2 p := a15 (ix1 p)
  mu2 p := a16 (ix1 p)
  var2 p := a17 (ix1 p)
  al2 p := a18 (ix1 p)
  w3 p := a19 (ix1 p)
  b3 := a20 (ix1 0)

/-- From the same arguments the weights are the same. -/
theorem weight_congr {a0 b0 : Vec Ideal ⟨3, ![48, 512, 64]⟩ .i8} {a1 b1 : Vec Ideal ⟨2, ![48, 512]⟩ .f32} {a3 b3 : Vec Ideal ⟨3, ![48, 256, 64]⟩ .bf16} {a4 b4 : Vec Ideal ⟨2, ![64, 80]⟩ .f32} {a5 b5 : Vec Ideal ⟨2, ![64, 80]⟩ .fp8e4m3} {a6 b6 : Vec Ideal ⟨1, ![80]⟩ .f32} {a7 b7 : Vec Ideal ⟨2, ![64, 80]⟩ .f32} {a8 b8 : Vec Ideal ⟨1, ![80]⟩ .f32} {a9 b9 : Vec Ideal ⟨1, ![80]⟩ .f32} {a10 b10 : Vec Ideal ⟨1, ![80]⟩ .f32} {a11 b11 : Vec Ideal ⟨1, ![80]⟩ .f32} {a12 b12 : Vec Ideal ⟨1, ![1]⟩ .f32} {a13 b13 : Vec Ideal ⟨2, ![80, 40]⟩ .fp8e4m3} {a14 b14 : Vec Ideal ⟨1, ![40]⟩ .f32} {a15 b15 : Vec Ideal ⟨1, ![40]⟩ .f32} {a16 b16 : Vec Ideal ⟨1, ![40]⟩ .f32} {a17 b17 : Vec Ideal ⟨1, ![40]⟩ .f32} {a18 b18 : Vec Ideal ⟨1, ![40]⟩ .f32} {a19 b19 : Vec Ideal ⟨1, ![40]⟩ .f32} {a20 b20 : Vec Ideal ⟨1, ![1]⟩ .f32}
    {l l' : BitVec 32} (e0 : a0 = b0) (e1 : a1 = b1) (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) (e14 : a14 = b14) (e15 : a15 = b15) (e16 : a16 = b16) (e17 : a17 = b17) (e18 : a18 = b18) (e19 : a19 = b19) (e20 : a20 = b20)
    (el : l = l') (u : Fin 48) (c : Fin 256) (j : Fin 512) :
    (params a0 a1 a3 a4 a5 a6 a7 a8 a9 a10 a11 a12 a13 a14 a15 a16 a17 a18 a19 a20 u).weight l c j
      = (params b0 b1 b3 b4 b5 b6 b7 b8 b9 b10 b11 b12 b13 b14 b15 b16 b17 b18 b19 b20 u).weight l' c j := by
  subst e0 e1 e3 e4 e5 e6 e7 e8 e9 e10 e11 e12 e13 e14 e15 e16 e17 e18 e19 e20 el
  rfl

end Cert.Value
-- ==== Proof.KernelIdeal.Weight.lean ====
/- What a grid point leaves in the window of the weights is the attention's weights, given what the windows it reads hold. -/
module

public import proofs.«01_k».proof.Proof.KernelIdeal.Bytes
public import proofs.«01_k».proof.Proof.KernelIdeal.Spec
public import proofs.«01_k».proof.Proof.KernelIdeal.Entry
public import proofs.«01_k».proof.Proof.Value.Weights

@[expose] public section

noncomputable section

namespace Cert.KernelIdeal.Gen

open Idealize.ShloMosaic Idealize.ShloMosaic.TcCoe
open Cert.Value (Params rate rate_real layer1 layer2 half_eq h1 h2)
open Cert.Value.Params (half)

/-- What the windows hold, of one user's parameters. -/
structure Reads (P : Params) (x0 : Vec Ideal S1x64x512 .i8) (x1 : Vec Ideal S1x1x512 .f32) (x2 : Vec Ideal S1x64x256 .bf16) (x3 : Vec Ideal S80x64x128 .f32)
    (x5 : Vec Ideal S160x64 .f32) (x6 : Vec Ideal S160x128 .f32) (x7 : Vec Ideal S4x160x128 .f32) (x8 : Vec Ideal S256x128 .fp8e4m3) (x9 : Vec Ideal S8x128 .f32)
    (x10 : Vec Ideal S40x96 .fp8e4m3) (x11 : Vec Ideal S5x40x128 .f32) (x14 : Vec Ideal S2 .f32) : Prop where
  h0 : ∀ (d : Fin 64) (j : Fin 512), Ideal.ofBits .fp8e4m3 (x0 (ix3 (n0 := 1) 0 d j)) = P.K j d
  h1 : ∀ j : Fin 512, el (x1 (ix3 (n0 := 1) (n1 := 1) 0 0 j)) = P.KS j
  h2 : ∀ (d : Fin 64) (c : Fin 256), el (x2 (ix3 (n0 := 1) 0 d c)) = P.Q c d
  h3 : ∀ (o : Fin 80) (d : Fin 64) (l : Fin 128), el (x3 (ix3 o d l)) = P.wp d o
  h5 : ∀ (r : Fin 160) (d : Fin 64), el (x5 (ix2 r d)) = P.wqd d (ch r)
  h6 : ∀ (r : Fin 160) (l : Fin 128), el (x6 (ix2 r l)) = P.b1 (ch r)
  h70 : ∀ (r : Fin 160) (l : Fin 128), el (x7 (ix3 (n0 := 4) 0 r l)) = rate (P.var (ch r))
  h71 : ∀ (r : Fin 160) (l : Fin 128), el (x7 (ix3 (n0 := 4) 1 r l)) = -P.mu (ch r) * rate (P.var (ch r))
  h72 : ∀ (r : Fin 160) (l : Fin 128), el (x7 (ix3 (n0 := 4) 2 r l)) = Ideal.div (Ideal.div (half * (1 + P.al (ch r))) P.hs) (rate (P.var (ch r)))
  h73 : ∀ (r : Fin 160) (l : Fin 128), el (x7 (ix3 (n0 := 4) 3 r l)) = Ideal.div (Ideal.div (half * (1 - P.al (ch r))) P.hs) (rate (P.var (ch r)))
  h8 : ∀ (r : Fin 256) (q : Fin 20), el (x8 (ix2 (n1 := 128) r ⟨q.val, by omega⟩)) = P.wkd ⟨r.val % 64, by omega⟩ ⟨q.val * 4 + r.val / 64, by omega⟩
  h9 : ∀ (r : Fin 8) (q : Fin 20), el (x9 (ix2 (n1 := 128) r ⟨q.val, by omega⟩)) = P.wkds ⟨q.val * 4 + r.val % 4, by omega⟩ * rate (P.var ⟨q.val * 4 + r.val % 4, by omega⟩)
  h10 : ∀ (p : Fin 40) (k : Fin 80), el (x10 (ix2 (n1 := 96) p ⟨k.val, by omega⟩)) = P.w2 k p
  h110 : ∀ (p : Fin 40) (l : Fin 128), el (x11 (ix3 (n0 := 5) 0 p l)) = rate (P.var2 p) * (P.hs * P.w2s p)
  h111 : ∀ (p : Fin 40) (l : Fin 128), el (x11 (ix3 (n0 := 5) 1 p l)) = rate (P.var2 p) * P.b2 p + -P.mu2 p * rate (P.var2 p)
  h112 : ∀ (p : Fin 40) (l : Fin 128), el (x11 (ix3 (n0 := 5) 2 p l)) = rate (P.var2 p) * P.b2 p
  h113 : ∀ (p : Fin 40) (l : Fin 128), el (x11 (ix3 (n0 := 5) 3 p l)) = Ideal.div (half * (1 + P.al2 p)) (rate (P.var2 p)) * P.w3 p
  h114 : ∀ (p : Fin 40) (l : Fin 128), el (x11 (ix3 (n0 := 5) 4 p l)) = Ideal.div (half * (1 - P.al2 p)) (rate (P.var2 p)) * P.w3 p
  h14 : el (x14 (ix1 (n0 := 2) 0)) = P.b3

theorem hV_congr {a1 a2 a3 a4 a5 a6 a7 a8 b1 b2 b3 b4 b5 b6 b7 b8 : EReal} (e1 : a1 = b1) (e2 : a2 = b2) (e3 : a3 = b3) (e4 : a4 = b4) (e5 : a5 = b5) (e6 : a6 = b6)
    (e7 : a7 = b7) (e8 : a8 = b8) : hV a1 a2 a3 a4 a5 a6 a7 a8 = hV b1 b2 b3 b4 b5 b6 b7 b8 := by
  subst e1 e2 e3 e4 e5 e6 e7 e8; rfl

theorem gV_congr {a1 a2 a3 a4 a5 b1 b2 b3 b4 b5 : EReal} (e1 : a1 = b1) (e2 : a2 = b2) (e3 : a3 = b3) (e4 : a4 = b4) (e5 : a5 = b5) :
    gV a1 a2 a3 a4 a5 = gV b1 b2 b3 b4 b5 := by
  subst e1 e2 e3 e4 e5; rfl

theorem codw (Q : Vec Ideal S64x256 .f32) (W : Vec Ideal S80x64x128 .f32) (c : Fin 256) {o o' : Fin 80} {d d' : Fin 64} (ho : o = o') (hd : d = d') :
    cod (prw Q W o c d) (scl (prw Q W o c)) = cod (prw Q W o' c d') (scl (prw Q W o' c)) := by
  subst ho hd; rfl

section
variable {P : Params} {x0 : Vec Ideal S1x64x512 .i8} {x1 : Vec Ideal S1x1x512 .f32} {x2 : Vec Ideal S1x64x256 .bf16} {x3 : Vec Ideal S80x64x128 .f32}
  {x5 : Vec Ideal S160x64 .f32} {x6 : Vec Ideal S160x128 .f32} {x7 : Vec Ideal S4x160x128 .f32} {x8 : Vec Ideal S256x128 .fp8e4m3} {x9 : Vec Ideal S8x128 .f32}
  {x10 : Vec Ideal S40x96 .fp8e4m3} {x11 : Vec Ideal S5x40x128 .f32} {x14 : Vec Ideal S2 .f32}
  (R : Reads P x0 x1 x2 x3 x5 x6 x7 x8 x9 x10 x11 x14) (B : P.Bounded)
include R

theorem prw_m (o : Fin 80) (c : Fin 256) : prw (qS x2) x3 o c = P.m c o :=
  funext fun d => congrArg₂ (· * ·) (R.h2 d c) (R.h3 o d (ln c))

/-- The row of channel `kk` and slot `i` is one of the channel's rows. -/
theorem ch_row (i : Fin 512) (kk : Fin 80) : ch ⟨8 * (kk.val / 4) + (4 * i.val + kk.val % 4) % 8, by omega⟩ = kk :=
  Fin.ext (by show (8 * (kk.val / 4) + (4 * i.val + kk.val % 4) % 8) / 8 * 4 + (8 * (kk.val / 4) + (4 * i.val + kk.val % 4) % 8) % 4 = kk.val; omega)

theorem m4_eq (kk : Fin 80) (d : Fin 64) (c : Fin 256) :
    el (m4S x2 x3 (ix3 (n0 := 20) (n1 := 256) ⟨kk.val / 4, by omega⟩ ⟨d.val + 64 * (kk.val % 4), by omega⟩ c)) = cod (P.m c kk d) (scl (P.m c kk)) := by
  rw [← prw_m R]
  refine codw (qS x2) x3 c (Fin.ext ?_) (Fin.ext ?_)
  · show 4 * (kk.val / 4) + (d.val + 64 * (kk.val % 4)) / 64 = kk.val; omega
  · show (d.val + 64 * (kk.val % 4)) % 64 = d.val; omega

theorem pat_eq (i : Fin 512) (kk : Fin 80) (c : Fin 256) :
    el (patS x2 x3 (ix2 (n0 := 160) ⟨8 * (kk.val / 4) + (4 * i.val + kk.val % 4) % 8, by omega⟩ c)) = scl (P.m c kk) := by
  rw [← prw_m R]
  refine congrArg (fun o => scl (prw (qS x2) x3 o c)) (Fin.ext ?_)
  show 4 * ((8 * (kk.val / 4) + (4 * i.val + kk.val % 4) % 8) / 8) + (8 * (kk.val / 4) + (4 * i.val + kk.val % 4) % 8) % 4 = kk.val; omega

theorem krow_eq (i : Fin 512) (kk : Fin 80) (l : Fin 128) : el (krowS x1 (ix2 (n0 := 2048) ⟨4 * i.val + kk.val % 4, by omega⟩ l)) = P.KS i := by
  refine Eq.trans (congrArg (fun j => el (x1 (ix3 (n0 := 1) (n1 := 1) 0 0 j))) (Fin.ext ?_)) (R.h1 i)
  show (4 * i.val + kk.val % 4) / 4 = i.val; omega

theorem wkd_eq (kk : Fin 80) (d : Fin 64) : el (x8 (ix2 (n0 := 256) (n1 := 128) ⟨d.val + 64 * (kk.val % 4), by omega⟩ ⟨kk.val / 4, by omega⟩)) = P.wkd d kk := by
  refine (R.h8 ⟨d.val + 64 * (kk.val % 4), by omega⟩ ⟨kk.val / 4, by omega⟩).trans (congrArg₂ P.wkd (Fin.ext ?_) (Fin.ext ?_))
  · show (d.val + 64 * (kk.val % 4)) % 64 = d.val; omega
  · show kk.val / 4 * 4 + (d.val + 64 * (kk.val % 4)) / 64 = kk.val; omega

theorem wkds_eq (i : Fin 512) (kk : Fin 80) :
    el (x9 (ix2 (n0 := 8) (n1 := 128) ⟨(4 * i.val + kk.val % 4) % 8, by omega⟩ ⟨kk.val / 4, by omega⟩)) = P.wkds kk * rate (P.var kk) := by
  refine (R.h9 ⟨(4 * i.val + kk.val % 4) % 8, by omega⟩ ⟨kk.val / 4, by omega⟩).trans (congrArg (fun o => P.wkds o * rate (P.var o)) (Fin.ext ?_))
  show kk.val / 4 * 4 + (4 * i.val + kk.val % 4) % 8 % 4 = kk.val; omega

theorem a1_eq (r : Fin 160) (c : Fin 256) : el (a1S x2 x5 x6 x7 (ix2 r c)) = ((∑ d : Fin 64, P.Q c d * P.wqd d (ch r)) + P.b1 (ch r)) * rate (P.var (ch r)) := by
  refine congrArg₂ (· * ·) (congrArg₂ (· + ·) (Finset.sum_congr rfl fun d _ => ?_) (R.h6 r (ln c))) (R.h70 r (ln c))
  exact (congrArg₂ (· * ·) (R.h5 r d) (R.h2 d c)).trans (mul_comm _ _)

theorem a2_eq (r : Fin 160) (c : Fin 256) : el (a2S x2 x5 x6 x7 (ix2 r c))
    = ((∑ d : Fin 64, P.Q c d * P.wqd d (ch r)) + P.b1 (ch r)) * rate (P.var (ch r)) + -P.mu (ch r) * rate (P.var (ch r)) :=
  congrArg₂ (· + ·) (a1_eq R r c) (R.h71 r (ln c))

include B

/-- The first layer's code of channel `kk`. -/
theorem hAt_eq (i : Fin 512) (kk : Fin 80) (c : Fin 256) :
    hAt x7 x8 x9 (k0_pay601 x0) (krowS x1) (a1S x2 x5 x6 x7) (a2S x2 x5 x6 x7) (patS x2 x3) (m4S x2 x3) i kk c = P.hid kk c i := by
  obtain ⟨r, hr, hrr⟩ := rate_real (P.var kk) (B.var0 kk) (B.var1 kk)
  have hrow := ch_row R i kk
  unfold hAt
  refine (hV_congr (b1 := ∑ d : Fin 64, cod (P.m c kk d) (scl (P.m c kk)) * P.K i d) (b2 := scl (P.m c kk) * (r : EReal)) (b3 := P.KS i)
    (b4 := (∑ d : Fin 64, P.K i d * P.wkd d kk) * (P.wkds kk * (r : EReal)) * P.KS i)
    (b5 := ((∑ d : Fin 64, P.Q c d * P.wqd d kk) + P.b1 kk) * (r : EReal))
    (b6 := ((∑ d : Fin 64, P.Q c d * P.wqd d kk) + P.b1 kk) * (r : EReal) + -P.mu kk * (r : EReal))
    (b7 := Ideal.div (Ideal.div (half * (1 + P.al kk)) P.hs) (r : EReal)) (b8 := Ideal.div (Ideal.div (half * (1 - P.al kk)) P.hs) (r : EReal))
    ?_ ?_ ?_ ?_ ?_ ?_ ?_ ?_).trans ((layer1 _ _ _ _ _ _ _ _ _ r hr (B.KS0 i) (B.KS1 i).ne).trans ?_)
  · refine (bytes_sum x0 i (kk.val % 4) (by omega) _).trans (Finset.sum_congr rfl fun d _ => ?_)
    exact (congrArg₂ (· * ·) (R.h0 d i) (m4_eq R kk d c)).trans (mul_comm _ _)
  · refine congrArg₂ (· * ·) (pat_eq R i kk c) ((R.h70 _ _).trans ?_)
    rw [hrow, hrr]
  · exact krow_eq R i kk _
  · refine congrArg₂ (· * ·) (congrArg₂ (· * ·) ?_ ((wkds_eq R i kk).trans ?_)) (krow_eq R i kk _)
    · refine (bytes_sum x0 i (kk.val % 4) (by omega) _).trans (Finset.sum_congr rfl fun d _ => ?_)
      exact congrArg₂ (· * ·) (R.h0 d i) (wkd_eq R kk d)
    · rw [hrr]
  · refine (a1_eq R _ c).trans ?_
    rw [hrow, hrr]
  · refine (a2_eq R _ c).trans ?_
    rw [hrow, hrr]
  · refine (R.h72 _ _).trans ?_
    rw [hrow, hrr]
  · refine (R.h73 _ _).trans ?_
    rw [hrow, hrr]
  · unfold Params.hid Params.pre1
    rw [hrr]

/-- The second layer's term of feature `p`. -/
theorem gAt_eq (i : Fin 512) (c : Fin 256) (p : Fin 40) : gAt x10 x11 (fun kk => P.hid kk c i) c p = P.term p c i := by
  obtain ⟨r, hr, hrr⟩ := rate_real (P.var2 p) (B.var20 p) (B.var21 p)
  obtain ⟨a, ha⟩ := B.al2 p
  obtain ⟨w, hw⟩ := B.w3 p
  have hM : half * (1 + P.al2 p) = ((1 / 2 * (1 + a) : ℝ) : EReal) := by
    rw [ha, half, half_eq, EReal.coe_mul, EReal.coe_add, EReal.coe_one]
  have hN : half * (1 - P.al2 p) = ((1 / 2 * (1 - a) : ℝ) : EReal) := by
    rw [ha, half, half_eq, EReal.coe_mul, EReal.coe_sub, EReal.coe_one]
  unfold gAt
  refine (gV_congr (b1 := (∑ o : Fin 80, P.w2 o p * P.hid o c i) * ((r : EReal) * (P.hs * P.w2s p))) (b2 := (r : EReal) * P.b2 p + -P.mu2 p * (r : EReal))
    (b3 := (r : EReal) * P.b2 p) (b4 := Ideal.div ((1 / 2 * (1 + a) : ℝ) : EReal) (r : EReal) * (w : EReal))
    (b5 := Ideal.div ((1 / 2 * (1 - a) : ℝ) : EReal) (r : EReal) * (w : EReal)) ?_ ?_ ?_ ?_ ?_).trans ((layer2 _ _ _ _ r _ _ w hr).trans ?_)
  · refine congrArg₂ (· * ·) (Finset.sum_congr rfl fun o _ => congrArg (· * _) (R.h10 p o)) ((R.h110 p _).trans ?_)
    rw [hrr]
  · refine (R.h111 p _).trans ?_
    rw [hrr]
  · refine (R.h112 p _).trans ?_
    rw [hrr]
  · refine (R.h113 p _).trans ?_
    rw [hM, hrr, hw]
  · refine (R.h114 p _).trans ?_
    rw [hN, hrr, hw]
  · unfold Params.term
    rw [hM, hN, hrr, hw]

/-- The window of the weights. -/
theorem wtS_eq (len : BitVec 32) (c : Fin 256) (j : Fin 512) :
    wtS len x0 x1 x2 x3 x5 x6 x7 x8 x9 x10 x11 x14 (ix3 (n0 := 1) 0 c j) = P.weight len c j := by
  have e : (fun kk => hAt x7 x8 x9 (k0_pay601 x0) (krowS x1) (a1S x2 x5 x6 x7) (a2S x2 x5 x6 x7) (patS x2 x3) (m4S x2 x3) j kk c) = fun kk => P.hid kk c j :=
    funext fun kk => hAt_eq R B j kk c
  show atW len x7 x8 x9 x10 x11 x14 (k0_pay601 x0) (krowS x1) (a1S x2 x5 x6 x7) (a2S x2 x5 x6 x7) (patS x2 x3) (m4S x2 x3) j c = _
  unfold atW Params.weight
  rw [e]
  refine congrArg (fun x => Scalar.select (IntOp.cmpi .slt (BitVec.ofNat 32 j.val) len) x 0) ?_
  exact congrArg₂ (· + ·) (Finset.sum_congr rfl fun p _ => gAt_eq R B j c p) R.h14

end

end Cert.KernelIdeal.Gen
-- ==== Proof.Value.Products.lean ====
/- The products of a candidate and a channel's weights: the meaning of the codes and the scales. -/
module

public import Idealize.ShloMosaic.Lib.Pipeline.ValueKit

@[expose] public section

noncomputable section

namespace Cert.Value

open Idealize.ShloMosaic Idealize.ShloMosaic.ValueIdx

/-- The products of user `u`'s candidate `c` and channel `o`'s weights. -/
def prod (cand : Vec Ideal ⟨3, ![48, 256, 64]⟩ .bf16) (wp : Vec Ideal ⟨2, ![64, 80]⟩ .f32) (u : Fin 48) (o : Fin 80) (c : Fin 256) (d : Fin 64) : EReal :=
  cand (Idealize.ShloMosaic.ix3 u c d) * wp (Idealize.ShloMosaic.ix2 d o)

end Cert.Value
-- ==== Proof.KernelIdeal.Values.lean ====
/- What the kernel leaves in the arrays of the weights, of the codes and of the scales, from the arguments. -/
module

public import proofs.«01_k».proof.Proof.KernelIdeal.Arrays
public import proofs.«01_k».proof.Proof.KernelIdeal.Entry
public import proofs.«01_k».proof.Proof.KernelIdeal.Weight
public import proofs.«01_k».proof.Proof.Value.Products

@[expose] public section

noncomputable section

namespace Cert.KernelIdeal.Gen.Val

open Cert.KernelIdeal Cert.KernelIdeal.Gen Idealize.ShloMosaic Idealize.ShloMosaic.TcCoe Idealize.SL.Sem
open Cert.Value (prod params Params)

variable (m : (ℓ : Loc nD τ sig) → Buf (Elt Ideal) ℓ) (hO : Ok m) (hH : Hyps m hO)

/-- The kernel's products are the candidate's and the channel's. -/
theorem prw_eq (c : Dev nD) (u : Fin 48) (o : Fin 80) (k : Fin 256) :
    prw (qS (iblk m hO c 2 u)) (iblk m hO c 3 u) o k = prod (m ((c : Thread nD τ).loc main_arg3)) (m ((c : Thread nD τ).loc main_arg7)) u o k := by
  funext d
  unfold prw prod
  have h2 := (blk2 m hO c u u rfl d k).trans (V_133 m c u d k)
  have h3 := (congrFun (blk3 m hO c u) (ix3 o d (ln k))).trans (V_98 m c o d (ln k))
  exact congrArg₂ (· * ·) h2 h3

theorem ms_eq (c : Dev nD) (u : Fin 48) (o : Fin 80) (k : Fin 256) :
    ((dats m hO hH 0 c).arrAt 18 (cfgM m hO).N : Vec Ideal S48x80x256 .f32) (ix3 u o k)
      = scl (prod (m ((c : Thread nD τ).loc main_arg3)) (m ((c : Thread nD τ).loc main_arg7)) u o k) :=
  (arr18 m hO hH c u o k).trans (congrArg scl (prw_eq m hO c u o k))

theorem mc_eq (c : Dev nD) (u : Fin 48) (d : Fin 64) (o : Fin 80) (k : Fin 256) :
    ((dats m hO hH 0 c).arrAt 17 (cfgM m hO).N : Vec Ideal S48x64x80x256 .fp8e4m3) (ix4 u d o k)
      = cod (prod (m ((c : Thread nD τ).loc main_arg3)) (m ((c : Thread nD τ).loc main_arg7)) u o k d)
          (scl (prod (m ((c : Thread nD τ).loc main_arg3)) (m ((c : Thread nD τ).loc main_arg7)) u o k)) := by
  refine (arr17 m hO hH c u d o k).trans ?_
  have h2 := (blk2 m hO c u u rfl d k).trans (V_133 m c u d k)
  have h4 := (congrFun (blk4 m hO c u) (ix3 d o (ln k))).trans (V_100 m c d o (ln k))
  exact congrArg₂ cod (congrArg₂ (· * ·) h2 h4) (congrArg scl (prw_eq m hO c u o k))

/-- The padding columns of the second layer's weights are zero. -/
theorem w2_zero (c : Dev nD) (t : Fin (cfgM m hO).N) (p : Fin 40) (k : Fin 96) (hk : 80 ≤ k.val) : iblk m hO c 10 t (ix2 p k) = (0 : EReal) := by
  refine ((congrFun (blk10 m hO c t) (ix2 p k)).trans (V_115 m c p k)).trans ?_
  rw [dif_neg (by omega)]
  simp [Ideal.ofBits, Ideal.e4m3fn]
  rfl

/-- The lengths read by the grid points are the argument's. -/
theorem len_le (h : ∀ (c : Dev nD) (y : S48.Idx), (m ((c : Thread nD τ).loc main_arg2) y : BitVec 32).toInt ≤ 512) (i : grid0.Coords) : (lenV m i).toInt ≤ 512 := by
  unfold lenV
  have e : tbl m 0 = m (((0 : Dev nD) : Thread nD τ).loc main_arg2) := V_main_arg2 m 0
  rw [e]
  exact h 0 _

/-- User `u`'s parameters, out of the memory the run starts from. -/
abbrev par (c : Dev nD) (u : Fin 48) : Params :=
  params (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) u

/-- What the windows of a grid point hold. -/
theorem reads (c : Dev nD) (u : Fin 48) : Reads (par m c u) (iblk m hO c 0 u) (iblk m hO c 1 u) (iblk m hO c 2 u) (iblk m hO c 3 u) (iblk m hO c 5 u) (iblk m hO c 6 u)
    (iblk m hO c 7 u) (iblk m hO c 8 u) (iblk m hO c 9 u) (iblk m hO c 10 u) (iblk m hO c 11 u) (iblk m hO c 14 u) where
  h0 d j := congrArg (Ideal.ofBits .fp8e4m3) ((blk0 m hO c u u rfl d j).trans (V_131 m c u d j))
  h1 j := (blk1 m hO c u u rfl 0 j).trans (V_132 m c u j)
  h2 d k := (blk2 m hO c u u rfl d k).trans (V_133 m c u d k)
  h3 o d l := (congrFun (blk3 m hO c u) (ix3 o d l)).trans (V_98 m c o d l)
  h5 r d := (congrFun (blk5 m hO c u) (ix2 r d)).trans (V_95 m c r d)
  h6 r l := (congrFun (blk6 m hO c u) (ix2 r l)).trans (V_91 m c r l)
  h70 r l := (congrFun (blk7 m hO c u) (ix3 0 r l)).trans (V_60_0 m c r l)
  h71 r l := (congrFun (blk7 m hO c u) (ix3 1 r l)).trans (V_60_1 m c r l)
  h72 r l := (congrFun (blk7 m hO c u) (ix3 2 r l)).trans (V_60_2 m c r l)
  h73 r l := (congrFun (blk7 m hO c u) (ix3 3 r l)).trans (V_60_3 m c r l)
  h8 r q := (congrFun (blk8 m hO c u) (ix2 r ⟨q.val, by omega⟩)).trans (V_106 m c r q)
  h9 r q := (congrFun (blk9 m hO c u) (ix2 r ⟨q.val, by omega⟩)).trans (V_111 m c r q)
  h10 p k := (congrFun (blk10 m hO c u) (ix2 p ⟨k.val, by omega⟩)).trans ((V_115 m c p ⟨k.val, by omega⟩).trans (dif_pos k.isLt))
  h110 p l := (congrFun (blk11 m hO c u) (ix3 0 p l)).trans (V_86_0 m c p l)
  h111 p l := (congrFun (blk11 m hO c u) (ix3 1 p l)).trans (V_86_1 m c p l)
  h112 p l := (congrFun (blk11 m hO c u) (ix3 2 p l)).trans (V_86_2 m c p l)
  h113 p l := (congrFun (blk11 m hO c u) (ix3 3 p l)).trans (V_86_3 m c p l)
  h114 p l := (congrFun (blk11 m hO c u) (ix3 4 p l)).trans (V_86_4 m c p l)
  h14 := (congrFun (blk14 m hO c u) (ix1 0)).trans (V_130 m c)

theorem off1 (t : Fin 48) : k0_off1 (grid0.coords t) 0 = t.val := by
  revert t; decide +kernel

/-- The length a grid point reads is its user's. -/
theorem len_eq (c : Dev nD) (u : Fin 48) : lenV m (grid0.coords u) = (m ((c : Thread nD τ).loc main_arg2) : Vec Ideal S48 .i32) (ix1 u) := by
  unfold lenV
  obtain rfl : c = 0 := Subsingleton.elim _ _
  have e : tbl m 0 = m (((0 : Dev nD) : Thread nD τ).loc main_arg2) := V_main_arg2 m 0
  rw [e]
  refine congrArg (m (((0 : Dev nD) : Thread nD τ).loc main_arg2)) (funext fun a => Fin.ext ?_)
  match a with
  | ⟨0, _⟩ => exact (show k0_off1 (grid0.coords u) 0 + 1 * 0 = u.val by rw [off1 u]; omega)

/-- The kernel's array of the weights. -/
theorem wt_eq (c : Dev nD) (u : Fin 48) (k : Fin 256) (j : Fin 512) (B : (par m c u).Bounded) :
    ((dats m hO hH 0 c).arrAt 16 (cfgM m hO).N : Vec Ideal S48x256x512 .f32) (ix3 u k j)
      = (par m c u).weight ((m ((c : Thread nD τ).loc main_arg2) : Vec Ideal S48 .i32) (ix1 u)) k j := by
  refine (arr16 m hO hH c u k j).trans ?_
  refine (wtS_eq (reads m hO c u) B (lenV m (grid0.coords u)) k j).trans ?_
  exact congrArg (fun l => (par m c u).weight l k j) (len_eq m c u)

variable (ρ : Dev nD → PrngReg)

/-- After a run the attention's results are the arrays the grid has filled. -/
theorem results (hV : ∀ i : grid0.Coords, (lenV m i).toInt ≤ 512) : θ_run defs (onTc (τ := τ) (main (F := Ideal))) ⟨m, fun _ => 0, ρ⟩ (fun r => ∀ c : Dev nD,
      r.2.mem ((c.tc : Thread nD τ).loc main_v134_1) = (dats m hO hH 0 c).arrAt 16 (cfgM m hO).N
      ∧ r.2.mem ((c.tc : Thread nD τ).loc main_v134_2) = (dats m hO hH 0 c).arrAt 17 (cfgM m hO).N
      ∧ r.2.mem ((c.tc : Thread nD τ).loc main_v134_3) = (dats m hO hH 0 c).arrAt 18 (cfgM m hO).N) := by
  refine (θ_run defs _ _).mono (fun r h c => ⟨?_, ?_, ?_⟩) (run_main m ρ hO hH hV (w2_zero m hO))
  · exact ((dats m hO hH 0 c).toRForget_arrAt_iff (w := 16) rfl _ _).mp ((h c).1 16)
  · exact ((dats m hO hH 0 c).toRForget_arrAt_iff (w := 17) rfl _ _).mp ((h c).1 17)
  · exact ((dats m hO hH 0 c).toRForget_arrAt_iff (w := 18) rfl _ _).mp ((h c).1 18)

end Cert.KernelIdeal.Gen.Val
-- ==== Proof.ReferenceIdeal.Frame.lean ====
/- The reference's body read as one triple, its run, and its frame: what its one region leaves in every array. -/
module

public import proofs.«01_k».proof.Proof.Gen.ReferenceIdeal.Launch
public import proofs.«01_k».proof.Proof.Gen.ReferenceIdeal.Skeleton
public import proofs.«01_k».proof.Proof.Gen.ReferenceIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg24`: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg25`: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg26`: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2160000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ReferenceIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).1 7).trans (((dats 0 c).arrAt_in 7 rfl _).trans ((hA c 7).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 13).trans (((dats 0 c).arrAt_in 13 rfl _).trans ((hA c 13).trans (V_main_arg13 m c))),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).1 22).trans (((dats 0 c).arrAt_in 22 rfl _).trans ((hA c 22).trans (V_main_arg21 m c))),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩) h

/-! ## The body's accesses -/

abbrev r0_0 : Rect S48x64x256 := Rect.unit (s := S48x64x256) ![0, 0, 0] S48x64x256.size inb_S48x64x256_S48x64x256_0_0_0
abbrev r0_1 : Rect S48x64x512 := Rect.unit (s := S48x64x512) ![0, 0, 0] S48x64x512.size inb_S48x64x512_S48x64x512_0_0_0
abbrev r0_2 : Rect S48x1x512 := Rect.unit (s := S48x1x512) ![0, 0, 0] S48x1x512.size inb_S48x1x512_S48x1x512_0_0_0
abbrev r0_3 : Rect S64x80 := Rect.unit (s := S64x80) ![0, 0] S64x80.size inb_S64x80_S64x80_0_0
abbrev r0_4 : Rect S1x80x1 := Rect.unit (s := S1x80x1) ![0, 0, 0] S1x80x1.size inb_S1x80x1_S1x80x1_0_0_0
abbrev r0_5 : Rect S48x64x80x256 := Rect.unit (s := S48x64x80x256) ![0, 0, 0, 0] S48x64x80x256.size inb_S48x64x80x256_S48x64x80x256_0_0_0_0
abbrev r0_6 : Rect S48x80x256 := Rect.unit (s := S48x80x256) ![0, 0, 0] S48x80x256.size inb_S48x80x256_S48x80x256_0_0_0
abbrev r0_7 : Rect S1x80x1x1 := Rect.unit (s := S1x80x1x1) ![0, 0, 0, 0] S1x80x1x1.size inb_S1x80x1x1_S1x80x1x1_0_0_0_0
abbrev r0_8 : Rect S80x40 := Rect.unit (s := S80x40) ![0, 0] S80x40.size inb_S80x40_S80x40_0_0
abbrev r0_9 : Rect S1x40x1x1 := Rect.unit (s := S1x40x1x1) ![0, 0, 0, 0] S1x40x1x1.size inb_S1x40x1x1_S1x40x1x1_0_0_0_0
abbrev r0_10 : Rect S1x1x1 := Rect.unit (s := S1x1x1) ![0, 0, 0] S1x1x1.size inb_S1x1x1_S1x1x1_0_0_0
abbrev r0_11 : Rect S48x1x1 := Rect.unit (s := S48x1x1) ![0, 0, 0] S48x1x1.size inb_S48x1x1_S48x1x1_0_0_0
abbrev r0_12 : Rect S48x256x512 := Rect.unit (s := S48x256x512) ![0, 0, 0] S48x256x512.size inb_S48x256x512_S48x256x512_0_0_0
abbrev r0_13 : Rect S48x1x256 := Rect.unit (s := S48x1x256) ![0, 0, 0] S48x1x256.size inb_S48x1x256_S48x1x256_0_0_0
abbrev r0_14 : Rect S48x192x256 := Rect.unit (s := S48x192x256) ![0, 0, 0] S48x192x256.size inb_S48x192x256_S48x192x256_0_0_0
abbrev r0_15 : Rect S192x200 := Rect.unit (s := S192x200) ![0, 0] S192x200.size inb_S192x200_S192x200_0_0
abbrev r0_16 : Rect S1x200x1 := Rect.unit (s := S1x200x1) ![0, 0, 0] S1x200x1.size inb_S1x200x1_S1x200x1_0_0_0

/-! ## What the body leaves in each output window's buffer -/

/-! ### Values of the body that the stores' payloads, spelt out, would write more than once

    Each is a vector the body binds (often a part call's result), stated over the input windows' blocks and
    numbered on from the skeleton's payload functions (`k0_pay23` …, after `k0_pay22`), so that
    `out0_W` and the values after it name it instead of spelling it out (`unfold_out out0_W` opens a canon
    with them, `unfold_payloads` opens them with the payloads); the comment after each is the printed function's
    name for the value (a count appended where that name is bound again). -/

def k0_pay23 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : FVec F S48x64x256 .f32 :=
  k0_pay2 (View.ld x3 r0_0) -- `v2`
def k0_pay24 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : FVec F S48x64x512 .f32 :=
  k0_pay3 (View.ld x0 r0_1) -- `v5`
def k0_pay25 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : FVec F S48x1x512 .f32 :=
  k0_pay4 (View.ld x1 r0_2) -- `v7`
def k0_pay26 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : FVec F S48x64x80x256 .f32 :=
  k0_pay7 (View.ld x3 r0_0) (View.ld x7 r0_3) -- `v36`
def k0_pay27 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : IVec S48x256x512 32 :=
  iota .tc S48x256x512 32 [2] iota_S48x256x512_d2_w32 -- `v143`
def k0_pay28 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : FVec F S48x256x512 .f32 :=
  k0_pay13 (k0_pay12 (k0_pay11 (k0_pay24 x0 x1 x2 x3 x4 x5 x6 x7 x8 x9 x10 x11 x12 x13 x14 x15 x16 x17 x18 x19 x20 x21 x22 x23 x24 x25 x26 x27) (k0_pay25 x0 x1 x2 x3 x4 x5 x6 x7 x8 x9 x10 x11 x12 x13 x14 x15 x16 x17 x18 x19 x20 x21 x22 x23 x24 x25 x26 x27) (k0_pay5 (View.ld x3 r0_0) (View.ld x4 r0_3) (View.ld x8 r0_4)) (k0_pay6 (View.ld x0 r0_1) (View.ld x5 r0_3) (View.ld x6 r0_4)) (k0_pay26 x0 x1 x2 x3 x4 x5 x6 x7 x8 x9 x10 x11 x12 x13 x14 x15 x16 x17 x18 x19 x20 x21 x22 x23 x24 x25 x26 x27)) (View.ld x11 r0_7) (View.ld x12 r0_7) (View.ld x9 r0_7) (View.ld x10 r0_7) (View.ld x13 r0_8) (View.ld x14 r0_9)) (View.ld x15 r0_9) (View.ld x18 r0_9) (View.ld x19 r0_9) (View.ld x16 r0_9) (View.ld x17 r0_9) (View.ld x20 r0_9) (View.ld x21 r0_10) -- `v142`
def k0_pay29 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : FVec F S48x192x256 .f32 :=
  k0_pay18 (k0_pay23 x0 x1 x2 x3 x4 x5 x6 x7 x8 x9 x10 x11 x12 x13 x14 x15 x16 x17 x18 x19 x20 x21 x22 x23 x24 x25 x26 x27) (k0_pay24 x0 x1 x2 x3 x4 x5 x6 x7 x8 x9 x10 x11 x12 x13 x14 x15 x16 x17 x18 x19 x20 x21 x22 x23 x24 x25 x26 x27) (k0_pay25 x0 x1 x2 x3 x4 x5 x6 x7 x8 x9 x10 x11 x12 x13 x14 x15 x16 x17 x18 x19 x20 x21 x22 x23 x24 x25 x26 x27) (k0_pay28 x0 x1 x2 x3 x4 x5 x6 x7 x8 x9 x10 x11 x12 x13 x14 x15 x16 x17 x18 x19 x20 x21 x22 x23 x24 x25 x26 x27) (k0_pay27 x0 x1 x2 x3 x4 x5 x6 x7 x8 x9 x10 x11 x12 x13 x14 x15 x16 x17 x18 x19 x20 x21 x22 x23 x24 x25 x26 x27) (View.ld x2 r0_11) -- `v183`
def k0_pay30 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : FVec F S48x192x256 .f32 :=
  k0_pay19 (k0_pay23 x0 x1 x2 x3 x4 x5 x6 x7 x8 x9 x10 x11 x12 x13 x14 x15 x16 x17 x18 x19 x20 x21 x22 x23 x24 x25 x26 x27) (k0_pay24 x0 x1 x2 x3 x4 x5 x6 x7 x8 x9 x10 x11 x12 x13 x14 x15 x16 x17 x18 x19 x20 x21 x22 x23 x24 x25 x26 x27) (k0_pay25 x0 x1 x2 x3 x4 x5 x6 x7 x8 x9 x10 x11 x12 x13 x14 x15 x16 x17 x18 x19 x20 x21 x22 x23 x24 x25 x26 x27) (k0_pay28 x0 x1 x2 x3 x4 x5 x6 x7 x8 x9 x10 x11 x12 x13 x14 x15 x16 x17 x18 x19 x20 x21 x22 x23 x24 x25 x26 x27) (k0_pay27 x0 x1 x2 x3 x4 x5 x6 x7 x8 x9 x10 x11 x12 x13 x14 x15 x16 x17 x18 x19 x20 x21 x22 x23 x24 x25 x26 x27) (View.ld x2 r0_11) -- `v184`

/-- Window 28's staging buffer after the body, from the input windows' blocks: its 1 store as pieces, LAST
    FIRST (Lib/Pipeline/FrameBody.lean `View.canon`; the payloads are the skeleton's and the values stated above). -/
def out0_28 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : Vec F S48x1x256 .f32 :=
  View.canon [⟨r0_13, k0_pay1 (k0_pay22 (k0_pay29 x0 x1 x2 x3 x4 x5 x6 x7 x8 x9 x10 x11 x12 x13 x14 x15 x16 x17 x18 x19 x20 x21 x22 x23 x24 x25 x26 x27) (k0_pay30 x0 x1 x2 x3 x4 x5 x6 x7 x8 x9 x10 x11 x12 x13 x14 x15 x16 x17 x18 x19 x20 x21 x22 x23 x24 x25 x26 x27) (View.ld x22 r0_15) (View.ld x23 r0_16) (View.ld x24 r0_16)) (Scalar.ofBits .f32 0x00000000#32) (View.ld x25 r0_16) (View.ld x26 r0_16) (View.ld x27 r0_10)⟩]

/-- Its stores tile the buffer (checked by evaluation), so they cover it. -/
theorem cover0_28 (p0 : Vec F S48x1x256 .f32) (y : S48x1x256.Idx) :
    ∃ pc ∈ ([⟨r0_13, p0⟩] : List (View.Piece (Elt F) S48x1x256 .f32)), y ∈ pc.1.set :=
  View.cover_of_tiled [⟨r0_13, p0⟩] S48x1x256.size (by rfl) y

/-- Window 29's staging buffer after the body, from the input windows' blocks: its 1 store as pieces, LAST
    FIRST (Lib/Pipeline/FrameBody.lean `View.canon`; the payloads are the skeleton's and the values stated above). -/
def out0_29 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : Vec F S48x256x512 .f32 :=
  View.canon [⟨r0_12, k0_pay14 (k0_pay28 x0 x1 x2 x3 x4 x5 x6 x7 x8 x9 x10 x11 x12 x13 x14 x15 x16 x17 x18 x19 x20 x21 x22 x23 x24 x25 x26 x27) (k0_pay27 x0 x1 x2 x3 x4 x5 x6 x7 x8 x9 x10 x11 x12 x13 x14 x15 x16 x17 x18 x19 x20 x21 x22 x23 x24 x25 x26 x27) (View.ld x2 r0_11)⟩]

/-- Its stores tile the buffer (checked by evaluation), so they cover it. -/
theorem cover0_29 (p0 : Vec F S48x256x512 .f32) (y : S48x256x512.Idx) :
    ∃ pc ∈ ([⟨r0_12, p0⟩] : List (View.Piece (Elt F) S48x256x512 .f32)), y ∈ pc.1.set :=
  View.cover_of_tiled [⟨r0_12, p0⟩] S48x256x512.size (by rfl) y

/-- Window 30's staging buffer after the body, from the input windows' blocks: its 1 store as pieces, LAST
    FIRST (Lib/Pipeline/FrameBody.lean `View.canon`; the payloads are the skeleton's and the values stated above). -/
def out0_30 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : Vec F S48x64x80x256 .fp8e4m3 :=
  View.canon [⟨r0_5, k0_pay9 (k0_pay26 x0 x1 x2 x3 x4 x5 x6 x7 x8 x9 x10 x11 x12 x13 x14 x15 x16 x17 x18 x19 x20 x21 x22 x23 x24 x25 x26 x27)⟩]

/-- Its stores tile the buffer (checked by evaluation), so they cover it. -/
theorem cover0_30 (p0 : Vec F S48x64x80x256 .fp8e4m3) (y : S48x64x80x256.Idx) :
    ∃ pc ∈ ([⟨r0_5, p0⟩] : List (View.Piece (Elt F) S48x64x80x256 .fp8e4m3)), y ∈ pc.1.set :=
  View.cover_of_tiled [⟨r0_5, p0⟩] S48x64x80x256.size (by rfl) y

/-- Window 31's staging buffer after the body, from the input windows' blocks: its 1 store as pieces, LAST
    FIRST (Lib/Pipeline/FrameBody.lean `View.canon`; the payloads are the skeleton's and the values stated above). -/
def out0_31 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : Vec F S48x80x256 .f32 :=
  View.canon [⟨r0_6, k0_pay10 (k0_pay26 x0 x1 x2 x3 x4 x5 x6 x7 x8 x9 x10 x11 x12 x13 x14 x15 x16 x17 x18 x19 x20 x21 x22 x23 x24 x25 x26 x27)⟩]

/-- Its stores tile the buffer (checked by evaluation), so they cover it. -/
theorem cover0_31 (p0 : Vec F S48x80x256 .f32) (y : S48x80x256.Idx) :
    ∃ pc ∈ ([⟨r0_6, p0⟩] : List (View.Piece (Elt F) S48x80x256 .f32)), y ∈ pc.1.set :=
  View.cover_of_tiled [⟨r0_6, p0⟩] S48x80x256.size (by rfl) y

/-- Window 32's staging buffer after the body, from the input windows' blocks: its 1 store as pieces, LAST
    FIRST (Lib/Pipeline/FrameBody.lean `View.canon`; the payloads are the skeleton's and the values stated above). -/
def out0_32 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : Vec F S48x64x256 .fp8e4m3 :=
  View.canon [⟨r0_0, k0_pay17 (k0_pay24 x0 x1 x2 x3 x4 x5 x6 x7 x8 x9 x10 x11 x12 x13 x14 x15 x16 x17 x18 x19 x20 x21 x22 x23 x24 x25 x26 x27) (k0_pay25 x0 x1 x2 x3 x4 x5 x6 x7 x8 x9 x10 x11 x12 x13 x14 x15 x16 x17 x18 x19 x20 x21 x22 x23 x24 x25 x26 x27) (k0_pay28 x0 x1 x2 x3 x4 x5 x6 x7 x8 x9 x10 x11 x12 x13 x14 x15 x16 x17 x18 x19 x20 x21 x22 x23 x24 x25 x26 x27) (k0_pay27 x0 x1 x2 x3 x4 x5 x6 x7 x8 x9 x10 x11 x12 x13 x14 x15 x16 x17 x18 x19 x20 x21 x22 x23 x24 x25 x26 x27) (View.ld x2 r0_11)⟩]

/-- Its stores tile the buffer (checked by evaluation), so they cover it. -/
theorem cover0_32 (p0 : Vec F S48x64x256 .fp8e4m3) (y : S48x64x256.Idx) :
    ∃ pc ∈ ([⟨r0_0, p0⟩] : List (View.Piece (Elt F) S48x64x256 .fp8e4m3)), y ∈ pc.1.set :=
  View.cover_of_tiled [⟨r0_0, p0⟩] S48x64x256.size (by rfl) y

/-- Window 33's staging buffer after the body, from the input windows' blocks: its 1 store as pieces, LAST
    FIRST (Lib/Pipeline/FrameBody.lean `View.canon`; the payloads are the skeleton's and the values stated above). -/
def out0_33 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : Vec F S48x1x256 .f32 :=
  View.canon [⟨r0_13, k0_pay16 (k0_pay24 x0 x1 x2 x3 x4 x5 x6 x7 x8 x9 x10 x11 x12 x13 x14 x15 x16 x17 x18 x19 x20 x21 x22 x23 x24 x25 x26 x27) (k0_pay25 x0 x1 x2 x3 x4 x5 x6 x7 x8 x9 x10 x11 x12 x13 x14 x15 x16 x17 x18 x19 x20 x21 x22 x23 x24 x25 x26 x27) (k0_pay28 x0 x1 x2 x3 x4 x5 x6 x7 x8 x9 x10 x11 x12 x13 x14 x15 x16 x17 x18 x19 x20 x21 x22 x23 x24 x25 x26 x27) (k0_pay27 x0 x1 x2 x3 x4 x5 x6 x7 x8 x9 x10 x11 x12 x13 x14 x15 x16 x17 x18 x19 x20 x21 x22 x23 x24 x25 x26 x27) (View.ld x2 r0_11)⟩]

/-- Its stores tile the buffer (checked by evaluation), so they cover it. -/
theorem cover0_33 (p0 : Vec F S48x1x256 .f32) (y : S48x1x256.Idx) :
    ∃ pc ∈ ([⟨r0_13, p0⟩] : List (View.Piece (Elt F) S48x1x256 .f32)), y ∈ pc.1.set :=
  View.cover_of_tiled [⟨r0_13, p0⟩] S48x1x256.size (by rfl) y

/-- Window 34's staging buffer after the body, from the input windows' blocks: its 1 store as pieces, LAST
    FIRST (Lib/Pipeline/FrameBody.lean `View.canon`; the payloads are the skeleton's and the values stated above). -/
def out0_34 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : Vec F S48x192x256 .fp8e4m3 :=
  View.canon [⟨r0_14, k0_pay21 (k0_pay29 x0 x1 x2 x3 x4 x5 x6 x7 x8 x9 x10 x11 x12 x13 x14 x15 x16 x17 x18 x19 x20 x21 x22 x23 x24 x25 x26 x27) (k0_pay30 x0 x1 x2 x3 x4 x5 x6 x7 x8 x9 x10 x11 x12 x13 x14 x15 x16 x17 x18 x19 x20 x21 x22 x23 x24 x25 x26 x27)⟩]

/-- Its stores tile the buffer (checked by evaluation), so they cover it. -/
theorem cover0_34 (p0 : Vec F S48x192x256 .fp8e4m3) (y : S48x192x256.Idx) :
    ∃ pc ∈ ([⟨r0_14, p0⟩] : List (View.Piece (Elt F) S48x192x256 .fp8e4m3)), y ∈ pc.1.set :=
  View.cover_of_tiled [⟨r0_14, p0⟩] S48x192x256.size (by rfl) y

/-- Window 35's staging buffer after the body, from the input windows' blocks: its 1 store as pieces, LAST
    FIRST (Lib/Pipeline/FrameBody.lean `View.canon`; the payloads are the skeleton's and the values stated above). -/
def out0_35 (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) : Vec F S48x1x256 .f32 :=
  View.canon [⟨r0_13, k0_pay20 (k0_pay30 x0 x1 x2 x3 x4 x5 x6 x7 x8 x9 x10 x11 x12 x13 x14 x15 x16 x17 x18 x19 x20 x21 x22 x23 x24 x25 x26 x27)⟩]

/-- Its stores tile the buffer (checked by evaluation), so they cover it. -/
theorem cover0_35 (p0 : Vec F S48x1x256 .f32) (y : S48x1x256.Idx) :
    ∃ pc ∈ ([⟨r0_13, p0⟩] : List (View.Piece (Elt F) S48x1x256 .f32)), y ∈ pc.1.set :=
  View.cover_of_tiled [⟨r0_13, p0⟩] S48x1x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S48x64x512 .fp8e4m3) (harg0 : arg0.IsWhole) (arg1 : Memref sig .tc .vmem S48x1x512 .f32) (harg1 : arg1.IsWhole) (arg2 : Memref sig .tc .vmem S48x1x1 .i32) (harg2 : arg2.IsWhole) (arg3 : Memref sig .tc .vmem S48x64x256 .bf16) (harg3 : arg3.IsWhole) (arg4 : Memref sig .tc .vmem S64x80 .f32) (harg4 : arg4.IsWhole) (arg5 : Memref sig .tc .vmem S64x80 .fp8e4m3) (harg5 : arg5.IsWhole) (arg6 : Memref sig .tc .vmem S1x80x1 .f32) (harg6 : arg6.IsWhole) (arg7 : Memref sig .tc .vmem S64x80 .f32) (harg7 : arg7.IsWhole) (arg8 : Memref sig .tc .vmem S1x80x1 .f32) (harg8 : arg8.IsWhole) (arg9 : Memref sig .tc .vmem S1x80x1x1 .f32) (harg9 : arg9.IsWhole) (arg10 : Memref sig .tc .vmem S1x80x1x1 .f32) (harg10 : arg10.IsWhole) (arg11 : Memref sig .tc .vmem S1x80x1x1 .f32) (harg11 : arg11.IsWhole) (arg12 : Memref sig .tc .vmem S1x80x1x1 .f32) (harg12 : arg12.IsWhole) (arg13 : Memref sig .tc .vmem S80x40 .fp8e4m3) (harg13 : arg13.IsWhole) (arg14 : Memref sig .tc .vmem S1x40x1x1 .f32) (harg14 : arg14.IsWhole) (arg15 : Memref sig .tc .vmem S1x40x1x1 .f32) (harg15 : arg15.IsWhole) (arg16 : Memref sig .tc .vmem S1x40x1x1 .f32) (harg16 : arg16.IsWhole) (arg17 : Memref sig .tc .vmem S1x40x1x1 .f32) (harg17 : arg17.IsWhole) (arg18 : Memref sig .tc .vmem S1x40x1x1 .f32) (harg18 : arg18.IsWhole) (arg19 : Memref sig .tc .vmem S1x40x1x1 .f32) (harg19 : arg19.IsWhole) (arg20 : Memref sig .tc .vmem S1x40x1x1 .f32) (harg20 : arg20.IsWhole) (arg21 : Memref sig .tc .vmem S1x1x1 .f32) (harg21 : arg21.IsWhole) (arg22 : Memref sig .tc .vmem S192x200 .fp8e4m3) (harg22 : arg22.IsWhole) (arg23 : Memref sig .tc .vmem S1x200x1 .f32) (harg23 : arg23.IsWhole) (arg24 : Memref sig .tc .vmem S1x200x1 .f32) (harg24 : arg24.IsWhole) (arg25 : Memref sig .tc .vmem S1x200x1 .f32) (harg25 : arg25.IsWhole) (arg26 : Memref sig .tc .vmem S1x200x1 .f32) (harg26 : arg26.IsWhole) (arg27 : Memref sig .tc .vmem S1x1x1 .f32) (harg27 : arg27.IsWhole) (arg28 : Memref sig .tc .vmem S48x1x256 .f32) (harg28 : arg28.IsWhole) (arg29 : Memref sig .tc .vmem S48x256x512 .f32) (harg29 : arg29.IsWhole) (arg30 : Memref sig .tc .vmem S48x64x80x256 .fp8e4m3) (harg30 : arg30.IsWhole) (arg31 : Memref sig .tc .vmem S48x80x256 .f32) (harg31 : arg31.IsWhole) (arg32 : Memref sig .tc .vmem S48x64x256 .fp8e4m3) (harg32 : arg32.IsWhole) (arg33 : Memref sig .tc .vmem S48x1x256 .f32) (harg33 : arg33.IsWhole) (arg34 : Memref sig .tc .vmem S48x192x256 .fp8e4m3) (harg34 : arg34.IsWhole) (arg35 : Memref sig .tc .vmem S48x1x256 .f32) (harg35 : arg35.IsWhole)
    (x0 : Vec F S48x64x512 .fp8e4m3) (x1 : Vec F S48x1x512 .f32) (x2 : Vec F S48x1x1 .i32) (x3 : Vec F S48x64x256 .bf16) (x4 : Vec F S64x80 .f32) (x5 : Vec F S64x80 .fp8e4m3) (x6 : Vec F S1x80x1 .f32) (x7 : Vec F S64x80 .f32) (x8 : Vec F S1x80x1 .f32) (x9 : Vec F S1x80x1x1 .f32) (x10 : Vec F S1x80x1x1 .f32) (x11 : Vec F S1x80x1x1 .f32) (x12 : Vec F S1x80x1x1 .f32) (x13 : Vec F S80x40 .fp8e4m3) (x14 : Vec F S1x40x1x1 .f32) (x15 : Vec F S1x40x1x1 .f32) (x16 : Vec F S1x40x1x1 .f32) (x17 : Vec F S1x40x1x1 .f32) (x18 : Vec F S1x40x1x1 .f32) (x19 : Vec F S1x40x1x1 .f32) (x20 : Vec F S1x40x1x1 .f32) (x21 : Vec F S1x1x1 .f32) (x22 : Vec F S192x200 .fp8e4m3) (x23 : Vec F S1x200x1 .f32) (x24 : Vec F S1x200x1 .f32) (x25 : Vec F S1x200x1 .f32) (x26 : Vec F S1x200x1 .f32) (x27 : Vec F S1x1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare (out0_28 x0 x1 x2 x3 x4 x5 x6 x7 x8 x9 x10 x11 x12 x13 x14 x15 x16 x17 x18 x19 x20 x21 x22 x23 x24 x25 x26 x27) ∗ owns (c : Thread nD τ) arg29 fullShare (out0_29 x0 x1 x2 x3 x4 x5 x6 x7 x8 x9 x10 x11 x12 x13 x14 x15 x16 x17 x18 x19 x20 x21 x22 x23 x24 x25 x26 x27) ∗ owns (c : Thread nD τ) arg30 fullShare (out0_30 x0 x1 x2 x3 x4 x5 x6 x7 x8 x9 x10 x11 x12 x13 x14 x15 x16 x17 x18 x19 x20 x21 x22 x23 x24 x25 x26 x27) ∗ owns (c : Thread nD τ) arg31 fullShare (out0_31 x0 x1 x2 x3 x4 x5 x6 x7 x8 x9 x10 x11 x12 x13 x14 x15 x16 x17 x18 x19 x20 x21 x22 x23 x24 x25 x26 x27) ∗ owns (c : Thread nD τ) arg32 fullShare (out0_32 x0 x1 x2 x3 x4 x5 x6 x7 x8 x9 x10 x11 x12 x13 x14 x15 x16 x17 x18 x19 x20 x21 x22 x23 x24 x25 x26 x27) ∗ owns (c : Thread nD τ) arg33 fullShare (out0_33 x0 x1 x2 x3 x4 x5 x6 x7 x8 x9 x10 x11 x12 x13 x14 x15 x16 x17 x18 x19 x20 x21 x22 x23 x24 x25 x26 x27) ∗ owns (c : Thread nD τ) arg34 fullShare (out0_34 x0 x1 x2 x3 x4 x5 x6 x7 x8 x9 x10 x11 x12 x13 x14 x15 x16 x17 x18 x19 x20 x21 x22 x23 x24 x25 x26 x27) ∗ owns (c : Thread nD τ) arg35 fullShare (out0_35 x0 x1 x2 x3 x4 x5 x6 x7 x8 x9 x10 x11 x12 x13 x14 x15 x16 x17 x18 x19 x20 x21 x22 x23 x24 x25 x26 x27)) -∗ K ⟨⟩))
      ⊢ wp frame (wpE (defs₀ (F := F)) Variants.none c none) E (cc0__reference_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0__reference_body_eq_skeleton]; unfold cc0__reference_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  iexists _; isplitr
  swap; · iexact H35
  ipureintro
  refine (View.read_writes_eq_canon _ _ _ (cover0_35 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t))

set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  iintro ⟨H0, H1, H2, H3, H4, H5, H6, H7, H8, H9, H10, H11, H12, H13, H14, H15, H16, H17, H18, H19, H20, H21, H22, H23, H24, H25, H26, H27, H28, H29, H30, H31, H32, H33, H34, H35⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

/-- THE FRAME: `Cert.quiescent_ReferenceIdeal`'s statement (Defs.lean) at any `F` — Proof.lean cites it at `Bits`:
    `theorem Cert.Proof.claim : Cert.Claim := ⟨Cert.ReferenceIdeal.Gen.facts, fun m ρ _ => Cert.ReferenceIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ) ((θ_run defs _ _).mono (fun _ h => h.2) (run_main_quiescent m ρ))

end Cert.ReferenceIdeal.Gen

end
-- ==== Proof.ReferenceIdeal.Value.lean ====
/- What the reference's region leaves in its result arrays, block by block. -/
module

public import proofs.«01_k».proof.Proof.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 28's array: the body's result for that window (`Gen.out0_28`: its stores
    as pieces over the input windows' blocks), read through the window's block. -/
theorem flushed28 (c : Dev nD) (t : Fin cfg0.N) :
    (dats m 0 c).flushed 28 t = (cfg0.win 28).cut (grid0.coords t) (out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)) := by
  show (cfg0.win 28).cut (grid0.coords t) ((dats m 0 c).after 28 t) = _
  rw [after0_28]

/-- The index map sends distinct grid points to distinct block indices (decided over the 1 point). -/
theorem idx_inj28 : ∀ t t' : Fin cfg0.N, win0_28.index t = win0_28.index t' → t = t' :=
  (by decide +kernel : ∀ t t' : Fin grid0.N, win0_28.index t = win0_28.index t' → t = t')

/-- So two flushing points' blocks share no array index (Lib/Pipeline/Cells.lean `Window.disjoint_blk`). -/
theorem disjoint28 : ∀ t t' : Fin cfg0.N, (cfg0.win 28).flush t = true → (cfg0.win 28).flush t' = true → t ≠ t' →
    Disjoint ((cfg0.win 28).blk t).view.set ((cfg0.win 28).blk t').view.set :=
  fun t t' _ _ hne => (cfg0.win 28).disjoint_blk fun h => hne (idx_inj28 t t' h)

/-- BLOCK `t` OF THE FINAL ARRAY, read back through the window, is what point `t` wrote back (`flushed28`), for every
    point that writes back: no other point's block meets it. -/
theorem blocks28 (c : Dev nD) (t : Fin cfg0.N) (hf : (cfg0.win 28).flush t = true) :
    ((cfg0.win 28).blk t).view.read (Elt F) ((dats m 0 c).arrAt 28 cfg0.N) = (dats m 0 c).flushed 28 t :=
  (dats m 0 c).read_blk_arrAt_eq_flushed 28 disjoint28 cfg0.N t t.isLt hf

/-- An index that no flushing point's block covers keeps output window 28's array contents at region entry. -/
theorem entry28 (c : Dev nD) (i : S48x1x256.Idx) (h : ∀ t : Fin cfg0.N, (cfg0.win 28).flush t = true → i ∉ ((cfg0.win 28).blk t).view.set) :
    (dats m 0 c).arrAt 28 cfg0.N i = V m c (Pipeline.arrRef spec0 28) i := by
  rw [(dats m 0 c).arrAt_apply_of_forall_not_mem 28 cfg0.N i (fun t _ hf => h t hf), A_eq]

/-- WHAT POINT `t` WRITES BACK to output window 29's array: the body's result for that window (`Gen.out0_29`: its stores
    as pieces over the input windows' blocks), read through the window's block. -/
theorem flushed29 (c : Dev nD) (t : Fin cfg0.N) :
    (dats m 0 c).flushed 29 t = (cfg0.win 29).cut (grid0.coords t) (out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)) := by
  show (cfg0.win 29).cut (grid0.coords t) ((dats m 0 c).after 29 t) = _
  rw [after0_29]

/-- The index map sends distinct grid points to distinct block indices (decided over the 1 point). -/
theorem idx_inj29 : ∀ t t' : Fin cfg0.N, win0_29.index t = win0_29.index t' → t = t' :=
  (by decide +kernel : ∀ t t' : Fin grid0.N, win0_29.index t = win0_29.index t' → t = t')

/-- So two flushing points' blocks share no array index (Lib/Pipeline/Cells.lean `Window.disjoint_blk`). -/
theorem disjoint29 : ∀ t t' : Fin cfg0.N, (cfg0.win 29).flush t = true → (cfg0.win 29).flush t' = true → t ≠ t' →
    Disjoint ((cfg0.win 29).blk t).view.set ((cfg0.win 29).blk t').view.set :=
  fun t t' _ _ hne => (cfg0.win 29).disjoint_blk fun h => hne (idx_inj29 t t' h)

/-- BLOCK `t` OF THE FINAL ARRAY, read back through the window, is what point `t` wrote back (`flushed29`), for every
    point that writes back: no other point's block meets it. -/
theorem blocks29 (c : Dev nD) (t : Fin cfg0.N) (hf : (cfg0.win 29).flush t = true) :
    ((cfg0.win 29).blk t).view.read (Elt F) ((dats m 0 c).arrAt 29 cfg0.N) = (dats m 0 c).flushed 29 t :=
  (dats m 0 c).read_blk_arrAt_eq_flushed 29 disjoint29 cfg0.N t t.isLt hf

/-- An index that no flushing point's block covers keeps output window 29's array contents at region entry. -/
theorem entry29 (c : Dev nD) (i : S48x256x512.Idx) (h : ∀ t : Fin cfg0.N, (cfg0.win 29).flush t = true → i ∉ ((cfg0.win 29).blk t).view.set) :
    (dats m 0 c).arrAt 29 cfg0.N i = V m c (Pipeline.arrRef spec0 29) i := by
  rw [(dats m 0 c).arrAt_apply_of_forall_not_mem 29 cfg0.N i (fun t _ hf => h t hf), A_eq]

/-- WHAT POINT `t` WRITES BACK to output window 30's array: the body's result for that window (`Gen.out0_30`: its stores
    as pieces over the input windows' blocks), read through the window's block. -/
theorem flushed30 (c : Dev nD) (t : Fin cfg0.N) :
    (dats m 0 c).flushed 30 t = (cfg0.win 30).cut (grid0.coords t) (out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)) := by
  show (cfg0.win 30).cut (grid0.coords t) ((dats m 0 c).after 30 t) = _
  rw [after0_30]

/-- The index map sends distinct grid points to distinct block indices (decided over the 1 point). -/
theorem idx_inj30 : ∀ t t' : Fin cfg0.N, win0_30.index t = win0_30.index t' → t = t' :=
  (by decide +kernel : ∀ t t' : Fin grid0.N, win0_30.index t = win0_30.index t' → t = t')

/-- So two flushing points' blocks share no array index (Lib/Pipeline/Cells.lean `Window.disjoint_blk`). -/
theorem disjoint30 : ∀ t t' : Fin cfg0.N, (cfg0.win 30).flush t = true → (cfg0.win 30).flush t' = true → t ≠ t' →
    Disjoint ((cfg0.win 30).blk t).view.set ((cfg0.win 30).blk t').view.set :=
  fun t t' _ _ hne => (cfg0.win 30).disjoint_blk fun h => hne (idx_inj30 t t' h)

/-- BLOCK `t` OF THE FINAL ARRAY, read back through the window, is what point `t` wrote back (`flushed30`), for every
    point that writes back: no other point's block meets it. -/
theorem blocks30 (c : Dev nD) (t : Fin cfg0.N) (hf : (cfg0.win 30).flush t = true) :
    ((cfg0.win 30).blk t).view.read (Elt F) ((dats m 0 c).arrAt 30 cfg0.N) = (dats m 0 c).flushed 30 t :=
  (dats m 0 c).read_blk_arrAt_eq_flushed 30 disjoint30 cfg0.N t t.isLt hf

/-- An index that no flushing point's block covers keeps output window 30's array contents at region entry. -/
theorem entry30 (c : Dev nD) (i : S48x64x80x256.Idx) (h : ∀ t : Fin cfg0.N, (cfg0.win 30).flush t = true → i ∉ ((cfg0.win 30).blk t).view.set) :
    (dats m 0 c).arrAt 30 cfg0.N i = V m c (Pipeline.arrRef spec0 30) i := by
  rw [(dats m 0 c).arrAt_apply_of_forall_not_mem 30 cfg0.N i (fun t _ hf => h t hf), A_eq]

/-- WHAT POINT `t` WRITES BACK to output window 31's array: the body's result for that window (`Gen.out0_31`: its stores
    as pieces over the input windows' blocks), read through the window's block. -/
theorem flushed31 (c : Dev nD) (t : Fin cfg0.N) :
    (dats m 0 c).flushed 31 t = (cfg0.win 31).cut (grid0.coords t) (out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)) := by
  show (cfg0.win 31).cut (grid0.coords t) ((dats m 0 c).after 31 t) = _
  rw [after0_31]

/-- The index map sends distinct grid points to distinct block indices (decided over the 1 point). -/
theorem idx_inj31 : ∀ t t' : Fin cfg0.N, win0_31.index t = win0_31.index t' → t = t' :=
  (by decide +kernel : ∀ t t' : Fin grid0.N, win0_31.index t = win0_31.index t' → t = t')

/-- So two flushing points' blocks share no array index (Lib/Pipeline/Cells.lean `Window.disjoint_blk`). -/
theorem disjoint31 : ∀ t t' : Fin cfg0.N, (cfg0.win 31).flush t = true → (cfg0.win 31).flush t' = true → t ≠ t' →
    Disjoint ((cfg0.win 31).blk t).view.set ((cfg0.win 31).blk t').view.set :=
  fun t t' _ _ hne => (cfg0.win 31).disjoint_blk fun h => hne (idx_inj31 t t' h)

/-- BLOCK `t` OF THE FINAL ARRAY, read back through the window, is what point `t` wrote back (`flushed31`), for every
    point that writes back: no other point's block meets it. -/
theorem blocks31 (c : Dev nD) (t : Fin cfg0.N) (hf : (cfg0.win 31).flush t = true) :
    ((cfg0.win 31).blk t).view.read (Elt F) ((dats m 0 c).arrAt 31 cfg0.N) = (dats m 0 c).flushed 31 t :=
  (dats m 0 c).read_blk_arrAt_eq_flushed 31 disjoint31 cfg0.N t t.isLt hf

/-- An index that no flushing point's block covers keeps output window 31's array contents at region entry. -/
theorem entry31 (c : Dev nD) (i : S48x80x256.Idx) (h : ∀ t : Fin cfg0.N, (cfg0.win 31).flush t = true → i ∉ ((cfg0.win 31).blk t).view.set) :
    (dats m 0 c).arrAt 31 cfg0.N i = V m c (Pipeline.arrRef spec0 31) i := by
  rw [(dats m 0 c).arrAt_apply_of_forall_not_mem 31 cfg0.N i (fun t _ hf => h t hf), A_eq]

/-- WHAT POINT `t` WRITES BACK to output window 32's array: the body's result for that window (`Gen.out0_32`: its stores
    as pieces over the input windows' blocks), read through the window's block. -/
theorem flushed32 (c : Dev nD) (t : Fin cfg0.N) :
    (dats m 0 c).flushed 32 t = (cfg0.win 32).cut (grid0.coords t) (out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)) := by
  show (cfg0.win 32).cut (grid0.coords t) ((dats m 0 c).after 32 t) = _
  rw [after0_32]

/-- The index map sends distinct grid points to distinct block indices (decided over the 1 point). -/
theorem idx_inj32 : ∀ t t' : Fin cfg0.N, win0_32.index t = win0_32.index t' → t = t' :=
  (by decide +kernel : ∀ t t' : Fin grid0.N, win0_32.index t = win0_32.index t' → t = t')

/-- So two flushing points' blocks share no array index (Lib/Pipeline/Cells.lean `Window.disjoint_blk`). -/
theorem disjoint32 : ∀ t t' : Fin cfg0.N, (cfg0.win 32).flush t = true → (cfg0.win 32).flush t' = true → t ≠ t' →
    Disjoint ((cfg0.win 32).blk t).view.set ((cfg0.win 32).blk t').view.set :=
  fun t t' _ _ hne => (cfg0.win 32).disjoint_blk fun h => hne (idx_inj32 t t' h)

/-- BLOCK `t` OF THE FINAL ARRAY, read back through the window, is what point `t` wrote back (`flushed32`), for every
    point that writes back: no other point's block meets it. -/
theorem blocks32 (c : Dev nD) (t : Fin cfg0.N) (hf : (cfg0.win 32).flush t = true) :
    ((cfg0.win 32).blk t).view.read (Elt F) ((dats m 0 c).arrAt 32 cfg0.N) = (dats m 0 c).flushed 32 t :=
  (dats m 0 c).read_blk_arrAt_eq_flushed 32 disjoint32 cfg0.N t t.isLt hf

/-- An index that no flushing point's block covers keeps output window 32's array contents at region entry. -/
theorem entry32 (c : Dev nD) (i : S48x64x256.Idx) (h : ∀ t : Fin cfg0.N, (cfg0.win 32).flush t = true → i ∉ ((cfg0.win 32).blk t).view.set) :
    (dats m 0 c).arrAt 32 cfg0.N i = V m c (Pipeline.arrRef spec0 32) i := by
  rw [(dats m 0 c).arrAt_apply_of_forall_not_mem 32 cfg0.N i (fun t _ hf => h t hf), A_eq]

/-- WHAT POINT `t` WRITES BACK to output window 33's array: the body's result for that window (`Gen.out0_33`: its stores
    as pieces over the input windows' blocks), read through the window's block. -/
theorem flushed33 (c : Dev nD) (t : Fin cfg0.N) :
    (dats m 0 c).flushed 33 t = (cfg0.win 33).cut (grid0.coords t) (out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)) := by
  show (cfg0.win 33).cut (grid0.coords t) ((dats m 0 c).after 33 t) = _
  rw [after0_33]

/-- The index map sends distinct grid points to distinct block indices (decided over the 1 point). -/
theorem idx_inj33 : ∀ t t' : Fin cfg0.N, win0_33.index t = win0_33.index t' → t = t' :=
  (by decide +kernel : ∀ t t' : Fin grid0.N, win0_33.index t = win0_33.index t' → t = t')

/-- So two flushing points' blocks share no array index (Lib/Pipeline/Cells.lean `Window.disjoint_blk`). -/
theorem disjoint33 : ∀ t t' : Fin cfg0.N, (cfg0.win 33).flush t = true → (cfg0.win 33).flush t' = true → t ≠ t' →
    Disjoint ((cfg0.win 33).blk t).view.set ((cfg0.win 33).blk t').view.set :=
  fun t t' _ _ hne => (cfg0.win 33).disjoint_blk fun h => hne (idx_inj33 t t' h)

/-- BLOCK `t` OF THE FINAL ARRAY, read back through the window, is what point `t` wrote back (`flushed33`), for every
    point that writes back: no other point's block meets it. -/
theorem blocks33 (c : Dev nD) (t : Fin cfg0.N) (hf : (cfg0.win 33).flush t = true) :
    ((cfg0.win 33).blk t).view.read (Elt F) ((dats m 0 c).arrAt 33 cfg0.N) = (dats m 0 c).flushed 33 t :=
  (dats m 0 c).read_blk_arrAt_eq_flushed 33 disjoint33 cfg0.N t t.isLt hf

/-- An index that no flushing point's block covers keeps output window 33's array contents at region entry. -/
theorem entry33 (c : Dev nD) (i : S48x1x256.Idx) (h : ∀ t : Fin cfg0.N, (cfg0.win 33).flush t = true → i ∉ ((cfg0.win 33).blk t).view.set) :
    (dats m 0 c).arrAt 33 cfg0.N i = V m c (Pipeline.arrRef spec0 33) i := by
  rw [(dats m 0 c).arrAt_apply_of_forall_not_mem 33 cfg0.N i (fun t _ hf => h t hf), A_eq]

/-- WHAT POINT `t` WRITES BACK to output window 34's array: the body's result for that window (`Gen.out0_34`: its stores
    as pieces over the input windows' blocks), read through the window's block. -/
theorem flushed34 (c : Dev nD) (t : Fin cfg0.N) :
    (dats m 0 c).flushed 34 t = (cfg0.win 34).cut (grid0.coords t) (out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)) := by
  show (cfg0.win 34).cut (grid0.coords t) ((dats m 0 c).after 34 t) = _
  rw [after0_34]

/-- The index map sends distinct grid points to distinct block indices (decided over the 1 point). -/
theorem idx_inj34 : ∀ t t' : Fin cfg0.N, win0_34.index t = win0_34.index t' → t = t' :=
  (by decide +kernel : ∀ t t' : Fin grid0.N, win0_34.index t = win0_34.index t' → t = t')

/-- So two flushing points' blocks share no array index (Lib/Pipeline/Cells.lean `Window.disjoint_blk`). -/
theorem disjoint34 : ∀ t t' : Fin cfg0.N, (cfg0.win 34).flush t = true → (cfg0.win 34).flush t' = true → t ≠ t' →
    Disjoint ((cfg0.win 34).blk t).view.set ((cfg0.win 34).blk t').view.set :=
  fun t t' _ _ hne => (cfg0.win 34).disjoint_blk fun h => hne (idx_inj34 t t' h)

/-- BLOCK `t` OF THE FINAL ARRAY, read back through the window, is what point `t` wrote back (`flushed34`), for every
    point that writes back: no other point's block meets it. -/
theorem blocks34 (c : Dev nD) (t : Fin cfg0.N) (hf : (cfg0.win 34).flush t = true) :
    ((cfg0.win 34).blk t).view.read (Elt F) ((dats m 0 c).arrAt 34 cfg0.N) = (dats m 0 c).flushed 34 t :=
  (dats m 0 c).read_blk_arrAt_eq_flushed 34 disjoint34 cfg0.N t t.isLt hf

/-- An index that no flushing point's block covers keeps output window 34's array contents at region entry. -/
theorem entry34 (c : Dev nD) (i : S48x192x256.Idx) (h : ∀ t : Fin cfg0.N, (cfg0.win 34).flush t = true → i ∉ ((cfg0.win 34).blk t).view.set) :
    (dats m 0 c).arrAt 34 cfg0.N i = V m c (Pipeline.arrRef spec0 34) i := by
  rw [(dats m 0 c).arrAt_apply_of_forall_not_mem 34 cfg0.N i (fun t _ hf => h t hf), A_eq]

/-- WHAT POINT `t` WRITES BACK to output window 35's array: the body's result for that window (`Gen.out0_35`: its stores
    as pieces over the input windows' blocks), read through the window's block. -/
theorem flushed35 (c : Dev nD) (t : Fin cfg0.N) :
    (dats m 0 c).flushed 35 t = (cfg0.win 35).cut (grid0.coords t) (out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)) := by
  show (cfg0.win 35).cut (grid0.coords t) ((dats m 0 c).after 35 t) = _
  rw [after0_35]

/-- The index map sends distinct grid points to distinct block indices (decided over the 1 point). -/
theorem idx_inj35 : ∀ t t' : Fin cfg0.N, win0_35.index t = win0_35.index t' → t = t' :=
  (by decide +kernel : ∀ t t' : Fin grid0.N, win0_35.index t = win0_35.index t' → t = t')

/-- So two flushing points' blocks share no array index (Lib/Pipeline/Cells.lean `Window.disjoint_blk`). -/
theorem disjoint35 : ∀ t t' : Fin cfg0.N, (cfg0.win 35).flush t = true → (cfg0.win 35).flush t' = true → t ≠ t' →
    Disjoint ((cfg0.win 35).blk t).view.set ((cfg0.win 35).blk t').view.set :=
  fun t t' _ _ hne => (cfg0.win 35).disjoint_blk fun h => hne (idx_inj35 t t' h)

/-- BLOCK `t` OF THE FINAL ARRAY, read back through the window, is what point `t` wrote back (`flushed35`), for every
    point that writes back: no other point's block meets it. -/
theorem blocks35 (c : Dev nD) (t : Fin cfg0.N) (hf : (cfg0.win 35).flush t = true) :
    ((cfg0.win 35).blk t).view.read (Elt F) ((dats m 0 c).arrAt 35 cfg0.N) = (dats m 0 c).flushed 35 t :=
  (dats m 0 c).read_blk_arrAt_eq_flushed 35 disjoint35 cfg0.N t t.isLt hf

/-- An index that no flushing point's block covers keeps output window 35's array contents at region entry. -/
theorem entry35 (c : Dev nD) (i : S48x1x256.Idx) (h : ∀ t : Fin cfg0.N, (cfg0.win 35).flush t = true → i ∉ ((cfg0.win 35).blk t).view.set) :
    (dats m 0 c).arrAt 35 cfg0.N i = V m c (Pipeline.arrRef spec0 35) i := by
  rw [(dats m 0 c).arrAt_apply_of_forall_not_mem 35 cfg0.N i (fun t _ hf => h t hf), A_eq]

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v60_0) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v60_1) = (dats m 0 c).arrAt 29 cfg0.N :=
  (h c).1 29

/-- After the frame run, output window 30's array is `(dats m 0 c).arrAt 30 N`. -/
theorem post30 (r : PUnit × MemSt nD τ sig (Elt F)) (h : Pipeline.FramePost cfgs (dats m) 0 (V m) r) (c : Dev nD) :
    r.2.mem ((c : Thread nD τ).loc main_v60_2) = (dats m 0 c).arrAt 30 cfg0.N :=
  (h c).1 30

/-- After the frame run, output window 31's array is `(dats m 0 c).arrAt 31 N`. -/
theorem post31 (r : PUnit × MemSt nD τ sig (Elt F)) (h : Pipeline.FramePost cfgs (dats m) 0 (V m) r) (c : Dev nD) :
    r.2.mem ((c : Thread nD τ).loc main_v60_3) = (dats m 0 c).arrAt 31 cfg0.N :=
  (h c).1 31

/-- After the frame run, output window 32's array is `(dats m 0 c).arrAt 32 N`. -/
theorem post32 (r : PUnit × MemSt nD τ sig (Elt F)) (h : Pipeline.FramePost cfgs (dats m) 0 (V m) r) (c : Dev nD) :
    r.2.mem ((c : Thread nD τ).loc main_v60_4) = (dats m 0 c).arrAt 32 cfg0.N :=
  (h c).1 32

/-- After the frame run, output window 33's array is `(dats m 0 c).arrAt 33 N`. -/
theorem post33 (r : PUnit × MemSt nD τ sig (Elt F)) (h : Pipeline.FramePost cfgs (dats m) 0 (V m) r) (c : Dev nD) :
    r.2.mem ((c : Thread nD τ).loc main_v60_5) = (dats m 0 c).arrAt 33 cfg0.N :=
  (h c).1 33

/-- After the frame run, output window 34's array is `(dats m 0 c).arrAt 34 N`. -/
theorem post34 (r : PUnit × MemSt nD τ sig (Elt F)) (h : Pipeline.FramePost cfgs (dats m) 0 (V m) r) (c : Dev nD) :
    r.2.mem ((c : Thread nD τ).loc main_v60_6) = (dats m 0 c).arrAt 34 cfg0.N :=
  (h c).1 34

/-- After the frame run, output window 35's array is `(dats m 0 c).arrAt 35 N`. -/
theorem post35 (r : PUnit × MemSt nD τ sig (Elt F)) (h : Pipeline.FramePost cfgs (dats m) 0 (V m) r) (c : Dev nD) :
    r.2.mem ((c : Thread nD τ).loc main_v60_7) = (dats m 0 c).arrAt 35 cfg0.N :=
  (h c).1 35

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: input window 13 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: input window 22 stages it and never writes it back. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).1 22).trans (((dats m 0 c).arrAt_in 22 rfl _).trans ((A_eq m c 22).trans (V_main_arg21 m c)))

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: no window stages it, and the run leaves the region's other buffers as they were. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- After the frame run, argument `main_arg25` is as launched: no window stages it, and the run leaves the region's other buffers as they were. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)

/-- After the frame run, argument `main_arg26` is as launched: no window stages it, and the run leaves the region's other buffers as they were. -/
theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).2 main_arg26 (Pipeline.mem_restRefs_of main_arg26 (by decide) (by decide))).trans (V_main_arg26 m c)

set_option maxHeartbeats 260060 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v60_0) = (dats m 0 c).arrAt 28 cfg0.N
      ∧ r.2.mem ((c : Thread nD τ).loc main_v60_1) = (dats m 0 c).arrAt 29 cfg0.N
      ∧ r.2.mem ((c : Thread nD τ).loc main_v60_2) = (dats m 0 c).arrAt 30 cfg0.N
      ∧ r.2.mem ((c : Thread nD τ).loc main_v60_3) = (dats m 0 c).arrAt 31 cfg0.N
      ∧ r.2.mem ((c : Thread nD τ).loc main_v60_4) = (dats m 0 c).arrAt 32 cfg0.N
      ∧ r.2.mem ((c : Thread nD τ).loc main_v60_5) = (dats m 0 c).arrAt 33 cfg0.N
      ∧ r.2.mem ((c : Thread nD τ).loc main_v60_6) = (dats m 0 c).arrAt 34 cfg0.N
      ∧ r.2.mem ((c : Thread nD τ).loc main_v60_7) = (dats m 0 c).arrAt 35 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨post28 m r h c,
      post29 m r h c,
      post30 m r h c,
      post31 m r h c,
      post32 m r h c,
      post33 m r h c,
      post34 m r h c,
      post35 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c⟩)
    (run_main m ρ)

end Cert.ReferenceIdeal.Value

end
-- ==== Proof.ReferenceIdeal.Blocks.lean ====
/- Each input window of the one grid point holds its whole array. -/
module

public import proofs.«01_k».proof.Proof.ReferenceIdeal.Value
public import Idealize.ShloMosaic.Lib.Pipeline.ValueKit
public import Idealize.ShloMosaic.Lib.StableHlo.ReadAt

@[expose] public section

set_option maxRecDepth 16384

noncomputable section

namespace Cert.ReferenceIdeal.At

open Cert.ReferenceIdeal Cert.ReferenceIdeal.Gen Idealize.ShloMosaic Idealize.ShloMosaic.TcCoe Idealize.ShloMosaic.ValueIdx Idealize.SL.Sem

variable (m : (ℓ : Loc nD τ sig) → Buf (Elt Ideal) ℓ)

theorem blk0 (c : Dev nD) (t : Fin cfg0.N) : (iblk m c 0 t : Vec Ideal S48x64x512 .fp8e4m3) = (V m c main_v31 : Vec Ideal S48x64x512 .fp8e4m3) := by
  funext y
  blk_simp [iblk]
  exact congrArg (V m c main_v31) (funext fun a => Fin.ext (Pipeline.Window.rect_emb_val_of_index_zero win0_0 t a rfl y))

theorem blk1 (c : Dev nD) (t : Fin cfg0.N) : (iblk m c 1 t : Vec Ideal S48x1x512 .f32) = (V m c main_v32 : Vec Ideal S48x1x512 .f32) := by
  funext y
  blk_simp [iblk]
  exact congrArg (V m c main_v32) (funext fun a => Fin.ext (Pipeline.Window.rect_emb_val_of_index_zero win0_1 t a rfl y))

theorem blk2 (c : Dev nD) (t : Fin cfg0.N) : (iblk m c 2 t : Vec Ideal S48x1x1 .i32) = (V m c main_v33 : Vec Ideal S48x1x1 .i32) := by
  funext y
  blk_simp [iblk]
  exact congrArg (V m c main_v33) (funext fun a => Fin.ext (Pipeline.Window.rect_emb_val_of_index_zero win0_2 t a rfl y))

theorem blk3 (c : Dev nD) (t : Fin cfg0.N) : (iblk m c 3 t : Vec Ideal S48x64x256 .bf16) = (V m c main_v34 : Vec Ideal S48x64x256 .bf16) := by
  funext y
  blk_simp [iblk]
  exact congrArg (V m c main_v34) (funext fun a => Fin.ext (Pipeline.Window.rect_emb_val_of_index_zero win0_3 t a rfl y))

theorem blk4 (c : Dev nD) (t : Fin cfg0.N) : (iblk m c 4 t : Vec Ideal S64x80 .f32) = (V m c main_arg4 : Vec Ideal S64x80 .f32) := by
  funext y
  blk_simp [iblk]
  exact congrArg (V m c main_arg4) (funext fun a => Fin.ext (Pipeline.Window.rect_emb_val_of_index_zero win0_4 t a rfl y))

theorem blk5 (c : Dev nD) (t : Fin cfg0.N) : (iblk m c 5 t : Vec Ideal S64x80 .fp8e4m3) = (V m c main_arg5 : Vec Ideal S64x80 .fp8e4m3) := by
  funext y
  blk_simp [iblk]
  exact congrArg (V m c main_arg5) (funext fun a => Fin.ext (Pipeline.Window.rect_emb_val_of_index_zero win0_5 t a rfl y))

theorem blk6 (c : Dev nD) (t : Fin cfg0.N) : (iblk m c 6 t : Vec Ideal S1x80x1 .f32) = (V m c main_v35 : Vec Ideal S1x80x1 .f32) := by
  funext y
  blk_simp [iblk]
  exact congrArg (V m c main_v35) (funext fun a => Fin.ext (Pipeline.Window.rect_emb_val_of_index_zero win0_6 t a rfl y))

theorem blk7 (c : Dev nD) (t : Fin cfg0.N) : (iblk m c 7 t : Vec Ideal S64x80 .f32) = (V m c main_arg7 : Vec Ideal S64x80 .f32) := by
  funext y
  blk_simp [iblk]
  exact congrArg (V m c main_arg7) (funext fun a => Fin.ext (Pipeline.Window.rect_emb_val_of_index_zero win0_7 t a rfl y))

theorem blk8 (c : Dev nD) (t : Fin cfg0.N) : (iblk m c 8 t : Vec Ideal S1x80x1 .f32) = (V m c main_v36 : Vec Ideal S1x80x1 .f32) := by
  funext y
  blk_simp [iblk]
  exact congrArg (V m c main_v36) (funext fun a => Fin.ext (Pipeline.Window.rect_emb_val_of_index_zero win0_8 t a rfl y))

theorem blk9 (c : Dev nD) (t : Fin cfg0.N) : (iblk m c 9 t : Vec Ideal S1x80x1x1 .f32) = (V m c main_v37 : Vec Ideal S1x80x1x1 .f32) := by
  funext y
  blk_simp [iblk]
  exact congrArg (V m c main_v37) (funext fun a => Fin.ext (Pipeline.Window.rect_emb_val_of_index_zero win0_9 t a rfl y))

theorem blk10 (c : Dev nD) (t : Fin cfg0.N) : (iblk m c 10 t : Vec Ideal S1x80x1x1 .f32) = (V m c main_v38 : Vec Ideal S1x80x1x1 .f32) := by
  funext y
  blk_simp [iblk]
  exact congrArg (V m c main_v38) (funext fun a => Fin.ext (Pipeline.Window.rect_emb_val_of_index_zero win0_10 t a rfl y))

theorem blk11 (c : Dev nD) (t : Fin cfg0.N) : (iblk m c 11 t : Vec Ideal S1x80x1x1 .f32) = (V m c main_v41 : Vec Ideal S1x80x1x1 .f32) := by
  funext y
  blk_simp [iblk]
  exact congrArg (V m c main_v41) (funext fun a => Fin.ext (Pipeline.Window.rect_emb_val_of_index_zero win0_11 t a rfl y))

theorem blk12 (c : Dev nD) (t : Fin cfg0.N) : (iblk m c 12 t : Vec Ideal S1x80x1x1 .f32) = (V m c main_v44 : Vec Ideal S1x80x1x1 .f32) := by
  funext y
  blk_simp [iblk]
  exact congrArg (V m c main_v44) (funext fun a => Fin.ext (Pipeline.Window.rect_emb_val_of_index_zero win0_12 t a rfl y))

theorem blk13 (c : Dev nD) (t : Fin cfg0.N) : (iblk m c 13 t : Vec Ideal S80x40 .fp8e4m3) = (V m c main_arg13 : Vec Ideal S80x40 .fp8e4m3) := by
  funext y
  blk_simp [iblk]
  exact congrArg (V m c main_arg13) (funext fun a => Fin.ext (Pipeline.Window.rect_emb_val_of_index_zero win0_13 t a rfl y))

theorem blk14 (c : Dev nD) (t : Fin cfg0.N) : (iblk m c 14 t : Vec Ideal S1x40x1x1 .f32) = (V m c main_v47 : Vec Ideal S1x40x1x1 .f32) := by
  funext y
  blk_simp [iblk]
  exact congrArg (V m c main_v47) (funext fun a => Fin.ext (Pipeline.Window.rect_emb_val_of_index_zero win0_14 t a rfl y))

theorem blk15 (c : Dev nD) (t : Fin cfg0.N) : (iblk m c 15 t : Vec Ideal S1x40x1x1 .f32) = (V m c main_v48 : Vec Ideal S1x40x1x1 .f32) := by
  funext y
  blk_simp [iblk]
  exact congrArg (V m c main_v48) (funext fun a => Fin.ext (Pipeline.Window.rect_emb_val_of_index_zero win0_15 t a rfl y))

theorem blk16 (c : Dev nD) (t : Fin cfg0.N) : (iblk m c 16 t : Vec Ideal S1x40x1x1 .f32) = (V m c main_v49 : Vec Ideal S1x40x1x1 .f32) := by
  funext y
  blk_simp [iblk]
  exact congrArg (V m c main_v49) (funext fun a => Fin.ext (Pipeline.Window.rect_emb_val_of_index_zero win0_16 t a rfl y))

theorem blk17 (c : Dev nD) (t : Fin cfg0.N) : (iblk m c 17 t : Vec Ideal S1x40x1x1 .f32) = (V m c main_v50 : Vec Ideal S1x40x1x1 .f32) := by
  funext y
  blk_simp [iblk]
  exact congrArg (V m c main_v50) (funext fun a => Fin.ext (Pipeline.Window.rect_emb_val_of_index_zero win0_17 t a rfl y))

theorem blk18 (c : Dev nD) (t : Fin cfg0.N) : (iblk m c 18 t : Vec Ideal S1x40x1x1 .f32) = (V m c main_v51 : Vec Ideal S1x40x1x1 .f32) := by
  funext y
  blk_simp [iblk]
  exact congrArg (V m c main_v51) (funext fun a => Fin.ext (Pipeline.Window.rect_emb_val_of_index_zero win0_18 t a rfl y))

theorem blk19 (c : Dev nD) (t : Fin cfg0.N) : (iblk m c 19 t : Vec Ideal S1x40x1x1 .f32) = (V m c main_v52 : Vec Ideal S1x40x1x1 .f32) := by
  funext y
  blk_simp [iblk]
  exact congrArg (V m c main_v52) (funext fun a => Fin.ext (Pipeline.Window.rect_emb_val_of_index_zero win0_19 t a rfl y))

theorem blk20 (c : Dev nD) (t : Fin cfg0.N) : (iblk m c 20 t : Vec Ideal S1x40x1x1 .f32) = (V m c main_v53 : Vec Ideal S1x40x1x1 .f32) := by
  funext y
  blk_simp [iblk]
  exact congrArg (V m c main_v53) (funext fun a => Fin.ext (Pipeline.Window.rect_emb_val_of_index_zero win0_20 t a rfl y))

theorem blk21 (c : Dev nD) (t : Fin cfg0.N) : (iblk m c 21 t : Vec Ideal S1x1x1 .f32) = (V m c main_v54 : Vec Ideal S1x1x1 .f32) := by
  funext y
  blk_simp [iblk]
  exact congrArg (V m c main_v54) (funext fun a => Fin.ext (Pipeline.Window.rect_emb_val_of_index_zero win0_21 t a rfl y))

end Cert.ReferenceIdeal.At
-- ==== Proof.ReferenceIdeal.Arrays.lean ====
/- The program's three results as its steps applied to the arrays it is handed. -/
module

public import proofs.«01_k».proof.Proof.ReferenceIdeal.Value
public import Idealize.ShloMosaic.Lib.Pipeline.ValueKit
public import Idealize.ShloMosaic.Lib.StableHlo.ReadAt
public import proofs.«01_k».proof.Proof.ReferenceIdeal.Blocks

@[expose] public section

set_option maxRecDepth 16384
set_option maxHeartbeats 4000000

noncomputable section

namespace Cert.ReferenceIdeal.At

open Cert.ReferenceIdeal Cert.ReferenceIdeal.Gen Idealize.ShloMosaic Idealize.ShloMosaic.TcCoe Idealize.ShloMosaic.ValueIdx Idealize.SL.Sem

variable (m : (ℓ : Loc nD τ sig) → Buf (Elt Ideal) ℓ)

theorem p26 (x0 : Vec Ideal S48x64x512 .fp8e4m3) (x1 : Vec Ideal S48x1x512 .f32) (x2 : Vec Ideal S48x1x1 .i32) (x3 : Vec Ideal S48x64x256 .bf16) (x4 : Vec Ideal S64x80 .f32) (x5 : Vec Ideal S64x80 .fp8e4m3) (x6 : Vec Ideal S1x80x1 .f32) (x7 : Vec Ideal S64x80 .f32) (x8 : Vec Ideal S1x80x1 .f32) (x9 : Vec Ideal S1x80x1x1 .f32) (x10 : Vec Ideal S1x80x1x1 .f32) (x11 : Vec Ideal S1x80x1x1 .f32) (x12 : Vec Ideal S1x80x1x1 .f32) (x13 : Vec Ideal S80x40 .fp8e4m3) (x14 : Vec Ideal S1x40x1x1 .f32) (x15 : Vec Ideal S1x40x1x1 .f32) (x16 : Vec Ideal S1x40x1x1 .f32) (x17 : Vec Ideal S1x40x1x1 .f32) (x18 : Vec Ideal S1x40x1x1 .f32) (x19 : Vec Ideal S1x40x1x1 .f32) (x20 : Vec Ideal S1x40x1x1 .f32) (x21 : Vec Ideal S1x1x1 .f32) (x22 : Vec Ideal S192x200 .fp8e4m3) (x23 : Vec Ideal S1x200x1 .f32) (x24 : Vec Ideal S1x200x1 .f32) (x25 : Vec Ideal S1x200x1 .f32) (x26 : Vec Ideal S1x200x1 .f32) (x27 : Vec Ideal S1x1x1 .f32) : k0_pay26 x0 x1 x2 x3 x4 x5 x6 x7 x8 x9 x10 x11 x12 x13 x14 x15 x16 x17 x18 x19 x20 x21 x22 x23 x24 x25 x26 x27 = k0_pay7 x3 x7 := by
  unfold k0_pay26
  frame_out

theorem p28 (x0 : Vec Ideal S48x64x512 .fp8e4m3) (x1 : Vec Ideal S48x1x512 .f32) (x2 : Vec Ideal S48x1x1 .i32) (x3 : Vec Ideal S48x64x256 .bf16) (x4 : Vec Ideal S64x80 .f32) (x5 : Vec Ideal S64x80 .fp8e4m3) (x6 : Vec Ideal S1x80x1 .f32) (x7 : Vec Ideal S64x80 .f32) (x8 : Vec Ideal S1x80x1 .f32) (x9 : Vec Ideal S1x80x1x1 .f32) (x10 : Vec Ideal S1x80x1x1 .f32) (x11 : Vec Ideal S1x80x1x1 .f32) (x12 : Vec Ideal S1x80x1x1 .f32) (x13 : Vec Ideal S80x40 .fp8e4m3) (x14 : Vec Ideal S1x40x1x1 .f32) (x15 : Vec Ideal S1x40x1x1 .f32) (x16 : Vec Ideal S1x40x1x1 .f32) (x17 : Vec Ideal S1x40x1x1 .f32) (x18 : Vec Ideal S1x40x1x1 .f32) (x19 : Vec Ideal S1x40x1x1 .f32) (x20 : Vec Ideal S1x40x1x1 .f32) (x21 : Vec Ideal S1x1x1 .f32) (x22 : Vec Ideal S192x200 .fp8e4m3) (x23 : Vec Ideal S1x200x1 .f32) (x24 : Vec Ideal S1x200x1 .f32) (x25 : Vec Ideal S1x200x1 .f32) (x26 : Vec Ideal S1x200x1 .f32) (x27 : Vec Ideal S1x1x1 .f32) : k0_pay28 x0 x1 x2 x3 x4 x5 x6 x7 x8 x9 x10 x11 x12 x13 x14 x15 x16 x17 x18 x19 x20 x21 x22 x23 x24 x25 x26 x27 = (k0_pay13 (k0_pay12 (k0_pay11 (k0_pay3 x0) (k0_pay4 x1) (k0_pay5 x3 x4 x8) (k0_pay6 x0 x5 x6) (k0_pay7 x3 x7)) x11 x12 x9 x10 x13 x14) x15 x18 x19 x16 x17 x20 x21) := by
  unfold k0_pay28 k0_pay24 k0_pay25 k0_pay26
  frame_out

/-- Result 2 of the program. -/
theorem arr29 (c : Dev nD) : ((dats m 0 c).arrAt 29 cfg0.N : Vec Ideal S48x256x512 .f32) = k0_pay14 (k0_pay13 (k0_pay12 (k0_pay11 (k0_pay3 (V m c main_v31)) (k0_pay4 (V m c main_v32)) (k0_pay5 (V m c main_v34) (V m c main_arg4) (V m c main_v36)) (k0_pay6 (V m c main_v31) (V m c main_arg5) (V m c main_v35)) (k0_pay7 (V m c main_v34) (V m c main_arg7))) (V m c main_v41) (V m c main_v44) (V m c main_v37) (V m c main_v38) (V m c main_arg13) (V m c main_v47)) (V m c main_v48) (V m c main_v51) (V m c main_v52) (V m c main_v49) (V m c main_v50) (V m c main_v53) (V m c main_v54)) (iota .tc S48x256x512 32 [2] iota_S48x256x512_d2_w32) (V m c main_v33) := by
  refine (dats m 0 c).arrAt_eq_of_covers 29 _ (by decide +kernel) fun t hf y => ?_
  blk_simp
  rw [after0_29]
  frame_out
  have e : ((View.whole main_v60_1).slice (win0_29.rect t)).emb y = y := funext fun a => Fin.ext (Pipeline.Window.rect_emb_val_of_index_zero win0_29 t a rfl y)
  rw [e, p28, k0_pay27, blk2, blk0, blk1, blk3, blk4, blk5, blk6, blk7, blk8, blk9, blk10, blk11, blk12, blk13, blk14, blk15, blk16, blk17, blk18, blk19, blk20, blk21]

/-- Result 3 of the program. -/
theorem arr30 (c : Dev nD) : ((dats m 0 c).arrAt 30 cfg0.N : Vec Ideal S48x64x80x256 .fp8e4m3) = k0_pay9 (k0_pay7 (V m c main_v34) (V m c main_arg7)) := by
  refine (dats m 0 c).arrAt_eq_of_covers 30 _ (by decide +kernel) fun t hf y => ?_
  blk_simp
  rw [after0_30]
  frame_out
  have e : ((View.whole main_v60_2).slice (win0_30.rect t)).emb y = y := funext fun a => Fin.ext (Pipeline.Window.rect_emb_val_of_index_zero win0_30 t a rfl y)
  rw [e, p26, blk3, blk7]

/-- Result 4 of the program. -/
theorem arr31 (c : Dev nD) : ((dats m 0 c).arrAt 31 cfg0.N : Vec Ideal S48x80x256 .f32) = k0_pay10 (k0_pay7 (V m c main_v34) (V m c main_arg7)) := by
  refine (dats m 0 c).arrAt_eq_of_covers 31 _ (by decide +kernel) fun t hf y => ?_
  blk_simp
  rw [after0_31]
  frame_out
  have e : ((View.whole main_v60_3).slice (win0_31.rect t)).emb y = y := funext fun a => Fin.ext (Pipeline.Window.rect_emb_val_of_index_zero win0_31 t a rfl y)
  rw [e, p26, blk3, blk7]

end Cert.ReferenceIdeal.At
-- ==== Proof.ReferenceIdeal.Entry.lean ====
/- The arrays the one kernel call is handed, element by element, from the arguments. -/
module

public import proofs.«01_k».proof.Proof.ReferenceIdeal.Value
public import Idealize.ShloMosaic.Lib.Pipeline.ValueKit
public import Idealize.ShloMosaic.Lib.StableHlo.ReadAt
public import proofs.«01_k».proof.Proof.Value.Layers

@[expose] public section

set_option maxRecDepth 16384

noncomputable section

namespace Cert.ReferenceIdeal.At

open Cert.ReferenceIdeal Cert.ReferenceIdeal.Gen Idealize.ShloMosaic Idealize.ShloMosaic.TcCoe Idealize.SL.Sem

open Cert.Value (rate)

variable (m : (ℓ : Loc nD τ sig) → Buf (Elt Ideal) ℓ)

/-- An element, read as an extended real. -/
abbrev el (x : EReal) : EReal := x

theorem V_v31 (c : Dev nD) (u : Fin 48) (d : Fin 64) (j : Fin 512) : (V m c main_v31 : Vec Ideal S48x64x512 .fp8e4m3) (ix3 u d j) = Ideal.ofBits .fp8e4m3 ((m ((c : Thread nD τ).loc main_arg0) : Vec Ideal S48x512x64 .i8) (ix3 u j d)) := by
  simp only [V, hostOps0, List.flatten_cons, List.flatten_nil, List.cons_append, List.nil_append, List.append_nil]
  repeat after_reads_at
  all_goals (try unfold rate); all_goals (try rfl)

theorem V_v32 (c : Dev nD) (u : Fin 48) (j : Fin 512) : (V m c main_v32 : Vec Ideal S48x1x512 .f32) (ix3 (n1 := 1) u 0 j) = el ((m ((c : Thread nD τ).loc main_arg1) : Vec Ideal S48x512 .f32) (ix2 u j)) := by
  simp only [V, hostOps0, List.flatten_cons, List.flatten_nil, List.cons_append, List.nil_append, List.append_nil]
  repeat after_reads_at
  all_goals (try unfold rate); all_goals (try rfl)

theorem V_v33 (c : Dev nD) (u : Fin 48) : (V m c main_v33 : Vec Ideal S48x1x1 .i32) (ix3 (n1 := 1) (n2 := 1) u 0 0) = ((m ((c : Thread nD τ).loc main_arg2) : Vec Ideal S48 .i32) (ix1 u)) := by
  simp only [V, hostOps0, List.flatten_cons, List.flatten_nil, List.cons_append, List.nil_append, List.append_nil]
  repeat after_reads_at
  all_goals (try unfold rate); all_goals (try rfl)

theorem V_v34 (c : Dev nD) (u : Fin 48) (d : Fin 64) (k : Fin 256) : (V m c main_v34 : Vec Ideal S48x64x256 .bf16) (ix3 u d k) = el ((m ((c : Thread nD τ).loc main_arg3) : Vec Ideal S48x256x64 .bf16) (ix3 u k d)) := by
  simp only [V, hostOps0, List.flatten_cons, List.flatten_nil, List.cons_append, List.nil_append, List.append_nil]
  repeat after_reads_at
  all_goals (try unfold rate); all_goals (try rfl)

theorem V_v35 (c : Dev nD) (o : Fin 80) : (V m c main_v35 : Vec Ideal S1x80x1 .f32) (ix3 (n0 := 1) (n2 := 1) 0 o 0) = el ((m ((c : Thread nD τ).loc main_arg6) : Vec Ideal S80 .f32) (ix1 o)) := by
  simp only [V, hostOps0, List.flatten_cons, List.flatten_nil, List.cons_append, List.nil_append, List.append_nil]
  repeat after_reads_at
  all_goals (try unfold rate); all_goals (try rfl)

theorem V_v36 (c : Dev nD) (o : Fin 80) : (V m c main_v36 : Vec Ideal S1x80x1 .f32) (ix3 (n0 := 1) (n2 := 1) 0 o 0) = el ((m ((c : Thread nD τ).loc main_arg8) : Vec Ideal S80 .f32) (ix1 o)) := by
  simp only [V, hostOps0, List.flatten_cons, List.flatten_nil, List.cons_append, List.nil_append, List.append_nil]
  repeat after_reads_at
  all_goals (try unfold rate); all_goals (try rfl)

theorem V_v37 (c : Dev nD) (o : Fin 80) : (V m c main_v37 : Vec Ideal S1x80x1x1 .f32) (ix4 (n0 := 1) (n2 := 1) (n3 := 1) 0 o 0 0) = rate (el ((m ((c : Thread nD τ).loc main_arg10) : Vec Ideal S80 .f32) (ix1 o))) := by
  simp only [V, hostOps0, List.flatten_cons, List.flatten_nil, List.cons_append, List.nil_append, List.append_nil]
  repeat after_reads_at
  all_goals (try unfold rate); all_goals (try rfl)

theorem V_v38 (c : Dev nD) (o : Fin 80) : (V m c main_v38 : Vec Ideal S1x80x1x1 .f32) (ix4 (n0 := 1) (n2 := 1) (n3 := 1) 0 o 0 0) = -el ((m ((c : Thread nD τ).loc main_arg9) : Vec Ideal S80 .f32) (ix1 o)) * rate (el ((m ((c : Thread nD τ).loc main_arg10) : Vec Ideal S80 .f32) (ix1 o))) := by
  simp only [V, hostOps0, List.flatten_cons, List.flatten_nil, List.cons_append, List.nil_append, List.append_nil]
  repeat after_reads_at
  all_goals (try unfold rate); all_goals (try rfl)

theorem V_v41 (c : Dev nD) (o : Fin 80) : (V m c main_v41 : Vec Ideal S1x80x1x1 .f32) (ix4 (n0 := 1) (n2 := 1) (n3 := 1) 0 o 0 0) = Ideal.div (Ideal.ofBits .f32 1056964608#32 * (1 + el ((m ((c : Thread nD τ).loc main_arg11) : Vec Ideal S80 .f32) (ix1 o)))) (el ((m ((c : Thread nD τ).loc main_arg12) : Vec Ideal S1 .f32) (ix1 0))) := by
  simp only [V, hostOps0, List.flatten_cons, List.flatten_nil, List.cons_append, List.nil_append, List.append_nil]
  repeat after_reads_at
  all_goals (try unfold rate); all_goals (try rfl)

theorem V_v44 (c : Dev nD) (o : Fin 80) : (V m c main_v44 : Vec Ideal S1x80x1x1 .f32) (ix4 (n0 := 1) (n2 := 1) (n3 := 1) 0 o 0 0) = Ideal.div (Ideal.ofBits .f32 1056964608#32 * (1 - el ((m ((c : Thread nD τ).loc main_arg11) : Vec Ideal S80 .f32) (ix1 o)))) (el ((m ((c : Thread nD τ).loc main_arg12) : Vec Ideal S1 .f32) (ix1 0))) := by
  simp only [V, hostOps0, List.flatten_cons, List.flatten_nil, List.cons_append, List.nil_append, List.append_nil]
  repeat after_reads_at
  all_goals (try unfold rate); all_goals (try rfl)

theorem V_v47 (c : Dev nD) (p : Fin 40) : (V m c main_v47 : Vec Ideal S1x40x1x1 .f32) (ix4 (n0 := 1) (n2 := 1) (n3 := 1) 0 p 0 0) = el ((m ((c : Thread nD τ).loc main_arg12) : Vec Ideal S1 .f32) (ix1 0)) * el ((m ((c : Thread nD τ).loc main_arg14) : Vec Ideal S40 .f32) (ix1 p)) := by
  simp only [V, hostOps0, List.flatten_cons, List.flatten_nil, List.cons_append, List.nil_append, List.append_nil]
  repeat after_reads_at
  all_goals (try unfold rate); all_goals (try rfl)

theorem V_v48 (c : Dev nD) (p : Fin 40) : (V m c main_v48 : Vec Ideal S1x40x1x1 .f32) (ix4 (n0 := 1) (n2 := 1) (n3 := 1) 0 p 0 0) = el ((m ((c : Thread nD τ).loc main_arg15) : Vec Ideal S40 .f32) (ix1 p)) := by
  simp only [V, hostOps0, List.flatten_cons, List.flatten_nil, List.cons_append, List.nil_append, List.append_nil]
  repeat after_reads_at
  all_goals (try unfold rate); all_goals (try rfl)

theorem V_v49 (c : Dev nD) (p : Fin 40) : (V m c main_v49 : Vec Ideal S1x40x1x1 .f32) (ix4 (n0 := 1) (n2 := 1) (n3 := 1) 0 p 0 0) = rate (el ((m ((c : Thread nD τ).loc main_arg17) : Vec Ideal S40 .f32) (ix1 p))) := by
  simp only [V, hostOps0, List.flatten_cons, List.flatten_nil, List.cons_append, List.nil_append, List.append_nil]
  repeat after_reads_at
  all_goals (try unfold rate); all_goals (try rfl)

theorem V_v50 (c : Dev nD) (p : Fin 40) : (V m c main_v50 : Vec Ideal S1x40x1x1 .f32) (ix4 (n0 := 1) (n2 := 1) (n3 := 1) 0 p 0 0) = -el ((m ((c : Thread nD τ).loc main_arg16) : Vec Ideal S40 .f32) (ix1 p)) * rate (el ((m ((c : Thread nD τ).loc main_arg17) : Vec Ideal S40 .f32) (ix1 p))) := by
  simp only [V, hostOps0, List.flatten_cons, List.flatten_nil, List.cons_append, List.nil_append, List.append_nil]
  repeat after_reads_at
  all_goals (try unfold rate); all_goals (try rfl)

theorem V_v51 (c : Dev nD) (p : Fin 40) : (V m c main_v51 : Vec Ideal S1x40x1x1 .f32) (ix4 (n0 := 1) (n2 := 1) (n3 := 1) 0 p 0 0) = Ideal.ofBits .f32 1056964608#32 * (1 + el ((m ((c : Thread nD τ).loc main_arg18) : Vec Ideal S40 .f32) (ix1 p))) := by
  simp only [V, hostOps0, List.flatten_cons, List.flatten_nil, List.cons_append, List.nil_append, List.append_nil]
  repeat after_reads_at
  all_goals (try unfold rate); all_goals (try rfl)

theorem V_v52 (c : Dev nD) (p : Fin 40) : (V m c main_v52 : Vec Ideal S1x40x1x1 .f32) (ix4 (n0 := 1) (n2 := 1) (n3 := 1) 0 p 0 0) = Ideal.ofBits .f32 1056964608#32 * (1 - el ((m ((c : Thread nD τ).loc main_arg18) : Vec Ideal S40 .f32) (ix1 p))) := by
  simp only [V, hostOps0, List.flatten_cons, List.flatten_nil, List.cons_append, List.nil_append, List.append_nil]
  repeat after_reads_at
  all_goals (try unfold rate); all_goals (try rfl)

theorem V_v53 (c : Dev nD) (p : Fin 40) : (V m c main_v53 : Vec Ideal S1x40x1x1 .f32) (ix4 (n0 := 1) (n2 := 1) (n3 := 1) 0 p 0 0) = el ((m ((c : Thread nD τ).loc main_arg19) : Vec Ideal S40 .f32) (ix1 p)) := by
  simp only [V, hostOps0, List.flatten_cons, List.flatten_nil, List.cons_append, List.nil_append, List.append_nil]
  repeat after_reads_at
  all_goals (try unfold rate); all_goals (try rfl)

theorem V_v54 (c : Dev nD)  : (V m c main_v54 : Vec Ideal S1x1x1 .f32) (ix3 (n0 := 1) (n1 := 1) (n2 := 1) 0 0 0) = el ((m ((c : Thread nD τ).loc main_arg20) : Vec Ideal S1 .f32) (ix1 0)) := by
  simp only [V, hostOps0, List.flatten_cons, List.flatten_nil, List.cons_append, List.nil_append, List.append_nil]
  repeat after_reads_at
  all_goals (try unfold rate); all_goals (try rfl)

end Cert.ReferenceIdeal.At
-- ==== Proof.ReferenceIdeal.At.lean ====
/- The reference's values, element by element. -/
module

public import proofs.«01_k».proof.Proof.ReferenceIdeal.Value
public import proofs.«01_k».proof.Proof.KernelIdeal.Codes
public import proofs.«01_k».proof.Proof.Value.Layers
public import Idealize.ShloMosaic.Lib.Pipeline.ValueKit
public import Idealize.ShloMosaic.Lib.StableHlo.ReadAt

@[expose] public section

noncomputable section

namespace Cert.ReferenceIdeal.At

open Cert.ReferenceIdeal Cert.ReferenceIdeal.Gen Idealize.ShloMosaic Idealize.ShloMosaic.TcCoe Idealize.SL.Sem
open Cert.KernelIdeal.Gen (scl cod)
open Cert.Value (h1 h2)

theorem pay7_at (v0 : Vec Ideal S48x64x256 .bf16) (v32 : Vec Ideal S64x80 .f32) (u : Fin 48) (d : Fin 64) (o : Fin 80) (c : Fin 256) :
    k0_pay7 v0 v32 (ix4 u d o c) = v0 (ix3 u d c) * v32 (ix2 d o) := by
  unfold k0_pay7 k0_pay2
  pointwise

/-- The largest of a column's 64 values. -/
theorem red_at (v : FVec Ideal S48x64x80x256 .f32) (u : Fin 48) (o : Fin 80) (c : Fin 256) :
    multiReduction .maximumf [1] S48x80x256 v 0xFF800000#32 reduces_S48x64x80x256_S48x80x256 (.inl rfl) rfl (ix3 u o c)
      = Finset.fold max (Ideal.ofBits .f32 0xFF800000#32) (fun d : Fin 64 => v (ix4 u d o c)) Finset.univ := by
  pointwise

theorem cast_at (v : FVec Ideal S48x80x256 .f32) (u : Fin 48) (o : Fin 80) (c : Fin 256) :
    shapeCast S48x1x80x256 v shapeCasts_S48x80x256_S48x1x80x256 (ix4 (n1 := 1) u 0 o c) = v (ix3 u o c) := by
  pointwise

theorem bc_at (v : FVec Ideal S48x1x80x256 .f32) (u : Fin 48) (d : Fin 64) (o : Fin 80) (c : Fin 256) :
    broadcastTo S48x64x80x256 v broadcasts_S48x1x80x256_S48x64x80x256 (ix4 u d o c) = v (ix4 (n1 := 1) u 0 o c) := by
  pointwise

/-- The choice of a scale, at one element. -/
theorem sel_at {s : Shape} (a : FVec Ideal s .f32) (i : s.Idx) :
    select (cmpf .oeq a (broadcast s (Scalar.ofBits .f32 0x00000000#32))) (broadcast s (Scalar.ofBits .f32 0x3F800000#32)) (divf a (broadcast s (Scalar.ofBits .f32 0x43E00000#32))) i
    = if a i = 0 then 1 else Ideal.div (a i) (Ideal.ofBits .f32 0x43E00000#32) := by
  pointwise

/-- The choice of a code, at one element. -/
theorem code_at {s : Shape} (a b : FVec Ideal s .f32) (i : s.Idx) :
    truncf .fp8e4m3 (minimumf (broadcast s (Scalar.ofBits .f32 0x43E00000#32)) (maximumf (broadcast s (Scalar.ofBits .f32 0xC3E00000#32)) (divf a b))) bitsLt_fp8e4m3_f32 i = cod (a i) (b i) := by
  unfold cod
  pointwise

/-- The sums and products of the first pre-activation, at one element. -/
theorem sum_at {s : Shape} (a b c d e : FVec Ideal s .f32) (i : s.Idx) :
    addf (mulf (addf (mulf a b) c) d) e i = (a i * b i + c i) * d i + e i := by
  pointwise

theorem abs_at {s : Shape} (a : FVec Ideal s .f32) (i : s.Idx) : absf a i = FloatOps.absf (F := Ideal) (φ := .f32) (a i) := by
  pointwise

theorem pay8_at (v : FVec Ideal S48x64x80x256 .f32) (u : Fin 48) (o : Fin 80) (c : Fin 256) :
    k0_pay8 v (ix4 (n1 := 1) u 0 o c) = scl fun d => v (ix4 u d o c) := by
  unfold k0_pay8
  refine (sel_at _ _).trans ?_
  rw [cast_at, red_at]
  unfold scl
  simp only [abs_at]

theorem pay9_at (v : FVec Ideal S48x64x80x256 .f32) (u : Fin 48) (d : Fin 64) (o : Fin 80) (c : Fin 256) :
    k0_pay9 v (ix4 u d o c) = cod (v (ix4 u d o c)) (scl fun d => v (ix4 u d o c)) := by
  unfold k0_pay9
  refine (code_at _ _ _).trans ?_
  rw [bc_at, pay8_at]

theorem back_at (v : FVec Ideal S48x1x80x256 .f32) (u : Fin 48) (o : Fin 80) (c : Fin 256) :
    shapeCast S48x80x256 v shapeCasts_S48x1x80x256_S48x80x256 (ix3 u o c) = v (ix4 (n1 := 1) u 0 o c) := by
  pointwise

theorem pay10_at (v : FVec Ideal S48x64x80x256 .f32) (u : Fin 48) (o : Fin 80) (c : Fin 256) :
    k0_pay10 v (ix3 u o c) = scl fun d => v (ix4 u d o c) := by
  unfold k0_pay10
  exact (back_at _ u o c).trans (pay8_at v u o c)

theorem pay5_at (v0 : Vec Ideal S48x64x256 .bf16) (v9 : Vec Ideal S64x80 .f32) (v15 : Vec Ideal S1x80x1 .f32) (u : Fin 48) (o : Fin 80) (c : Fin 256) :
    k0_pay5 v0 v9 v15 (ix3 u o c) = (∑ d : Fin 64, v0 (ix3 u d c) * v9 (ix2 d o)) + v15 (ix3 (n0 := 1) (n2 := 1) 0 o 0) := by
  unfold k0_pay5 k0_pay2
  pointwise

theorem pay6_at (v3 : Vec Ideal S48x64x512 .fp8e4m3) (v20 : Vec Ideal S64x80 .fp8e4m3) (v27 : Vec Ideal S1x80x1 .f32) (u : Fin 48) (o : Fin 80) (j : Fin 512) :
    k0_pay6 v3 v20 v27 (ix3 u o j) = (∑ d : Fin 64, v3 (ix3 u d j) * v20 (ix2 d o)) * v27 (ix3 (n0 := 1) (n2 := 1) 0 o 0) := by
  unfold k0_pay6 k0_pay3
  pointwise

end Cert.ReferenceIdeal.At
-- ==== Proof.ReferenceIdeal.Broadcasts.lean ====
/- The reference's first pre-activation, element by element. -/
module

public import proofs.«01_k».proof.Proof.ReferenceIdeal.Value
public import proofs.«01_k».proof.Proof.ReferenceIdeal.At
public import proofs.«01_k».proof.Proof.Value.Layers
public import Idealize.ShloMosaic.Lib.Pipeline.ValueKit
public import Idealize.ShloMosaic.Lib.StableHlo.ReadAt

@[expose] public section

noncomputable section

namespace Cert.ReferenceIdeal.At

open Cert.ReferenceIdeal Cert.ReferenceIdeal.Gen Idealize.ShloMosaic Idealize.ShloMosaic.TcCoe Idealize.SL.Sem
open Cert.KernelIdeal.Gen (scl cod)
open Cert.Value (h1 h2)

theorem radd_at (v : FVec Ideal S48x64x80x256x512 .f32) (u : Fin 48) (o : Fin 80) (c : Fin 256) (j : Fin 512) :
    multiReduction .add [1] S48x80x256x512 v 0x00000000#32 reduces_S48x64x80x256x512_S48x80x256x512 (.inl rfl) rfl (ix4 u o c j)
      = ∑ d : Fin 64, v (ix5 u d o c j) := by
  pointwise

theorem b57_at (v : FVec Ideal S48x64x80x256 .f32) (u : Fin 48) (d : Fin 64) (o : Fin 80) (c : Fin 256) (j : Fin 512) :
    broadcastTo S48x64x80x256x512 (shapeCast S48x64x80x256x1 v shapeCasts_S48x64x80x256_S48x64x80x256x1) broadcasts_S48x64x80x256x1_S48x64x80x256x512 (ix5 u d o c j)
      = v (ix4 u d o c) := by
  pointwise

theorem b58_at (v : FVec Ideal S48x64x512 .f32) (u : Fin 48) (d : Fin 64) (o : Fin 80) (c : Fin 256) (j : Fin 512) :
    broadcastTo S48x64x80x256x512 (shapeCast S48x64x1x1x512 v shapeCasts_S48x64x512_S48x64x1x1x512) broadcasts_S48x64x1x1x512_S48x64x80x256x512 (ix5 u d o c j)
      = v (ix3 u d j) := by
  pointwise

theorem b64_at (v : FVec Ideal S48x80x256 .f32) (u : Fin 48) (o : Fin 80) (c : Fin 256) (j : Fin 512) :
    broadcastTo S48x80x256x512 (shapeCast S48x80x256x1 v shapeCasts_S48x80x256_S48x80x256x1) broadcasts_S48x80x256x1_S48x80x256x512 (ix4 u o c j) = v (ix3 u o c) := by
  pointwise

theorem b67_at (v : FVec Ideal S48x80x512 .f32) (u : Fin 48) (o : Fin 80) (c : Fin 256) (j : Fin 512) :
    broadcastTo S48x80x256x512 (shapeCast S48x80x1x512 v shapeCasts_S48x80x512_S48x80x1x512) broadcasts_S48x80x1x512_S48x80x256x512 (ix4 u o c j) = v (ix3 u o j) := by
  pointwise

theorem b70_at (v : FVec Ideal S48x1x512 .f32) (u : Fin 48) (o : Fin 80) (c : Fin 256) (j : Fin 512) :
    broadcastTo S48x80x256x512 (shapeCast S48x1x1x512 v shapeCasts_S48x1x512_S48x1x1x512) broadcasts_S48x1x1x512_S48x80x256x512 (ix4 u o c j) = v (ix3 (n1 := 1) u 0 j) := by
  pointwise

end Cert.ReferenceIdeal.At
-- ==== Proof.ReferenceIdeal.Pre1.lean ====
/- The reference's first pre-activation, element by element. -/
module

public import proofs.«01_k».proof.Proof.ReferenceIdeal.Value
public import proofs.«01_k».proof.Proof.ReferenceIdeal.Broadcasts
public import proofs.«01_k».proof.Proof.Value.Layers
public import Idealize.ShloMosaic.Lib.Pipeline.ValueKit
public import Idealize.ShloMosaic.Lib.StableHlo.ReadAt

@[expose] public section

noncomputable section

namespace Cert.ReferenceIdeal.At

open Cert.ReferenceIdeal Cert.ReferenceIdeal.Gen Idealize.ShloMosaic Idealize.ShloMosaic.TcCoe Idealize.SL.Sem
open Cert.KernelIdeal.Gen (scl cod)
open Cert.Value (h1 h2)

theorem mul_at {s : Shape} (a b : FVec Ideal s .f32) (i : s.Idx) : mulf a b i = a i * b i := by
  pointwise

theorem ext_at {s : Shape} (a : FVec Ideal s .fp8e4m3) (i : s.Idx) : extf .f32 a bitsLt_fp8e4m3_f32 i = a i := by
  pointwise

theorem pay11_at (v5 : FVec Ideal S48x64x512 .f32) (v7 : FVec Ideal S48x1x512 .f32) (v18 : FVec Ideal S48x80x256 .f32) (v30 : FVec Ideal S48x80x512 .f32)
    (v36 : FVec Ideal S48x64x80x256 .f32) (u : Fin 48) (o : Fin 80) (c : Fin 256) (j : Fin 512) :
    k0_pay11 v5 v7 v18 v30 v36 (ix4 u o c j)
      = ((∑ d : Fin 64, cod (v36 (ix4 u d o c)) (scl fun d => v36 (ix4 u d o c)) * v5 (ix3 u d j)) * (scl fun d => v36 (ix4 u d o c)) + v30 (ix3 u o j))
        * v7 (ix3 (n1 := 1) u 0 j) + v18 (ix3 u o c) := by
  unfold k0_pay11
  refine (sum_at _ _ _ _ _ _).trans ?_
  rw [radd_at, b64_at, b67_at, b70_at, b64_at]
  refine congrArg₂ (· + ·) (congrArg₂ (· * ·) (congrArg₂ (· + ·) (congrArg₂ (· * ·) (Finset.sum_congr rfl fun d _ => ?_) ?_) rfl) rfl) rfl
  · refine (mul_at _ _ _).trans ?_
    rw [b57_at, b58_at, ext_at, pay9_at]
  · exact (back_at _ u o c).trans (pay8_at v36 u o c)

end Cert.ReferenceIdeal.At
-- ==== Proof.ReferenceIdeal.TwoLayers.lean ====
/- The reference's two layers, element by element. -/
module

public import proofs.«01_k».proof.Proof.ReferenceIdeal.Value
public import proofs.«01_k».proof.Proof.KernelIdeal.Codes
public import proofs.«01_k».proof.Proof.Value.Layers
public import Idealize.ShloMosaic.Lib.Pipeline.ValueKit
public import Idealize.ShloMosaic.Lib.StableHlo.ReadAt

@[expose] public section

noncomputable section

namespace Cert.ReferenceIdeal.At

open Cert.ReferenceIdeal Cert.ReferenceIdeal.Gen Idealize.ShloMosaic Idealize.ShloMosaic.TcCoe Idealize.SL.Sem
open Cert.KernelIdeal.Gen (scl cod)
open Cert.Value (h1 h2)

theorem pay12_at (v75 : FVec Ideal S48x80x256x512 .f32) (v76 v78 v80 v84 : Vec Ideal S1x80x1x1 .f32) (v99 : Vec Ideal S80x40 .fp8e4m3) (v108 : Vec Ideal S1x40x1x1 .f32)
    (u : Fin 48) (p : Fin 40) (c : Fin 256) (j : Fin 512) :
    k0_pay12 v75 v76 v78 v80 v84 v99 v108 (ix4 u p c j)
      = (∑ o : Fin 80, v99 (ix2 o p) * h1 (v75 (ix4 u o c j)) (v76 (ix4 (n0 := 1) (n2 := 1) (n3 := 1) 0 o 0 0)) (v78 (ix4 (n0 := 1) (n2 := 1) (n3 := 1) 0 o 0 0))
          (v80 (ix4 (n0 := 1) (n2 := 1) (n3 := 1) 0 o 0 0)) (v84 (ix4 (n0 := 1) (n2 := 1) (n3 := 1) 0 o 0 0))) * v108 (ix4 (n0 := 1) (n2 := 1) (n3 := 1) 0 p 0 0) := by
  unfold k0_pay12 h1
  pointwise

theorem pay13_at (v111 : FVec Ideal S48x40x256x512 .f32) (v112 v116 v118 v120 v124 v134 : Vec Ideal S1x40x1x1 .f32) (v139 : Vec Ideal S1x1x1 .f32)
    (u : Fin 48) (c : Fin 256) (j : Fin 512) :
    k0_pay13 v111 v112 v116 v118 v120 v124 v134 v139 (ix3 u c j)
      = (∑ p : Fin 40, h2 (v111 (ix4 u p c j) + v112 (ix4 (n0 := 1) (n2 := 1) (n3 := 1) 0 p 0 0)) (v116 (ix4 (n0 := 1) (n2 := 1) (n3 := 1) 0 p 0 0))
          (v118 (ix4 (n0 := 1) (n2 := 1) (n3 := 1) 0 p 0 0)) (v120 (ix4 (n0 := 1) (n2 := 1) (n3 := 1) 0 p 0 0)) (v124 (ix4 (n0 := 1) (n2 := 1) (n3 := 1) 0 p 0 0))
          (v134 (ix4 (n0 := 1) (n2 := 1) (n3 := 1) 0 p 0 0))) + v139 (ix3 (n0 := 1) (n1 := 1) (n2 := 1) 0 0 0) := by
  unfold k0_pay13 h2
  pointwise

theorem pay14_at (v142 : FVec Ideal S48x256x512 .f32) (v144 : Vec Ideal S48x1x1 .i32) (u : Fin 48) (c : Fin 256) (j : Fin 512) :
    k0_pay14 v142 (iota .tc S48x256x512 32 [2] iota_S48x256x512_d2_w32) v144 (ix3 u c j)
      = Scalar.select (IntOp.cmpi .slt (BitVec.ofNat 32 j.val) (v144 (ix3 (n1 := 1) (n2 := 1) u 0 0))) (v142 (ix3 u c j)) 0 := by
  unfold k0_pay14
  pointwise

end Cert.ReferenceIdeal.At
-- ==== Proof.ReferenceIdeal.Values.lean ====
/- What the reference leaves in the arrays of the weights, of the codes and of the scales, from the arguments. -/
module

public import proofs.«01_k».proof.Proof.ReferenceIdeal.Arrays
public import proofs.«01_k».proof.Proof.ReferenceIdeal.Entry
public import proofs.«01_k».proof.Proof.ReferenceIdeal.At
public import proofs.«01_k».proof.Proof.ReferenceIdeal.Pre1
public import proofs.«01_k».proof.Proof.ReferenceIdeal.TwoLayers
public import proofs.«01_k».proof.Proof.Value.Products
public import proofs.«01_k».proof.Proof.Value.Weights

@[expose] public section

noncomputable section

namespace Cert.ReferenceIdeal.At

open Cert.ReferenceIdeal Cert.ReferenceIdeal.Gen Idealize.ShloMosaic Idealize.ShloMosaic.TcCoe Idealize.SL.Sem
open Cert.KernelIdeal.Gen (scl cod)
open Cert.Value (prod params Params h1 h2)

variable (m : (ℓ : Loc nD τ sig) → Buf (Elt Ideal) ℓ)

/-- The reference's products are the candidate's and the channel's. -/
theorem prod_eq (c : Dev nD) (u : Fin 48) (o : Fin 80) (k : Fin 256) (d : Fin 64) :
    k0_pay7 (V m c main_v34) (V m c main_arg7) (ix4 u d o k) = prod (m ((c : Thread nD τ).loc main_arg3)) (m ((c : Thread nD τ).loc main_arg7)) u o k d := by
  refine (pay7_at _ _ u d o k).trans ?_
  exact congrArg₂ (· * ·) (V_v34 m c u d k) (congrFun (V_main_arg7 m c) (ix2 d o))

theorem ms_eq (c : Dev nD) (u : Fin 48) (o : Fin 80) (k : Fin 256) :
    ((dats m 0 c).arrAt 31 cfg0.N : Vec Ideal S48x80x256 .f32) (ix3 u o k)
      = scl (prod (m ((c : Thread nD τ).loc main_arg3)) (m ((c : Thread nD τ).loc main_arg7)) u o k) := by
  refine (congrFun (arr31 m c) (ix3 u o k)).trans ((pay10_at _ u o k).trans ?_)
  exact congrArg scl (funext fun d => prod_eq m c u o k d)

theorem mc_eq (c : Dev nD) (u : Fin 48) (d : Fin 64) (o : Fin 80) (k : Fin 256) :
    ((dats m 0 c).arrAt 30 cfg0.N : Vec Ideal S48x64x80x256 .fp8e4m3) (ix4 u d o k)
      = cod (prod (m ((c : Thread nD τ).loc main_arg3)) (m ((c : Thread nD τ).loc main_arg7)) u o k d)
          (scl (prod (m ((c : Thread nD τ).loc main_arg3)) (m ((c : Thread nD τ).loc main_arg7)) u o k)) := by
  refine (congrFun (arr30 m c) (ix4 u d o k)).trans ((pay9_at _ u d o k).trans ?_)
  exact congrArg₂ cod (prod_eq m c u o k d) (congrArg scl (funext fun d => prod_eq m c u o k d))

/-- User `u`'s parameters, out of the memory the run starts from. -/
abbrev par (c : Dev nD) (u : Fin 48) : Params :=
  params (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) u

theorem h1_congr {a1 a2 a3 a4 a5 b1 b2 b3 b4 b5 : EReal} (e1 : a1 = b1) (e2 : a2 = b2) (e3 : a3 = b3) (e4 : a4 = b4) (e5 : a5 = b5) :
    h1 a1 a2 a3 a4 a5 = h1 b1 b2 b3 b4 b5 := by
  subst e1 e2 e3 e4 e5; rfl

theorem h2_congr {a1 a2 a3 a4 a5 a6 b1 b2 b3 b4 b5 b6 : EReal} (e1 : a1 = b1) (e2 : a2 = b2) (e3 : a3 = b3) (e4 : a4 = b4) (e5 : a5 = b5) (e6 : a6 = b6) :
    h2 a1 a2 a3 a4 a5 a6 = h2 b1 b2 b3 b4 b5 b6 := by
  subst e1 e2 e3 e4 e5 e6; rfl

theorem pay3_at (v : Vec Ideal S48x64x512 .fp8e4m3) (u : Fin 48) (d : Fin 64) (j : Fin 512) : k0_pay3 v (ix3 u d j) = v (ix3 u d j) := by
  unfold k0_pay3
  pointwise

theorem pay4_at (v : Vec Ideal S48x1x512 .f32) (u : Fin 48) (j : Fin 512) : k0_pay4 v (ix3 (n1 := 1) u 0 j) = v (ix3 (n1 := 1) u 0 j) := by
  unfold k0_pay4
  pointwise

/-- The first layer's pre-activation. -/
theorem pre1_eq (c : Dev nD) (u : Fin 48) (o : Fin 80) (k : Fin 256) (j : Fin 512) :
    k0_pay11 (k0_pay3 (V m c main_v31)) (k0_pay4 (V m c main_v32)) (k0_pay5 (V m c main_v34) (V m c main_arg4) (V m c main_v36))
      (k0_pay6 (V m c main_v31) (V m c main_arg5) (V m c main_v35)) (k0_pay7 (V m c main_v34) (V m c main_arg7)) (ix4 u o k j) = (par m c u).pre1 o k j := by
  have hP : (fun d => k0_pay7 (V m c main_v34) (V m c main_arg7) (ix4 u d o k)) = (par m c u).m k o := funext fun d => prod_eq m c u o k d
  refine (pay11_at _ _ _ _ _ u o k j).trans ?_
  refine congrArg₂ (· + ·) (congrArg₂ (· * ·) (congrArg₂ (· + ·) (congrArg₂ (· * ·) (Finset.sum_congr rfl fun d _ => ?_) (congrArg scl hP)) ?_) ?_) ?_
  · exact congrArg₂ (· * ·) (congrArg₂ cod (congrFun hP d) (congrArg scl hP)) ((pay3_at _ u d j).trans (V_v31 m c u d j))
  · refine (pay6_at _ _ _ u o j).trans (congrArg₂ (· * ·) (Finset.sum_congr rfl fun d _ => ?_) (V_v35 m c o))
    exact congrArg₂ (· * ·) (V_v31 m c u d j) (congrFun (V_main_arg5 m c) (ix2 d o))
  · exact (pay4_at _ u j).trans (V_v32 m c u j)
  · refine (pay5_at _ _ _ u o k).trans (congrArg₂ (· + ·) (Finset.sum_congr rfl fun d _ => ?_) (V_v36 m c o))
    exact congrArg₂ (· * ·) (V_v34 m c u d k) (congrFun (V_main_arg4 m c) (ix2 d o))

/-- The reference's array of the weights. -/
theorem wt_eq (c : Dev nD) (u : Fin 48) (k : Fin 256) (j : Fin 512) :
    ((dats m 0 c).arrAt 29 cfg0.N : Vec Ideal S48x256x512 .f32) (ix3 u k j)
      = (par m c u).weight ((m ((c : Thread nD τ).loc main_arg2) : Vec Ideal S48 .i32) (ix1 u)) k j := by
  refine (congrFun (arr29 m c) (ix3 u k j)).trans ((pay14_at _ _ u k j).trans ?_)
  refine congrArg₂ (fun l x => Scalar.select (IntOp.cmpi .slt (BitVec.ofNat 32 j.val) l) x 0) (V_v33 m c u) ?_
  refine (pay13_at _ _ _ _ _ _ _ _ u k j).trans (congrArg₂ (· + ·) (Finset.sum_congr rfl fun p _ => ?_) (V_v54 m c))
  refine h2_congr (congrArg₂ (· + ·) ?_ (V_v48 m c p)) (V_v51 m c p) (V_v52 m c p) (V_v49 m c p) (V_v50 m c p) (V_v53 m c p)
  refine (pay12_at _ _ _ _ _ _ _ u p k j).trans (congrArg₂ (· * ·) (Finset.sum_congr rfl fun o _ => ?_) (V_v47 m c p))
  exact congrArg₂ (· * ·) (congrFun (V_main_arg13 m c) (ix2 o p)) (h1_congr (pre1_eq m c u o k j) (V_v41 m c o) (V_v44 m c o) (V_v37 m c o) (V_v38 m c o))

end Cert.ReferenceIdeal.At
-- ==== Proof.Bounds.lean ====
/- What a comparison that holds says of the numbers it compares. -/
module

public import proofs.«01_k».proof.Proof.Value.Layers

@[expose] public section

namespace Cert.Proof

open Idealize.ShloMosaic

theorem inf_eq : Ideal.ofBits .f32 0x7F800000#32 = ⊤ := by
  simp [Ideal.ofBits, Ideal.ieee]

theorem zero_eq : Ideal.ofBits .f32 0x00000000#32 = 0 := by
  simp [Ideal.ofBits, Ideal.ieee]

theorem bool_one {p : Prop} [Decidable p] (h : BitVec.ofBool (decide p) = 1#1) : p := by
  by_contra hn
  rw [decide_eq_false hn] at h
  exact absurd h (by decide)

/-- A number that is at least zero and below infinity. -/
theorem range_of (x : EReal) (h : IntOp.andi (Ideal.cmp .oge x (Ideal.ofBits .f32 0x00000000#32)) (Ideal.cmp .olt x (Ideal.ofBits .f32 0x7F800000#32)) = 1#1) :
    0 ≤ x ∧ x < ⊤ := by
  have h' : ∀ a b : BitVec 1, IntOp.andi a b = 1#1 → a = 1#1 ∧ b = 1#1 := by decide
  obtain ⟨h1, h2⟩ := h' _ _ h
  rw [zero_eq] at h1
  rw [inf_eq] at h2
  exact ⟨bool_one h1, bool_one h2⟩

/-- A number of finite magnitude is real. -/
theorem real_of (x : EReal) (h : Ideal.cmp .olt (FloatOps.absf (F := Ideal) (φ := .f32) x) (Ideal.ofBits .f32 0x7F800000#32) = 1#1) : ∃ a : ℝ, x = (a : EReal) := by
  rw [inf_eq] at h
  have h1 : FloatOps.absf (F := Ideal) (φ := .f32) x < (⊤ : EReal) := bool_one h
  induction x with
  | bot => exact absurd h1 (by show ¬ (max (⊥ : EReal) (-⊥) < ⊤); simp)
  | coe a => exact ⟨a, rfl⟩
  | top => exact absurd h1 (by show ¬ (max (⊤ : EReal) (-⊤) < ⊤); simp)

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.On_attention
public import proofs.«01_k».proof.Proof.Kernel.Frame
public import proofs.«01_k».proof.Proof.Kernel.Len
public import proofs.«01_k».proof.Proof.KernelIdeal.Len
public import proofs.«01_k».proof.Proof.KernelIdeal.Values
public import proofs.«01_k».proof.Proof.ReferenceIdeal.Values
public import proofs.«01_k».proof.Proof.Bounds

@[expose] public section

namespace Cert.Proof

open Idealize.ShloMosaic Idealize.ShloMosaic.TcCoe Idealize.SL.Sem

theorem le_of_cmpi (x : BitVec 32) (h : IntOp.cmpi .sle x 512#32 = 1#1) : x.toInt ≤ 512 := by
  have : x.sle 512#32 = true := by
    by_contra hn
    rw [Bool.not_eq_true] at hn
    simp [IntOp.cmpi, hn] at h
  simpa [BitVec.sle] using this

/-- The precondition of the kernel bounds every history length by 512. -/
theorem len_Kernel (m : (ℓ : Loc Cert.Kernel.nD Cert.Kernel.τ Cert.Kernel.sig) → Buf (Elt Bits) ℓ)
    (h : Cert.Pre_Kernel m) (c : Dev Cert.Kernel.nD) (y : Cert.Kernel.S48.Idx) :
    (m ((c : Thread Cert.Kernel.nD Cert.Kernel.τ).loc Cert.Kernel.main_arg2) y : BitVec 32).toInt ≤ 512 :=
  le_of_cmpi _ (congrFun (h c).1 y)

/-- The precondition of the ideal kernel bounds every history length by 512. -/
theorem len_KernelIdeal (m : (ℓ : Loc Cert.KernelIdeal.nD Cert.KernelIdeal.τ Cert.KernelIdeal.sig) → Buf (Elt Ideal) ℓ)
    (h : Cert.Pre_KernelIdeal m) (c : Dev Cert.KernelIdeal.nD) (y : Cert.KernelIdeal.S48.Idx) :
    (m ((c : Thread Cert.KernelIdeal.nD Cert.KernelIdeal.τ).loc Cert.KernelIdeal.main_arg2) y : BitVec 32).toInt ≤ 512 :=
  le_of_cmpi _ (congrFun (h c).1 y)

/-- The precondition of the ideal kernel bounds every user's parameters. -/
theorem bounded (m : (ℓ : Loc Cert.KernelIdeal.nD Cert.KernelIdeal.τ Cert.KernelIdeal.sig) → Buf (Elt Ideal) ℓ)
    (h : Cert.Pre_KernelIdeal m) (c : Dev Cert.KernelIdeal.nD) (u : Fin 48) : (Cert.KernelIdeal.Gen.Val.par m c u).Bounded where
  KS0 j := (range_of _ (congrFun (h c).2.1 (ix2 u j))).1
  KS1 j := (range_of _ (congrFun (h c).2.1 (ix2 u j))).2
  var0 o := (range_of _ (congrFun (h c).2.2.1 (ix1 o))).1
  var1 o := (range_of _ (congrFun (h c).2.2.1 (ix1 o))).2
  var20 p := (range_of _ (congrFun (h c).2.2.2.1 (ix1 p))).1
  var21 p := (range_of _ (congrFun (h c).2.2.2.1 (ix1 p))).2
  al2 p := real_of _ (congrFun (h c).2.2.2.2.1 (ix1 p))
  w3 p := real_of _ (congrFun (h c).2.2.2.2.2 (ix1 p))

set_option maxHeartbeats 1000000 in
/-- The kernel's and the reference's weights, codes and scales are the same arrays. -/
theorem algebraic : Cert.algebraic_KernelIdeal_ReferenceIdeal_on_attention (hKernelIdeal := Cert.KernelIdeal.Gen.facts)
    (hReferenceIdeal := Cert.ReferenceIdeal.Gen.facts) (hPre_in_range := Cert.Pre_in_range.Gen.facts) (hOn_attention := Cert.On_attention.Gen.facts) := by
  intro m g m' g' hpre hargs
  have hlen := len_KernelIdeal m hpre
  have hH := Cert.KernelIdeal.Gen.hyps_of_len m trivial hlen
  have hV := Cert.KernelIdeal.Gen.Val.len_le m hlen
  have no : ¬ (0#1 = 1#1) := by decide
  refine ⟨fun c => m _, fun c => (Cert.KernelIdeal.Gen.Val.dats m trivial hH 0 c).arrAt 16 (Cert.KernelIdeal.Gen.cfgM m trivial).N,
    fun c => (Cert.KernelIdeal.Gen.Val.dats m trivial hH 0 c).arrAt 17 (Cert.KernelIdeal.Gen.cfgM m trivial).N,
    fun c => (Cert.KernelIdeal.Gen.Val.dats m trivial hH 0 c).arrAt 18 (Cert.KernelIdeal.Gen.cfgM m trivial).N,
    fun c => m _, fun c => m _, fun c => m _, fun c => m _, ?_, ?_⟩
  · refine (θ_run _ _ _).mono (fun r h c => ?_) (θ_run_and (Cert.KernelIdeal.Gen.Val.results m trivial hH g hV)
      (Cert.KernelIdeal.Gen.Val.unchanged m g trivial hH hV (Cert.KernelIdeal.Gen.Val.w2_zero m trivial)))
    exact ⟨fun i hi => absurd hi no, fun i _ => congrFun (h.1 c).1 i, fun i _ => congrFun (h.1 c).2.1 i, fun i _ => congrFun (h.1 c).2.2 i,
      fun i hi => absurd hi no, fun i hi => absurd hi no, fun i hi => absurd hi no, fun i hi => absurd hi no, h.2 c⟩
  · refine (θ_run _ _ _).mono (fun r h c => ?_) (Cert.ReferenceIdeal.Value.run_blocks m' g')
    obtain ⟨_, hw, hc, hs, _, _, _, _, hrest⟩ := h c
    obtain ⟨h0, h1, h2, h3, h4, h5, h6, h7, h8, h9, h10, h11, h12, h13, h14, h15, h16, h17, h18, h19, h20, _⟩ := hargs c
    refine ⟨fun i hi => absurd hi no, fun i _ => ?_, fun i _ => ?_, fun i _ => ?_,
      fun i hi => absurd hi no, fun i hi => absurd hi no, fun i hi => absurd hi no, fun i hi => absurd hi no, hrest⟩
    · obtain ⟨u, k, j, rfl⟩ : ∃ u k j, i = ix3 u k j := ⟨i 0, i 1, i 2, funext fun a => by fin_cases a <;> rfl⟩
      refine (congrFun hw _).trans ((Cert.ReferenceIdeal.At.wt_eq m' c u k j).trans (Eq.trans ?_ (Cert.KernelIdeal.Gen.Val.wt_eq m trivial hH c u k j (bounded m hpre c u)).symm))
      exact Cert.Value.weight_congr h0 h1 h3 h4 h5 h6 h7 h8 h9 h10 h11 h12 h13 h14 h15 h16 h17 h18 h19 h20 (congrFun h2 (ix1 u)) u k j
    · obtain ⟨u, d, o, k, rfl⟩ : ∃ u d o k, i = ix4 u d o k := ⟨i 0, i 1, i 2, i 3, funext fun a => by fin_cases a <;> rfl⟩
      refine (congrFun hc _).trans ((Cert.ReferenceIdeal.At.mc_eq m' c u d o k).trans (Eq.trans ?_ (Cert.KernelIdeal.Gen.Val.mc_eq m trivial hH c u d o k).symm))
      rw [h3, h7]
    · obtain ⟨u, o, k, rfl⟩ : ∃ u o k, i = ix3 u o k := ⟨i 0, i 1, i 2, funext fun a => by fin_cases a <;> rfl⟩
      refine (congrFun hs _).trans ((Cert.ReferenceIdeal.At.ms_eq m' c u o k).trans (Eq.trans ?_ (Cert.KernelIdeal.Gen.Val.ms_eq m trivial hH c u o k).symm))
      rw [h3, h7]

/-- The certificate's claims. -/
theorem claim : Cert.Claim := ⟨Cert.Kernel.Gen.facts, Cert.KernelIdeal.Gen.facts, Cert.ReferenceIdeal.Gen.facts, Cert.Pre_in_range.Gen.facts, Cert.On_attention.Gen.facts,
  fun m ρ h => Cert.Kernel.Gen.frame m ρ trivial (Cert.Kernel.Gen.hyps_of_len m trivial (len_Kernel m h)),
  fun m ρ h => Cert.KernelIdeal.Gen.Val.frame m ρ trivial (Cert.KernelIdeal.Gen.hyps_of_len m trivial (len_KernelIdeal m h))
    (Cert.KernelIdeal.Gen.Val.len_le m (len_KernelIdeal m h)) (Cert.KernelIdeal.Gen.Val.w2_zero m trivial),
  fun m ρ _ => Cert.ReferenceIdeal.Gen.frame m ρ,
  trivial, algebraic⟩

end Cert.Proof

end
